-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attended [hPre_attended : Cert.Pre_attended.Facts] (m : (ℓ : Loc Cert.KernelIdeal.nD Cert.KernelIdeal.τ Cert.KernelIdeal.sig) → Buf (Elt Ideal) ℓ) : Prop :=
  ∀ c : Dev Cert.KernelIdeal.nD,
    (Cert.Pre_attended.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attended [hPre_attended : Cert.Pre_attended.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attended.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_attended [hKernelIdeal : Cert.KernelIdeal.Facts] [hPre_attended : Cert.Pre_attended.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attended m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_attended [hReferenceIdeal : Cert.ReferenceIdeal.Facts] [hPre_attended : Cert.Pre_attended.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attended m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6)
      ∧ r.2.mem ((c.tc : Thread Cert.Kernel18.nD Cert.Kernel18.τ).loc Cert.Kernel18.main_arg7) = m ((c.tc : Thread Cert.Kernel18.nD Cert.Kernel18.τ).loc Cert.Kernel18.main_arg7)
      ∧ r.2.mem ((c.tc : Thread Cert.Kernel18.nD Cert.Kernel18.τ).loc Cert.Kernel18.main_arg8) = m ((c.tc : Thread Cert.Kernel18.nD Cert.Kernel18.τ).loc Cert.Kernel18.main_arg8)
      ∧ r.2.mem ((c.tc : Thread Cert.Kernel18.nD Cert.Kernel18.τ).loc Cert.Kernel18.main_arg9) = m ((c.tc : Thread Cert.Kernel18.nD Cert.Kernel18.τ).loc Cert.Kernel18.main_arg9))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
      ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7)
      ∧ r.2.mem ((c.tc : Thread Cert.Kernel18Ideal.nD Cert.Kernel18Ideal.τ).loc Cert.Kernel18Ideal.main_arg8) = m ((c.tc : Thread Cert.Kernel18Ideal.nD Cert.Kernel18Ideal.τ).loc Cert.Kernel18Ideal.main_arg8)
      ∧ r.2.mem ((c.tc : Thread Cert.Kernel18Ideal.nD Cert.Kernel18Ideal.τ).loc Cert.Kernel18Ideal.main_arg9) = m ((c.tc : Thread Cert.Kernel18Ideal.nD Cert.Kernel18Ideal.τ).loc Cert.Kernel18Ideal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_attended [hKernelIdeal : Cert.KernelIdeal.Facts] [hReferenceIdeal : Cert.ReferenceIdeal.Facts] [hPre_attended : Cert.Pre_attended.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attended m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v11) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v38) = v0 c
          ∧ r.2.mem ((c.tc : Thread Cert.Reference9Ideal.nD Cert.Reference9Ideal.τ).loc Cert.Reference9Ideal.main_v52) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v15) = v0 c
          ∧ r.2.mem ((c.tc : Thread Cert.Reference10Ideal.nD Cert.Reference10Ideal.τ).loc Cert.Reference10Ideal.main_v29) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v15) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v2_0)) (v1 : (c : Dev Cert.Kernel12Ideal.nD) → Buf (Elt Ideal) ((c.tc : Thread Cert.Kernel12Ideal.nD Cert.Kernel12Ideal.τ).loc Cert.Kernel12Ideal.main_v2_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2_0) = v0 c
          ∧ r.2.mem ((c.tc : Thread Cert.Kernel12Ideal.nD Cert.Kernel12Ideal.τ).loc Cert.Kernel12Ideal.main_v2_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v13) = v0 c
          ∧ r.2.mem ((c.tc : Thread Cert.Reference12Ideal.nD Cert.Reference12Ideal.τ).loc Cert.Reference12Ideal.main_v27) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v13) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v13) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v3_0)) (v1 : (c : Dev Cert.Kernel16Ideal.nD) → Buf (Elt Ideal) ((c.tc : Thread Cert.Kernel16Ideal.nD Cert.Kernel16Ideal.τ).loc Cert.Kernel16Ideal.main_v3_1)) (v2 : (c : Dev Cert.Kernel16Ideal.nD) → Buf (Elt Ideal) ((c.tc : Thread Cert.Kernel16Ideal.nD Cert.Kernel16Ideal.τ).loc Cert.Kernel16Ideal.main_v3_2)) (v3 : (c : Dev Cert.Kernel16Ideal.nD) → Buf (Elt Ideal) ((c.tc : Thread Cert.Kernel16Ideal.nD Cert.Kernel16Ideal.τ).loc Cert.Kernel16Ideal.main_v3_3)) (v4 : (c : Dev Cert.Kernel16Ideal.nD) → Buf (Elt Ideal) ((c.tc : Thread Cert.Kernel16Ideal.nD Cert.Kernel16Ideal.τ).loc Cert.Kernel16Ideal.main_v3_4)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3_0) = v0 c
          ∧ r.2.mem ((c.tc : Thread Cert.Kernel16Ideal.nD Cert.Kernel16Ideal.τ).loc Cert.Kernel16Ideal.main_v3_1) = v1 c
          ∧ r.2.mem ((c.tc : Thread Cert.Kernel16Ideal.nD Cert.Kernel16Ideal.τ).loc Cert.Kernel16Ideal.main_v3_2) = v2 c
          ∧ r.2.mem ((c.tc : Thread Cert.Kernel16Ideal.nD Cert.Kernel16Ideal.τ).loc Cert.Kernel16Ideal.main_v3_3) = v3 c
          ∧ r.2.mem ((c.tc : Thread Cert.Kernel16Ideal.nD Cert.Kernel16Ideal.τ).loc Cert.Kernel16Ideal.main_v3_4) = v4 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v61) = v0 c
          ∧ r.2.mem ((c.tc : Thread Cert.Reference16Ideal.nD Cert.Reference16Ideal.τ).loc Cert.Reference16Ideal.main_v62) = v1 c
          ∧ r.2.mem ((c.tc : Thread Cert.Reference16Ideal.nD Cert.Reference16Ideal.τ).loc Cert.Reference16Ideal.main_v63) = v2 c
          ∧ r.2.mem ((c.tc : Thread Cert.Reference16Ideal.nD Cert.Reference16Ideal.τ).loc Cert.Reference16Ideal.main_v64) = v3 c
          ∧ r.2.mem ((c.tc : Thread Cert.Reference16Ideal.nD Cert.Reference16Ideal.τ).loc Cert.Reference16Ideal.main_v65) = v4 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def preserves_Kernel18_Kernel18Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hKernel18 : Cert.Kernel18.Facts) (hKernel18Ideal : Cert.Kernel18Ideal.Facts) (hPre_attended : Cert.Pre_attended.Facts),
    quiescent_Kernel (hKernel := hKernel)
    ∧ quiescent_KernelIdeal (hKernelIdeal := hKernelIdeal)
    ∧ quiescent_KernelIdeal_pre_attended (hKernelIdeal := hKernelIdeal) (hPre_attended := hPre_attended)
    ∧ quiescent_ReferenceIdeal (hReferenceIdeal := hReferenceIdeal)
    ∧ quiescent_ReferenceIdeal_pre_attended (hReferenceIdeal := hReferenceIdeal) (hPre_attended := hPre_attended)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Kernel18 (hKernel18 := hKernel18)
    ∧ quiescent_Kernel18Ideal (hKernel18Ideal := hKernel18Ideal)
    ∧ preserves_Kernel_KernelIdeal
    ∧ algebraic_KernelIdeal_ReferenceIdeal_pre_attended (hKernelIdeal := hKernelIdeal) (hReferenceIdeal := hReferenceIdeal) (hPre_attended := hPre_attended)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ preserves_Kernel18_Kernel18Ideal
-- ==== Pre_attended.lean ====
abbrev S16384x11264 : Shape := ⟨2, ![16384, 11264]⟩
abbrev S16384x4096 : Shape := ⟨2, ![16384, 4096]⟩
abbrev S16384x8192 : Shape := ⟨2, ![16384, 8192]⟩
abbrev S16384x128 : Shape := ⟨2, ![16384, 128]⟩
abbrev S16384x512 : Shape := ⟨2, ![16384, 512]⟩
abbrev S16384 : Shape := ⟨1, ![16384]⟩
abbrev S16384x1x512 : Shape := ⟨3, ![16384, 1, 512]⟩
abbrev S16384x32x512 : Shape := ⟨3, ![16384, 32, 512]⟩
abbrev S32 : Shape := ⟨1, ![32]⟩
abbrev S1x32x1 : Shape := ⟨3, ![1, 32, 1]⟩
abbrev S_ : Shape := ⟨0, ![]⟩
abbrev S16384x16384 : Shape := ⟨2, ![16384, 16384]⟩
abbrev S1x16384 : Shape := ⟨2, ![1, 16384]⟩
abbrev S16384x1 : Shape := ⟨2, ![16384, 1]⟩

class Facts : Prop where
  bcast_S16384x512_S16384x1x512_0_2 : S16384x512.BroadcastsInDim S16384x1x512 (![0, 2] : Fin 2 → Fin S16384x1x512.rank)
  bcast_S16384x1x512_S16384x32x512_0_1_2 : S16384x1x512.BroadcastsInDim S16384x32x512 (![0, 1, 2] : Fin 3 → Fin S16384x32x512.rank)
  bcast_S32_S1x32x1_1 : S32.BroadcastsInDim S1x32x1 (![1] : Fin 1 → Fin S1x32x1.rank)
  bcast_S1x32x1_S16384x32x512_0_1_2 : S1x32x1.BroadcastsInDim S16384x32x512 (![0, 1, 2] : Fin 3 → Fin S16384x32x512.rank)
  bcast_S_S16384x32x512 : S_.BroadcastsInDim S16384x32x512 (![] : Fin 0 → Fin S16384x32x512.rank)
  shapeCasts_S16384x32x512_S16384x16384 : S16384x32x512.ShapeCasts S16384x16384
  bcast_S16384_S1x16384_1 : S16384.BroadcastsInDim S1x16384 (![1] : Fin 1 → Fin S1x16384.rank)
  bcast_S16384_S16384x1_0 : S16384.BroadcastsInDim S16384x1 (![0] : Fin 1 → Fin S16384x1.rank)
  bcast_S1x16384_S16384x16384_0_1 : S1x16384.BroadcastsInDim S16384x16384 (![0, 1] : Fin 2 → Fin S16384x16384.rank)
  bcast_S16384x1_S16384x16384_0_1 : S16384x1.BroadcastsInDim S16384x16384 (![0, 1] : Fin 2 → Fin S16384x16384.rank)
  reducesTo_S16384x16384_S_d0_1 : S16384x16384.ReducesTo [0, 1] S_
  h_S_ : 0 < S_.numel
  reducesTo_S16384x16384_S16384_d1 : S16384x16384.ReducesTo [1] S16384
  reducesTo_S16384_S_d0 : S16384.ReducesTo [0] S_
  slices_S16384x11264_S16384x4096_0_0 : S16384x11264.Slices ![0, 0] S16384x4096
  bitsLt_bf16_f32 : FTy.bits .bf16 < FTy.bits .f32
  bcast_S_S16384x4096 : S_.BroadcastsInDim S16384x4096 (![] : Fin 0 → Fin S16384x4096.rank)
  reducesTo_S16384x4096_S_d0_1 : S16384x4096.ReducesTo [0, 1] S_
  slices_S16384x8192_S16384x4096_0_0 : S16384x8192.Slices ![0, 0] S16384x4096
  bcast_S_S16384x128 : S_.BroadcastsInDim S16384x128 (![] : Fin 0 → Fin S16384x128.rank)
  reducesTo_S16384x128_S_d0_1 : S16384x128.ReducesTo [0, 1] S_

variable [Facts]

def fn_part2 {F : FTy → Type} [FloatOps F] (main_arg3 : FVec F S16384x128 .bf16) (main_v19 : IVec S_ 1) (main_v21 : IVec S_ 1) (main_v33 : IVec S_ 1) (main_v36 : FVec F S16384x4096 .f32) (main_v37 : FVec F S16384x4096 .f32) : IVec S_ 1 :=
  let main_v38 : IVec S16384x4096 1 := cmpf .olt main_v36 main_v37
  let main_c_8 : IVec S_ 1 := constantI S_ 1 1#1
  let main_v39 : IVec S_ 1 := (fun x v => Host.reduce IntOp.andi x v reducesTo_S16384x4096_S_d0_1 h_S_) main_v38 main_c_8
  let main_v40 : IVec S_ 1 := andi main_v33 main_v39
  let main_v41 : FVec F S16384x128 .f32 := (extf .f32 · bitsLt_bf16_f32) main_arg3
  let main_v42 : FVec F S16384x128 .f32 := Host.absf main_v41
  let main_cst_9 : FVec F S_ .f32 := constant S_ .f32 0x7F800000#32
  let main_v43 : FVec F S16384x128 .f32 := broadcastInDim S16384x128 ![] bcast_S_S16384x128 main_cst_9
  let main_v44 : IVec S16384x128 1 := cmpf .olt main_v42 main_v43
  let main_c_10 : IVec S_ 1 := constantI S_ 1 1#1
  let main_v45 : IVec S_ 1 := (fun x v => Host.reduce IntOp.andi x v reducesTo_S16384x128_S_d0_1 h_S_) main_v44 main_c_10
  let main_v46 : IVec S_ 1 := andi main_v40 main_v45
  let main_v47 : IVec S_ 1 := andi main_v46 main_v19
  let main_v48 : IVec S_ 1 := andi main_v47 main_v21
  main_v48

def fn_part1 {F : FTy → Type} [FloatOps F] (main_arg0 : FVec F S16384x11264 .bf16) (main_arg1 : FVec F S16384x4096 .bf16) (main_arg2 : FVec F S16384x8192 .bf16) (main_arg3 : FVec F S16384x128 .bf16) (main_v11 : IVec S16384x16384 1) (main_v19 : IVec S_ 1) (main_c_2 : IVec S_ 1) : IVec S_ 1 :=
  let main_v20 : IVec S16384 1 := (fun x v => Host.reduce IntOp.ori x v reducesTo_S16384x16384_S16384_d1 h_S_) main_v11 main_c_2
  let main_c_3 : IVec S_ 1 := constantI S_ 1 1#1
  let main_v21 : IVec S_ 1 := (fun x v => Host.reduce IntOp.andi x v reducesTo_S16384_S_d0 h_S_) main_v20 main_c_3
  let main_v22 : FVec F S16384x4096 .bf16 := (extractStridedSlice S16384x4096 ![0, 0] · slices_S16384x11264_S16384x4096_0_0) main_arg0
  let main_v23 : FVec F S16384x4096 .f32 := (extf .f32 · bitsLt_bf16_f32) main_v22
  let main_v24 : FVec F S16384x4096 .f32 := Host.absf main_v23
  let main_cst : FVec F S_ .f32 := constant S_ .f32 0x7F800000#32
  let main_v25 : FVec F S16384x4096 .f32 := broadcastInDim S16384x4096 ![] bcast_S_S16384x4096 main_cst
  let main_v26 : IVec S16384x4096 1 := cmpf .olt main_v24 main_v25
  let main_c_4 : IVec S_ 1 := constantI S_ 1 1#1
  let main_v27 : IVec S_ 1 := (fun x v => Host.reduce IntOp.andi x v reducesTo_S16384x4096_S_d0_1 h_S_) main_v26 main_c_4
  let main_v28 : FVec F S16384x4096 .f32 := (extf .f32 · bitsLt_bf16_f32) main_arg1
  let main_v29 : FVec F S16384x4096 .f32 := Host.absf main_v28
  let main_cst_5 : FVec F S_ .f32 := constant S_ .f32 0x7F800000#32
  let main_v30 : FVec F S16384x4096 .f32 := broadcastInDim S16384x4096 ![] bcast_S_S16384x4096 main_cst_5
  let main_v31 : IVec S16384x4096 1 := cmpf .olt main_v29 main_v30
  let main_c_6 : IVec S_ 1 := constantI S_ 1 1#1
  let main_v32 : IVec S_ 1 := (fun x v => Host.reduce IntOp.andi x v reducesTo_S16384x4096_S_d0_1 h_S_) main_v31 main_c_6
  let main_v33 : IVec S_ 1 := andi main_v27 main_v32
  let main_v34 : FVec F S16384x4096 .bf16 := (extractStridedSlice S16384x4096 ![0, 0] · slices_S16384x8192_S16384x4096_0_0) main_arg2
  let main_v35 : FVec F S16384x4096 .f32 := (extf .f32 · bitsLt_bf16_f32) main_v34
  let main_v36 : FVec F S16384x4096 .f32 := Host.absf main_v35
  let main_cst_7 : FVec F S_ .f32 := constant S_ .f32 0x7F800000#32
  let main_v37 : FVec F S16384x4096 .f32 := broadcastInDim S16384x4096 ![] bcast_S_S16384x4096 main_cst_7
  fn_part2 (F := F) main_arg3 main_v19 main_v21 main_v33 main_v36 main_v37

def fn {F : FTy → Type} [FloatOps F] (main_arg0 : FVec F S16384x11264 .bf16) (main_arg1 : FVec F S16384x4096 .bf16) (main_arg2 : FVec F S16384x8192 .bf16) (main_arg3 : FVec F S16384x128 .bf16) (main_arg4 : IVec S16384x512 32) : IVec S_ 1 :=
  let main_v0 : IVec S16384 32 := iotaInDim S16384 32 0
  let main_v1 : IVec S16384x1x512 32 := broadcastInDim S16384x1x512 ![0, 2] bcast_S16384x512_S16384x1x512_0_2 main_arg4
  let main_v2 : IVec S16384x32x512 32 := broadcastInDim S16384x32x512 ![0, 1, 2] bcast_S16384x1x512_S16384x32x512_0_1_2 main_v1
  let main_v3 : IVec S32 32 := iotaInDim S32 32 0
  let main_v4 : IVec S1x32x1 32 := broadcastInDim S1x32x1 ![1] bcast_S32_S1x32x1_1 main_v3
  let main_v5 : IVec S16384x32x512 32 := broadcastInDim S16384x32x512 ![0, 1, 2] bcast_S1x32x1_S16384x32x512_0_1_2 main_v4
  let main_v6 : IVec S16384x32x512 32 := Host.shrui main_v2 main_v5
  let main_c : IVec S_ 32 := constantI S_ 32 1#32
  let main_v7 : IVec S16384x32x512 32 := broadcastInDim S16384x32x512 ![] bcast_S_S16384x32x512 main_c
  let main_v8 : IVec S16384x32x512 32 := andi main_v6 main_v7
  let main_c_0 : IVec S_ 32 := constantI S_ 32 1#32
  let main_v9 : IVec S16384x32x512 32 := broadcastInDim S16384x32x512 ![] bcast_S_S16384x32x512 main_c_0
  let main_v10 : IVec S16384x32x512 1 := cmpi .eq main_v8 main_v9
  let main_v11 : IVec S16384x16384 1 := shapeCast S16384x16384 main_v10 shapeCasts_S16384x32x512_S16384x16384
  let main_v12 : IVec S16384x16384 1 := noti main_v11
  let main_v13 : IVec S1x16384 32 := broadcastInDim S1x16384 ![1] bcast_S16384_S1x16384_1 main_v0
  let main_v14 : IVec S16384x1 32 := broadcastInDim S16384x1 ![0] bcast_S16384_S16384x1_0 main_v0
  let main_v15 : IVec S16384x16384 32 := broadcastInDim S16384x16384 ![0, 1] bcast_S1x16384_S16384x16384_0_1 main_v13
  let main_v16 : IVec S16384x16384 32 := broadcastInDim S16384x16384 ![0, 1] bcast_S16384x1_S16384x16384_0_1 main_v14
  let main_v17 : IVec S16384x16384 1 := cmpi .sle main_v15 main_v16
  let main_v18 : IVec S16384x16384 1 := ori main_v12 main_v17
  let main_c_1 : IVec S_ 1 := constantI S_ 1 1#1
  let main_v19 : IVec S_ 1 := (fun x v => Host.reduce IntOp.andi x v reducesTo_S16384x16384_S_d0_1 h_S_) main_v18 main_c_1
  let main_c_2 : IVec S_ 1 := constantI S_ 1 0#1
  fn_part1 (F := F) main_arg0 main_arg1 main_arg2 main_arg3 main_v11 main_v19 main_c_2
-- ==== Kernel.lean ====
abbrev S16384x11264 : Shape := ⟨2, ![16384, 11264]⟩
abbrev S16384x4096 : Shape := ⟨2, ![16384, 4096]⟩
abbrev S16384x8192 : Shape := ⟨2, ![16384, 8192]⟩
abbrev S16384x128 : Shape := ⟨2, ![16384, 128]⟩
abbrev S16384x512 : Shape := ⟨2, ![16384, 512]⟩
abbrev S512x256 : Shape := ⟨2, ![512, 256]⟩
abbrev S16384x256 : Shape := ⟨2, ![16384, 256]⟩
abbrev S512x512 : Shape := ⟨2, ![512, 512]⟩
abbrev S2x512x1 : Shape := ⟨3, ![2, 512, 1]⟩
abbrev S2x512x128 : Shape := ⟨3, ![2, 512, 128]⟩
abbrev S512x128 : Shape := ⟨2, ![512, 128]⟩
abbrev S1x512x512 : Shape := ⟨3, ![1, 512, 512]⟩
abbrev S1x512x1 : Shape := ⟨3, ![1, 512, 1]⟩
abbrev S512x1 : Shape := ⟨2, ![512, 1]⟩
abbrev S512 : Shape := ⟨1, ![512]⟩
abbrev S1x512x128 : Shape := ⟨3, ![1, 512, 128]⟩

abbrev nBuf : Space → Nat
  | .hbm => 6
  | .vmem => 16
  | .smem => 0
  | _ => 0

abbrev bufTy : (tb : Table) → Fin (tcTables nBuf tb) → BufTy
  | .hbm, ⟨0, _⟩ => ⟨S16384x11264, .bf16⟩
  | .hbm, ⟨1, _⟩ => ⟨S16384x4096, .bf16⟩
  | .hbm, ⟨2, _⟩ => ⟨S16384x8192, .bf16⟩
  | .hbm, ⟨3, _⟩ => ⟨S16384x128, .bf16⟩
  | .hbm, ⟨4, _⟩ => ⟨S16384x512, .i32⟩
  | .hbm, ⟨5, _⟩ => ⟨S16384x4096, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S16384x256, .bf16⟩
  | .local _ .vmem, ⟨5, _⟩ => ⟨S16384x256, .bf16⟩
  | .local _ .vmem, ⟨6, _⟩ => ⟨S16384x128, .bf16⟩
  | .local _ .vmem, ⟨7, _⟩ => ⟨S16384x256, .bf16⟩
  | .local _ .vmem, ⟨8, _⟩ => ⟨S16384x256, .bf16⟩
  | .local _ .vmem, ⟨9, _⟩ => ⟨S512x512, .i32⟩
  | .local _ .vmem, ⟨10, _⟩ => ⟨S512x512, .i32⟩
  | .local _ .vmem, ⟨11, _⟩ => ⟨S512x256, .bf16⟩
  | .local _ .vmem, ⟨12, _⟩ => ⟨S512x256, .bf16⟩
  | .local _ .vmem, ⟨13, _⟩ => ⟨S2x512x1, .f32⟩
  | .local _ .vmem, ⟨14, _⟩ => ⟨S2x512x1, .f32⟩
  | .local _ .vmem, ⟨15, _⟩ => ⟨S2x512x128, .f32⟩
  | _, _ => ⟨S16384x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 32], ![false, false]⟩

@[reducible] def k0_t1_loop (i : grid0.Coords) : Scf.Loop 32 :=
  let c0_i32_28 : BitVec 32 := 0#32
  let arg1 : BitVec 32 := BitVec.ofNat 32 (i 1).val
  let c1_i32 : BitVec 32 := 1#32
  let v19 : BitVec 32 := Scalar.addi arg1 c1_i32
  let c512_i32 : BitVec 32 := 512#32
  let v20 : BitVec 32 := Scalar.muli v19 c512_i32
  let c512_i32_19 : BitVec 32 := 512#32
  let v21 : BitVec 32 := Scalar.addi v20 c512_i32_19
  let c1_i32_20 : BitVec 32 := 1#32
  let v22 : BitVec 32 := Scalar.subi v21 c1_i32_20
  let c0_i32 : BitVec 32 := 0#32
  let v24 : BitVec 1 := Scalar.cmpi .sgt v22 c0_i32
  let v25 : BitVec 32 := Scalar.extui v24
  let c0_i32_22 : BitVec 32 := 0#32
  let v26 : BitVec 1 := Scalar.cmpi .slt v22 c0_i32_22
  let v27 : BitVec 32 := Scalar.extui v26
  let v28 : BitVec 32 := Scalar.subi v25 v27
  let c512_i32_21 : BitVec 32 := 512#32
  let c0_i32_23 : BitVec 32 := 0#32
  let v29 : BitVec 1 := Scalar.cmpi .sgt c512_i32_21 c0_i32_23
  let v30 : BitVec 32 := Scalar.extui v29
  let c0_i32_24 : BitVec 32 := 0#32
  let v31 : BitVec 1 := Scalar.cmpi .slt c512_i32_21 c0_i32_24
  let v32 : BitVec 32 := Scalar.extui v31
  let v33 : BitVec 32 := Scalar.subi v30 v32
  let v34 : BitVec 1 := Scalar.cmpi .ne v28 v33
  let v35 : BitVec 32 := Scalar.remsi v22 c512_i32_21
  let c0_i32_25 : BitVec 32 := 0#32
  let v36 : BitVec 1 := Scalar.cmpi .ne v35 c0_i32_25
  let v37 : BitVec 1 := Scalar.andi v34 v36
  let v23 : BitVec 32 := Scalar.divsi v22 c512_i32_21
  let c1_i32_26 : BitVec 32 := 1#32
  let v38 : BitVec 32 := Scalar.subi v23 c1_i32_26
  let v39 : BitVec 32 := Scalar.select v37 v38 v23
  let v40 : BitVec 32 := Scalar.subi v39 c0_i32_28
  let c1_i32_29 : BitVec 32 := 1#32
  let v42 : BitVec 32 := Scalar.divsi v40 c1_i32_29
  let v43 : BitVec 32 := Scalar.muli v42 c1_i32_29
  let v44 : BitVec 32 := Scalar.addi c0_i32_28 v43
  let c1_i32_30 : BitVec 32 := 1#32
  ⟨c0_i32_28, v44, c1_i32_30⟩
def k0_mult1 (i : grid0.Coords) (k0_t1 : Fin (k0_t1_loop i).trips) : BitVec 32 :=
  let c0_i32_28 : BitVec 32 := 0#32
  let c1_i32_30 : BitVec 32 := 1#32
  let arg12 : BitVec 32 := Scf.iv c0_i32_28 c1_i32_30 k0_t1
  let c512_i32_47 : BitVec 32 := 512#32
  let v61 : BitVec 32 := Scalar.muli arg12 c512_i32_47
  v61
def k0_off1 (i : grid0.Coords) (k0_t1 : Fin (k0_t1_loop i).trips) : Fin 2 → Nat :=
  let c0_i32_28 : BitVec 32 := 0#32
  let c1_i32_30 : BitVec 32 := 1#32
  let arg12 : BitVec 32 := Scf.iv c0_i32_28 c1_i32_30 k0_t1
  let c512_i32_47 : BitVec 32 := 512#32
  let v61 : BitVec 32 := Scalar.muli arg12 c512_i32_47
  let v62 : BitVec 32 := v61
  let v72 : Index := Scalar.indexCast v62
  let c0_52 : Index := 0#32
  ![v72.toNat, 0]
def k0_off2 (i : grid0.Coords) (k0_t1 : Fin (k0_t1_loop i).trips) : Fin 2 → Nat :=
  let c0_i32_28 : BitVec 32 := 0#32
  let c1_i32_30 : BitVec 32 := 1#32
  let arg12 : BitVec 32 := Scf.iv c0_i32_28 c1_i32_30 k0_t1
  let c512_i32_47 : BitVec 32 := 512#32
  let v61 : BitVec 32 := Scalar.muli arg12 c512_i32_47
  let v62 : BitVec 32 := v61
  let v74 : Index := Scalar.indexCast v62
  let c0_53 : Index := 0#32
  ![v74.toNat, 0]
def k0_off3 (i : grid0.Coords) (k0_t1 : Fin (k0_t1_loop i).trips) : Fin 2 → Nat :=
  let c0_i32_28 : BitVec 32 := 0#32
  let c1_i32_30 : BitVec 32 := 1#32
  let arg12 : BitVec 32 := Scf.iv c0_i32_28 c1_i32_30 k0_t1
  let c512_i32_47 : BitVec 32 := 512#32
  let v61 : BitVec 32 := Scalar.muli arg12 c512_i32_47
  let v62 : BitVec 32 := v61
  let v116 : Index := Scalar.indexCast v62
  let c128_77 : Index := 128#32
  ![v116.toNat, 128]
@[reducible] def k0_t2_loop (i : grid0.Coords) : Scf.Loop 32 :=
  let c0_i32_28 : BitVec 32 := 0#32
  let arg1 : BitVec 32 := BitVec.ofNat 32 (i 1).val
  let c1_i32 : BitVec 32 := 1#32
  let v19 : BitVec 32 := Scalar.addi arg1 c1_i32
  let c512_i32 : BitVec 32 := 512#32
  let v20 : BitVec 32 := Scalar.muli v19 c512_i32
  let c512_i32_19 : BitVec 32 := 512#32
  let v21 : BitVec 32 := Scalar.addi v20 c512_i32_19
  let c1_i32_20 : BitVec 32 := 1#32
  let v22 : BitVec 32 := Scalar.subi v21 c1_i32_20
  let c0_i32 : BitVec 32 := 0#32
  let v24 : BitVec 1 := Scalar.cmpi .sgt v22 c0_i32
  let v25 : BitVec 32 := Scalar.extui v24
  let c0_i32_22 : BitVec 32 := 0#32
  let v26 : BitVec 1 := Scalar.cmpi .slt v22 c0_i32_22
  let v27 : BitVec 32 := Scalar.extui v26
  let v28 : BitVec 32 := Scalar.subi v25 v27
  let c512_i32_21 : BitVec 32 := 512#32
  let c0_i32_23 : BitVec 32 := 0#32
  let v29 : BitVec 1 := Scalar.cmpi .sgt c512_i32_21 c0_i32_23
  let v30 : BitVec 32 := Scalar.extui v29
  let c0_i32_24 : BitVec 32 := 0#32
  let v31 : BitVec 1 := Scalar.cmpi .slt c512_i32_21 c0_i32_24
  let v32 : BitVec 32 := Scalar.extui v31
  let v33 : BitVec 32 := Scalar.subi v30 v32
  let v34 : BitVec 1 := Scalar.cmpi .ne v28 v33
  let v35 : BitVec 32 := Scalar.remsi v22 c512_i32_21
  let c0_i32_25 : BitVec 32 := 0#32
  let v36 : BitVec 1 := Scalar.cmpi .ne v35 c0_i32_25
  let v37 : BitVec 1 := Scalar.andi v34 v36
  let v23 : BitVec 32 := Scalar.divsi v22 c512_i32_21
  let c1_i32_26 : BitVec 32 := 1#32
  let v38 : BitVec 32 := Scalar.subi v23 c1_i32_26
  let v39 : BitVec 32 := Scalar.select v37 v38 v23
  let v40 : BitVec 32 := Scalar.subi v39 c0_i32_28
  let c1_i32_29 : BitVec 32 := 1#32
  let v42 : BitVec 32 := Scalar.divsi v40 c1_i32_29
  let v43 : BitVec 32 := Scalar.muli v42 c1_i32_29
  let v44 : BitVec 32 := Scalar.addi c0_i32_28 v43
  let v41 : BitVec 32 := Scalar.addi c0_i32_28 v40
  let c1_i32_31 : BitVec 32 := 1#32
  ⟨v44, v41, c1_i32_31⟩
def k0_mult2 (i : grid0.Coords) (k0_t2 : Fin (k0_t2_loop i).trips) : BitVec 32 :=
  let c0_i32_28 : BitVec 32 := 0#32
  let arg1 : BitVec 32 := BitVec.ofNat 32 (i 1).val
  let c1_i32 : BitVec 32 := 1#32
  let v19 : BitVec 32 := Scalar.addi arg1 c1_i32
  let c512_i32 : BitVec 32 := 512#32
  let v20 : BitVec 32 := Scalar.muli v19 c512_i32
  let c512_i32_19 : BitVec 32 := 512#32
  let v21 : BitVec 32 := Scalar.addi v20 c512_i32_19
  let c1_i32_20 : BitVec 32 := 1#32
  let v22 : BitVec 32 := Scalar.subi v21 c1_i32_20
  let c0_i32 : BitVec 32 := 0#32
  let v24 : BitVec 1 := Scalar.cmpi .sgt v22 c0_i32
  let v25 : BitVec 32 := Scalar.extui v24
  let c0_i32_22 : BitVec 32 := 0#32
  let v26 : BitVec 1 := Scalar.cmpi .slt v22 c0_i32_22
  let v27 : BitVec 32 := Scalar.extui v26
  let v28 : BitVec 32 := Scalar.subi v25 v27
  let c512_i32_21 : BitVec 32 := 512#32
  let c0_i32_23 : BitVec 32 := 0#32
  let v29 : BitVec 1 := Scalar.cmpi .sgt c512_i32_21 c0_i32_23
  let v30 : BitVec 32 := Scalar.extui v29
  let c0_i32_24 : BitVec 32 := 0#32
  let v31 : BitVec 1 := Scalar.cmpi .slt c512_i32_21 c0_i32_24
  let v32 : BitVec 32 := Scalar.extui v31
  let v33 : BitVec 32 := Scalar.subi v30 v32
  let v34 : BitVec 1 := Scalar.cmpi .ne v28 v33
  let v35 : BitVec 32 := Scalar.remsi v22 c512_i32_21
  let c0_i32_25 : BitVec 32 := 0#32
  let v36 : BitVec 1 := Scalar.cmpi .ne v35 c0_i32_25
  let v37 : BitVec 1 := Scalar.andi v34 v36
  let v23 : BitVec 32 := Scalar.divsi v22 c512_i32_21
  let c1_i32_26 : BitVec 32 := 1#32
  let v38 : BitVec 32 := Scalar.subi v23 c1_i32_26
  let v39 : BitVec 32 := Scalar.select v37 v38 v23
  let v40 : BitVec 32 := Scalar.subi v39 c0_i32_28
  let c1_i32_29 : BitVec 32 := 1#32
  let v42 : BitVec 32 := Scalar.divsi v40 c1_i32_29
  let v43 : BitVec 32 := Scalar.muli v42 c1_i32_29
  let v44 : BitVec 32 := Scalar.addi c0_i32_28 v43
  let c1_i32_31 : BitVec 32 := 1#32
  let arg12 : BitVec 32 := Scf.iv v44 c1_i32_31 k0_t2
  let c512_i32_47 : BitVec 32 := 512#32
  let v61 : BitVec 32 := Scalar.muli arg12 c512_i32_47
  v61
def k0_off4 (i : grid0.Coords) (k0_t2 : Fin (k0_t2_loop i).trips) : Fin 2 → Nat :=
  let c0_i32_28 : BitVec 32 := 0#32
  let arg1 : BitVec 32 := BitVec.ofNat 32 (i 1).val
  let c1_i32 : BitVec 32 := 1#32
  let v19 : BitVec 32 := Scalar.addi arg1 c1_i32
  let c512_i32 : BitVec 32 := 512#32
  let v20 : BitVec 32 := Scalar.muli v19 c512_i32
  let c512_i32_19 : BitVec 32 := 512#32
  let v21 : BitVec 32 := Scalar.addi v20 c512_i32_19
  let c1_i32_20 : BitVec 32 := 1#32
  let v22 : BitVec 32 := Scalar.subi v21 c1_i32_20
  let c0_i32 : BitVec 32 := 0#32
  let v24 : BitVec 1 := Scalar.cmpi .sgt v22 c0_i32
  let v25 : BitVec 32 := Scalar.extui v24
  let c0_i32_22 : BitVec 32 := 0#32
  let v26 : BitVec 1 := Scalar.cmpi .slt v22 c0_i32_22
  let v27 : BitVec 32 := Scalar.extui v26
  let v28 : BitVec 32 := Scalar.subi v25 v27
  let c512_i32_21 : BitVec 32 := 512#32
  let c0_i32_23 : BitVec 32 := 0#32
  let v29 : BitVec 1 := Scalar.cmpi .sgt c512_i32_21 c0_i32_23
  let v30 : BitVec 32 := Scalar.extui v29
  let c0_i32_24 : BitVec 32 := 0#32
  let v31 : BitVec 1 := Scalar.cmpi .slt c512_i32_21 c0_i32_24
  let v32 : BitVec 32 := Scalar.extui v31
  let v33 : BitVec 32 := Scalar.subi v30 v32
  let v34 : BitVec 1 := Scalar.cmpi .ne v28 v33
  let v35 : BitVec 32 := Scalar.remsi v22 c512_i32_21
  let c0_i32_25 : BitVec 32 := 0#32
  let v36 : BitVec 1 := Scalar.cmpi .ne v35 c0_i32_25
  let v37 : BitVec 1 := Scalar.andi v34 v36
  let v23 : BitVec 32 := Scalar.divsi v22 c512_i32_21
  let c1_i32_26 : BitVec 32 := 1#32
  let v38 : BitVec 32 := Scalar.subi v23 c1_i32_26
  let v39 : BitVec 32 := Scalar.select v37 v38 v23
  let v40 : BitVec 32 := Scalar.subi v39 c0_i32_28
  let c1_i32_29 : BitVec 32 := 1#32
  let v42 : BitVec 32 := Scalar.divsi v40 c1_i32_29
  let v43 : BitVec 32 := Scalar.muli v42 c1_i32_29
  let v44 : BitVec 32 := Scalar.addi c0_i32_28 v43
  let c1_i32_31 : BitVec 32 := 1#32
  let arg12 : BitVec 32 := Scf.iv v44 c1_i32_31 k0_t2
  let c512_i32_47 : BitVec 32 := 512#32
  let v61 : BitVec 32 := Scalar.muli arg12 c512_i32_47
  let v62 : BitVec 32 := v61
  let v72 : Index := Scalar.indexCast v62
  let c0_52 : Index := 0#32
  ![v72.toNat, 0]
def k0_off5 (i : grid0.Coords) (k0_t2 : Fin (k0_t2_loop i).trips) : Fin 2 → Nat :=
  let c0_i32_28 : BitVec 32 := 0#32
  let arg1 : BitVec 32 := BitVec.ofNat 32 (i 1).val
  let c1_i32 : BitVec 32 := 1#32
  let v19 : BitVec 32 := Scalar.addi arg1 c1_i32
  let c512_i32 : BitVec 32 := 512#32
  let v20 : BitVec 32 := Scalar.muli v19 c512_i32
  let c512_i32_19 : BitVec 32 := 512#32
  let v21 : BitVec 32 := Scalar.addi v20 c512_i32_19
  let c1_i32_20 : BitVec 32 := 1#32
  let v22 : BitVec 32 := Scalar.subi v21 c1_i32_20
  let c0_i32 : BitVec 32 := 0#32
  let v24 : BitVec 1 := Scalar.cmpi .sgt v22 c0_i32
  let v25 : BitVec 32 := Scalar.extui v24
  let c0_i32_22 : BitVec 32 := 0#32
  let v26 : BitVec 1 := Scalar.cmpi .slt v22 c0_i32_22
  let v27 : BitVec 32 := Scalar.extui v26
  let v28 : BitVec 32 := Scalar.subi v25 v27
  let c512_i32_21 : BitVec 32 := 512#32
  let c0_i32_23 : BitVec 32 := 0#32
  let v29 : BitVec 1 := Scalar.cmpi .sgt c512_i32_21 c0_i32_23
  let v30 : BitVec 32 := Scalar.extui v29
  let c0_i32_24 : BitVec 32 := 0#32
  let v31 : BitVec 1 := Scalar.cmpi .slt c512_i32_21 c0_i32_24
  let v32 : BitVec 32 := Scalar.extui v31
  let v33 : BitVec 32 := Scalar.subi v30 v32
  let v34 : BitVec 1 := Scalar.cmpi .ne v28 v33
  let v35 : BitVec 32 := Scalar.remsi v22 c512_i32_21
  let c0_i32_25 : BitVec 32 := 0#32
  let v36 : BitVec 1 := Scalar.cmpi .ne v35 c0_i32_25
  let v37 : BitVec 1 := Scalar.andi v34 v36
  let v23 : BitVec 32 := Scalar.divsi v22 c512_i32_21
  let c1_i32_26 : BitVec 32 := 1#32
  let v38 : BitVec 32 := Scalar.subi v23 c1_i32_26
  let v39 : BitVec 32 := Scalar.select v37 v38 v23
  let v40 : BitVec 32 := Scalar.subi v39 c0_i32_28
  let c1_i32_29 : BitVec 32 := 1#32
  let v42 : BitVec 32 := Scalar.divsi v40 c1_i32_29
  let v43 : BitVec 32 := Scalar.muli v42 c1_i32_29
  let v44 : BitVec 32 := Scalar.addi c0_i32_28 v43
  let c1_i32_31 : BitVec 32 := 1#32
  let arg12 : BitVec 32 := Scf.iv v44 c1_i32_31 k0_t2
  let c512_i32_47 : BitVec 32 := 512#32
  let v61 : BitVec 32 := Scalar.muli arg12 c512_i32_47
  let v62 : BitVec 32 := v61
  let v74 : Index := Scalar.indexCast v62
  let c0_53 : Index := 0#32
  ![v74.toNat, 0]
def k0_off6 (i : grid0.Coords) (k0_t2 : Fin (k0_t2_loop i).trips) : Fin 2 → Nat :=
  let c0_i32_28 : BitVec 32 := 0#32
  let arg1 : BitVec 32 := BitVec.ofNat 32 (i 1).val
  let c1_i32 : BitVec 32 := 1#32
  let v19 : BitVec 32 := Scalar.addi arg1 c1_i32
  let c512_i32 : BitVec 32 := 512#32
  let v20 : BitVec 32 := Scalar.muli v19 c512_i32
  let c512_i32_19 : BitVec 32 := 512#32
  let v21 : BitVec 32 := Scalar.addi v20 c512_i32_19
  let c1_i32_20 : BitVec 32 := 1#32
  let v22 : BitVec 32 := Scalar.subi v21 c1_i32_20
  let c0_i32 : BitVec 32 := 0#32
  let v24 : BitVec 1 := Scalar.cmpi .sgt v22 c0_i32
  let v25 : BitVec 32 := Scalar.extui v24
  let c0_i32_22 : BitVec 32 := 0#32
  let v26 : BitVec 1 := Scalar.cmpi .slt v22 c0_i32_22
  let v27 : BitVec 32 := Scalar.extui v26
  let v28 : BitVec 32 := Scalar.subi v25 v27
  let c512_i32_21 : BitVec 32 := 512#32
  let c0_i32_23 : BitVec 32 := 0#32
  let v29 : BitVec 1 := Scalar.cmpi .sgt c512_i32_21 c0_i32_23
  let v30 : BitVec 32 := Scalar.extui v29
  let c0_i32_24 : BitVec 32 := 0#32
  let v31 : BitVec 1 := Scalar.cmpi .slt c512_i32_21 c0_i32_24
  let v32 : BitVec 32 := Scalar.extui v31
  let v33 : BitVec 32 := Scalar.subi v30 v32
  let v34 : BitVec 1 := Scalar.cmpi .ne v28 v33
  let v35 : BitVec 32 := Scalar.remsi v22 c512_i32_21
  let c0_i32_25 : BitVec 32 := 0#32
  let v36 : BitVec 1 := Scalar.cmpi .ne v35 c0_i32_25
  let v37 : BitVec 1 := Scalar.andi v34 v36
  let v23 : BitVec 32 := Scalar.divsi v22 c512_i32_21
  let c1_i32_26 : BitVec 32 := 1#32
  let v38 : BitVec 32 := Scalar.subi v23 c1_i32_26
  let v39 : BitVec 32 := Scalar.select v37 v38 v23
  let v40 : BitVec 32 := Scalar.subi v39 c0_i32_28
  let c1_i32_29 : BitVec 32 := 1#32
  let v42 : BitVec 32 := Scalar.divsi v40 c1_i32_29
  let v43 : BitVec 32 := Scalar.muli v42 c1_i32_29
  let v44 : BitVec 32 := Scalar.addi c0_i32_28 v43
  let c1_i32_31 : BitVec 32 := 1#32
  let arg12 : BitVec 32 := Scf.iv v44 c1_i32_31 k0_t2
  let c512_i32_47 : BitVec 32 := 512#32
  let v61 : BitVec 32 := Scalar.muli arg12 c512_i32_47
  let v62 : BitVec 32 := v61
  let v116 : Index := Scalar.indexCast v62
  let c128_77 : Index := 128#32
  ![v116.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16384x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S16384x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S16384x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16384x11264 : Shape := ⟨2, ![16384, 11264]⟩
abbrev S16384x4096 : Shape := ⟨2, ![16384, 4096]⟩
abbrev S16384x8192 : Shape := ⟨2, ![16384, 8192]⟩
abbrev S16384x128 : Shape := ⟨2, ![16384, 128]⟩
abbrev S16384x512 : Shape := ⟨2, ![16384, 512]⟩
abbrev S16384x32x128 : Shape := ⟨3, ![16384, 32, 128]⟩
abbrev S32x16384x16384 : Shape := ⟨3, ![32, 16384, 16384]⟩
abbrev S16384x16384x32 : Shape := ⟨3, ![16384, 16384, 32]⟩
abbrev S16384 : Shape := ⟨1, ![16384]⟩
abbrev S16384x1x512 : Shape := ⟨3, ![16384, 1, 512]⟩
abbrev S16384x32x512 : Shape := ⟨3, ![16384, 32, 512]⟩
abbrev S32 : Shape := ⟨1, ![32]⟩
abbrev S1x32x1 : Shape := ⟨3, ![1, 32, 1]⟩
abbrev S_ : Shape := ⟨0, ![]⟩
abbrev S16384x16384 : Shape := ⟨2, ![16384, 16384]⟩
abbrev S1x16384 : Shape := ⟨2, ![1, 16384]⟩
abbrev S16384x1 : Shape := ⟨2, ![16384, 1]⟩
abbrev S1x16384x16384 : Shape := ⟨3, ![1, 16384, 16384]⟩
abbrev S32x16384 : Shape := ⟨2, ![32, 16384]⟩
abbrev S32x16384x1 : Shape := ⟨3, ![32, 16384, 1]⟩
abbrev S32x128x16384 : Shape := ⟨3, ![32, 128, 16384]⟩

abbrev nBuf : Space → Nat
  | .hbm => 70
  | .vmem => 0
  | .smem => 0
  | _ => 0

abbrev bufTy : (tb : Table) → Fin (tcTables nBuf tb) → BufTy
  | .hbm, ⟨0, _⟩ => ⟨S16384x11264, .bf16⟩
  | .hbm, ⟨1, _⟩ => ⟨S16384x4096, .bf16⟩
  | .hbm, ⟨2, _⟩ => ⟨S16384x8192, .bf16⟩
  | .hbm, ⟨3, _⟩ => ⟨S16384x128, .bf16⟩
  | .hbm, ⟨4, _⟩ => ⟨S16384x512, .i32⟩
  | .hbm, ⟨5, _⟩ => ⟨S16384x4096, .bf16⟩
  | .hbm, ⟨6, _⟩ => ⟨S16384x4096, .f32⟩
  | .hbm, ⟨7, _⟩ => ⟨S16384x32x128, .f32⟩
  | .hbm, ⟨8, _⟩ => ⟨S16384x4096, .f32⟩
  | .hbm, ⟨9, _⟩ => ⟨S16384x32x128, .f32⟩
  | .hbm, ⟨10, _⟩ => ⟨S16384x4096, .bf16⟩
  | .hbm, ⟨11, _⟩ => ⟨S16384x4096, .f32⟩
  | .hbm, ⟨12, _⟩ => ⟨S16384x32x128, .f32⟩
  | .hbm, ⟨13, _⟩ => ⟨S16384x4096, .bf16⟩
  | .hbm, ⟨14, _⟩ => ⟨S16384x4096, .f32⟩
  | .hbm, ⟨15, _⟩ => ⟨S16384x32x128, .f32⟩
  | .hbm, ⟨16, _⟩ => ⟨S32x16384x16384, .f32⟩
  | .hbm, ⟨17, _⟩ => ⟨S16384x128, .f32⟩
  | .hbm, ⟨18, _⟩ => ⟨S16384x16384x32, .f32⟩
  | .hbm, ⟨19, _⟩ => ⟨S32x16384x16384, .f32⟩
  | .hbm, ⟨20, _⟩ => ⟨S32x16384x16384, .f32⟩
  | .hbm, ⟨21, _⟩ => ⟨S16384, .i32⟩
  | .hbm, ⟨22, _⟩ => ⟨S16384x1x512, .i32⟩
  | .hbm, ⟨23, _⟩ => ⟨S16384x32x512, .i32⟩
  | .hbm, ⟨24, _⟩ => ⟨S32, .i32⟩
  | .hbm, ⟨25, _⟩ => ⟨S1x32x1, .i32⟩
  | .hbm, ⟨26, _⟩ => ⟨S16384x32x512, .i32⟩
  | .hbm, ⟨27, _⟩ => ⟨S16384x32x512, .i32⟩
  | .hbm, ⟨28, _⟩ => ⟨S_, .i32⟩
  | .hbm, ⟨29, _⟩ => ⟨S16384x32x512, .i32⟩
  | .hbm, ⟨30, _⟩ => ⟨S16384x32x512, .i32⟩
  | .hbm, ⟨31, _⟩ => ⟨S_, .i32⟩
  | .hbm, ⟨32, _⟩ => ⟨S16384x32x512, .i32⟩
  | .hbm, ⟨33, _⟩ => ⟨S16384x32x512, .i1⟩
  | .hbm, ⟨34, _⟩ => ⟨S16384x16384, .i1⟩
  | .hbm, ⟨35, _⟩ => ⟨S1x16384, .i32⟩
  | .hbm, ⟨36, _⟩ => ⟨S16384x1, .i32⟩
  | .hbm, ⟨37, _⟩ => ⟨S16384x16384, .i32⟩
  | .hbm, ⟨38, _⟩ => ⟨S16384x16384, .i32⟩
  | .hbm, ⟨39, _⟩ => ⟨S16384x16384, .i1⟩
  | .hbm, ⟨40, _⟩ => ⟨S16384x16384, .i1⟩
  | .hbm, ⟨41, _⟩ => ⟨S1x16384x16384, .i1⟩
  | .hbm, ⟨42, _⟩ => ⟨S_, .f32⟩
  | .hbm, ⟨43, _⟩ => ⟨S_, .f32⟩
  | .hbm, ⟨44, _⟩ => ⟨S32x16384x16384, .i1⟩
  | .hbm, ⟨45, _⟩ => ⟨S32x16384x16384, .f32⟩
  | .hbm, ⟨46, _⟩ => ⟨S32x16384x16384, .f32⟩
  | .hbm, ⟨47, _⟩ => ⟨S_, .f32⟩
  | .hbm, ⟨48, _⟩ => ⟨S32x16384, .f32⟩
  | .hbm, ⟨49, _⟩ => ⟨S_, .f32⟩
  | .hbm, ⟨50, _⟩ => ⟨S32x16384, .f32⟩
  | .hbm, ⟨51, _⟩ => ⟨S32x16384, .f32⟩
  | .hbm, ⟨52, _⟩ => ⟨S32x16384x1, .f32⟩
  | .hbm, ⟨53, _⟩ => ⟨S32x16384x16384, .f32⟩
  | .hbm, ⟨54, _⟩ => ⟨S32x16384x16384, .f32⟩
  | .hbm, ⟨55, _⟩ => ⟨S32x16384x16384, .f32⟩
  | .hbm, ⟨56, _⟩ => ⟨S_, .f32⟩
  | .hbm, ⟨57, _⟩ => ⟨S32x16384, .f32⟩
  | .hbm, ⟨58, _⟩ => ⟨S32x16384x1, .f32⟩
  | .hbm, ⟨59, _⟩ => ⟨S32x16384x16384, .f32⟩
  | .hbm, ⟨60, _⟩ => ⟨S32x16384x16384, .f32⟩
  | .hbm, ⟨61, _⟩ => ⟨S_, .f32⟩
  | .hbm, ⟨62, _⟩ => ⟨S_, .f32⟩
  | .hbm, ⟨63, _⟩ => ⟨S32x16384x16384, .i1⟩
  | .hbm, ⟨64, _⟩ => ⟨S32x16384x16384, .f32⟩
  | .hbm, ⟨65, _⟩ => ⟨S32x16384x16384, .f32⟩
  | .hbm, ⟨66, _⟩ => ⟨S32x128x16384, .f32⟩
  | .hbm, ⟨67, _⟩ => ⟨S16384x32x128, .f32⟩
  | .hbm, ⟨68, _⟩ => ⟨S16384x4096, .f32⟩
  | .hbm, ⟨69, _⟩ => ⟨S16384x4096, .bf16⟩
  | _, _ => ⟨S16384x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c : Ref sig .tc := ⟨.hbm, 28, rfl⟩
abbrev main_v23 : Ref sig .tc := ⟨.hbm, 29, rfl⟩
abbrev main_v24 : Ref sig .tc := ⟨.hbm, 30, rfl⟩
abbrev main_c_0 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v35 : Ref sig .tc := ⟨.hbm, 46, rfl⟩
abbrev main_cst_1 : Ref sig .tc := ⟨.hbm, 47, rfl⟩
abbrev main_v36 : Ref sig .tc := ⟨.hbm, 48, rfl⟩
abbrev main_cst_2 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_3 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_4 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Kernel2.lean ====
abbrev S16384x4096 : Shape := ⟨2, ![16384, 4096]⟩
abbrev S4096x11264 : Shape := ⟨2, ![4096, 11264]⟩
abbrev S16384x5632 : Shape := ⟨2, ![16384, 5632]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x11264, .bf16⟩
  | .hbm, ⟨2, _⟩ => ⟨S16384x5632, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1024x512, .bf16⟩
  | .local _ .vmem, ⟨7, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16384x4096 : Shape := ⟨2, ![16384, 4096]⟩
abbrev S4096x11264 : Shape := ⟨2, ![4096, 11264]⟩
abbrev S16384x11264 : Shape := ⟨2, ![16384, 11264]⟩
abbrev S16384x5632 : Shape := ⟨2, ![16384, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x11264, .bf16⟩
  | .hbm, ⟨2, _⟩ => ⟨S16384x4096, .f32⟩
  | .hbm, ⟨3, _⟩ => ⟨S4096x11264, .f32⟩
  | .hbm, ⟨4, _⟩ => ⟨S16384x11264, .f32⟩
  | .hbm, ⟨5, _⟩ => ⟨S16384x5632, .f32⟩
  | .hbm, ⟨6, _⟩ => ⟨S16384x5632, .f32⟩
  | .hbm, ⟨7, _⟩ => ⟨S16384x5632, .f32⟩
  | .hbm, ⟨8, _⟩ => ⟨S16384x5632, .f32⟩
  | .hbm, ⟨9, _⟩ => ⟨S_, .f32⟩
  | .hbm, ⟨10, _⟩ => ⟨S16384x5632, .f32⟩
  | .hbm, ⟨11, _⟩ => ⟨S16384x5632, .f32⟩
  | .hbm, ⟨12, _⟩ => ⟨S_, .f32⟩
  | .hbm, ⟨13, _⟩ => ⟨S16384x5632, .f32⟩
  | .hbm, ⟨14, _⟩ => ⟨S16384x5632, .f32⟩
  | .hbm, ⟨15, _⟩ => ⟨S16384x5632, .f32⟩
  | .hbm, ⟨16, _⟩ => ⟨S16384x5632, .f32⟩
  | .hbm, ⟨17, _⟩ => ⟨S16384x5632, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== Kernel3.lean ====
abbrev S16384x5632 : Shape := ⟨2, ![16384, 5632]⟩
abbrev S5632x4096 : Shape := ⟨2, ![5632, 4096]⟩
abbrev S16384x4096 : Shape := ⟨2, ![16384, 4096]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x5632, .bf16⟩
  | .hbm, ⟨1, _⟩ => ⟨S5632x4096, .bf16⟩
  | .hbm, ⟨2, _⟩ => ⟨S16384x4096, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16384x5632 : Shape := ⟨2, ![16384, 5632]⟩
abbrev S5632x4096 : Shape := ⟨2, ![5632, 4096]⟩
abbrev S16384x4096 : Shape := ⟨2, ![16384, 4096]⟩

abbrev nBuf : Space → Nat
  | .hbm => 5
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S5632x4096, .bf16⟩
  | .hbm, ⟨2, _⟩ => ⟨S16384x5632, .f32⟩
  | .hbm, ⟨3, _⟩ => ⟨S5632x4096, .f32⟩
  | .hbm, ⟨4, _⟩ => ⟨S16384x4096, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel4.lean ====
abbrev S16384x4096 : Shape := ⟨2, ![16384, 4096]⟩
abbrev S4096x7424 : Shape := ⟨2, ![4096, 7424]⟩
abbrev S16384x7424 : Shape := ⟨2, ![16384, 7424]⟩
abbrev S1024x4096 : Shape := ⟨2, ![1024, 4096]⟩
abbrev S4096x256 : Shape := ⟨2, ![4096, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x7424, .bf16⟩
  | .hbm, ⟨2, _⟩ => ⟨S16384x7424, .bf16⟩
  | .local _ .vmem, ⟨0, _⟩ => ⟨S1024x4096, .bf16⟩
  | .local _ .vmem, ⟨1, _⟩ => ⟨S1024x4096, .bf16⟩
  | .local _ .vmem, ⟨2, _⟩ => ⟨S4096x256, .bf16⟩
  | .local _ .vmem, ⟨3, _⟩ => ⟨S4096x256, .bf16⟩
  | .local _ .vmem, ⟨4, _⟩ => ⟨S1024x256, .bf16⟩
  | .local _ .vmem, ⟨5, _⟩ => ⟨S1024x256, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 29], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S16384x4096 : Shape := ⟨2, ![16384, 4096]⟩
abbrev S4096x7424 : Shape := ⟨2, ![4096, 7424]⟩
abbrev S16384x7424 : Shape := ⟨2, ![16384, 7424]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x7424, .bf16⟩
  | .hbm, ⟨2, _⟩ => ⟨S16384x4096, .f32⟩
  | .hbm, ⟨3, _⟩ => ⟨S4096x7424, .f32⟩
  | .hbm, ⟨4, _⟩ => ⟨S16384x7424, .f32⟩
  | .hbm, ⟨5, _⟩ => ⟨S16384x7424, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S16384x4096 : Shape := ⟨2, ![16384, 4096]⟩
abbrev S4096x11264 : Shape := ⟨2, ![4096, 11264]⟩
abbrev S16384x11264 : Shape := ⟨2, ![16384, 11264]⟩
abbrev S1024x4096 : Shape := ⟨2, ![1024, 4096]⟩
abbrev S4096x256 : Shape := ⟨2, ![4096, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x11264, .bf16⟩
  | .hbm, ⟨2, _⟩ => ⟨S16384x11264, .bf16⟩
  | .local _ .vmem, ⟨0, _⟩ => ⟨S1024x4096, .bf16⟩
  | .local _ .vmem, ⟨1, _⟩ => ⟨S1024x4096, .bf16⟩
  | .local _ .vmem, ⟨2, _⟩ => ⟨S4096x256, .bf16⟩
  | .local _ .vmem, ⟨3, _⟩ => ⟨S4096x256, .bf16⟩
  | .local _ .vmem, ⟨4, _⟩ => ⟨S1024x256, .bf16⟩
  | .local _ .vmem, ⟨5, _⟩ => ⟨S1024x256, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 44], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S16384x4096 : Shape := ⟨2, ![16384, 4096]⟩
abbrev S4096x11264 : Shape := ⟨2, ![4096, 11264]⟩
abbrev S16384x11264 : Shape := ⟨2, ![16384, 11264]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x11264, .bf16⟩
  | .hbm, ⟨2, _⟩ => ⟨S16384x4096, .f32⟩
  | .hbm, ⟨3, _⟩ => ⟨S4096x11264, .f32⟩
  | .hbm, ⟨4, _⟩ => ⟨S16384x11264, .f32⟩
  | .hbm, ⟨5, _⟩ => ⟨S16384x11264, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel6.lean ====
abbrev S16384x4096 : Shape := ⟨2, ![16384, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S16384x4096 : Shape := ⟨2, ![16384, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .f32⟩
  | .hbm, ⟨3, _⟩ => ⟨S4096x4096, .f32⟩
  | .hbm, ⟨4, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S16384x4096 : Shape := ⟨2, ![16384, 4096]⟩
abbrev S4096x8192 : Shape := ⟨2, ![4096, 8192]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x8192, .bf16⟩
  | .hbm, ⟨2, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1024x512, .f32⟩
  | .local _ .vmem, ⟨7, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S16384x4096 : Shape := ⟨2, ![16384, 4096]⟩
abbrev S4096x8192 : Shape := ⟨2, ![4096, 8192]⟩
abbrev S16384x8192 : Shape := ⟨2, ![16384, 8192]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x8192, .bf16⟩
  | .hbm, ⟨2, _⟩ => ⟨S16384x4096, .f32⟩
  | .hbm, ⟨3, _⟩ => ⟨S4096x8192, .f32⟩
  | .hbm, ⟨4, _⟩ => ⟨S16384x8192, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384x4096, .f32⟩
  | .hbm, ⟨14, _⟩ => ⟨S16384x4096, .f32⟩
  | .hbm, ⟨15, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel8.lean ====
abbrev S16384x512 : Shape := ⟨2, ![16384, 512]⟩
abbrev S512x8192 : Shape := ⟨2, ![512, 8192]⟩
abbrev S16384x8192 : Shape := ⟨2, ![16384, 8192]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x512, .bf16⟩
  | .hbm, ⟨1, _⟩ => ⟨S512x8192, .bf16⟩
  | .hbm, ⟨2, _⟩ => ⟨S16384x8192, .bf16⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .bf16⟩
  | .local _ .vmem, ⟨5, _⟩ => ⟨S1024x512, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S16384x512 : Shape := ⟨2, ![16384, 512]⟩
abbrev S512x8192 : Shape := ⟨2, ![512, 8192]⟩
abbrev S16384x8192 : Shape := ⟨2, ![16384, 8192]⟩

abbrev nBuf : Space → Nat
  | .hbm => 6
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S512x8192, .bf16⟩
  | .hbm, ⟨2, _⟩ => ⟨S16384x512, .f32⟩
  | .hbm, ⟨3, _⟩ => ⟨S512x8192, .f32⟩
  | .hbm, ⟨4, _⟩ => ⟨S16384x8192, .f32⟩
  | .hbm, ⟨5, _⟩ => ⟨S16384x8192, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S16384x4096 : Shape := ⟨2, ![16384, 4096]⟩
abbrev S4096x512 : Shape := ⟨2, ![4096, 512]⟩
abbrev S4x256x128 : Shape := ⟨3, ![4, 256, 128]⟩
abbrev S512x4096 : Shape := ⟨2, ![512, 4096]⟩
abbrev S4096 : Shape := ⟨1, ![4096]⟩
abbrev S1x4096 : Shape := ⟨2, ![1, 4096]⟩
abbrev S256x4096 : Shape := ⟨2, ![256, 4096]⟩
abbrev S256x512 : Shape := ⟨2, ![256, 512]⟩
abbrev S256x128 : Shape := ⟨2, ![256, 128]⟩
abbrev S1x256x128 : Shape := ⟨3, ![1, 256, 128]⟩
abbrev S256x256 : Shape := ⟨2, ![256, 256]⟩
abbrev S256 : Shape := ⟨1, ![256]⟩
abbrev S256x1 : Shape := ⟨2, ![256, 1]⟩

abbrev nBuf : Space → Nat
  | .hbm => 12
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .f32⟩
  | .hbm, ⟨2, _⟩ => ⟨S4096x512, .bf16⟩
  | .hbm, ⟨3, _⟩ => ⟨S4x256x128, .bf16⟩
  | .hbm, ⟨4, _⟩ => ⟨S4x256x128, .bf16⟩
  | .hbm, ⟨5, _⟩ => ⟨S512x4096, .bf16⟩
  | .hbm, ⟨6, _⟩ => ⟨S4096, .f32⟩
  | .hbm, ⟨7, _⟩ => ⟨S4096, .f32⟩
  | .hbm, ⟨8, _⟩ => ⟨S1x4096, .f32⟩
  | .hbm, ⟨9, _⟩ => ⟨S1x4096, .f32⟩
  | .hbm, ⟨10, _⟩ => ⟨S16384x4096, .f32⟩
  | .hbm, ⟨11, _⟩ => ⟨S16384x4096, .bf16⟩
  | .local _ .vmem, ⟨0, _⟩ => ⟨S256x4096, .bf16⟩
  | .local _ .vmem, ⟨1, _⟩ => ⟨S256x4096, .bf16⟩
  | .local _ .vmem, ⟨2, _⟩ => ⟨S256x4096, .f32⟩
  | .local _ .vmem, ⟨3, _⟩ => ⟨S256x4096, .f32⟩
  | .local _ .vmem, ⟨4, _⟩ => ⟨S4096x512, .bf16⟩
  | .local _ .vmem, ⟨5, _⟩ => ⟨S4x256x128, .bf16⟩
  | .local _ .vmem, ⟨6, _⟩ => ⟨S4x256x128, .bf16⟩
  | .local _ .vmem, ⟨7, _⟩ => ⟨S512x4096, .bf16⟩
  | .local _ .vmem, ⟨8, _⟩ => ⟨S1x4096, .f32⟩
  | .local _ .vmem, ⟨9, _⟩ => ⟨S1x4096, .f32⟩
  | .local _ .vmem, ⟨10, _⟩ => ⟨S256x4096, .f32⟩
  | .local _ .vmem, ⟨11, _⟩ => ⟨S256x4096, .f32⟩
  | .local _ .vmem, ⟨12, _⟩ => ⟨S256x4096, .bf16⟩
  | .local _ .vmem, ⟨13, _⟩ => ⟨S256x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference9Ideal.lean ====
abbrev S16384x4096 : Shape := ⟨2, ![16384, 4096]⟩
abbrev S4096x512 : Shape := ⟨2, ![4096, 512]⟩
abbrev S4x256x128 : Shape := ⟨3, ![4, 256, 128]⟩
abbrev S512x4096 : Shape := ⟨2, ![512, 4096]⟩
abbrev S4096 : Shape := ⟨1, ![4096]⟩
abbrev S16384x512 : Shape := ⟨2, ![16384, 512]⟩
abbrev S16384x4x128 : Shape := ⟨3, ![16384, 4, 128]⟩
abbrev S4x16384x256 : Shape := ⟨3, ![4, 16384, 256]⟩
abbrev S_ : Shape := ⟨0, ![]⟩
abbrev S4x16384 : Shape := ⟨2, ![4, 16384]⟩
abbrev S4x16384x1 : Shape := ⟨3, ![4, 16384, 1]⟩
abbrev S4x128x16384 : Shape := ⟨3, ![4, 128, 16384]⟩
abbrev S16384 : Shape := ⟨1, ![16384]⟩
abbrev S16384x1 : Shape := ⟨2, ![16384, 1]⟩
abbrev S1x4096 : Shape := ⟨2, ![1, 4096]⟩

abbrev nBuf : Space → Nat
  | .hbm => 71
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .f32⟩
  | .hbm, ⟨2, _⟩ => ⟨S4096x512, .bf16⟩
  | .hbm, ⟨3, _⟩ => ⟨S4x256x128, .bf16⟩
  | .hbm, ⟨4, _⟩ => ⟨S4x256x128, .bf16⟩
  | .hbm, ⟨5, _⟩ => ⟨S512x4096, .bf16⟩
  | .hbm, ⟨6, _⟩ => ⟨S4096, .f32⟩
  | .hbm, ⟨7, _⟩ => ⟨S4096, .f32⟩
  | .hbm, ⟨8, _⟩ => ⟨S16384x4096, .f32⟩
  | .hbm, ⟨9, _⟩ => ⟨S4096x512, .f32⟩
  | .hbm, ⟨10, _⟩ => ⟨S16384x512, .f32⟩
  | .hbm, ⟨11, _⟩ => ⟨S16384x4x128, .f32⟩
  | .hbm, ⟨12, _⟩ => ⟨S4x256x128, .f32⟩
  | .hbm, ⟨13, _⟩ => ⟨S4x16384x256, .f32⟩
  | .hbm, ⟨14, _⟩ => ⟨S_, .f32⟩
  | .hbm, ⟨15, _⟩ => ⟨S4x16384x256, .f32⟩
  | .hbm, ⟨16, _⟩ => ⟨S4x16384x256, .f32⟩
  | .hbm, ⟨17, _⟩ => ⟨S_, .f32⟩
  | .hbm, ⟨18, _⟩ => ⟨S4x16384, .f32⟩
  | .hbm, ⟨19, _⟩ => ⟨S_, .f32⟩
  | .hbm, ⟨20, _⟩ => ⟨S4x16384, .f32⟩
  | .hbm, ⟨21, _⟩ => ⟨S4x16384, .f32⟩
  | .hbm, ⟨22, _⟩ => ⟨S4x16384x1, .f32⟩
  | .hbm, ⟨23, _⟩ => ⟨S4x16384x256, .f32⟩
  | .hbm, ⟨24, _⟩ => ⟨S4x16384x256, .f32⟩
  | .hbm, ⟨25, _⟩ => ⟨S4x16384x256, .f32⟩
  | .hbm, ⟨26, _⟩ => ⟨S_, .f32⟩
  | .hbm, ⟨27, _⟩ => ⟨S4x16384, .f32⟩
  | .hbm, ⟨28, _⟩ => ⟨S4x16384x1, .f32⟩
  | .hbm, ⟨29, _⟩ => ⟨S4x16384x256, .f32⟩
  | .hbm, ⟨30, _⟩ => ⟨S4x16384x256, .f32⟩
  | .hbm, ⟨31, _⟩ => ⟨S4x256x128, .f32⟩
  | .hbm, ⟨32, _⟩ => ⟨S4x128x16384, .f32⟩
  | .hbm, ⟨33, _⟩ => ⟨S16384x4x128, .f32⟩
  | .hbm, ⟨34, _⟩ => ⟨S16384x512, .f32⟩
  | .hbm, ⟨35, _⟩ => ⟨S512x4096, .f32⟩
  | .hbm, ⟨36, _⟩ => ⟨S16384x4096, .f32⟩
  | .hbm, ⟨37, _⟩ => ⟨S16384x4096, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1, .f32⟩
  | .hbm, ⟨48, _⟩ => ⟨S16384x4096, .f32⟩
  | .hbm, ⟨49, _⟩ => ⟨S16384x4096, .f32⟩
  | .hbm, ⟨50, _⟩ => ⟨S1x4096, .f32⟩
  | .hbm, ⟨51, _⟩ => ⟨S16384x4096, .f32⟩
  | .hbm, ⟨52, _⟩ => ⟨S16384x4096, .f32⟩
  | .hbm, ⟨53, _⟩ => ⟨S16384x4096, .f32⟩
  | .hbm, ⟨54, _⟩ => ⟨S16384x4096, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S16384x1, .f32⟩
  | .hbm, ⟨65, _⟩ => ⟨S16384x4096, .f32⟩
  | .hbm, ⟨66, _⟩ => ⟨S16384x4096, .f32⟩
  | .hbm, ⟨67, _⟩ => ⟨S1x4096, .f32⟩
  | .hbm, ⟨68, _⟩ => ⟨S16384x4096, .f32⟩
  | .hbm, ⟨69, _⟩ => ⟨S16384x4096, .f32⟩
  | .hbm, ⟨70, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== Kernel10.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S16384x4096, .f32⟩
  | .hbm, ⟨7, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 41
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096, .f32⟩
  | .hbm, ⟨3, _⟩ => ⟨S4096, .f32⟩
  | .hbm, ⟨4, _⟩ => ⟨S16384x4096, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x4096, .f32⟩
  | .hbm, ⟨16, _⟩ => ⟨S16384x4096, .f32⟩
  | .hbm, ⟨17, _⟩ => ⟨S1x4096, .f32⟩
  | .hbm, ⟨18, _⟩ => ⟨S16384x4096, .f32⟩
  | .hbm, ⟨19, _⟩ => ⟨S16384x4096, .f32⟩
  | .hbm, ⟨20, _⟩ => ⟨S_, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x4096, .f32⟩
  | .hbm, ⟨36, _⟩ => ⟨S16384x4096, .f32⟩
  | .hbm, ⟨37, _⟩ => ⟨S1x4096, .f32⟩
  | .hbm, ⟨38, _⟩ => ⟨S16384x4096, .f32⟩
  | .hbm, ⟨39, _⟩ => ⟨S16384x4096, .f32⟩
  | .hbm, ⟨40, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel11.lean ====
abbrev S2x4x16384x128 : Shape := ⟨4, ![2, 4, 16384, 128]⟩
abbrev S2x32x128 : Shape := ⟨3, ![2, 32, 128]⟩
abbrev S2x4096x128 : Shape := ⟨3, ![2, 4096, 128]⟩
abbrev S2x128x128 : Shape := ⟨3, ![2, 128, 128]⟩
abbrev S2x4x1024x2048 : Shape := ⟨4, ![2, 4, 1024, 2048]⟩
abbrev S2x2x2048 : Shape := ⟨3, ![2, 2, 2048]⟩
abbrev S2x4x1024x128 : Shape := ⟨4, ![2, 4, 1024, 128]⟩
abbrev S1x1x1024x2048 : Shape := ⟨4, ![1, 1, 1024, 2048]⟩
abbrev S1x2x2048 : Shape := ⟨3, ![1, 2, 2048]⟩
abbrev S1x4096x128 : Shape := ⟨3, ![1, 4096, 128]⟩
abbrev S1x128x128 : Shape := ⟨3, ![1, 128, 128]⟩
abbrev S1x1x1024x128 : Shape := ⟨4, ![1, 1, 1024, 128]⟩
abbrev S1024x2048 : Shape := ⟨2, ![1024, 2048]⟩
abbrev S1x1x2048 : Shape := ⟨3, ![1, 1, 2048]⟩
abbrev S1x2048 : Shape := ⟨2, ![1, 2048]⟩
abbrev S1x2048x128 : Shape := ⟨3, ![1, 2048, 128]⟩
abbrev S2048x128 : Shape := ⟨2, ![2048, 128]⟩
abbrev S1024x128 : Shape := ⟨2, ![1024, 128]⟩
abbrev S8x2048 : Shape := ⟨2, ![8, 2048]⟩
abbrev S8x128 : Shape := ⟨2, ![8, 128]⟩
abbrev S1x128 : Shape := ⟨2, ![1, 128]⟩
abbrev S1024x1 : Shape := ⟨2, ![1024, 1]⟩
abbrev S128x128 : Shape := ⟨2, ![128, 128]⟩

abbrev nBuf : Space → Nat
  | .hbm => 7
  | .vmem => 10
  | .smem => 0
  | _ => 0

abbrev bufTy : (tb : Table) → Fin (tcTables nBuf tb) → BufTy
  | .hbm, ⟨0, _⟩ => ⟨S2x4x16384x128, .bf16⟩
  | .hbm, ⟨1, _⟩ => ⟨S2x32x128, .f32⟩
  | .hbm, ⟨2, _⟩ => ⟨S2x4096x128, .bf16⟩
  | .hbm, ⟨3, _⟩ => ⟨S2x128x128, .bf16⟩
  | .hbm, ⟨4, _⟩ => ⟨S2x4x1024x2048, .bf16⟩
  | .hbm, ⟨5, _⟩ => ⟨S2x2x2048, .f32⟩
  | .hbm, ⟨6, _⟩ => ⟨S2x4x1024x128, .bf16⟩
  | .local _ .vmem, ⟨0, _⟩ => ⟨S1x1x1024x2048, .bf16⟩
  | .local _ .vmem, ⟨1, _⟩ => ⟨S1x1x1024x2048, .bf16⟩
  | .local _ .vmem, ⟨2, _⟩ => ⟨S1x2x2048, .f32⟩
  | .local _ .vmem, ⟨3, _⟩ => ⟨S1x2x2048, .f32⟩
  | .local _ .vmem, ⟨4, _⟩ => ⟨S1x4096x128, .bf16⟩
  | .local _ .vmem, ⟨5, _⟩ => ⟨S1x4096x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x1x1024x128, .bf16⟩
  | .local _ .vmem, ⟨9, _⟩ => ⟨S1x1x1024x128, .bf16⟩
  | _, _ => ⟨S2x4x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference11Ideal.lean ====
abbrev S2x4x16384x128 : Shape := ⟨4, ![2, 4, 16384, 128]⟩
abbrev S2x32x128 : Shape := ⟨3, ![2, 32, 128]⟩
abbrev S2x4096x128 : Shape := ⟨3, ![2, 4096, 128]⟩
abbrev S2x128x128 : Shape := ⟨3, ![2, 128, 128]⟩
abbrev S_ : Shape := ⟨0, ![]⟩
abbrev S2x4x16400x128 : Shape := ⟨4, ![2, 4, 16400, 128]⟩
abbrev S2x4x1025x16x128 : Shape := ⟨5, ![2, 4, 1025, 16, 128]⟩
abbrev S2x4x1024x16x128 : Shape := ⟨5, ![2, 4, 1024, 16, 128]⟩
abbrev S2x4x1024x32x128 : Shape := ⟨5, ![2, 4, 1024, 32, 128]⟩
abbrev S2x1x1x32x128 : Shape := ⟨5, ![2, 1, 1, 32, 128]⟩
abbrev S2x4x1024x4096 : Shape := ⟨4, ![2, 4, 1024, 4096]⟩
abbrev S2x4x1024x128 : Shape := ⟨4, ![2, 4, 1024, 128]⟩

abbrev nBuf : Space → Nat
  | .hbm => 30
  | .vmem => 0
  | .smem => 0
  | _ => 0

abbrev bufTy : (tb : Table) → Fin (tcTables nBuf tb) → BufTy
  | .hbm, ⟨0, _⟩ => ⟨S2x4x16384x128, .bf16⟩
  | .hbm, ⟨1, _⟩ => ⟨S2x32x128, .f32⟩
  | .hbm, ⟨2, _⟩ => ⟨S2x4096x128, .bf16⟩
  | .hbm, ⟨3, _⟩ => ⟨S2x128x128, .bf16⟩
  | .hbm, ⟨4, _⟩ => ⟨S2x4x16384x128, .f32⟩
  | .hbm, ⟨5, _⟩ => ⟨S_, .i32⟩
  | .hbm, ⟨6, _⟩ => ⟨S_, .f32⟩
  | .hbm, ⟨7, _⟩ => ⟨S2x4x16400x128, .f32⟩
  | .hbm, ⟨8, _⟩ => ⟨S2x4x1025x16x128, .f32⟩
  | .hbm, ⟨9, _⟩ => ⟨S2x4x1024x16x128, .f32⟩
  | .hbm, ⟨10, _⟩ => ⟨S2x4x1024x16x128, .f32⟩
  | .hbm, ⟨11, _⟩ => ⟨S2x4x1024x32x128, .f32⟩
  | .hbm, ⟨12, _⟩ => ⟨S2x1x1x32x128, .f32⟩
  | .hbm, ⟨13, _⟩ => ⟨S2x4x1024x32x128, .f32⟩
  | .hbm, ⟨14, _⟩ => ⟨S2x4x1024x32x128, .f32⟩
  | .hbm, ⟨15, _⟩ => ⟨S2x4x1024x4096, .f32⟩
  | .hbm, ⟨16, _⟩ => ⟨S2x4096x128, .f32⟩
  | .hbm, ⟨17, _⟩ => ⟨S2x4x1024x128, .f32⟩
  | .hbm, ⟨18, _⟩ => ⟨S2x4x1024x128, .f32⟩
  | .hbm, ⟨19, _⟩ => ⟨S2x4x1024x128, .f32⟩
  | .hbm, ⟨20, _⟩ => ⟨S_, .f32⟩
  | .hbm, ⟨21, _⟩ => ⟨S2x4x1024x128, .f32⟩
  | .hbm, ⟨22, _⟩ => ⟨S2x4x1024x128, .f32⟩
  | .hbm, ⟨23, _⟩ => ⟨S_, .f32⟩
  | .hbm, ⟨24, _⟩ => ⟨S2x4x1024x128, .f32⟩
  | .hbm, ⟨25, _⟩ => ⟨S2x4x1024x128, .f32⟩
  | .hbm, ⟨26, _⟩ => ⟨S2x4x1024x128, .f32⟩
  | .hbm, ⟨27, _⟩ => ⟨S2x128x128, .f32⟩
  | .hbm, ⟨28, _⟩ => ⟨S2x4x1024x128, .f32⟩
  | .hbm, ⟨29, _⟩ => ⟨S2x4x1024x128, .bf16⟩
  | _, _ => ⟨S2x4x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩

abbrev nD : Nat := 1
abbrev τ : Topo := Topo.v7x

variable {F : FTy → Type} [FloatOps F]
-- ==== Kernel12.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S16384x4096, .f32⟩
  | .hbm, ⟨7, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference12Ideal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096, .f32⟩
  | .hbm, ⟨3, _⟩ => ⟨S4096, .f32⟩
  | .hbm, ⟨4, _⟩ => ⟨S16384x4096, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x4096, .f32⟩
  | .hbm, ⟨16, _⟩ => ⟨S16384x4096, .f32⟩
  | .hbm, ⟨17, _⟩ => ⟨S1x4096, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x4096, .f32⟩
  | .hbm, ⟨33, _⟩ => ⟨S16384x4096, .f32⟩
  | .hbm, ⟨34, _⟩ => ⟨S1x4096, .f32⟩
  | .hbm, ⟨35, _⟩ => ⟨S16384x4096, .f32⟩
  | .hbm, ⟨36, _⟩ => ⟨S16384x4096, .f32⟩
  | .hbm, ⟨37, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel13.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel14.lean ====
abbrev S256x4096 : Shape := ⟨2, ![256, 4096]⟩
abbrev S4096 : Shape := ⟨1, ![4096]⟩
abbrev S1x4096 : Shape := ⟨2, ![1, 4096]⟩
abbrev S256 : Shape := ⟨1, ![256]⟩
abbrev S256x1 : Shape := ⟨2, ![256, 1]⟩

abbrev nBuf : Space → Nat
  | .hbm => 4
  | .vmem => 3
  | .smem => 0
  | _ => 0

abbrev bufTy : (tb : Table) → Fin (tcTables nBuf tb) → BufTy
  | .hbm, ⟨0, _⟩ => ⟨S256x4096, .f32⟩
  | .hbm, ⟨1, _⟩ => ⟨S4096, .f32⟩
  | .hbm, ⟨2, _⟩ => ⟨S1x4096, .f32⟩
  | .hbm, ⟨3, _⟩ => ⟨S256x4096, .bf16⟩
  | .local _ .vmem, ⟨0, _⟩ => ⟨S256x4096, .f32⟩
  | .local _ .vmem, ⟨1, _⟩ => ⟨S1x4096, .f32⟩
  | .local _ .vmem, ⟨2, _⟩ => ⟨S256x4096, .bf16⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference14Ideal.lean ====
abbrev S256x4096 : Shape := ⟨2, ![256, 4096]⟩
abbrev S4096 : Shape := ⟨1, ![4096]⟩
abbrev S_ : Shape := ⟨0, ![]⟩
abbrev S256 : Shape := ⟨1, ![256]⟩
abbrev S256x1 : Shape := ⟨2, ![256, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S4096, .f32⟩
  | .hbm, ⟨2, _⟩ => ⟨S256x4096, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x4096, .f32⟩
  | .hbm, ⟨14, _⟩ => ⟨S256x4096, .f32⟩
  | .hbm, ⟨15, _⟩ => ⟨S1x4096, .f32⟩
  | .hbm, ⟨16, _⟩ => ⟨S256x4096, .f32⟩
  | .hbm, ⟨17, _⟩ => ⟨S256x4096, .f32⟩
  | .hbm, ⟨18, _⟩ => ⟨S256x4096, .bf16⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel15.lean ====
abbrev S256x4096 : Shape := ⟨2, ![256, 4096]⟩
abbrev S4096x1024 : Shape := ⟨2, ![4096, 1024]⟩
abbrev S256x1024 : Shape := ⟨2, ![256, 1024]⟩
abbrev S4096x512 : Shape := ⟨2, ![4096, 512]⟩
abbrev S256x512 : Shape := ⟨2, ![256, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x4096, .bf16⟩
  | .hbm, ⟨1, _⟩ => ⟨S4096x1024, .bf16⟩
  | .hbm, ⟨2, _⟩ => ⟨S256x1024, .bf16⟩
  | .local _ .vmem, ⟨0, _⟩ => ⟨S256x4096, .bf16⟩
  | .local _ .vmem, ⟨1, _⟩ => ⟨S4096x512, .bf16⟩
  | .local _ .vmem, ⟨2, _⟩ => ⟨S4096x512, .bf16⟩
  | .local _ .vmem, ⟨3, _⟩ => ⟨S256x512, .bf16⟩
  | .local _ .vmem, ⟨4, _⟩ => ⟨S256x512, .bf16⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S256x4096 : Shape := ⟨2, ![256, 4096]⟩
abbrev S4096x1024 : Shape := ⟨2, ![4096, 1024]⟩
abbrev S256x1024 : Shape := ⟨2, ![256, 1024]⟩

abbrev nBuf : Space → Nat
  | .hbm => 6
  | .vmem => 0
  | .smem => 0
  | _ => 0

abbrev bufTy : (tb : Table) → Fin (tcTables nBuf tb) → BufTy
  | .hbm, ⟨0, _⟩ => ⟨S256x4096, .bf16⟩
  | .hbm, ⟨1, _⟩ => ⟨S4096x1024, .bf16⟩
  | .hbm, ⟨2, _⟩ => ⟨S256x4096, .f32⟩
  | .hbm, ⟨3, _⟩ => ⟨S4096x1024, .f32⟩
  | .hbm, ⟨4, _⟩ => ⟨S256x1024, .f32⟩
  | .hbm, ⟨5, _⟩ => ⟨S256x1024, .bf16⟩
  | _, _ => ⟨S256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel16.lean ====
abbrev S16384x7424 : Shape := ⟨2, ![16384, 7424]⟩
abbrev S16384x64 : Shape := ⟨2, ![16384, 64]⟩
abbrev S16384x128 : Shape := ⟨2, ![16384, 128]⟩
abbrev S2x4x16384x128 : Shape := ⟨4, ![2, 4, 16384, 128]⟩
abbrev S4x16384x128 : Shape := ⟨3, ![4, 16384, 128]⟩
abbrev S512x512 : Shape := ⟨2, ![512, 512]⟩
abbrev S512x128 : Shape := ⟨2, ![512, 128]⟩
abbrev S2x4x512x128 : Shape := ⟨4, ![2, 4, 512, 128]⟩
abbrev S4x512x128 : Shape := ⟨3, ![4, 512, 128]⟩
abbrev S1x1x512x128 : Shape := ⟨4, ![1, 1, 512, 128]⟩
abbrev S1x512x128 : Shape := ⟨3, ![1, 512, 128]⟩

abbrev nBuf : Space → Nat
  | .hbm => 11
  | .vmem => 26
  | .smem => 0
  | _ => 0

abbrev bufTy : (tb : Table) → Fin (tcTables nBuf tb) → BufTy
  | .hbm, ⟨0, _⟩ => ⟨S16384x7424, .bf16⟩
  | .hbm, ⟨1, _⟩ => ⟨S16384x64, .f32⟩
  | .hbm, ⟨2, _⟩ => ⟨S16384x64, .f32⟩
  | .hbm, ⟨3, _⟩ => ⟨S16384x128, .f32⟩
  | .hbm, ⟨4, _⟩ => ⟨S16384x64, .f32⟩
  | .hbm, ⟨5, _⟩ => ⟨S16384x128, .f32⟩
  | .hbm, ⟨6, _⟩ => ⟨S2x4x16384x128, .bf16⟩
  | .hbm, ⟨7, _⟩ => ⟨S4x16384x128, .bf16⟩
  | .hbm, ⟨8, _⟩ => ⟨S4x16384x128, .bf16⟩
  | .hbm, ⟨9, _⟩ => ⟨S4x16384x128, .bf16⟩
  | .hbm, ⟨10, _⟩ => ⟨S4x16384x128, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S2x4x512x128, .bf16⟩
  | .local _ .vmem, ⟨17, _⟩ => ⟨S2x4x512x128, .bf16⟩
  | .local _ .vmem, ⟨18, _⟩ => ⟨S4x512x128, .bf16⟩
  | .local _ .vmem, ⟨19, _⟩ => ⟨S4x512x128, .bf16⟩
  | .local _ .vmem, ⟨20, _⟩ => ⟨S4x512x128, .bf16⟩
  | .local _ .vmem, ⟨21, _⟩ => ⟨S4x512x128, .bf16⟩
  | .local _ .vmem, ⟨22, _⟩ => ⟨S4x512x128, .bf16⟩
  | .local _ .vmem, ⟨23, _⟩ => ⟨S4x512x128, .bf16⟩
  | .local _ .vmem, ⟨24, _⟩ => ⟨S4x512x128, .bf16⟩
  | .local _ .vmem, ⟨25, _⟩ => ⟨S4x512x128, .bf16⟩
  | _, _ => ⟨S16384x7424, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_3 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_4 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_5 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x4x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference16Ideal.lean ====
abbrev S16384x7424 : Shape := ⟨2, ![16384, 7424]⟩
abbrev S16384x64 : Shape := ⟨2, ![16384, 64]⟩
abbrev S16384x512 : Shape := ⟨2, ![16384, 512]⟩
abbrev S16384x4x128 : Shape := ⟨3, ![16384, 4, 128]⟩
abbrev S4x16384x128 : Shape := ⟨3, ![4, 16384, 128]⟩
abbrev S1x4x16384x128 : Shape := ⟨4, ![1, 4, 16384, 128]⟩
abbrev S2x4x16384x128 : Shape := ⟨4, ![2, 4, 16384, 128]⟩
abbrev S4x16384x64 : Shape := ⟨3, ![4, 16384, 64]⟩
abbrev S1x16384x64 : Shape := ⟨3, ![1, 16384, 64]⟩

abbrev nBuf : Space → Nat
  | .hbm => 69
  | .vmem => 0
  | .smem => 0
  | _ => 0

abbrev bufTy : (tb : Table) → Fin (tcTables nBuf tb) → BufTy
  | .hbm, ⟨0, _⟩ => ⟨S16384x7424, .bf16⟩
  | .hbm, ⟨1, _⟩ => ⟨S16384x64, .f32⟩
  | .hbm, ⟨2, _⟩ => ⟨S16384x64, .f32⟩
  | .hbm, ⟨3, _⟩ => ⟨S16384x512, .bf16⟩
  | .hbm, ⟨4, _⟩ => ⟨S16384x512, .f32⟩
  | .hbm, ⟨5, _⟩ => ⟨S16384x512, .bf16⟩
  | .hbm, ⟨6, _⟩ => ⟨S16384x512, .f32⟩
  | .hbm, ⟨7, _⟩ => ⟨S16384x512, .bf16⟩
  | .hbm, ⟨8, _⟩ => ⟨S16384x512, .f32⟩
  | .hbm, ⟨9, _⟩ => ⟨S16384x512, .bf16⟩
  | .hbm, ⟨10, _⟩ => ⟨S16384x512, .f32⟩
  | .hbm, ⟨11, _⟩ => ⟨S16384x512, .bf16⟩
  | .hbm, ⟨12, _⟩ => ⟨S16384x512, .f32⟩
  | .hbm, ⟨13, _⟩ => ⟨S16384x512, .bf16⟩
  | .hbm, ⟨14, _⟩ => ⟨S16384x512, .f32⟩
  | .hbm, ⟨15, _⟩ => ⟨S16384x4x128, .f32⟩
  | .hbm, ⟨16, _⟩ => ⟨S4x16384x128, .f32⟩
  | .hbm, ⟨17, _⟩ => ⟨S16384x4x128, .f32⟩
  | .hbm, ⟨18, _⟩ => ⟨S4x16384x128, .f32⟩
  | .hbm, ⟨19, _⟩ => ⟨S1x4x16384x128, .f32⟩
  | .hbm, ⟨20, _⟩ => ⟨S1x4x16384x128, .f32⟩
  | .hbm, ⟨21, _⟩ => ⟨S2x4x16384x128, .f32⟩
  | .hbm, ⟨22, _⟩ => ⟨S16384x4x128, .f32⟩
  | .hbm, ⟨23, _⟩ => ⟨S4x16384x128, .f32⟩
  | .hbm, ⟨24, _⟩ => ⟨S4x16384x64, .f32⟩
  | .hbm, ⟨25, _⟩ => ⟨S4x16384x64, .f32⟩
  | .hbm, ⟨26, _⟩ => ⟨S1x16384x64, .f32⟩
  | .hbm, ⟨27, _⟩ => ⟨S4x16384x64, .f32⟩
  | .hbm, ⟨28, _⟩ => ⟨S4x16384x64, .f32⟩
  | .hbm, ⟨29, _⟩ => ⟨S1x16384x64, .f32⟩
  | .hbm, ⟨30, _⟩ => ⟨S4x16384x64, .f32⟩
  | .hbm, ⟨31, _⟩ => ⟨S4x16384x64, .f32⟩
  | .hbm, ⟨32, _⟩ => ⟨S4x16384x64, .f32⟩
  | .hbm, ⟨33, _⟩ => ⟨S1x16384x64, .f32⟩
  | .hbm, ⟨34, _⟩ => ⟨S4x16384x64, .f32⟩
  | .hbm, ⟨35, _⟩ => ⟨S4x16384x64, .f32⟩
  | .hbm, ⟨36, _⟩ => ⟨S1x16384x64, .f32⟩
  | .hbm, ⟨37, _⟩ => ⟨S4x16384x64, .f32⟩
  | .hbm, ⟨38, _⟩ => ⟨S4x16384x64, .f32⟩
  | .hbm, ⟨39, _⟩ => ⟨S4x16384x64, .f32⟩
  | .hbm, ⟨40, _⟩ => ⟨S4x16384x128, .f32⟩
  | .hbm, ⟨41, _⟩ => ⟨S16384x4x128, .f32⟩
  | .hbm, ⟨42, _⟩ => ⟨S4x16384x128, .f32⟩
  | .hbm, ⟨43, _⟩ => ⟨S16384x4x128, .f32⟩
  | .hbm, ⟨44, _⟩ => ⟨S4x16384x128, .f32⟩
  | .hbm, ⟨45, _⟩ => ⟨S4x16384x64, .f32⟩
  | .hbm, ⟨46, _⟩ => ⟨S4x16384x64, .f32⟩
  | .hbm, ⟨47, _⟩ => ⟨S1x16384x64, .f32⟩
  | .hbm, ⟨48, _⟩ => ⟨S4x16384x64, .f32⟩
  | .hbm, ⟨49, _⟩ => ⟨S4x16384x64, .f32⟩
  | .hbm, ⟨50, _⟩ => ⟨S1x16384x64, .f32⟩
  | .hbm, ⟨51, _⟩ => ⟨S4x16384x64, .f32⟩
  | .hbm, ⟨52, _⟩ => ⟨S4x16384x64, .f32⟩
  | .hbm, ⟨53, _⟩ => ⟨S4x16384x64, .f32⟩
  | .hbm, ⟨54, _⟩ => ⟨S1x16384x64, .f32⟩
  | .hbm, ⟨55, _⟩ => ⟨S4x16384x64, .f32⟩
  | .hbm, ⟨56, _⟩ => ⟨S4x16384x64, .f32⟩
  | .hbm, ⟨57, _⟩ => ⟨S1x16384x64, .f32⟩
  | .hbm, ⟨58, _⟩ => ⟨S4x16384x64, .f32⟩
  | .hbm, ⟨59, _⟩ => ⟨S4x16384x64, .f32⟩
  | .hbm, ⟨60, _⟩ => ⟨S4x16384x64, .f32⟩
  | .hbm, ⟨61, _⟩ => ⟨S4x16384x128, .f32⟩
  | .hbm, ⟨62, _⟩ => ⟨S16384x4x128, .f32⟩
  | .hbm, ⟨63, _⟩ => ⟨S4x16384x128, .f32⟩
  | .hbm, ⟨64, _⟩ => ⟨S2x4x16384x128, .bf16⟩
  | .hbm, ⟨65, _⟩ => ⟨S4x16384x128, .bf16⟩
  | .hbm, ⟨66, _⟩ => ⟨S4x16384x128, .bf16⟩
  | .hbm, ⟨67, _⟩ => ⟨S4x16384x128, .bf16⟩
  | .hbm, ⟨68, _⟩ => ⟨S4x16384x128, .bf16⟩
  | _, _ => ⟨S16384x7424, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩

abbrev nD : Nat := 1
abbrev τ : Topo := Topo.v7x

variable {F : FTy → Type} [FloatOps F]
-- ==== Kernel17.lean ====
abbrev S16384x11264 : Shape := ⟨2, ![16384, 11264]⟩
abbrev S16384x128 : Shape := ⟨2, ![16384, 128]⟩
abbrev S512 : Shape := ⟨1, ![512]⟩
abbrev S1x512 : Shape := ⟨2, ![1, 512]⟩
abbrev S16384x4096 : Shape := ⟨2, ![16384, 4096]⟩
abbrev S16384x512 : Shape := ⟨2, ![16384, 512]⟩
abbrev S256x4096 : Shape := ⟨2, ![256, 4096]⟩
abbrev S256x2048 : Shape := ⟨2, ![256, 2048]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 12
  | .vmem => 29
  | .smem => 0
  | _ => 0

abbrev bufTy : (tb : Table) → Fin (tcTables nBuf tb) → BufTy
  | .hbm, ⟨0, _⟩ => ⟨S16384x11264, .bf16⟩
  | .hbm, ⟨1, _⟩ => ⟨S16384x128, .f32⟩
  | .hbm, ⟨2, _⟩ => ⟨S16384x128, .f32⟩
  | .hbm, ⟨3, _⟩ => ⟨S16384x128, .f32⟩
  | .hbm, ⟨4, _⟩ => ⟨S16384x128, .f32⟩
  | .hbm, ⟨5, _⟩ => ⟨S512, .f32⟩
  | .hbm, ⟨6, _⟩ => ⟨S1x512, .f32⟩
  | .hbm, ⟨7, _⟩ => ⟨S16384x4096, .bf16⟩
  | .hbm, ⟨8, _⟩ => ⟨S16384x4096, .bf16⟩
  | .hbm, ⟨9, _⟩ => ⟨S16384x512, .bf16⟩
  | .hbm, ⟨10, _⟩ => ⟨S16384x128, .bf16⟩
  | .hbm, ⟨11, _⟩ => ⟨S16384x128, .bf16⟩
  | .local _ .vmem, ⟨0, _⟩ => ⟨S256x4096, .bf16⟩
  | .local _ .vmem, ⟨1, _⟩ => ⟨S256x4096, .bf16⟩
  | .local _ .vmem, ⟨2, _⟩ => ⟨S256x2048, .bf16⟩
  | .local _ .vmem, ⟨3, _⟩ => ⟨S256x2048, .bf16⟩
  | .local _ .vmem, ⟨4, _⟩ => ⟨S256x512, .bf16⟩
  | .local _ .vmem, ⟨5, _⟩ => ⟨S256x512, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S1x512, .f32⟩
  | .local _ .vmem, ⟨19, _⟩ => ⟨S256x4096, .bf16⟩
  | .local _ .vmem, ⟨20, _⟩ => ⟨S256x4096, .bf16⟩
  | .local _ .vmem, ⟨21, _⟩ => ⟨S256x4096, .bf16⟩
  | .local _ .vmem, ⟨22, _⟩ => ⟨S256x4096, .bf16⟩
  | .local _ .vmem, ⟨23, _⟩ => ⟨S256x512, .bf16⟩
  | .local _ .vmem, ⟨24, _⟩ => ⟨S256x512, .bf16⟩
  | .local _ .vmem, ⟨25, _⟩ => ⟨S256x128, .bf16⟩
  | .local _ .vmem, ⟨26, _⟩ => ⟨S256x128, .bf16⟩
  | .local _ .vmem, ⟨27, _⟩ => ⟨S256x128, .bf16⟩
  | .local _ .vmem, ⟨28, _⟩ => ⟨S256x128, .bf16⟩
  | _, _ => ⟨S16384x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_3 (i : grid0.Coords) : Fin 2 → Nat :=
  let arg0 : BitVec 32 := BitVec.ofNat 32 (i 0).val
  let c84_i32 : BitVec 32 := 84#32
  let c0_i32 : BitVec 32 := 0#32
  ![arg0.toNat, c84_i32.toNat]

def cc0_transform_4 (i : grid0.Coords) : Fin 2 → Nat :=
  let arg0 : BitVec 32 := BitVec.ofNat 32 (i 0).val
  let c85_i32 : BitVec 32 := 85#32
  let c0_i32 : BitVec 32 := 0#32
  ![arg0.toNat, c85_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Kernel18.lean ====
abbrev S16384x7424 : Shape := ⟨2, ![16384, 7424]⟩
abbrev S16384x128 : Shape := ⟨2, ![16384, 128]⟩
abbrev S4x16384x128 : Shape := ⟨3, ![4, 16384, 128]⟩
abbrev S4x1024x128 : Shape := ⟨3, ![4, 1024, 128]⟩
abbrev S16384x4096 : Shape := ⟨2, ![16384, 4096]⟩
abbrev S128x1024 : Shape := ⟨2, ![128, 1024]⟩
abbrev S128x128 : Shape := ⟨2, ![128, 128]⟩
abbrev S1x128x128 : Shape := ⟨3, ![1, 128, 128]⟩
abbrev S1x1024x128 : Shape := ⟨3, ![1, 1024, 128]⟩
abbrev S1x16384x128 : Shape := ⟨3, ![1, 16384, 128]⟩
abbrev S2x512x1 : Shape := ⟨3, ![2, 512, 1]⟩
abbrev S2x512x128 : Shape := ⟨3, ![2, 512, 128]⟩
abbrev S128x1 : Shape := ⟨2, ![128, 1]⟩
abbrev S1024x128 : Shape := ⟨2, ![1024, 128]⟩
abbrev S1024x1024 : Shape := ⟨2, ![1024, 1024]⟩
abbrev S8x128x1024 : Shape := ⟨3, ![8, 128, 1024]⟩
abbrev S1x1024 : Shape := ⟨2, ![1, 1024]⟩
abbrev S1x128x1024 : Shape := ⟨3, ![1, 128, 1024]⟩
abbrev S8x128 : Shape := ⟨2, ![8, 128]⟩
abbrev S8x128x1 : Shape := ⟨3, ![8, 128, 1]⟩
abbrev S128x256 : Shape := ⟨2, ![128, 256]⟩
abbrev S1x256 : Shape := ⟨2, ![1, 256]⟩
abbrev S128 : Shape := ⟨1, ![128]⟩
abbrev S256x1024 : Shape := ⟨2, ![256, 1024]⟩
abbrev S512x128 : Shape := ⟨2, ![512, 128]⟩
abbrev S512x1024 : Shape := ⟨2, ![512, 1024]⟩
abbrev S4x128x1024 : Shape := ⟨3, ![4, 128, 1024]⟩
abbrev S1x512x1 : Shape := ⟨3, ![1, 512, 1]⟩
abbrev S512x1 : Shape := ⟨2, ![512, 1]⟩
abbrev S512 : Shape := ⟨1, ![512]⟩
abbrev S1x512x128 : Shape := ⟨3, ![1, 512, 128]⟩
abbrev S1x128 : Shape := ⟨2, ![1, 128]⟩
abbrev S4x128x128 : Shape := ⟨3, ![4, 128, 128]⟩

abbrev nBuf : Space → Nat
  | .hbm => 11
  | .vmem => 25
  | .smem => 0
  | _ => 0

abbrev bufTy : (tb : Table) → Fin (tcTables nBuf tb) → BufTy
  | .hbm, ⟨0, _⟩ => ⟨S16384x7424, .bf16⟩
  | .hbm, ⟨1, _⟩ => ⟨S16384x128, .f32⟩
  | .hbm, ⟨2, _⟩ => ⟨S16384x128, .f32⟩
  | .hbm, ⟨3, _⟩ => ⟨S4x16384x128, .f32⟩
  | .hbm, ⟨4, _⟩ => ⟨S4x1024x128, .bf16⟩
  | .hbm, ⟨5, _⟩ => ⟨S4x1024x128, .bf16⟩
  | .hbm, ⟨6, _⟩ => ⟨S4x16384x128, .bf16⟩
  | .hbm, ⟨7, _⟩ => ⟨S4x16384x128, .bf16⟩
  | .hbm, ⟨8, _⟩ => ⟨S4x16384x128, .bf16⟩
  | .hbm, ⟨9, _⟩ => ⟨S4x16384x128, .bf16⟩
  | .hbm, ⟨10, _⟩ => ⟨S16384x4096, .bf16⟩
  | .local _ .vmem, ⟨0, _⟩ => ⟨S128x1024, .bf16⟩
  | .local _ .vmem, ⟨1, _⟩ => ⟨S128x1024, .bf16⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S1x128x128, .f32⟩
  | .local _ .vmem, ⟨7, _⟩ => ⟨S1x128x128, .f32⟩
  | .local _ .vmem, ⟨8, _⟩ => ⟨S1x1024x128, .bf16⟩
  | .local _ .vmem, ⟨9, _⟩ => ⟨S1x1024x128, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x16384x128, .bf16⟩
  | .local _ .vmem, ⟨13, _⟩ => ⟨S1x16384x128, .bf16⟩
  | .local _ .vmem, ⟨14, _⟩ => ⟨S1x16384x128, .bf16⟩
  | .local _ .vmem, ⟨15, _⟩ => ⟨S1x16384x128, .bf16⟩
  | .local _ .vmem, ⟨16, _⟩ => ⟨S1x16384x128, .bf16⟩
  | .local _ .vmem, ⟨17, _⟩ => ⟨S1x16384x128, .bf16⟩
  | .local _ .vmem, ⟨18, _⟩ => ⟨S1x16384x128, .bf16⟩
  | .local _ .vmem, ⟨19, _⟩ => ⟨S1x16384x128, .bf16⟩
  | .local _ .vmem, ⟨20, _⟩ => ⟨S128x1024, .bf16⟩
  | .local _ .vmem, ⟨21, _⟩ => ⟨S128x1024, .bf16⟩
  | .local _ .vmem, ⟨22, _⟩ => ⟨S2x512x1, .f32⟩
  | .local _ .vmem, ⟨23, _⟩ => ⟨S2x512x1, .f32⟩
  | .local _ .vmem, ⟨24, _⟩ => ⟨S2x512x128, .f32⟩
  | _, _ => ⟨S16384x7424, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 128], ![false, false]⟩

@[reducible] def k0_t1_loop (i : grid0.Coords) : Scf.Loop 32 :=
  let c0_i32_180 : BitVec 32 := 0#32
  let arg1 : BitVec 32 := BitVec.ofNat 32 (i 1).val
  let c128_i32 : BitVec 32 := 128#32
  let v0 : BitVec 32 := Scalar.muli arg1 c128_i32
  let c128_i32_170 : BitVec 32 := 128#32
  let v555 : BitVec 32 := Scalar.addi v0 c128_i32_170
  let c1024_i32 : BitVec 32 := 1024#32
  let v556 : BitVec 32 := Scalar.addi v555 c1024_i32
  let c1_i32_171 : BitVec 32 := 1#32
  let v557 : BitVec 32 := Scalar.subi v556 c1_i32_171
  let c0_i32_173 : BitVec 32 := 0#32
  let v559 : BitVec 1 := Scalar.cmpi .sgt v557 c0_i32_173
  let v560 : BitVec 32 := Scalar.extui v559
  let c0_i32_174 : BitVec 32 := 0#32
  let v561 : BitVec 1 := Scalar.cmpi .slt v557 c0_i32_174
  let v562 : BitVec 32 := Scalar.extui v561
  let v563 : BitVec 32 := Scalar.subi v560 v562
  let c1024_i32_172 : BitVec 32 := 1024#32
  let c0_i32_175 : BitVec 32 := 0#32
  let v564 : BitVec 1 := Scalar.cmpi .sgt c1024_i32_172 c0_i32_175
  let v565 : BitVec 32 := Scalar.extui v564
  let c0_i32_176 : BitVec 32 := 0#32
  let v566 : BitVec 1 := Scalar.cmpi .slt c1024_i32_172 c0_i32_176
  let v567 : BitVec 32 := Scalar.extui v566
  let v568 : BitVec 32 := Scalar.subi v565 v567
  let v569 : BitVec 1 := Scalar.cmpi .ne v563 v568
  let v570 : BitVec 32 := Scalar.remsi v557 c1024_i32_172
  let c0_i32_177 : BitVec 32 := 0#32
  let v571 : BitVec 1 := Scalar.cmpi .ne v570 c0_i32_177
  let v572 : BitVec 1 := Scalar.andi v569 v571
  let v558 : BitVec 32 := Scalar.divsi v557 c1024_i32_172
  let c1_i32_178 : BitVec 32 := 1#32
  let v573 : BitVec 32 := Scalar.subi v558 c1_i32_178
  let v574 : BitVec 32 := Scalar.select v572 v573 v558
  let v575 : BitVec 32 := Scalar.subi v574 c0_i32_180
  let c1_i32_181 : BitVec 32 := 1#32
  let v577 : BitVec 32 := Scalar.divsi v575 c1_i32_181
  let v578 : BitVec 32 := Scalar.muli v577 c1_i32_181
  let v579 : BitVec 32 := Scalar.addi c0_i32_180 v578
  let c1_i32_182 : BitVec 32 := 1#32
  ⟨c0_i32_180, v579, c1_i32_182⟩
def k0_mult1 (i : grid0.Coords) (k0_t1 : Fin (k0_t1_loop i).trips) : BitVec 32 :=
  let c0_i32_180 : BitVec 32 := 0#32
  let c1_i32_182 : BitVec 32 := 1#32
  let arg16 : BitVec 32 := Scf.iv c0_i32_180 c1_i32_182 k0_t1
  let c1024_i32_233 : BitVec 32 := 1024#32
  let v741 : BitVec 32 := Scalar.muli arg16 c1024_i32_233
  v741
def k0_off1 (i : grid0.Coords) (k0_t1 : Fin (k0_t1_loop i).trips) : Fin 3 → Nat :=
  let c0_247 : Index := 0#32
  let c0_i32_180 : BitVec 32 := 0#32
  let c1_i32_182 : BitVec 32 := 1#32
  let arg16 : BitVec 32 := Scf.iv c0_i32_180 c1_i32_182 k0_t1
  let c1024_i32_233 : BitVec 32 := 1024#32
  let v741 : BitVec 32 := Scalar.muli arg16 c1024_i32_233
  let v742 : BitVec 32 := v741
  let v779 : Index := Scalar.indexCast v742
  let c0_248 : Index := 0#32
  ![0, v779.toNat, 0]
@[reducible] def k0_t2_loop (i : grid0.Coords) : Scf.Loop 32 :=
  let c0_i32_180 : BitVec 32 := 0#32
  let arg1 : BitVec 32 := BitVec.ofNat 32 (i 1).val
  let c128_i32 : BitVec 32 := 128#32
  let v0 : BitVec 32 := Scalar.muli arg1 c128_i32
  let c128_i32_170 : BitVec 32 := 128#32
  let v555 : BitVec 32 := Scalar.addi v0 c128_i32_170
  let c1024_i32 : BitVec 32 := 1024#32
  let v556 : BitVec 32 := Scalar.addi v555 c1024_i32
  let c1_i32_171 : BitVec 32 := 1#32
  let v557 : BitVec 32 := Scalar.subi v556 c1_i32_171
  let c0_i32_173 : BitVec 32 := 0#32
  let v559 : BitVec 1 := Scalar.cmpi .sgt v557 c0_i32_173
  let v560 : BitVec 32 := Scalar.extui v559
  let c0_i32_174 : BitVec 32 := 0#32
  let v561 : BitVec 1 := Scalar.cmpi .slt v557 c0_i32_174
  let v562 : BitVec 32 := Scalar.extui v561
  let v563 : BitVec 32 := Scalar.subi v560 v562
  let c1024_i32_172 : BitVec 32 := 1024#32
  let c0_i32_175 : BitVec 32 := 0#32
  let v564 : BitVec 1 := Scalar.cmpi .sgt c1024_i32_172 c0_i32_175
  let v565 : BitVec 32 := Scalar.extui v564
  let c0_i32_176 : BitVec 32 := 0#32
  let v566 : BitVec 1 := Scalar.cmpi .slt c1024_i32_172 c0_i32_176
  let v567 : BitVec 32 := Scalar.extui v566
  let v568 : BitVec 32 := Scalar.subi v565 v567
  let v569 : BitVec 1 := Scalar.cmpi .ne v563 v568
  let v570 : BitVec 32 := Scalar.remsi v557 c1024_i32_172
  let c0_i32_177 : BitVec 32 := 0#32
  let v571 : BitVec 1 := Scalar.cmpi .ne v570 c0_i32_177
  let v572 : BitVec 1 := Scalar.andi v569 v571
  let v558 : BitVec 32 := Scalar.divsi v557 c1024_i32_172
  let c1_i32_178 : BitVec 32 := 1#32
  let v573 : BitVec 32 := Scalar.subi v558 c1_i32_178
  let v574 : BitVec 32 := Scalar.select v572 v573 v558
  let v575 : BitVec 32 := Scalar.subi v574 c0_i32_180
  let c1_i32_181 : BitVec 32 := 1#32
  let v577 : BitVec 32 := Scalar.divsi v575 c1_i32_181
  let v578 : BitVec 32 := Scalar.muli v577 c1_i32_181
  let v579 : BitVec 32 := Scalar.addi c0_i32_180 v578
  let v576 : BitVec 32 := Scalar.addi c0_i32_180 v575
  let c1_i32_183 : BitVec 32 := 1#32
  ⟨v579, v576, c1_i32_183⟩
def k0_mult2 (i : grid0.Coords) (k0_t2 : Fin (k0_t2_loop i).trips) : BitVec 32 :=
  let c0_i32_180 : BitVec 32 := 0#32
  let arg1 : BitVec 32 := BitVec.ofNat 32 (i 1).val
  let c128_i32 : BitVec 32 := 128#32
  let v0 : BitVec 32 := Scalar.muli arg1 c128_i32
  let c128_i32_170 : BitVec 32 := 128#32
  let v555 : BitVec 32 := Scalar.addi v0 c128_i32_170
  let c1024_i32 : BitVec 32 := 1024#32
  let v556 : BitVec 32 := Scalar.addi v555 c1024_i32
  let c1_i32_171 : BitVec 32 := 1#32
  let v557 : BitVec 32 := Scalar.subi v556 c1_i32_171
  let c0_i32_173 : BitVec 32 := 0#32
  let v559 : BitVec 1 := Scalar.cmpi .sgt v557 c0_i32_173
  let v560 : BitVec 32 := Scalar.extui v559
  let c0_i32_174 : BitVec 32 := 0#32
  let v561 : BitVec 1 := Scalar.cmpi .slt v557 c0_i32_174
  let v562 : BitVec 32 := Scalar.extui v561
  let v563 : BitVec 32 := Scalar.subi v560 v562
  let c1024_i32_172 : BitVec 32 := 1024#32
  let c0_i32_175 : BitVec 32 := 0#32
  let v564 : BitVec 1 := Scalar.cmpi .sgt c1024_i32_172 c0_i32_175
  let v565 : BitVec 32 := Scalar.extui v564
  let c0_i32_176 : BitVec 32 := 0#32
  let v566 : BitVec 1 := Scalar.cmpi .slt c1024_i32_172 c0_i32_176
  let v567 : BitVec 32 := Scalar.extui v566
  let v568 : BitVec 32 := Scalar.subi v565 v567
  let v569 : BitVec 1 := Scalar.cmpi .ne v563 v568
  let v570 : BitVec 32 := Scalar.remsi v557 c1024_i32_172
  let c0_i32_177 : BitVec 32 := 0#32
  let v571 : BitVec 1 := Scalar.cmpi .ne v570 c0_i32_177
  let v572 : BitVec 1 := Scalar.andi v569 v571
  let v558 : BitVec 32 := Scalar.divsi v557 c1024_i32_172
  let c1_i32_178 : BitVec 32 := 1#32
  let v573 : BitVec 32 := Scalar.subi v558 c1_i32_178
  let v574 : BitVec 32 := Scalar.select v572 v573 v558
  let v575 : BitVec 32 := Scalar.subi v574 c0_i32_180
  let c1_i32_181 : BitVec 32 := 1#32
  let v577 : BitVec 32 := Scalar.divsi v575 c1_i32_181
  let v578 : BitVec 32 := Scalar.muli v577 c1_i32_181
  let v579 : BitVec 32 := Scalar.addi c0_i32_180 v578
  let c1_i32_183 : BitVec 32 := 1#32
  let arg16 : BitVec 32 := Scf.iv v579 c1_i32_183 k0_t2
  let c1024_i32_233 : BitVec 32 := 1024#32
  let v741 : BitVec 32 := Scalar.muli arg16 c1024_i32_233
  v741
def k0_off2 (i : grid0.Coords) (k0_t2 : Fin (k0_t2_loop i).trips) : Fin 3 → Nat :=
  let c0_247 : Index := 0#32
  let c0_i32_180 : BitVec 32 := 0#32
  let arg1 : BitVec 32 := BitVec.ofNat 32 (i 1).val
  let c128_i32 : BitVec 32 := 128#32
  let v0 : BitVec 32 := Scalar.muli arg1 c128_i32
  let c128_i32_170 : BitVec 32 := 128#32
  let v555 : BitVec 32 := Scalar.addi v0 c128_i32_170
  let c1024_i32 : BitVec 32 := 1024#32
  let v556 : BitVec 32 := Scalar.addi v555 c1024_i32
  let c1_i32_171 : BitVec 32 := 1#32
  let v557 : BitVec 32 := Scalar.subi v556 c1_i32_171
  let c0_i32_173 : BitVec 32 := 0#32
  let v559 : BitVec 1 := Scalar.cmpi .sgt v557 c0_i32_173
  let v560 : BitVec 32 := Scalar.extui v559
  let c0_i32_174 : BitVec 32 := 0#32
  let v561 : BitVec 1 := Scalar.cmpi .slt v557 c0_i32_174
  let v562 : BitVec 32 := Scalar.extui v561
  let v563 : BitVec 32 := Scalar.subi v560 v562
  let c1024_i32_172 : BitVec 32 := 1024#32
  let c0_i32_175 : BitVec 32 := 0#32
  let v564 : BitVec 1 := Scalar.cmpi .sgt c1024_i32_172 c0_i32_175
  let v565 : BitVec 32 := Scalar.extui v564
  let c0_i32_176 : BitVec 32 := 0#32
  let v566 : BitVec 1 := Scalar.cmpi .slt c1024_i32_172 c0_i32_176
  let v567 : BitVec 32 := Scalar.extui v566
  let v568 : BitVec 32 := Scalar.subi v565 v567
  let v569 : BitVec 1 := Scalar.cmpi .ne v563 v568
  let v570 : BitVec 32 := Scalar.remsi v557 c1024_i32_172
  let c0_i32_177 : BitVec 32 := 0#32
  let v571 : BitVec 1 := Scalar.cmpi .ne v570 c0_i32_177
  let v572 : BitVec 1 := Scalar.andi v569 v571
  let v558 : BitVec 32 := Scalar.divsi v557 c1024_i32_172
  let c1_i32_178 : BitVec 32 := 1#32
  let v573 : BitVec 32 := Scalar.subi v558 c1_i32_178
  let v574 : BitVec 32 := Scalar.select v572 v573 v558
  let v575 : BitVec 32 := Scalar.subi v574 c0_i32_180
  let c1_i32_181 : BitVec 32 := 1#32
  let v577 : BitVec 32 := Scalar.divsi v575 c1_i32_181
  let v578 : BitVec 32 := Scalar.muli v577 c1_i32_181
  let v579 : BitVec 32 := Scalar.addi c0_i32_180 v578
  let c1_i32_183 : BitVec 32 := 1#32
  let arg16 : BitVec 32 := Scf.iv v579 c1_i32_183 k0_t2
  let c1024_i32_233 : BitVec 32 := 1024#32
  let v741 : BitVec 32 := Scalar.muli arg16 c1024_i32_233
  let v742 : BitVec 32 := v741
  let v779 : Index := Scalar.indexCast v742
  let c0_248 : Index := 0#32
  ![0, v779.toNat, 0]
@[reducible] def k0_t3_loop (i : grid0.Coords) : Scf.Loop 32 :=
  let c0_i32_203 : BitVec 32 := 0#32
  let c4_i32_202 : BitVec 32 := 4#32
  let arg1 : BitVec 32 := BitVec.ofNat 32 (i 1).val
  let v598 : BitVec 32 := Scalar.subi c4_i32_202 arg1
  let v599 : BitVec 32 := Scalar.maxsi c0_i32_203 v598
  let c5_i32 : BitVec 32 := 5#32
  let v600 : BitVec 32 := Scalar.subi c5_i32 v599
  let c1_i32_205 : BitVec 32 := 1#32
  let v602 : BitVec 32 := Scalar.divsi v600 c1_i32_205
  let v603 : BitVec 32 := Scalar.muli v602 c1_i32_205
  let v604 : BitVec 32 := Scalar.addi v599 v603
  let c1_i32_206 : BitVec 32 := 1#32
  ⟨v599, v604, c1_i32_206⟩
def k0_mult3 (i : grid0.Coords) (k0_t3 : Fin (k0_t3_loop i).trips) : BitVec 32 :=
  let arg1 : BitVec 32 := BitVec.ofNat 32 (i 1).val
  let c4_i32_233 : BitVec 32 := 4#32
  let v741 : BitVec 32 := Scalar.subi arg1 c4_i32_233
  let c0_i32_203 : BitVec 32 := 0#32
  let c4_i32_202 : BitVec 32 := 4#32
  let v598 : BitVec 32 := Scalar.subi c4_i32_202 arg1
  let v599 : BitVec 32 := Scalar.maxsi c0_i32_203 v598
  let c1_i32_206 : BitVec 32 := 1#32
  let arg16 : BitVec 32 := Scf.iv v599 c1_i32_206 k0_t3
  let v742 : BitVec 32 := Scalar.addi v741 arg16
  let c128_i32_234 : BitVec 32 := 128#32
  let v743 : BitVec 32 := Scalar.muli v742 c128_i32_234
  v743
def k0_off3 (i : grid0.Coords) (k0_t3 : Fin (k0_t3_loop i).trips) : Fin 3 → Nat :=
  let c0_238 : Index := 0#32
  let arg1 : BitVec 32 := BitVec.ofNat 32 (i 1).val
  let c4_i32_233 : BitVec 32 := 4#32
  let v741 : BitVec 32 := Scalar.subi arg1 c4_i32_233
  let c0_i32_203 : BitVec 32 := 0#32
  let c4_i32_202 : BitVec 32 := 4#32
  let v598 : BitVec 32 := Scalar.subi c4_i32_202 arg1
  let v599 : BitVec 32 := Scalar.maxsi c0_i32_203 v598
  let c1_i32_206 : BitVec 32 := 1#32
  let arg16 : BitVec 32 := Scf.iv v599 c1_i32_206 k0_t3
  let v742 : BitVec 32 := Scalar.addi v741 arg16
  let c128_i32_234 : BitVec 32 := 128#32
  let v743 : BitVec 32 := Scalar.muli v742 c128_i32_234
  let v744 : BitVec 32 := v743
  let v758 : Index := Scalar.indexCast v744
  let c0_239 : Index := 0#32
  ![0, v758.toNat, 0]
@[reducible] def k0_t4_loop (i : grid0.Coords) : Scf.Loop 32 :=
  let c0_i32_203 : BitVec 32 := 0#32
  let c4_i32_202 : BitVec 32 := 4#32
  let arg1 : BitVec 32 := BitVec.ofNat 32 (i 1).val
  let v598 : BitVec 32 := Scalar.subi c4_i32_202 arg1
  let v599 : BitVec 32 := Scalar.maxsi c0_i32_203 v598
  let c5_i32 : BitVec 32 := 5#32
  let v600 : BitVec 32 := Scalar.subi c5_i32 v599
  let c1_i32_205 : BitVec 32 := 1#32
  let v602 : BitVec 32 := Scalar.divsi v600 c1_i32_205
  let v603 : BitVec 32 := Scalar.muli v602 c1_i32_205
  let v604 : BitVec 32 := Scalar.addi v599 v603
  let v601 : BitVec 32 := Scalar.addi v599 v600
  let c1_i32_207 : BitVec 32 := 1#32
  ⟨v604, v601, c1_i32_207⟩
def k0_mult4 (i : grid0.Coords) (k0_t4 : Fin (k0_t4_loop i).trips) : BitVec 32 :=
  let arg1 : BitVec 32 := BitVec.ofNat 32 (i 1).val
  let c4_i32_233 : BitVec 32 := 4#32
  let v741 : BitVec 32 := Scalar.subi arg1 c4_i32_233
  let c0_i32_203 : BitVec 32 := 0#32
  let c4_i32_202 : BitVec 32 := 4#32
  let v598 : BitVec 32 := Scalar.subi c4_i32_202 arg1
  let v599 : BitVec 32 := Scalar.maxsi c0_i32_203 v598
  let c5_i32 : BitVec 32 := 5#32
  let v600 : BitVec 32 := Scalar.subi c5_i32 v599
  let c1_i32_205 : BitVec 32 := 1#32
  let v602 : BitVec 32 := Scalar.divsi v600 c1_i32_205
  let v603 : BitVec 32 := Scalar.muli v602 c1_i32_205
  let v604 : BitVec 32 := Scalar.addi v599 v603
  let c1_i32_207 : BitVec 32 := 1#32
  let arg16 : BitVec 32 := Scf.iv v604 c1_i32_207 k0_t4
  let v742 : BitVec 32 := Scalar.addi v741 arg16
  let c128_i32_234 : BitVec 32 := 128#32
  let v743 : BitVec 32 := Scalar.muli v742 c128_i32_234
  v743
def k0_off4 (i : grid0.Coords) (k0_t4 : Fin (k0_t4_loop i).trips) : Fin 3 → Nat :=
  let c0_238 : Index := 0#32
  let arg1 : BitVec 32 := BitVec.ofNat 32 (i 1).val
  let c4_i32_233 : BitVec 32 := 4#32
  let v741 : BitVec 32 := Scalar.subi arg1 c4_i32_233
  let c0_i32_203 : BitVec 32 := 0#32
  let c4_i32_202 : BitVec 32 := 4#32
  let v598 : BitVec 32 := Scalar.subi c4_i32_202 arg1
  let v599 : BitVec 32 := Scalar.maxsi c0_i32_203 v598
  let c5_i32 : BitVec 32 := 5#32
  let v600 : BitVec 32 := Scalar.subi c5_i32 v599
  let c1_i32_205 : BitVec 32 := 1#32
  let v602 : BitVec 32 := Scalar.divsi v600 c1_i32_205
  let v603 : BitVec 32 := Scalar.muli v602 c1_i32_205
  let v604 : BitVec 32 := Scalar.addi v599 v603
  let c1_i32_207 : BitVec 32 := 1#32
  let arg16 : BitVec 32 := Scf.iv v604 c1_i32_207 k0_t4
  let v742 : BitVec 32 := Scalar.addi v741 arg16
  let c128_i32_234 : BitVec 32 := 128#32
  let v743 : BitVec 32 := Scalar.muli v742 c128_i32_234
  let v744 : BitVec 32 := v743
  let v758 : Index := Scalar.indexCast v744
  let c0_239 : Index := 0#32
  ![0, v758.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x16384x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x16384x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x16384x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x16384x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Proof.Block.lean ====
/-
  One chunk of 512 keys for one head of the attention at the extended reals, read at an index: the scores of the chunk,
  the new maximum of a row, the rescaled sum of weights and the rescaled weighted sum of values, and the final quotient.
-/
module

public import proofs.«01_k».proof.Defs
public import proofs.«01_k».proof.Proof.Gen.KernelIdeal.Value
public import Idealize.ShloMosaic.Lib.MatmulPlain
public import Idealize.ShloMosaic.Lib.Pipeline.Value
public import Idealize.ShloMosaic.Lib.Pointwise
public import Idealize.ShloMosaic.Lib.ValueLayout
public import Idealize.ShloMosaic.Lib.ValueLayoutCasts
public import Idealize.ShloMosaic.Lib.Tactic

@[expose] public section

set_option maxRecDepth 16384

noncomputable section

open Idealize.ShloMosaic Idealize.ShloMosaic.TcCoe Idealize.SL.Sem

namespace Cert.Attention

open Cert.KernelIdeal Cert.KernelIdeal.Gen

/-- The word of `-∞`. -/
theorem ofBits_neg_inf : Ideal.ofBits .f32 0xFF800000#32 = (⊥ : EReal) := by
  show Ideal.ieee 8 23 (0xFF800000#32) = ⊥
  unfold Ideal.ieee
  rw [if_pos (by decide), if_pos (by decide), if_pos (by decide)]

/-- Two arrays of 128 columns side by side, read in the left one. -/
theorem beside_left (a b : Vec Ideal S512x128 .bf16) (r : Fin 512) (d : Fin 128) (e : Fin 256) (he : e.val = d.val) :
    k0_pay31 a b (ix2 r e) = a (ix2 r d) := by
  unfold k0_pay31
  refine concatenate_pair_apply_left (t := S512x256) 1 a b _ (ix2 r e) rfl (ix2 r d) fun x => ?_
  match x with
  | ⟨0, _⟩ => rfl
  | ⟨1, _⟩ => exact he.symm

/-- Two arrays of 128 columns side by side, read in the right one. -/
theorem beside_right (a b : Vec Ideal S512x128 .bf16) (r : Fin 512) (d : Fin 128) (e : Fin 256) (he : e.val = 128 + d.val) :
    k0_pay31 a b (ix2 r e) = b (ix2 r d) := by
  unfold k0_pay31
  refine concatenate_pair_apply_right (t := S512x256) 1 a b _ (ix2 r e) rfl rfl (ix2 r d) (fun x hx => ?_) ?_
  · match x with
    | ⟨0, _⟩ => rfl
    | ⟨1, _⟩ => exact absurd rfl hx
  · show d.val + 128 = e.val
    omega

/-- The score of the chunk's key `n` for row `r`: the two parts of the inner product. -/
def score (qn qp kn kp : S512x128.Idx → EReal) (r n : Fin 512) : EReal :=
  ∑ d : Fin 128, qn (ix2 r d) * kn (ix2 n d) + ∑ d : Fin 128, qp (ix2 r d) * kp (ix2 n d)

/-- The inner product of two rows put together of two parts. -/
theorem inner_apply (qn qp kn kp : Vec Ideal S512x128 .bf16) (r n : Fin 512) :
    matmul (F := Ideal) (φ₁ := .bf16) (φ₂ := .bf16) dot_S512x256_S512x256_S512x512_1_1_0_0_n_n none (k0_pay31 qn qp) (k0_pay31 kn kp) (constant S512x512 .f32 0x00000000#32) (ValueIdx.ix2 r n)
      = score qn qp kn kp r n := by
  refine (Ideal.matmul_transposedRhs_apply none _ _ _ r n).trans ((congrArg (· + _) (Ideal.ofBits_zero .f32)).trans ((zero_add _).trans ?_))
  refine (Fin.sum_univ_add (a := 128) (b := 128) (M := EReal) _).trans ?_
  refine congrArg₂ (· + ·) (Finset.sum_congr (M := EReal) rfl fun d _ => ?_) (Finset.sum_congr (M := EReal) rfl fun d _ => ?_)
  · exact congrArg₂ (· * ·) (beside_left qn qp r d _ rfl) (beside_left kn kp n d _ rfl)
  · exact congrArg₂ (· * ·) (beside_right qn qp r d _ rfl) (beside_right kn kp n d _ rfl)

/-- The scores of a chunk with the bias added. -/
theorem scores_apply (qn qp kn kp : Vec Ideal S512x128 .bf16) (b : FVec Ideal S512x512 .f32) (r n : Fin 512) :
    k0_pay11 (k0_pay31 qn qp) b kp kn (ix2 r n) = score qn qp kn kp r n + b (ix2 r n) := by
  unfold k0_pay11
  refine (ValueIdx.shapeCast_1ab_ab_apply _ _ r n).trans ?_
  refine congrArg₂ (· + ·) ((ValueIdx.shapeCast_ab_1ab_apply _ _ 0 r n).trans ?_) (ValueIdx.shapeCast_ab_1ab_apply _ _ 0 r n)
  exact inner_apply qn qp kn kp r n

section State

variable (q : FVec Ideal S512x256 .bf16) (b : FVec Ideal S512x512 .f32) (kp kn v : Vec Ideal S512x128 .bf16)
  (m l : Vec Ideal S1x512x1 .f32) (a : Vec Ideal S1x512x128 .f32)

/-- A column of maxima or sums, read without its unit axis. -/
theorem column_apply (r : Fin 512) : k0_pay12 m (ix2 r 0) = m (ix3 0 r 0) :=
  ValueIdx.shapeCast_1ab_ab_apply _ _ r 0

/-- The new maximum of row `r`. -/
def newMax (r : Fin 512) : EReal := max (m (ix3 0 r 0)) (Finset.univ.sup fun n : Fin 512 => k0_pay11 q b kp kn (ix2 r n))

theorem lift_apply (r n : Fin 512) : reduces_S512x512_S512.lift (ix1 r) n = ix2 r n := by
  funext x
  match x with
  | ⟨0, _⟩ => rfl
  | ⟨1, _⟩ => rfl

theorem max_apply (r : Fin 512) : k0_pay13 q b kp kn m (ix2 r 0) = newMax q b kp kn m r := by
  unfold k0_pay13
  refine congrArg₂ max (column_apply m r) ((ValueIdx.shapeCast_a_a1_apply _ _ r 0).trans ?_)
  refine (Ideal.multiReduction_maximumf_single _ _ _ _ _ _).trans ?_
  rw [show FloatOps.ofBits (F := Ideal) .f32 0xFF800000#32 = (⊥ : EReal) from ofBits_neg_inf]
  show Finset.univ.fold max ⊥ _ = Finset.univ.fold max ⊥ _
  refine Finset.fold_congr (op := max) (f := (k0_pay11 q b kp kn) ∘ reduces_S512x512_S512.lift (ix1 r)) fun n _ => ?_
  exact congrArg (k0_pay11 q b kp kn) (lift_apply r n)

theorem max_stored (r : Fin 512) : k0_pay38 (k0_pay13 q b kp kn m) (ix3 0 r 0) = newMax q b kp kn m r :=
  (ValueIdx.shapeCast_ab_1ab_apply _ _ 0 r 0).trans (max_apply q b kp kn m r)

/-- The factor that moves row `r` to its new maximum. -/
theorem factor_apply (r : Fin 512) : k0_pay14 q b kp kn m (ix2 r 0) = Ideal.exp (m (ix3 0 r 0) - newMax q b kp kn m r) :=
  congrArg Ideal.exp (congrArg₂ (· - ·) (column_apply m r) (max_apply q b kp kn m r))

/-- A column repeated along a row of 512. -/
theorem repeat512 (x : FVec Ideal S512x1 .f32) (r n : Fin 512) : broadcastTo S512x512 x broadcasts_S512x1_S512x512 (ix2 r n) = x (ix2 r 0) :=
  broadcastTo_apply _ _ _ _ fun a => by
    match a with
    | ⟨0, _⟩ => rfl
    | ⟨1, _⟩ => rfl

/-- A column repeated along a row of 128. -/
theorem repeat128 (x : FVec Ideal S512x1 .f32) (r : Fin 512) (d : Fin 128) : broadcastTo S512x128 x broadcasts_S512x1_S512x128 (ix2 r d) = x (ix2 r 0) :=
  broadcastTo_apply _ _ _ _ fun a => by
    match a with
    | ⟨0, _⟩ => rfl
    | ⟨1, _⟩ => rfl

/-- The weight of key `n` in row `r`. -/
theorem weight_apply (r n : Fin 512) : k0_pay15 q b kp kn m (ix2 r n) = Ideal.exp (k0_pay11 q b kp kn (ix2 r n) - newMax q b kp kn m r) :=
  congrArg Ideal.exp (congrArg (_ - ·) ((repeat512 _ r n).trans (max_apply q b kp kn m r)))

/-- The new sum of weights of row `r`. -/
theorem sum_stored (r : Fin 512) : k0_pay36 (k0_pay14 q b kp kn m) (k0_pay15 q b kp kn m) l (ix3 0 r 0)
    = Ideal.exp (m (ix3 0 r 0) - newMax q b kp kn m r) * l (ix3 0 r 0) + ∑ n : Fin 512, Ideal.exp (k0_pay11 q b kp kn (ix2 r n) - newMax q b kp kn m r) := by
  unfold k0_pay36
  refine (ValueIdx.shapeCast_ab_1ab_apply _ _ 0 r 0).trans ?_
  refine congrArg₂ (· + ·) (congrArg₂ (· * ·) (factor_apply q b kp kn m r) (ValueIdx.shapeCast_1ab_ab_apply _ _ r 0)) ?_
  refine (ValueIdx.shapeCast_a_a1_apply _ _ r 0).trans ((Ideal.multiReduction_add_single _ _ _ _ _ _).trans ?_)
  refine Finset.sum_congr (M := EReal) rfl fun n _ => ?_
  exact (congrArg (k0_pay15 q b kp kn m) (lift_apply r n)).trans (weight_apply q b kp kn m r n)

/-- The new weighted sum of row `r` at column `d`. -/
theorem acc_stored (r : Fin 512) (d : Fin 128) : k0_pay37 v (k0_pay14 q b kp kn m) (k0_pay15 q b kp kn m) a (ix3 0 r d)
    = Ideal.exp (m (ix3 0 r 0) - newMax q b kp kn m r) * a (ix3 0 r d) + ∑ n : Fin 512, Ideal.exp (k0_pay11 q b kp kn (ix2 r n) - newMax q b kp kn m r) * v (ix2 n d) := by
  unfold k0_pay37
  refine (ValueIdx.shapeCast_ab_1ab_apply _ _ 0 r d).trans ?_
  refine congrArg₂ (· + ·) (congrArg₂ (· * ·) ((repeat128 _ r d).trans (factor_apply q b kp kn m r)) (ValueIdx.shapeCast_1ab_ab_apply _ _ r d)) ?_
  refine (Ideal.matmul_plain_apply none _ _ _ r d).trans ((congrArg (· + _) (Ideal.ofBits_zero .f32)).trans ((zero_add _).trans ?_))
  refine Finset.sum_congr (M := EReal) rfl fun n _ => ?_
  exact congrArg (· * _) (weight_apply q b kp kn m r n)

/-- The result of row `r` at column `d`: the weighted sum over the sum of weights. -/
theorem quotient_apply (r : Fin 512) (d : Fin 128) : k0_pay42 a l (ix2 r d) = Ideal.div (a (ix3 0 r d)) (l (ix3 0 r 0)) := by
  unfold k0_pay42
  refine congrArg₂ Ideal.div (ValueIdx.shapeCast_1ab_ab_apply _ _ r d) ((repeat128 _ r d).trans (ValueIdx.shapeCast_1ab_ab_apply _ _ r 0))

end State

/-- The bias of a chunk: zero where the chunk's bit of the row's word is set, `-∞` elsewhere. -/
theorem bias_apply (i : grid0.Coords) (w : Vec Ideal S512x512 .i32) (x y : BitVec 32) (k : Fin (k0_t1_loop i).trips) (j : S512x512.Idx) :
    k0_pay1 (F := Ideal) i w x y k j = Scalar.select (Scalar.cmpi .eq (Scalar.andi (Scalar.shrui (w j) (Scf.iv x y k)) 1#32) 1#32) (0 : EReal) ⊥ := by
  unfold k0_pay1
  refine congrArg₂ (Scalar.select _) (Ideal.ofBits_zero .f32) ?_
  exact IdealRules.named_const.ideal_named_scalar _ _ _ _ rfl

end Cert.Attention

end
-- ==== Proof.Trip.lean ====
/-
  One trip of the attention's loop over chunks of 512 keys: what it leaves in the three state arrays (the rows' maxima,
  their sums of weights, their weighted sums), head by head, as a function of what it finds there.
-/
module

public import proofs.«01_k».proof.Proof.Block
public import Idealize.ShloMosaic.Lib.WritesUnit

@[expose] public section

set_option maxRecDepth 16384

noncomputable section

open Idealize.ShloMosaic Idealize.ShloMosaic.TcCoe Idealize.SL.Sem

namespace Cert.Attention

open Cert.KernelIdeal Cert.KernelIdeal.Gen

/-- Everything the loop over the chunks is run with: the point, the arrays in place, the queries of the two heads, the
mask words, and the contents of keys, values and state. -/
structure Chunks where
  𝒱 : Variants
  c : Dev nD
  bd : Option 𝒱.V
  i : grid0.Coords
  arg2 : Memref sig .tc .vmem S512x256 .bf16
  harg2 : arg2.IsWhole
  arg3 : Memref sig .tc .vmem S512x256 .bf16
  harg3 : arg3.IsWhole
  arg4 : Memref sig .tc .vmem S16384x256 .bf16
  harg4 : arg4.IsWhole
  arg5 : Memref sig .tc .vmem S16384x128 .bf16
  harg5 : arg5.IsWhole
  arg6 : Memref sig .tc .vmem S16384x256 .bf16
  harg6 : arg6.IsWhole
  arg7 : Memref sig .tc .vmem S512x512 .i32
  harg7 : arg7.IsWhole
  arg8 : Memref sig .tc .vmem S512x256 .bf16
  harg8 : arg8.IsWhole
  arg9 : Memref sig .tc .vmem S2x512x1 .f32
  harg9 : arg9.IsWhole
  arg10 : Memref sig .tc .vmem S2x512x1 .f32
  harg10 : arg10.IsWhole
  arg11 : Memref sig .tc .vmem S2x512x128 .f32
  harg11 : arg11.IsWhole
  v2 : FVec Ideal S512x256 .bf16
  v5 : FVec Ideal S512x256 .bf16
  v6 : Vec Ideal S512x512 .i32
  v22 : BitVec 32
  c512_i32_21 : BitVec 32
  v23 : BitVec 32
  v25 : BitVec 32
  c0_i32_22 : BitVec 32
  X4 : BufTy.Contents (Elt Ideal) arg4.view.ty
  X5 : BufTy.Contents (Elt Ideal) arg5.view.ty
  X6 : BufTy.Contents (Elt Ideal) arg6.view.ty
  G9 : BufTy.Contents (Elt Ideal) arg9.view.ty
  G10 : BufTy.Contents (Elt Ideal) arg10.view.ty
  G11 : BufTy.Contents (Elt Ideal) arg11.view.ty

namespace Chunks

variable (x : Chunks)

/-- What one trip writes. -/
def trip (k : Fin (k0_t1_loop x.i).trips) :=
  trip_k0_t1 x.𝒱 x.c x.bd x.i x.arg2 x.harg2 x.arg3 x.harg3 x.arg4 x.harg4 x.arg5 x.harg5 x.arg6 x.harg6 x.arg7 x.harg7 x.arg8 x.harg8
    x.arg9 x.harg9 x.arg10 x.harg10 x.arg11 x.harg11 x.v2 x.v5 x.v6 x.v22 x.c512_i32_21 x.v23 x.v25 x.c0_i32_22 x.X4 x.X5 x.X6 k

/-- What the trips before `n` wrote. -/
def pieces (n : ℕ) :=
  pb_k0_t1 x.𝒱 x.c x.bd x.i x.arg2 x.harg2 x.arg3 x.harg3 x.arg4 x.harg4 x.arg5 x.harg5 x.arg6 x.harg6 x.arg7 x.harg7 x.arg8 x.harg8
    x.arg9 x.harg9 x.arg10 x.harg10 x.arg11 x.harg11 x.v2 x.v5 x.v6 x.v22 x.c512_i32_21 x.v23 x.v25 x.c0_i32_22 x.X4 x.X5 x.X6 x.G9 x.G10 x.G11 n

end Chunks

/-- The part of a state array that belongs to head `h`. -/
def headPart {n : ℕ} (h : Fin 2) (s : (⟨3, ![2, 512, n]⟩ : Shape).Idx → EReal) : (⟨3, ![1, 512, n]⟩ : Shape).Idx → EReal :=
  fun j => s (ix3 h (j 1) (j 2))

/-- Key `n` of chunk `c`. -/
def key (c : ℕ) (n : Fin 512) : Fin 16384 := ⟨(512 * c + n.val) % 16384, Nat.mod_lt _ (by norm_num)⟩

/-- Column `d` of head `h` of the two heads side by side. -/
def headCol (h : Fin 2) (d : Fin 128) : Fin 256 := ⟨128 * h.val + d.val, by omega⟩

/-- Chunk `c` of an array of 128 columns. -/
def chunk (X : S16384x128.Idx → EReal) (c : ℕ) : S512x128.Idx → EReal := fun j => X (ix2 (key c (j 0)) (j 1))

/-- Chunk `c` of head `h` of an array of two heads side by side. -/
def headChunk (h : Fin 2) (X : S16384x256.Idx → EReal) (c : ℕ) : S512x128.Idx → EReal := fun j => X (ix2 (key c (j 0)) (headCol h (j 1)))

theorem trip_lt (i : grid0.Coords) (k : Fin (k0_t1_loop i).trips) : k.val < 32 := Nat.lt_of_lt_of_le k.isLt (k0_t1_abs i).2.1

section Loads

variable (i : grid0.Coords) (k : Fin (k0_t1_loop i).trips)

theorem load_shared (a : Memref sig .tc .vmem S16384x128 .bf16) (X : BufTy.Contents (Elt Ideal) a.view.ty) :
    View.readAt (Elt Ideal) a.view (Rect.unit (s := S16384x128) (k0_off1 i k) S512x128.size (k0_off1_inb i k)).toLoadRect X
      = chunk (a.view.read (Elt Ideal) X) k.val := by
  have hk := trip_lt i k
  funext j
  refine congrArg (a.view.read (Elt Ideal) X) (funext fun b => Fin.ext ?_)
  match b with
  | ⟨0, _⟩ =>
    show k0_off1 i k 0 + 1 * (j 0).val = (512 * k.val + (j 0).val) % 16384
    have hj : (j 0).val < 512 := (j 0).isLt
    have h0 : k0_off1 i k 0 = 512 * k.val := congrFun (k0_off1_eq i k) 0
    omega
  | ⟨1, _⟩ =>
    show k0_off1 i k 1 + 1 * (j 1).val = (j 1).val
    have h1 : k0_off1 i k 1 = 0 := congrFun (k0_off1_eq i k) 1
    omega

theorem load_head0 (a : Memref sig .tc .vmem S16384x256 .bf16) (X : BufTy.Contents (Elt Ideal) a.view.ty) :
    View.readAt (Elt Ideal) a.view (Rect.unit (s := S16384x256) (k0_off2 i k) S512x128.size (k0_off2_inb i k)).toLoadRect X
      = headChunk 0 (a.view.read (Elt Ideal) X) k.val := by
  have hk := trip_lt i k
  funext j
  refine congrArg (a.view.read (Elt Ideal) X) (funext fun b => Fin.ext ?_)
  match b with
  | ⟨0, _⟩ =>
    show k0_off2 i k 0 + 1 * (j 0).val = (512 * k.val + (j 0).val) % 16384
    have hj : (j 0).val < 512 := (j 0).isLt
    have h0 : k0_off2 i k 0 = 512 * k.val := congrFun (k0_off2_eq i k) 0
    omega
  | ⟨1, _⟩ =>
    show k0_off2 i k 1 + 1 * (j 1).val = 128 * 0 + (j 1).val
    have h1 : k0_off2 i k 1 = 0 := congrFun (k0_off2_eq i k) 1
    omega

theorem load_head1 (a : Memref sig .tc .vmem S16384x256 .bf16) (X : BufTy.Contents (Elt Ideal) a.view.ty) :
    View.readAt (Elt Ideal) a.view (Rect.unit (s := S16384x256) (k0_off3 i k) S512x128.size (k0_off3_inb i k)).toLoadRect X
      = headChunk 1 (a.view.read (Elt Ideal) X) k.val := by
  have hk := trip_lt i k
  funext j
  refine congrArg (a.view.read (Elt Ideal) X) (funext fun b => Fin.ext ?_)
  match b with
  | ⟨0, _⟩ =>
    show k0_off3 i k 0 + 1 * (j 0).val = (512 * k.val + (j 0).val) % 16384
    have hj : (j 0).val < 512 := (j 0).isLt
    have h0 : k0_off3 i k 0 = 512 * k.val := congrFun (k0_off3_eq i k) 0
    omega
  | ⟨1, _⟩ =>
    show k0_off3 i k 1 + 1 * (j 1).val = 128 * 1 + (j 1).val
    have h1 : k0_off3 i k 1 = 128 := congrFun (k0_off3_eq i k) 1
    omega

end Loads

/-- A load of head `h`'s part of a state array. -/
theorem load_state {n : ℕ} (a : Memref sig .tc .vmem ⟨3, ![2, 512, n]⟩ .f32) (f : BufTy.Contents (Elt Ideal) a.view.ty) (h : Fin 2)
    (inb : ∀ b, (![h.val, 0, 0] : Fin 3 → ℕ) b + (![1, 512, n] : Fin 3 → ℕ) b ≤ (⟨3, ![2, 512, n]⟩ : Shape).size b) :
    View.readAt (Elt Ideal) a.view (Rect.unit (s := ⟨3, ![2, 512, n]⟩) ![h.val, 0, 0] ![1, 512, n] inb).toLoadRect f
      = headPart h (a.view.read (Elt Ideal) f) := by
  funext j
  refine congrArg (a.view.read (Elt Ideal) f) (funext fun b => Fin.ext ?_)
  match b with
  | ⟨0, _⟩ =>
    show h.val + 1 * (j 0).val = h.val
    have hj : (j 0).val < 1 := (j 0).isLt
    omega
  | ⟨1, _⟩ => show 0 + 1 * (j 1).val = (j 1).val; omega
  | ⟨2, _⟩ => show 0 + 1 * (j 2).val = (j 2).val; omega

namespace Chunks

variable (x : Chunks)

/-- Head `h`'s queries. -/
def query (h : Fin 2) : FVec Ideal S512x256 .bf16 := if h = 0 then x.v2 else x.v5

/-- The bias of chunk `k`. -/
def bias (k : Fin (k0_t1_loop x.i).trips) : FVec Ideal S512x512 .f32 := k0_pay1 (F := Ideal) x.i x.v6 0#32 1#32 k

/-- The chunk's part of the keys all heads share. -/
def sharedKeys (c : ℕ) : Vec Ideal S512x128 .bf16 := chunk (x.arg5.view.read (Elt Ideal) x.X5) c

/-- The chunk's part of head `h`'s own keys. -/
def ownKeys (h : Fin 2) (c : ℕ) : Vec Ideal S512x128 .bf16 := headChunk h (x.arg4.view.read (Elt Ideal) x.X4) c

/-- The chunk's part of head `h`'s values. -/
def values (h : Fin 2) (c : ℕ) : Vec Ideal S512x128 .bf16 := headChunk h (x.arg6.view.read (Elt Ideal) x.X6) c

variable (k : Fin (k0_t1_loop x.i).trips)
  (f9 : BufTy.Contents (Elt Ideal) x.arg9.view.ty) (f10 : BufTy.Contents (Elt Ideal) x.arg10.view.ty) (f11 : BufTy.Contents (Elt Ideal) x.arg11.view.ty)

/-- The maxima a trip leaves for the first head. -/
theorem max_zero (r : Fin 512) : x.arg9.view.read (Elt Ideal) (x.arg9.view.writes (Elt Ideal) f9 ((x.trip k).1 f9 f10 f11)) (ix3 0 r 0)
    = newMax (x.query 0) (x.bias k) (x.sharedKeys k) (x.ownKeys 0 k) (headPart 0 (x.arg9.view.read (Elt Ideal) f9)) r := by
  unfold trip trip_k0_t1
  dsimp only
  refine (View.read_writes_cons_unit_of_not_mem _ _ _ _ _ _ rfl 0 (Or.inl (by show 0 < 1; decide))).trans ?_
  refine (View.read_writes_cons_unit_of_mem _ _ _ _ _ _ (ix3 0 r 0) rfl fun b => ?_).trans ?_
  · match b with
    | ⟨0, _⟩ => rfl
    | ⟨1, _⟩ => exact (Nat.zero_add _).symm
    | ⟨2, _⟩ => rfl
  · unfold sharedKeys ownKeys
    rw [← load_shared x.i k x.arg5 x.X5, ← load_head0 x.i k x.arg4 x.X4, ← load_state x.arg9 f9 0 inb_S2x512x1_S1x512x1_0_0_0]
    exact max_stored _ _ _ _ _ r

/-- The maxima a trip leaves for the second head. -/
theorem max_one (r : Fin 512) : x.arg9.view.read (Elt Ideal) (x.arg9.view.writes (Elt Ideal) f9 ((x.trip k).1 f9 f10 f11)) (ix3 1 r 0)
    = newMax (x.query 1) (x.bias k) (x.sharedKeys k) (x.ownKeys 1 k) (headPart 1 (x.arg9.view.read (Elt Ideal) f9)) r := by
  unfold trip trip_k0_t1
  dsimp only
  refine (View.read_writes_cons_unit_of_mem _ _ _ _ _ _ (ix3 0 r 0) rfl fun b => ?_).trans ?_
  · match b with
    | ⟨0, _⟩ => rfl
    | ⟨1, _⟩ => exact (Nat.zero_add _).symm
    | ⟨2, _⟩ => rfl
  · unfold sharedKeys ownKeys
    rw [← load_shared x.i k x.arg5 x.X5, ← load_head1 x.i k x.arg4 x.X4, ← load_state x.arg9 f9 1 inb_S2x512x1_S1x512x1_1_0_0]
    exact max_stored _ _ _ _ _ r

/-- The sums of weights a trip leaves for the first head. -/
theorem sum_zero (r : Fin 512) : x.arg10.view.read (Elt Ideal) (x.arg10.view.writes (Elt Ideal) f10 ((x.trip k).2.1 f9 f10 f11)) (ix3 0 r 0)
    = Ideal.exp ((headPart 0 (x.arg9.view.read (Elt Ideal) f9)) (ix3 0 r 0) - newMax (x.query 0) (x.bias k) (x.sharedKeys k) (x.ownKeys 0 k) (headPart 0 (x.arg9.view.read (Elt Ideal) f9)) r) * (headPart 0 (x.arg10.view.read (Elt Ideal) f10)) (ix3 0 r 0)
      + ∑ n : Fin 512, Ideal.exp (k0_pay11 (x.query 0) (x.bias k) (x.sharedKeys k) (x.ownKeys 0 k) (ix2 r n) - newMax (x.query 0) (x.bias k) (x.sharedKeys k) (x.ownKeys 0 k) (headPart 0 (x.arg9.view.read (Elt Ideal) f9)) r) := by
  unfold trip trip_k0_t1
  dsimp only
  refine (View.read_writes_cons_unit_of_not_mem _ _ _ _ _ _ rfl 0 (Or.inl (by show 0 < 1; decide))).trans ?_
  refine (View.read_writes_cons_unit_of_mem _ _ _ _ _ _ (ix3 0 r 0) rfl fun b => ?_).trans ?_
  · match b with
    | ⟨0, _⟩ => rfl
    | ⟨1, _⟩ => exact (Nat.zero_add _).symm
    | ⟨2, _⟩ => rfl
  · unfold sharedKeys ownKeys
    rw [← load_shared x.i k x.arg5 x.X5, ← load_head0 x.i k x.arg4 x.X4, ← load_state x.arg9 f9 0 inb_S2x512x1_S1x512x1_0_0_0, ← load_state x.arg10 f10 0 inb_S2x512x1_S1x512x1_0_0_0]
    exact sum_stored _ _ _ _ _ _ r

/-- The sums of weights a trip leaves for the second head. -/
theorem sum_one (r : Fin 512) : x.arg10.view.read (Elt Ideal) (x.arg10.view.writes (Elt Ideal) f10 ((x.trip k).2.1 f9 f10 f11)) (ix3 1 r 0)
    = Ideal.exp ((headPart 1 (x.arg9.view.read (Elt Ideal) f9)) (ix3 0 r 0) - newMax (x.query 1) (x.bias k) (x.sharedKeys k) (x.ownKeys 1 k) (headPart 1 (x.arg9.view.read (Elt Ideal) f9)) r) * (headPart 1 (x.arg10.view.read (Elt Ideal) f10)) (ix3 0 r 0)
      + ∑ n : Fin 512, Ideal.exp (k0_pay11 (x.query 1) (x.bias k) (x.sharedKeys k) (x.ownKeys 1 k) (ix2 r n) - newMax (x.query 1) (x.bias k) (x.sharedKeys k) (x.ownKeys 1 k) (headPart 1 (x.arg9.view.read (Elt Ideal) f9)) r) := by
  unfold trip trip_k0_t1
  dsimp only
  refine (View.read_writes_cons_unit_of_mem _ _ _ _ _ _ (ix3 0 r 0) rfl fun b => ?_).trans ?_
  · match b with
    | ⟨0, _⟩ => rfl
    | ⟨1, _⟩ => exact (Nat.zero_add _).symm
    | ⟨2, _⟩ => rfl
  · unfold sharedKeys ownKeys
    rw [← load_shared x.i k x.arg5 x.X5, ← load_head1 x.i k x.arg4 x.X4, ← load_state x.arg9 f9 1 inb_S2x512x1_S1x512x1_1_0_0, ← load_state x.arg10 f10 1 inb_S2x512x1_S1x512x1_1_0_0]
    exact sum_stored _ _ _ _ _ _ r

/-- The weighted sums a trip leaves for the first head. -/
theorem acc_zero (r : Fin 512) (d : Fin 128) : x.arg11.view.read (Elt Ideal) (x.arg11.view.writes (Elt Ideal) f11 ((x.trip k).2.2.1 f9 f10 f11)) (ix3 0 r d)
    = Ideal.exp ((headPart 0 (x.arg9.view.read (Elt Ideal) f9)) (ix3 0 r 0) - newMax (x.query 0) (x.bias k) (x.sharedKeys k) (x.ownKeys 0 k) (headPart 0 (x.arg9.view.read (Elt Ideal) f9)) r) * (headPart 0 (x.arg11.view.read (Elt Ideal) f11)) (ix3 0 r d)
      + ∑ n : Fin 512, Ideal.exp (k0_pay11 (x.query 0) (x.bias k) (x.sharedKeys k) (x.ownKeys 0 k) (ix2 r n) - newMax (x.query 0) (x.bias k) (x.sharedKeys k) (x.ownKeys 0 k) (headPart 0 (x.arg9.view.read (Elt Ideal) f9)) r) * x.values 0 k (ix2 n d) := by
  unfold trip trip_k0_t1
  dsimp only
  refine (View.read_writes_cons_unit_of_not_mem _ _ _ _ _ _ rfl 0 (Or.inl (by show 0 < 1; decide))).trans ?_
  refine (View.read_writes_cons_unit_of_mem _ _ _ _ _ _ (ix3 0 r d) rfl fun b => ?_).trans ?_
  · match b with
    | ⟨0, _⟩ => rfl
    | ⟨1, _⟩ => exact (Nat.zero_add _).symm
    | ⟨2, _⟩ => exact (Nat.zero_add _).symm
  · unfold sharedKeys ownKeys values
    rw [← load_shared x.i k x.arg5 x.X5, ← load_head0 x.i k x.arg4 x.X4, ← load_head0 x.i k x.arg6 x.X6, ← load_state x.arg9 f9 0 inb_S2x512x1_S1x512x1_0_0_0, ← load_state x.arg11 f11 0 inb_S2x512x128_S1x512x128_0_0_0]
    exact acc_stored _ _ _ _ _ _ _ r d

/-- The weighted sums a trip leaves for the second head. -/
theorem acc_one (r : Fin 512) (d : Fin 128) : x.arg11.view.read (Elt Ideal) (x.arg11.view.writes (Elt Ideal) f11 ((x.trip k).2.2.1 f9 f10 f11)) (ix3 1 r d)
    = Ideal.exp ((headPart 1 (x.arg9.view.read (Elt Ideal) f9)) (ix3 0 r 0) - newMax (x.query 1) (x.bias k) (x.sharedKeys k) (x.ownKeys 1 k) (headPart 1 (x.arg9.view.read (Elt Ideal) f9)) r) * (headPart 1 (x.arg11.view.read (Elt Ideal) f11)) (ix3 0 r d)
      + ∑ n : Fin 512, Ideal.exp (k0_pay11 (x.query 1) (x.bias k) (x.sharedKeys k) (x.ownKeys 1 k) (ix2 r n) - newMax (x.query 1) (x.bias k) (x.sharedKeys k) (x.ownKeys 1 k) (headPart 1 (x.arg9.view.read (Elt Ideal) f9)) r) * x.values 1 k (ix2 n d) := by
  unfold trip trip_k0_t1
  dsimp only
  refine (View.read_writes_cons_unit_of_mem _ _ _ _ _ _ (ix3 0 r d) rfl fun b => ?_).trans ?_
  · match b with
    | ⟨0, _⟩ => rfl
    | ⟨1, _⟩ => exact (Nat.zero_add _).symm
    | ⟨2, _⟩ => exact (Nat.zero_add _).symm
  · unfold sharedKeys ownKeys values
    rw [← load_shared x.i k x.arg5 x.X5, ← load_head1 x.i k x.arg4 x.X4, ← load_head1 x.i k x.arg6 x.X6, ← load_state x.arg9 f9 1 inb_S2x512x1_S1x512x1_1_0_0, ← load_state x.arg11 f11 1 inb_S2x512x128_S1x512x128_1_0_0]
    exact acc_stored _ _ _ _ _ _ _ r d

end Chunks

end Cert.Attention

end
-- ==== Proof.Online.lean ====
/-
  Softmax over keys taken in chunks, at the extended reals.  A running maximum, a running sum of exponentials and a
  running weighted sum, each rescaled when the maximum moves, end at the maximum, the sum and the weighted sum over all
  the keys at once — scores may be `-∞` (a key left out), never `+∞`.
-/
module

public import Idealize.ShloMosaic.PureOps.Ideal
public import Mathlib.Data.EReal.Operations
public import Mathlib.Data.EReal.Inv
public import Mathlib.Algebra.BigOperators.Group.Finset.Basic
public import Mathlib.Order.CompleteLattice.Finset

@[expose] public section

noncomputable section

open Idealize.ShloMosaic
open scoped BigOperators

namespace Cert.Online

variable {ι κ : Type} [Fintype ι] [Fintype κ]

theorem exp_nonneg (x : EReal) : 0 ≤ Ideal.exp x := by
  induction x using EReal.rec with
  | bot => simp
  | top => simp
  | coe r => simpa using (Real.exp_pos r).le

theorem exp_ne_top {x : EReal} (h : x ≠ ⊤) : Ideal.exp x ≠ ⊤ := by
  induction x using EReal.rec with
  | bot => simp
  | top => exact absurd rfl h
  | coe r => simp

/-- Whatever the maximum, a score of `-∞` weighs nothing. -/
theorem exp_bot_sub (M : EReal) : Ideal.exp (⊥ - M) = 0 := by simp

/-- The difference of two scores, the subtracted one the larger, is not `+∞`. -/
theorem sub_ne_top {s M : EReal} (h : s ≤ M) (hM : M ≠ ⊤) : s - M ≠ ⊤ := by
  induction M using EReal.rec with
  | top => exact absurd rfl hM
  | bot => rw [le_bot_iff.mp h]; simp
  | coe r =>
    induction s using EReal.rec with
    | top => exact absurd (top_le_iff.mp h) (EReal.coe_ne_top r)
    | bot => simp
    | coe q => rw [← EReal.coe_sub]; exact EReal.coe_ne_top _

/-- Moving the maximum from `M` up to `M'` multiplies a key's weight by `exp (M - M')`. -/
theorem rescale {s M M' : EReal} (hs : s ≤ M) (hM : M ≤ M') (ht : M' ≠ ⊤) :
    Ideal.exp (M - M') * Ideal.exp (s - M) = Ideal.exp (s - M') := by
  induction M using EReal.rec with
  | top => exact absurd (top_le_iff.mp hM) ht
  | bot => rw [le_bot_iff.mp hs]; simp
  | coe a =>
    induction s using EReal.rec with
    | top => exact absurd (top_le_iff.mp hs) (EReal.coe_ne_top a)
    | bot => simp
    | coe q =>
      induction M' using EReal.rec with
      | top => exact absurd rfl ht
      | bot => exact absurd (le_bot_iff.mp hM) (EReal.coe_ne_bot a)
      | coe b =>
        rw [← EReal.coe_sub, ← EReal.coe_sub, ← EReal.coe_sub, Ideal.exp_coe, Ideal.exp_coe, Ideal.exp_coe, ← EReal.coe_mul, ← Real.exp_add]
        congr 2; ring

/-- A finite nonnegative factor distributes over a sum of any extended reals. -/
theorem mul_sum {a : EReal} (h0 : 0 ≤ a) (ht : a ≠ ⊤) {α : Type} (S : Finset α) (f : α → EReal) : a * ∑ x ∈ S, f x = ∑ x ∈ S, a * f x := by
  classical
  induction S using Finset.induction_on with
  | empty => simp
  | insert x S hx ih => rw [Finset.sum_insert hx, Finset.sum_insert hx, EReal.left_distrib_of_nonneg_of_ne_top h0 ht, ih]

/-! ## The running values -/

/-- The maximum of the first `n` chunks' scores. -/
def runMax (s : ℕ → ι → EReal) : ℕ → EReal
  | 0 => ⊥
  | n + 1 => max (runMax s n) (Finset.univ.sup (s n))

/-- The sum of the first `n` chunks' weights, rescaled at each chunk. -/
def runSum (s : ℕ → ι → EReal) : ℕ → EReal
  | 0 => 0
  | n + 1 => Ideal.exp (runMax s n - runMax s (n + 1)) * runSum s n + ∑ i, Ideal.exp (s n i - runMax s (n + 1))

/-- The weighted sum of the first `n` chunks' values, rescaled at each chunk. -/
def runAcc (s v : ℕ → ι → EReal) : ℕ → EReal
  | 0 => 0
  | n + 1 => Ideal.exp (runMax s n - runMax s (n + 1)) * runAcc s v n + ∑ i, Ideal.exp (s n i - runMax s (n + 1)) * v n i

theorem runMax_le_succ (s : ℕ → ι → EReal) (n : ℕ) : runMax s n ≤ runMax s (n + 1) := le_max_left _ _

theorem le_runMax (s : ℕ → ι → EReal) {c n : ℕ} (h : c < n) (i : ι) : s c i ≤ runMax s n := by
  induction n with
  | zero => omega
  | succ n ih =>
    by_cases hc : c = n
    · subst hc; exact le_max_of_le_right (Finset.le_sup (Finset.mem_univ i))
    · exact (ih (by omega)).trans (runMax_le_succ s n)

theorem runMax_le (s : ℕ → ι → EReal) (n : ℕ) {B : EReal} (h : ∀ c < n, ∀ i, s c i ≤ B) : runMax s n ≤ B := by
  induction n with
  | zero => exact bot_le
  | succ n ih => exact max_le (ih fun c hc => h c (by omega)) (Finset.sup_le fun i _ => h n (by omega) i)

theorem runMax_ne_top (s : ℕ → ι → EReal) (hs : ∀ c i, s c i ≠ ⊤) (n : ℕ) : runMax s n ≠ ⊤ := by
  induction n with
  | zero => exact bot_ne_top
  | succ n ih =>
    have hsup : Finset.univ.sup (s n) < ⊤ := (Finset.sup_lt_iff bot_lt_top).mpr fun i _ => lt_top_iff_ne_top.mpr (hs n i)
    exact (max_lt (lt_top_iff_ne_top.mpr ih) hsup).ne

theorem runSum_eq (s : ℕ → ι → EReal) (hs : ∀ c i, s c i ≠ ⊤) (n : ℕ) :
    runSum s n = ∑ c ∈ Finset.range n, ∑ i, Ideal.exp (s c i - runMax s n) := by
  induction n with
  | zero => rfl
  | succ n ih =>
    have hle := runMax_le_succ s n
    have ht := runMax_ne_top s hs (n + 1)
    rw [runSum, ih, mul_sum (exp_nonneg _) (exp_ne_top (sub_ne_top hle ht)), Finset.sum_range_succ]
    refine congrArg (· + _) (Finset.sum_congr rfl fun c hc => ?_)
    rw [mul_sum (exp_nonneg _) (exp_ne_top (sub_ne_top hle ht))]
    exact Finset.sum_congr rfl fun i _ => rescale (le_runMax s (Finset.mem_range.mp hc) i) hle ht

theorem runAcc_eq (s v : ℕ → ι → EReal) (hs : ∀ c i, s c i ≠ ⊤) (n : ℕ) :
    runAcc s v n = ∑ c ∈ Finset.range n, ∑ i, Ideal.exp (s c i - runMax s n) * v c i := by
  induction n with
  | zero => rfl
  | succ n ih =>
    have hle := runMax_le_succ s n
    have ht := runMax_ne_top s hs (n + 1)
    rw [runAcc, ih, mul_sum (exp_nonneg _) (exp_ne_top (sub_ne_top hle ht)), Finset.sum_range_succ]
    refine congrArg (· + _) (Finset.sum_congr rfl fun c hc => ?_)
    rw [mul_sum (exp_nonneg _) (exp_ne_top (sub_ne_top hle ht))]
    exact Finset.sum_congr rfl fun i _ => by
      rw [← mul_assoc, rescale (le_runMax s (Finset.mem_range.mp hc) i) hle ht]

/-! ## All the keys at once -/

/-- The softmax of scores `σ` applied to values `v`, as one quotient. -/
def attend (σ v : κ → EReal) : EReal :=
  Ideal.div (∑ x, Ideal.exp (σ x - Finset.univ.sup σ) * v x) (∑ x, Ideal.exp (σ x - Finset.univ.sup σ))

/-- A sum over chunks of a function that vanishes off the keys of those chunks is the sum over all keys. -/
theorem sum_chunks (key : ℕ → ι → κ) (n : ℕ) (hinj : ∀ c < n, ∀ c' < n, ∀ i i', key c i = key c' i' → c = c' ∧ i = i')
    (f : κ → EReal) (hf : ∀ x, (∀ c < n, ∀ i, key c i ≠ x) → f x = 0) :
    ∑ c ∈ Finset.range n, ∑ i, f (key c i) = ∑ x, f x := by
  classical
  rw [← Finset.sum_product']
  rw [← Finset.sum_image (f := f) (g := fun p : ℕ × ι => key p.1 p.2) (s := Finset.range n ×ˢ Finset.univ)]
  · refine Finset.sum_subset (Finset.subset_univ _) fun x _ hx => hf x fun c hc i he => hx ?_
    exact Finset.mem_image.mpr ⟨(c, i), Finset.mem_product.mpr ⟨Finset.mem_range.mpr hc, Finset.mem_univ _⟩, he⟩
  · rintro ⟨c, i⟩ hp ⟨c', i'⟩ hp' he
    have hc := Finset.mem_range.mp (Finset.mem_product.mp hp).1
    have hc' := Finset.mem_range.mp (Finset.mem_product.mp hp').1
    obtain ⟨h1, h2⟩ := hinj c hc c' hc' i i' he
    rw [h1, h2]

/-- The running maximum over chunks that hold every key with a score above `-∞` is the maximum over all keys. -/
theorem runMax_chunks (key : ℕ → ι → κ) (n : ℕ) (σ : κ → EReal) (hσ : ∀ x, (∀ c < n, ∀ i, key c i ≠ x) → σ x = ⊥) :
    runMax (fun c i => σ (key c i)) n = Finset.univ.sup σ := by
  refine le_antisymm (runMax_le _ n fun c _ i => Finset.le_sup (Finset.mem_univ _)) (Finset.sup_le fun x _ => ?_)
  by_cases h : ∀ c < n, ∀ i, key c i ≠ x
  · rw [hσ x h]; exact bot_le
  · push Not at h
    obtain ⟨c, hc, i, rfl⟩ := h
    exact le_runMax (fun c i => σ (key c i)) hc i

/-- The running values' quotient is the softmax over all keys. -/
theorem running_attend (key : ℕ → ι → κ) (n : ℕ) (hinj : ∀ c < n, ∀ c' < n, ∀ i i', key c i = key c' i' → c = c' ∧ i = i')
    (σ v : κ → EReal) (htop : ∀ x, σ x ≠ ⊤) (hσ : ∀ x, (∀ c < n, ∀ i, key c i ≠ x) → σ x = ⊥) :
    Ideal.div (runAcc (fun c i => σ (key c i)) (fun c i => v (key c i)) n) (runSum (fun c i => σ (key c i)) n) = attend σ v := by
  have off : ∀ x, (∀ c < n, ∀ i, key c i ≠ x) → Ideal.exp (σ x - Finset.univ.sup σ) = 0 := fun x h => by rw [hσ x h]; exact exp_bot_sub _
  rw [runAcc_eq _ _ (fun _ _ => htop _), runSum_eq _ (fun _ _ => htop _), runMax_chunks key n σ hσ]
  rw [sum_chunks key n hinj (fun x => Ideal.exp (σ x - Finset.univ.sup σ) * v x) fun x h => by rw [off x h, zero_mul]]
  rw [sum_chunks key n hinj (fun x => Ideal.exp (σ x - Finset.univ.sup σ)) off]
  rfl

/-- When some score is finite the sum of the weights is not zero. -/
theorem weights_ne_zero (σ : κ → EReal) (htop : ∀ x, σ x ≠ ⊤) (x₀ : κ) (h₀ : σ x₀ ≠ ⊥) : ∑ x, Ideal.exp (σ x - Finset.univ.sup σ) ≠ 0 := by
  obtain ⟨x, _, hx⟩ := Finset.exists_mem_eq_sup Finset.univ ⟨x₀, Finset.mem_univ _⟩ σ
  have hb : σ x ≠ ⊥ := fun h => h₀ (le_bot_iff.mp (h ▸ hx ▸ Finset.le_sup (Finset.mem_univ x₀)))
  have h1 : Ideal.exp (σ x - Finset.univ.sup σ) = 1 := by
    rw [hx]
    have ht := htop x
    generalize σ x = r at hb ht ⊢
    induction r using EReal.rec with
    | top => exact absurd rfl ht
    | bot => exact absurd rfl hb
    | coe r =>
      rw [← EReal.coe_sub, sub_self, Ideal.exp_coe, Real.exp_zero]
      rfl
  have : (1 : EReal) ≤ ∑ x, Ideal.exp (σ x - Finset.univ.sup σ) := by
    rw [← h1]; exact Finset.single_le_sum (f := fun x => Ideal.exp (σ x - Finset.univ.sup σ)) (fun y _ => exp_nonneg _) (Finset.mem_univ x)
  intro h
  rw [h] at this
  exact absurd this (by simp)

/-- The softmax weights divided first and summed after: the same value, a key of score `-∞` counted as weight zero. -/
theorem weighted_attend (σ v : κ → EReal) (htop : ∀ x, σ x ≠ ⊤) (x₀ : κ) (h₀ : σ x₀ ≠ ⊥) (p : κ → EReal)
    (hp : ∀ x, p x = if σ x = ⊥ then 0 else Ideal.div (Ideal.exp (σ x - Finset.univ.sup σ)) (∑ x, Ideal.exp (σ x - Finset.univ.sup σ))) :
    ∑ x, p x * v x = attend σ v := by
  have hL := weights_ne_zero σ htop x₀ h₀
  have hnn : 0 ≤ ∑ x, Ideal.exp (σ x - Finset.univ.sup σ) := Finset.sum_nonneg fun x _ => exp_nonneg _
  unfold attend Ideal.div
  simp only [Ideal.div, if_neg hL] at hp ⊢
  generalize (∑ x, Ideal.exp (σ x - Finset.univ.sup σ)) = L at hL hnn hp ⊢
  have hi0 : 0 ≤ L⁻¹ := EReal.inv_nonneg_of_nonneg hnn
  have hit : L⁻¹ ≠ ⊤ := by
    induction L using EReal.rec with
    | top => simp
    | bot => simp
    | coe r => rw [← EReal.coe_inv]; exact EReal.coe_ne_top _
  rw [mul_comm, mul_sum hi0 hit]
  refine Finset.sum_congr rfl fun x _ => ?_
  rw [hp x]
  by_cases hx : σ x = ⊥
  · rw [if_pos hx, hx, exp_bot_sub]; simp
  · rw [if_neg hx, mul_comm (Ideal.exp _) L⁻¹, mul_assoc]

end Cert.Online

end
-- ==== Proof.Loop.lean ====
/-
  The attention's loop over chunks of keys: after the first `n` trips the state arrays hold, for each row of each head,
  the running maximum, sum and weighted sum of the first `n` chunks.
-/
module

public import proofs.«01_k».proof.Proof.Trip
public import proofs.«01_k».proof.Proof.Online

@[expose] public section

set_option maxRecDepth 16384

noncomputable section

open Idealize.ShloMosaic Idealize.ShloMosaic.TcCoe Idealize.SL.Sem

namespace Cert.Attention

open Cert.KernelIdeal Cert.KernelIdeal.Gen

namespace Chunks

variable (x : Chunks)

/-- The maxima after `n` trips. -/
def maxAt (n : ℕ) : BufTy.Contents (Elt Ideal) x.arg9.view.ty := x.arg9.view.writes (Elt Ideal) x.G9 (x.pieces n).1

/-- The sums of weights after `n` trips. -/
def sumAt (n : ℕ) : BufTy.Contents (Elt Ideal) x.arg10.view.ty := x.arg10.view.writes (Elt Ideal) x.G10 (x.pieces n).2.1

/-- The weighted sums after `n` trips. -/
def accAt (n : ℕ) : BufTy.Contents (Elt Ideal) x.arg11.view.ty := x.arg11.view.writes (Elt Ideal) x.G11 (x.pieces n).2.2

variable (k : Fin (k0_t1_loop x.i).trips)

theorem pieces_succ : x.pieces (k.val + 1)
    = ((x.trip k).1 (x.maxAt k) (x.sumAt k) (x.accAt k) ++ (x.pieces k).1, (x.trip k).2.1 (x.maxAt k) (x.sumAt k) (x.accAt k) ++ (x.pieces k).2.1,
      (x.trip k).2.2.1 (x.maxAt k) (x.sumAt k) (x.accAt k) ++ (x.pieces k).2.2) := by
  unfold maxAt sumAt accAt pieces trip
  exact pb_k0_t1_succ ..

theorem maxAt_succ : x.maxAt (k.val + 1) = x.arg9.view.writes (Elt Ideal) (x.maxAt k) ((x.trip k).1 (x.maxAt k) (x.sumAt k) (x.accAt k)) := by
  conv_lhs => unfold maxAt
  rw [pieces_succ]
  exact View.writes_append ..

theorem sumAt_succ : x.sumAt (k.val + 1) = x.arg10.view.writes (Elt Ideal) (x.sumAt k) ((x.trip k).2.1 (x.maxAt k) (x.sumAt k) (x.accAt k)) := by
  conv_lhs => unfold sumAt
  rw [pieces_succ]
  exact View.writes_append ..

theorem accAt_succ : x.accAt (k.val + 1) = x.arg11.view.writes (Elt Ideal) (x.accAt k) ((x.trip k).2.2.1 (x.maxAt k) (x.sumAt k) (x.accAt k)) := by
  conv_lhs => unfold accAt
  rw [pieces_succ]
  exact View.writes_append ..

/-- The biased scores of chunk `k` for row `r` of head `h`. -/
def scores (h : Fin 2) (r : Fin 512) (k : Fin (k0_t1_loop x.i).trips) (n : Fin 512) : EReal :=
  k0_pay11 (x.query h) (x.bias k) (x.sharedKeys k) (x.ownKeys h k) (ix2 r n)

variable (h : Fin 2) (r : Fin 512)

/-- Row `r` of head `h`: its maximum after `n` trips. -/
def rowMax (n : ℕ) : EReal := x.arg9.view.read (Elt Ideal) (x.maxAt n) (ix3 h r 0)

/-- Its sum of weights. -/
def rowSum (n : ℕ) : EReal := x.arg10.view.read (Elt Ideal) (x.sumAt n) (ix3 h r 0)

/-- Its weighted sum at column `d`. -/
def rowAcc (d : Fin 128) (n : ℕ) : EReal := x.arg11.view.read (Elt Ideal) (x.accAt n) (ix3 h r d)

theorem rowMax_succ : x.rowMax h r (k.val + 1) = max (x.rowMax h r k) (Finset.univ.sup (x.scores h r k)) := by
  unfold rowMax
  rw [maxAt_succ]
  match h with
  | 0 => exact max_zero x k _ _ _ r
  | 1 => exact max_one x k _ _ _ r

theorem rowSum_succ : x.rowSum h r (k.val + 1) = Ideal.exp (x.rowMax h r k - max (x.rowMax h r k) (Finset.univ.sup (x.scores h r k))) * x.rowSum h r k
    + ∑ n, Ideal.exp (x.scores h r k n - max (x.rowMax h r k) (Finset.univ.sup (x.scores h r k))) := by
  unfold rowSum
  rw [sumAt_succ]
  match h with
  | 0 => exact sum_zero x k _ _ _ r
  | 1 => exact sum_one x k _ _ _ r

theorem rowAcc_succ (d : Fin 128) : x.rowAcc h r d (k.val + 1)
    = Ideal.exp (x.rowMax h r k - max (x.rowMax h r k) (Finset.univ.sup (x.scores h r k))) * x.rowAcc h r d k
      + ∑ n, Ideal.exp (x.scores h r k n - max (x.rowMax h r k) (Finset.univ.sup (x.scores h r k))) * x.values h k (ix2 n d) := by
  unfold rowAcc
  rw [accAt_succ]
  match h with
  | 0 => exact acc_zero x k _ _ _ r d
  | 1 => exact acc_one x k _ _ _ r d

/-- The state after `n` trips is the running state of the first `n` chunks, if it starts at `-∞`, zero and zero. -/
theorem running (d : Fin 128) (s v : ℕ → Fin 512 → EReal) (hs : ∀ k n, x.scores h r k n = s k.val n) (hv : ∀ c n, x.values h c (ix2 n d) = v c n)
    (h9 : x.arg9.view.read (Elt Ideal) x.G9 (ix3 h r 0) = (⊥ : EReal)) (h10 : x.arg10.view.read (Elt Ideal) x.G10 (ix3 h r 0) = (0 : EReal))
    (h11 : x.arg11.view.read (Elt Ideal) x.G11 (ix3 h r d) = (0 : EReal)) (n : ℕ) (hn : n ≤ (k0_t1_loop x.i).trips) :
    x.rowMax h r n = Online.runMax s n ∧ x.rowSum h r n = Online.runSum s n ∧ x.rowAcc h r d n = Online.runAcc s v n := by
  induction n with
  | zero => exact ⟨h9, h10, h11⟩
  | succ n ih =>
    obtain ⟨i1, i2, i3⟩ := ih (by omega)
    have hk : n < (k0_t1_loop x.i).trips := by omega
    have e : x.scores h r ⟨n, hk⟩ = s n := funext fun i => hs ⟨n, hk⟩ i
    have e1 := x.rowMax_succ ⟨n, hk⟩ h r
    have e2 := x.rowSum_succ ⟨n, hk⟩ h r
    have e3 := x.rowAcc_succ ⟨n, hk⟩ h r d
    rw [e] at e1 e2 e3
    dsimp only at e1 e2 e3
    rw [i1] at e1
    rw [i1, i2] at e2
    rw [i1, i3] at e3
    refine ⟨e1, e2, e3.trans ?_⟩
    refine congrArg (_ + ·) (Finset.sum_congr (M := EReal) rfl fun i _ => ?_)
    exact congrArg (_ * ·) (hv n i)

end Chunks

end Cert.Attention

end
-- ==== Proof.Point.lean ====
/-
  One point of the attention's grid: from its blocks of queries, keys, values and mask words, the block of results it
  leaves, read at an index as the quotient of the loop's weighted sum and sum of weights.
-/
module

public import proofs.«01_k».proof.Proof.Loop

@[expose] public section

set_option maxRecDepth 16384

noncomputable section

open Idealize.ShloMosaic Idealize.ShloMosaic.TcCoe Idealize.SL.Sem

namespace Cert.Attention

open Cert.KernelIdeal Cert.KernelIdeal.Gen

/-- What one point is run with: its coordinates, the arrays in place, and the contents of its input blocks. -/
structure Point where
  c : Dev nD
  i : grid0.Coords
  arg2 : Memref sig .tc .vmem S512x256 .bf16
  harg2 : arg2.IsWhole
  arg3 : Memref sig .tc .vmem S512x256 .bf16
  harg3 : arg3.IsWhole
  arg4 : Memref sig .tc .vmem S16384x256 .bf16
  harg4 : arg4.IsWhole
  arg5 : Memref sig .tc .vmem S16384x128 .bf16
  harg5 : arg5.IsWhole
  arg6 : Memref sig .tc .vmem S16384x256 .bf16
  harg6 : arg6.IsWhole
  arg7 : Memref sig .tc .vmem S512x512 .i32
  harg7 : arg7.IsWhole
  arg8 : Memref sig .tc .vmem S512x256 .bf16
  harg8 : arg8.IsWhole
  arg9 : Memref sig .tc .vmem S2x512x1 .f32
  harg9 : arg9.IsWhole
  arg10 : Memref sig .tc .vmem S2x512x1 .f32
  harg10 : arg10.IsWhole
  arg11 : Memref sig .tc .vmem S2x512x128 .f32
  harg11 : arg11.IsWhole
  x0 : Vec Ideal S512x256 .bf16
  x1 : Vec Ideal S512x256 .bf16
  x2 : Vec Ideal S16384x256 .bf16
  x3 : Vec Ideal S16384x128 .bf16
  x4 : Vec Ideal S16384x256 .bf16
  x5 : Vec Ideal S512x512 .i32

/-- Reading back an array written by a list of pieces in three parts, the last of them empty. -/
theorem readBack {s : Shape} {e : EltTy} (v : View sig .tc .vmem s e) (L2 L1 H : List (View.Piece (Elt Ideal) s e)) (B : LoadRect s) (h2 : L2 = []) :
    v.readCov (L2 ++ (L1 ++ H)) B = v.readAt (Elt Ideal) B (v.writes (Elt Ideal) (v.writes (Elt Ideal) v.junk H) L1) := by
  subst h2
  show v.readAt (Elt Ideal) B (v.writes (Elt Ideal) v.junk (L1 ++ H)) = _
  exact congrArg (v.readAt (Elt Ideal) B) (View.writes_append v _ L1 H)

namespace Point

variable (p : Point)

/-- The loop over the chunks as the point runs it. -/
def chunks : Chunks where
  𝒱 := Variants.none
  c := p.c
  bd := none
  i := p.i
  arg2 := p.arg2
  harg2 := p.harg2
  arg3 := p.arg3
  harg3 := p.harg3
  arg4 := p.arg4
  harg4 := p.harg4
  arg5 := p.arg5
  harg5 := p.harg5
  arg6 := p.arg6
  harg6 := p.harg6
  arg7 := p.arg7
  harg7 := p.harg7
  arg8 := p.arg8
  harg8 := p.harg8
  arg9 := p.arg9
  harg9 := p.harg9
  arg10 := p.arg10
  harg10 := p.harg10
  arg11 := p.arg11
  harg11 := p.harg11
  v2 := kernelRun0_A.sl.r p.c p.arg2 p.harg2 p.arg3 p.harg3 p.x0 p.x1
  v5 := kernelRun0_A.sl.r_1 p.c p.arg2 p.harg2 p.arg3 p.harg3 p.x0 p.x1
  v6 := kernelRun0_A.sl.r_2 p.c p.arg7 p.harg7 p.x5
  v22 := kernelRun0_A.sl.v22 p.i
  c512_i32_21 := 512#32
  v23 := kernelRun0_A.sl.v23 p.i
  v25 := kernelRun0_A.sl.v25 p.i
  c0_i32_22 := 0#32
  X4 := p.harg4.unread p.x2
  X5 := p.harg5.unread p.x3
  X6 := p.harg6.unread p.x4
  G9 := p.arg9.view.writes (Elt Ideal) p.arg9.view.junk kernelRun0_A.sl.HS0_1
  G10 := p.arg10.view.writes (Elt Ideal) p.arg10.view.junk kernelRun0_A.sl.HS1_1
  G11 := p.arg11.view.writes (Elt Ideal) p.arg11.view.junk kernelRun0_A.sl.HS2_1

/-- The number of trips. -/
def trips : ℕ := (k0_t1_loop p.i).trips

/-- The block of results. -/
def out : Vec Ideal S512x256 .bf16 :=
  out0_A_6 p.c p.i p.arg2 p.harg2 p.arg3 p.harg3 p.arg4 p.harg4 p.arg5 p.harg5 p.arg6 p.harg6 p.arg7 p.harg7 p.arg8 p.harg8 p.arg9 p.harg9 p.arg10 p.harg10 p.arg11 p.harg11 p.x0 p.x1 p.x2 p.x3 p.x4 p.x5

theorem noTail : Scf.trips (k0_t2_loop p.i).lb (k0_t2_loop p.i).ub (k0_t2_loop p.i).st = 0 := Nat.le_zero.mp (k0_t2_abs p.i).2.1

/-- The first head's weighted sums as the point reads them back. -/
theorem acc_zero : kernelRun0_A.sl.v45 p.c p.i p.arg2 p.harg2 p.arg3 p.harg3 p.arg4 p.harg4 p.arg5 p.harg5 p.arg6 p.harg6 p.arg7 p.harg7 p.arg8 p.harg8 p.arg9 p.harg9 p.arg10 p.harg10 p.arg11 p.harg11 p.x0 p.x1 p.x2 p.x3 p.x4 p.x5
    = headPart 0 (p.arg11.view.read (Elt Ideal) (p.chunks.accAt p.trips)) := by
  refine Eq.trans ?_ (load_state p.arg11 (p.chunks.accAt p.trips) 0 inb_S2x512x128_S1x512x128_0_0_0)
  unfold kernelRun0_A.sl.v45
  rw [noTail]
  exact readBack _ _ _ _ _ rfl

/-- The first head's sums of weights as the point reads them back. -/
theorem sum_zero : kernelRun0_A.sl.v47 p.c p.i p.arg2 p.harg2 p.arg3 p.harg3 p.arg4 p.harg4 p.arg5 p.harg5 p.arg6 p.harg6 p.arg7 p.harg7 p.arg8 p.harg8 p.arg9 p.harg9 p.arg10 p.harg10 p.arg11 p.harg11 p.x0 p.x1 p.x2 p.x3 p.x4 p.x5
    = headPart 0 (p.arg10.view.read (Elt Ideal) (p.chunks.sumAt p.trips)) := by
  refine Eq.trans ?_ (load_state p.arg10 (p.chunks.sumAt p.trips) 0 inb_S2x512x1_S1x512x1_0_0_0)
  unfold kernelRun0_A.sl.v47
  rw [noTail]
  exact readBack _ _ _ _ _ rfl

/-- The second head's weighted sums as the point reads them back. -/
theorem acc_one : kernelRun0_A.sl.v53 p.c p.i p.arg2 p.harg2 p.arg3 p.harg3 p.arg4 p.harg4 p.arg5 p.harg5 p.arg6 p.harg6 p.arg7 p.harg7 p.arg8 p.harg8 p.arg9 p.harg9 p.arg10 p.harg10 p.arg11 p.harg11 p.x0 p.x1 p.x2 p.x3 p.x4 p.x5
    = headPart 1 (p.arg11.view.read (Elt Ideal) (p.chunks.accAt p.trips)) := by
  refine Eq.trans ?_ (load_state p.arg11 (p.chunks.accAt p.trips) 1 inb_S2x512x128_S1x512x128_1_0_0)
  unfold kernelRun0_A.sl.v53
  rw [noTail]
  exact readBack _ _ _ _ _ rfl

/-- The second head's sums of weights as the point reads them back. -/
theorem sum_one : kernelRun0_A.sl.v55 p.c p.i p.arg2 p.harg2 p.arg3 p.harg3 p.arg4 p.harg4 p.arg5 p.harg5 p.arg6 p.harg6 p.arg7 p.harg7 p.arg8 p.harg8 p.arg9 p.harg9 p.arg10 p.harg10 p.arg11 p.harg11 p.x0 p.x1 p.x2 p.x3 p.x4 p.x5
    = headPart 1 (p.arg10.view.read (Elt Ideal) (p.chunks.sumAt p.trips)) := by
  refine Eq.trans ?_ (load_state p.arg10 (p.chunks.sumAt p.trips) 1 inb_S2x512x1_S1x512x1_1_0_0)
  unfold kernelRun0_A.sl.v55
  rw [noTail]
  exact readBack _ _ _ _ _ rfl

/-- A load of head `h`'s columns of a block of two heads side by side. -/
theorem load_query (a : Memref sig .tc .vmem S512x256 .bf16) (f : BufTy.Contents (Elt Ideal) a.view.ty) (h : Fin 2)
    (inb : ∀ b, (![0, 128 * h.val] : Fin 2 → ℕ) b + (![512, 128] : Fin 2 → ℕ) b ≤ S512x256.size b) :
    View.readAt (Elt Ideal) a.view (Rect.unit (s := S512x256) ![0, 128 * h.val] ![512, 128] inb).toLoadRect f
      = fun j : S512x128.Idx => a.view.read (Elt Ideal) f (ix2 (j 0) (headCol h (j 1))) := by
  funext j
  refine congrArg (a.view.read (Elt Ideal) f) (funext fun b => Fin.ext ?_)
  match b with
  | ⟨0, _⟩ => show 0 + 1 * (j 0).val = (j 0).val; omega
  | ⟨1, _⟩ => show 128 * h.val + 1 * (j 1).val = 128 * h.val + (j 1).val; omega

/-- Head `h`'s columns of a block of two heads side by side. -/
def headBlock (h : Fin 2) (x : Vec Ideal S512x256 .bf16) : Vec Ideal S512x128 .bf16 := fun j => x (ix2 (j 0) (headCol h (j 1)))

theorem query_zero : p.chunks.v2 = k0_pay31 (headBlock 0 p.x0) (headBlock 0 p.x1) := by
  show kernelRun0_A.sl.r p.c p.arg2 p.harg2 p.arg3 p.harg3 p.x0 p.x1 = _
  unfold kernelRun0_A.sl.r
  refine congrArg₂ k0_pay31 ((load_query p.arg2 _ 0 inb_S512x256_S512x128_0_0).trans ?_) ((load_query p.arg3 _ 0 inb_S512x256_S512x128_0_0).trans ?_)
  · rw [p.harg2.read_unread]; rfl
  · rw [p.harg3.read_unread]; rfl

theorem query_one : p.chunks.v5 = k0_pay31 (headBlock 1 p.x0) (headBlock 1 p.x1) := by
  show kernelRun0_A.sl.r_1 p.c p.arg2 p.harg2 p.arg3 p.harg3 p.x0 p.x1 = _
  unfold kernelRun0_A.sl.r_1
  refine congrArg₂ k0_pay31 ((load_query p.arg2 _ 1 inb_S512x256_S512x128_0_128).trans ?_) ((load_query p.arg3 _ 1 inb_S512x256_S512x128_0_128).trans ?_)
  · rw [p.harg2.read_unread]; rfl
  · rw [p.harg3.read_unread]; rfl

theorem query (h : Fin 2) : p.chunks.query h = k0_pay31 (headBlock h p.x0) (headBlock h p.x1) := by
  match h with
  | 0 => exact p.query_zero
  | 1 => exact p.query_one

theorem words : p.chunks.v6 = p.x5 := by
  show kernelRun0_A.sl.r_2 p.c p.arg7 p.harg7 p.x5 = _
  unfold kernelRun0_A.sl.r_2
  funext j
  show p.arg7.view.read (Elt Ideal) (p.harg7.unread p.x5) _ = _
  rw [p.harg7.read_unread]
  refine congrArg p.x5 (funext fun b => Fin.ext ?_)
  match b with
  | ⟨0, _⟩ => show 0 + 1 * (j 0).val = (j 0).val; omega
  | ⟨1, _⟩ => show 0 + 1 * (j 1).val = (j 1).val; omega

/-- The point's biased score of row `r` and key `n` of chunk `k` for head `h`. -/
theorem scores_eq (h : Fin 2) (r : Fin 512) (k : Fin (k0_t1_loop p.i).trips) (n : Fin 512) :
    p.chunks.scores h r k n = ((∑ d : Fin 128, p.x0 (ix2 r (headCol h d)) * p.x2 (ix2 (key k n) (headCol h d)))
        + ∑ d : Fin 128, p.x1 (ix2 r (headCol h d)) * p.x3 (ix2 (key k n) d))
      + Scalar.select (Scalar.cmpi .eq (Scalar.andi (Scalar.shrui (p.x5 (ix2 r n)) (BitVec.ofNat 32 k.val)) 1#32) 1#32) (0 : EReal) ⊥ := by
  unfold Chunks.scores
  have e4 : p.chunks.arg4.view.read (Elt Ideal) p.chunks.X4 = p.x2 := p.harg4.read_unread p.x2
  have e5 : p.chunks.arg5.view.read (Elt Ideal) p.chunks.X5 = p.x3 := p.harg5.read_unread p.x3
  rw [p.query h]
  refine (scores_apply _ _ _ _ _ r n).trans ?_
  refine congrArg₂ (· + ·) ?_ ?_
  · unfold score Chunks.ownKeys Chunks.sharedKeys
    rw [e4, e5]
    rfl
  · refine (bias_apply _ _ _ _ _ _).trans ?_
    rw [p.words]
    have e : Scf.iv 0#32 1#32 k.val = BitVec.ofNat 32 k.val := by unfold Scf.iv; simp
    rw [e]

/-- The point's value of key `n` of chunk `c` for head `h`. -/
theorem values_eq (h : Fin 2) (c : ℕ) (n : Fin 512) (d : Fin 128) : p.chunks.values h c (ix2 n d) = p.x4 (ix2 (key c n) (headCol h d)) := by
  unfold Chunks.values
  have e6 : p.chunks.arg6.view.read (Elt Ideal) p.chunks.X6 = p.x4 := p.harg6.read_unread p.x4
  rw [e6]
  rfl

/-- The maxima begin at `-∞`. -/
theorem max_init (h : Fin 2) (r : Fin 512) : p.chunks.arg9.view.read (Elt Ideal) p.chunks.G9 (ix3 h r 0) = (⊥ : EReal) := by
  show p.arg9.view.read (Elt Ideal) (p.arg9.view.writes (Elt Ideal) p.arg9.view.junk kernelRun0_A.sl.HS0_1) (ix3 h r 0) = (⊥ : EReal)
  unfold kernelRun0_A.sl.HS0_1
  refine (View.read_writes_cons_unit_of_mem _ _ _ _ _ _ (ix3 h r 0) rfl fun b => ?_).trans ?_
  · match b with
    | ⟨0, _⟩ => exact (Nat.zero_add _).symm
    | ⟨1, _⟩ => exact (Nat.zero_add _).symm
    | ⟨2, _⟩ => rfl
  · exact IdealRules.named_const.ideal_named_scalar _ _ _ _ rfl

/-- The sums of weights begin at zero. -/
theorem sum_init (h : Fin 2) (r : Fin 512) : p.chunks.arg10.view.read (Elt Ideal) p.chunks.G10 (ix3 h r 0) = (0 : EReal) := by
  show p.arg10.view.read (Elt Ideal) (p.arg10.view.writes (Elt Ideal) p.arg10.view.junk kernelRun0_A.sl.HS1_1) (ix3 h r 0) = (0 : EReal)
  unfold kernelRun0_A.sl.HS1_1
  refine (View.read_writes_cons_unit_of_mem _ _ _ _ _ _ (ix3 h r 0) rfl fun b => ?_).trans ?_
  · match b with
    | ⟨0, _⟩ => exact (Nat.zero_add _).symm
    | ⟨1, _⟩ => exact (Nat.zero_add _).symm
    | ⟨2, _⟩ => rfl
  · exact Ideal.ofBits_zero .f32

/-- The weighted sums begin at zero. -/
theorem acc_init (h : Fin 2) (r : Fin 512) (d : Fin 128) : p.chunks.arg11.view.read (Elt Ideal) p.chunks.G11 (ix3 h r d) = (0 : EReal) := by
  show p.arg11.view.read (Elt Ideal) (p.arg11.view.writes (Elt Ideal) p.arg11.view.junk kernelRun0_A.sl.HS2_1) (ix3 h r d) = (0 : EReal)
  unfold kernelRun0_A.sl.HS2_1
  refine (View.read_writes_cons_unit_of_mem _ _ _ _ _ _ (ix3 h r d) rfl fun b => ?_).trans ?_
  · match b with
    | ⟨0, _⟩ => exact (Nat.zero_add _).symm
    | ⟨1, _⟩ => exact (Nat.zero_add _).symm
    | ⟨2, _⟩ => exact (Nat.zero_add _).symm
  · exact Ideal.ofBits_zero .f32

/-- The block of results at row `r`, column `d` of head `h`: the loop's weighted sum over its sum of weights. -/
theorem out_apply (h : Fin 2) (r : Fin 512) (d : Fin 128) :
    p.out (ix2 r (headCol h d)) = Ideal.div (p.chunks.rowAcc h r d p.trips) (p.chunks.rowSum h r p.trips) := by
  unfold out out0_A_6 kernelRun0_A
  dsimp only
  match h with
  | 0 =>
    refine (View.read_writes_cons_unit_of_not_mem _ _ _ _ _ _ rfl 1 (Or.inl (by show 128 * 0 + d.val < 128; omega))).trans ?_
    refine (View.read_writes_cons_unit_of_mem _ _ _ _ _ _ (ix2 r d) rfl fun b => ?_).trans ?_
    · match b with
      | ⟨0, _⟩ => exact (Nat.zero_add _).symm
      | ⟨1, _⟩ => rfl
    · refine (quotient_apply _ _ r d).trans ?_
      rw [p.acc_zero, p.sum_zero]
      rfl
  | 1 =>
    refine (View.read_writes_cons_unit_of_mem _ _ _ _ _ _ (ix2 r d) rfl fun b => ?_).trans ?_
    · match b with
      | ⟨0, _⟩ => exact (Nat.zero_add _).symm
      | ⟨1, _⟩ => rfl
    · unfold kernelRun0_A.sl.r_3
      refine (quotient_apply _ _ r d).trans ?_
      rw [p.acc_one, p.sum_one]
      rfl

end Point

end Cert.Attention

end
-- ==== Proof.Spec.lean ====
/-
  The attention over selected keys in plain terms: the score of a query and a key for a head, which keys a row selects,
  and each row's softmax of its selected scores applied to the values.
-/
module

public import proofs.«01_k».proof.Proof.Online
public import Idealize.ShloMosaic.Lib.Pointwise

@[expose] public section

set_option maxRecDepth 16384

noncomputable section

open Idealize.ShloMosaic
open scoped BigOperators

namespace Cert.Attention

/-- The arrays the attention reads: queries, rotated queries, keys with values, shared rotated keys, selection words. -/
structure Inputs where
  qkv : (⟨2, ![16384, 11264]⟩ : Shape).Idx → EReal
  qpe : (⟨2, ![16384, 4096]⟩ : Shape).Idx → EReal
  kv : (⟨2, ![16384, 8192]⟩ : Shape).Idx → EReal
  kpe : (⟨2, ![16384, 128]⟩ : Shape).Idx → EReal
  mask : (⟨2, ![16384, 512]⟩ : Shape).Idx → BitVec 32

/-- Column `d` of head `h` among `n` columns, the heads' columns beginning at column `o`. -/
def column (n o : ℕ) (hn : o + 4096 ≤ n) (h : Fin 32) (d : Fin 128) : Fin n := ⟨o + 128 * h.val + d.val, by omega⟩

namespace Inputs

variable (A : Inputs)

/-- The score of query row `r` and key `x` for head `h`. -/
def dot (h : Fin 32) (r x : Fin 16384) : EReal :=
  (∑ d : Fin 128, A.qkv (ix2 r (column 11264 0 (by norm_num) h d)) * A.kv (ix2 x (column 8192 0 (by norm_num) h d)))
    + ∑ d : Fin 128, A.qpe (ix2 r (column 4096 0 (by norm_num) h d)) * A.kpe (ix2 x d)

/-- The bit that says whether row `r` selects key `x`: bit `x / 512` of the row's word `x % 512`. -/
def bit (r x : Fin 16384) : BitVec 1 :=
  Scalar.cmpi .eq (Scalar.andi (Scalar.shrui (A.mask (ix2 r ⟨x.val % 512, Nat.mod_lt _ (by norm_num)⟩)) (BitVec.ofNat 32 (x.val / 512))) 1#32) 1#32

/-- The score where the key is selected, `-∞` elsewhere. -/
def masked (h : Fin 32) (r x : Fin 16384) : EReal := Scalar.select (A.bit r x) (A.dot h r x) ⊥

/-- Column `d` of head `h`'s value at key `x`. -/
def value (h : Fin 32) (d : Fin 128) (x : Fin 16384) : EReal := A.kv (ix2 x (column 8192 4096 (by norm_num) h d))

/-- Row `r` of head `h`'s result at column `d`. -/
def attended (h : Fin 32) (r : Fin 16384) (d : Fin 128) : EReal := Online.attend (A.masked h r) (A.value h d)

/-- The array of results, the heads side by side. -/
def result : (⟨2, ![16384, 4096]⟩ : Shape).Idx → EReal := fun i =>
  A.attended ⟨(i 1).val / 128, by have h : (i 1).val < 4096 := (i 1).isLt; omega⟩ (i 0) ⟨(i 1).val % 128, Nat.mod_lt _ (by norm_num)⟩

/-- What the equation asks of the inputs: the scores' operands are finite, no row selects a key after it, every row
    selects some key. -/
structure Admissible : Prop where
  qkv_ne : ∀ r h d, A.qkv (ix2 r (column 11264 0 (by norm_num) h d)) ≠ ⊤ ∧ A.qkv (ix2 r (column 11264 0 (by norm_num) h d)) ≠ ⊥
  qpe_ne : ∀ r h d, A.qpe (ix2 r (column 4096 0 (by norm_num) h d)) ≠ ⊤ ∧ A.qpe (ix2 r (column 4096 0 (by norm_num) h d)) ≠ ⊥
  kv_ne : ∀ r h d, A.kv (ix2 r (column 8192 0 (by norm_num) h d)) ≠ ⊤ ∧ A.kv (ix2 r (column 8192 0 (by norm_num) h d)) ≠ ⊥
  kpe_ne : ∀ r d, A.kpe (ix2 r d) ≠ ⊤ ∧ A.kpe (ix2 r d) ≠ ⊥
  causal : ∀ r x, A.bit r x = 1#1 → x.val ≤ r.val
  some : ∀ r, ∃ x, A.bit r x = 1#1

end Inputs

/-- A sum of products of finite numbers is finite. -/
theorem sum_finite {n : ℕ} (f g : Fin n → EReal) (hf : ∀ d, f d ≠ ⊤ ∧ f d ≠ ⊥) (hg : ∀ d, g d ≠ ⊤ ∧ g d ≠ ⊥) :
    ∃ x : ℝ, ∑ d, f d * g d = (x : EReal) := by
  refine ⟨∑ d, (f d).toReal * (g d).toReal, ?_⟩
  have e : ∀ S : Finset (Fin n), ∑ d ∈ S, f d * g d = ((∑ d ∈ S, (f d).toReal * (g d).toReal : ℝ) : EReal) := by
    intro S
    induction S using Finset.cons_induction with
    | empty => simp
    | cons a S ha ih =>
      rw [Finset.sum_cons, Finset.sum_cons, ih, EReal.coe_add, EReal.coe_mul, EReal.coe_toReal (hf a).1 (hf a).2, EReal.coe_toReal (hg a).1 (hg a).2]
  exact e Finset.univ

namespace Inputs

variable {A : Inputs}

theorem bit_cases (r x : Fin 16384) : A.bit r x = 0#1 ∨ A.bit r x = 1#1 := by
  generalize A.bit r x = b
  revert b
  decide

theorem masked_one {h : Fin 32} {r x : Fin 16384} (e : A.bit r x = 1#1) : A.masked h r x = A.dot h r x := by
  unfold masked
  rw [e]
  rfl

theorem masked_zero {h : Fin 32} {r x : Fin 16384} (e : A.bit r x = 0#1) : A.masked h r x = ⊥ := by
  unfold masked
  rw [e]
  rfl

theorem Admissible.dot_real (ok : A.Admissible) (h : Fin 32) (r x : Fin 16384) : ∃ y : ℝ, A.dot h r x = (y : EReal) := by
  obtain ⟨a, ha⟩ := sum_finite _ _ (fun d => ok.qkv_ne r h d) (fun d => ok.kv_ne x h d)
  obtain ⟨b, hb⟩ := sum_finite _ _ (fun d => ok.qpe_ne r h d) (fun d => ok.kpe_ne x d)
  refine ⟨a + b, ?_⟩
  unfold dot
  rw [ha, hb, EReal.coe_add]

theorem Admissible.masked_ne_top (ok : A.Admissible) (h : Fin 32) (r x : Fin 16384) : A.masked h r x ≠ ⊤ := by
  obtain e | e := A.bit_cases r x
  · rw [masked_zero e]; exact bot_ne_top
  · obtain ⟨y, hy⟩ := ok.dot_real h r x
    rw [masked_one e, hy]; exact EReal.coe_ne_top y

theorem Admissible.masked_ne_bot (ok : A.Admissible) (h : Fin 32) (r x : Fin 16384) (e : A.bit r x = 1#1) : A.masked h r x ≠ ⊥ := by
  obtain ⟨y, hy⟩ := ok.dot_real h r x
  rw [masked_one e, hy]; exact EReal.coe_ne_bot y

/-- Adding `-∞` where the key is not selected is the masked score. -/
theorem dot_add_bias (h : Fin 32) (r x : Fin 16384) : A.dot h r x + Scalar.select (A.bit r x) (0 : EReal) ⊥ = A.masked h r x := by
  obtain e | e := A.bit_cases r x
  · rw [masked_zero e, e]
    show A.dot h r x + ⊥ = ⊥
    exact EReal.add_bot _
  · rw [masked_one e, e]
    show A.dot h r x + 0 = A.dot h r x
    exact add_zero _

end Inputs

end Cert.Attention

end
-- ==== Proof.Array.lean ====
/-
  The array of results the attention leaves: each grid point computes two heads of 512 rows, and together the points
  leave every row's softmax of its selected scores applied to the values.
-/
module

public import proofs.«01_k».proof.Proof.Point
public import proofs.«01_k».proof.Proof.Spec

@[expose] public section

set_option maxRecDepth 16384

noncomputable section

open Idealize.ShloMosaic Idealize.ShloMosaic.TcCoe Idealize.SL.Sem

namespace Cert.Attention

open Cert.KernelIdeal Cert.KernelIdeal.Gen

variable (m : (ℓ : Loc nD τ sig) → Buf (Elt Ideal) ℓ) (ρ : Dev nD → PrngReg)

/-- The arguments of a device, as the attention's inputs. -/
def inputs (c : Dev nD) : Inputs where
  qkv := m ((c : Thread nD τ).loc main_arg0)
  qpe := m ((c : Thread nD τ).loc main_arg1)
  kv := m ((c : Thread nD τ).loc main_arg2)
  kpe := m ((c : Thread nD τ).loc main_arg3)
  mask := m ((c : Thread nD τ).loc main_arg4)

/-- The array of results of a device. -/
def result (c : Dev nD) : Buf (Elt Ideal) ((c : Thread nD τ).loc main_v0) := (inputs m c).result

/-- Which blocks the windows name at point `t`: heads `t / 32`, rows `t % 32`. -/
theorem blocks (t : Fin cfg0.N) :
    (win0_0.index t 0 = t.val % 32 ∧ win0_0.index t 1 = t.val / 32) ∧ (win0_1.index t 0 = t.val % 32 ∧ win0_1.index t 1 = t.val / 32)
    ∧ (win0_2.index t 0 = 0 ∧ win0_2.index t 1 = t.val / 32) ∧ (win0_3.index t 0 = 0 ∧ win0_3.index t 1 = 0)
    ∧ (win0_4.index t 0 = 0 ∧ win0_4.index t 1 = 16 + t.val / 32) ∧ (win0_5.index t 0 = t.val % 32 ∧ win0_5.index t 1 = 0)
    ∧ (win0_6.index t 0 = t.val % 32 ∧ win0_6.index t 1 = t.val / 32) :=
  (by decide +kernel : ∀ t : Fin grid0.N, (win0_0.index t 0 = t.val % 32 ∧ win0_0.index t 1 = t.val / 32) ∧ (win0_1.index t 0 = t.val % 32 ∧ win0_1.index t 1 = t.val / 32)
    ∧ (win0_2.index t 0 = 0 ∧ win0_2.index t 1 = t.val / 32) ∧ (win0_3.index t 0 = 0 ∧ win0_3.index t 1 = 0)
    ∧ (win0_4.index t 0 = 0 ∧ win0_4.index t 1 = 16 + t.val / 32) ∧ (win0_5.index t 0 = t.val % 32 ∧ win0_5.index t 1 = 0)
    ∧ (win0_6.index t 0 = t.val % 32 ∧ win0_6.index t 1 = t.val / 32)) t

/-- The loop at point `t` goes over the chunks up to its own rows. -/
theorem trips_eq (t : Fin cfg0.N) : (k0_t1_loop (grid0.coords t)).trips = t.val % 32 + 1 :=
  (by decide +kernel : ∀ t : Fin grid0.N, (k0_t1_loop (grid0.coords t)).trips = t.val % 32 + 1) t

/-- What point `t` is run with. -/
def point (c : Dev nD) (t : Fin cfg0.N) : Point where
  c := c
  i := grid0.coords t
  arg2 := ms0_0 t
  harg2 := hs0_0 t
  arg3 := ms0_1 t
  harg3 := hs0_1 t
  arg4 := ms0_2 t
  harg4 := hs0_2 t
  arg5 := ms0_3 t
  harg5 := hs0_3 t
  arg6 := ms0_4 t
  harg6 := hs0_4 t
  arg7 := ms0_5 t
  harg7 := hs0_5 t
  arg8 := ms0_6 t
  harg8 := hs0_6 t
  arg9 := scM0_0
  harg9 := Memref.isWhole_whole _
  arg10 := scM0_1
  harg10 := Memref.isWhole_whole _
  arg11 := scM0_2
  harg11 := Memref.isWhole_whole _
  x0 := iblk m c 0 t
  x1 := iblk m c 1 t
  x2 := iblk m c 2 t
  x3 := iblk m c 3 t
  x4 := iblk m c 4 t
  x5 := iblk m c 5 t

theorem point_lt (t : Fin cfg0.N) : t.val < 512 := by
  have h := t.isLt
  have hN : cfg0.N = 512 := N_0
  omega

/-- The row of the arrays that row `r` of point `t` is. -/
def row (t : Fin cfg0.N) (r : Fin 512) : Fin 16384 := ⟨512 * (t.val % 32) + r.val, by omega⟩

/-- The head that head `h` of point `t` is. -/
def head (t : Fin cfg0.N) (h : Fin 2) : Fin 32 := ⟨2 * (t.val / 32) + h.val, by have := point_lt t; omega⟩

section Blocks

variable (c : Dev nD) (t : Fin cfg0.N) (h : Fin 2) (r : Fin 512) (x : Fin 16384) (d : Fin 128)

theorem block0 : (point m c t).x0 (ix2 r (headCol h d)) = (inputs m c).qkv (ix2 (row t r) (column 11264 0 (by norm_num) (head t h) d)) := by
  obtain ⟨⟨a0, a1⟩, _⟩ := blocks t
  show V m c main_arg0 _ = _
  refine congrArg (m ((c : Thread nD τ).loc main_arg0)) (funext fun a => Fin.ext ?_)
  match a with
  | ⟨0, _⟩ => show win0_0.index t 0 * 512 + 1 * r.val = 512 * (t.val % 32) + r.val; rw [a0]; omega
  | ⟨1, _⟩ => show win0_0.index t 1 * 256 + 1 * (128 * h.val + d.val) = 0 + 128 * (2 * (t.val / 32) + h.val) + d.val; rw [a1]; omega

theorem block1 : (point m c t).x1 (ix2 r (headCol h d)) = (inputs m c).qpe (ix2 (row t r) (column 4096 0 (by norm_num) (head t h) d)) := by
  obtain ⟨_, ⟨a0, a1⟩, _⟩ := blocks t
  show V m c main_arg1 _ = _
  refine congrArg (m ((c : Thread nD τ).loc main_arg1)) (funext fun a => Fin.ext ?_)
  match a with
  | ⟨0, _⟩ => show win0_1.index t 0 * 512 + 1 * r.val = 512 * (t.val % 32) + r.val; rw [a0]; omega
  | ⟨1, _⟩ => show win0_1.index t 1 * 256 + 1 * (128 * h.val + d.val) = 0 + 128 * (2 * (t.val / 32) + h.val) + d.val; rw [a1]; omega

theorem block2 : (point m c t).x2 (ix2 x (headCol h d)) = (inputs m c).kv (ix2 x (column 8192 0 (by norm_num) (head t h) d)) := by
  obtain ⟨_, _, ⟨a0, a1⟩, _⟩ := blocks t
  show V m c main_arg2 _ = _
  refine congrArg (m ((c : Thread nD τ).loc main_arg2)) (funext fun a => Fin.ext ?_)
  match a with
  | ⟨0, _⟩ => show win0_2.index t 0 * 16384 + 1 * x.val = x.val; rw [a0]; omega
  | ⟨1, _⟩ => show win0_2.index t 1 * 256 + 1 * (128 * h.val + d.val) = 0 + 128 * (2 * (t.val / 32) + h.val) + d.val; rw [a1]; omega

theorem block3 : (point m c t).x3 (ix2 x d) = (inputs m c).kpe (ix2 x d) := by
  obtain ⟨_, _, _, ⟨a0, a1⟩, _⟩ := blocks t
  show V m c main_arg3 _ = _
  refine congrArg (m ((c : Thread nD τ).loc main_arg3)) (funext fun a => Fin.ext ?_)
  match a with
  | ⟨0, _⟩ => show win0_3.index t 0 * 16384 + 1 * x.val = x.val; rw [a0]; omega
  | ⟨1, _⟩ => show win0_3.index t 1 * 128 + 1 * d.val = d.val; rw [a1]; omega

theorem block4 : (point m c t).x4 (ix2 x (headCol h d)) = (inputs m c).value (head t h) d x := by
  obtain ⟨_, _, _, _, ⟨a0, a1⟩, _⟩ := blocks t
  show V m c main_arg2 _ = _
  refine congrArg (m ((c : Thread nD τ).loc main_arg2)) (funext fun a => Fin.ext ?_)
  match a with
  | ⟨0, _⟩ => show win0_4.index t 0 * 16384 + 1 * x.val = x.val; rw [a0]; omega
  | ⟨1, _⟩ => show win0_4.index t 1 * 256 + 1 * (128 * h.val + d.val) = 4096 + 128 * (2 * (t.val / 32) + h.val) + d.val; rw [a1]; omega

theorem block5 (n : Fin 512) : (point m c t).x5 (ix2 r n) = (inputs m c).mask (ix2 (row t r) n) := by
  obtain ⟨_, _, _, _, _, ⟨a0, a1⟩, _⟩ := blocks t
  show V m c main_arg4 _ = _
  refine congrArg (m ((c : Thread nD τ).loc main_arg4)) (funext fun a => Fin.ext ?_)
  match a with
  | ⟨0, _⟩ => show win0_5.index t 0 * 512 + 1 * r.val = 512 * (t.val % 32) + r.val; rw [a0]; omega
  | ⟨1, _⟩ => show win0_5.index t 1 * 512 + 1 * n.val = n.val; rw [a1]; omega

/-- The biased scores of point `t` are the masked scores of its rows and heads. -/
theorem scores_masked (k : Fin (k0_t1_loop (point m c t).i).trips) (n : Fin 512) :
    (point m c t).chunks.scores h r k n = (inputs m c).masked (head t h) (row t r) (key k n) := by
  have hk : k.val < 32 := trip_lt (point m c t).i k
  rw [← Inputs.dot_add_bias]
  refine ((point m c t).scores_eq h r k n).trans ?_
  refine congrArg₂ (· + ·) (congrArg₂ (· + ·) (Finset.sum_congr (M := EReal) rfl fun d _ => ?_) (Finset.sum_congr (M := EReal) rfl fun d _ => ?_)) ?_
  · rw [block0, block2]
  · rw [block1, block3]
  · rw [block5]
    have e1 : (key k n).val / 512 = k.val := by show (512 * k.val + n.val) % 16384 / 512 = k.val; omega
    have e2 : (⟨(key k n).val % 512, Nat.mod_lt _ (by norm_num)⟩ : Fin 512) = n := Fin.ext (by show (512 * k.val + n.val) % 16384 % 512 = n.val; omega)
    unfold Inputs.bit
    rw [e1, e2]

end Blocks

theorem key_injective (n : ℕ) (hn : n ≤ 32) : ∀ c < n, ∀ c' < n, ∀ i i' : Fin 512, key c i = key c' i' → c = c' ∧ i = i' := by
  intro c hc c' hc' i i' h
  have e : (512 * c + i.val) % 16384 = (512 * c' + i'.val) % 16384 := congrArg Fin.val h
  exact ⟨by omega, Fin.ext (by omega)⟩

/-- Row `r` of head `h` of point `t` is the softmax of the row's selected scores applied to the values. -/
theorem point_attended (c : Dev nD) (ok : (inputs m c).Admissible) (t : Fin cfg0.N) (h : Fin 2) (r : Fin 512) (d : Fin 128) :
    (point m c t).out (ix2 r (headCol h d)) = (inputs m c).attended (head t h) (row t r) d := by
  have hT : (k0_t1_loop (point m c t).i).trips = t.val % 32 + 1 := trips_eq t
  obtain ⟨_, e2, e3⟩ := (point m c t).chunks.running h r d (fun k n => (inputs m c).masked (head t h) (row t r) (key k n))
    (fun k n => (inputs m c).value (head t h) d (key k n)) (fun k n => scores_masked m c t h r k n)
    (fun k n => ((point m c t).values_eq h k n d).trans (block4 m c t h (key k n) d))
    ((point m c t).max_init h r) ((point m c t).sum_init h r) ((point m c t).acc_init h r d) (point m c t).trips (le_refl _)
  refine ((point m c t).out_apply h r d).trans ?_
  rw [e2, e3]
  refine Online.running_attend key _ (key_injective _ ?_) _ _ (fun x => ok.masked_ne_top _ _ x) fun x hx => ?_
  · show (k0_t1_loop (point m c t).i).trips ≤ 32
    omega
  · obtain e | e := Inputs.bit_cases (A := inputs m c) (row t r) x
    · exact Inputs.masked_zero e
    · have hr : x.val ≤ 512 * (t.val % 32) + r.val := ok.causal _ _ e
      refine absurd (Fin.ext ?_) (hx (x.val / 512) ?_ ⟨x.val % 512, Nat.mod_lt _ (by norm_num)⟩)
      · show (512 * (x.val / 512) + x.val % 512) % 16384 = x.val
        omega
      · show x.val / 512 < (k0_t1_loop (point m c t).i).trips
        omega

/-- The block point `t` writes back. -/
theorem flushed_point (c : Dev nD) (t : Fin cfg0.N) : (Gen.dats m 0 c).flushed 6 t = (cfg0.win 6).cut (grid0.coords t) (point m c t).out := by
  rw [Value.flushed6_A]
  unfold Point.out
  rfl

/-- What point `t` writes back is its block of the results. -/
theorem flushed (c : Dev nD) (ok : (inputs m c).Admissible) (t : Fin cfg0.N) (_ : (cfg0.win 6).flush t = true) :
    (Gen.dats m 0 c).flushed 6 t = ((cfg0.win 6).blk t).view.read (Elt Ideal) (result m c) := by
  obtain ⟨_, _, _, _, _, _, ⟨o0, o1⟩⟩ := blocks t
  have ht := point_lt t
  have hw := point_attended m c ok t
  rw [flushed_point]
  generalize (point m c t).out = w at hw
  generalize hR : result m c = R
  funext i
  rw [View.read_apply]
  generalize hj : ((cfg0.win 6).blk t).view.emb i = j
  have hj0 : (j 0).val = win0_6.index t 0 * 512 + 1 * (i 0).val := by rw [← hj]; rfl
  have hj1 : (j 1).val = win0_6.index t 1 * 256 + 1 * (i 1).val := by rw [← hj]; rfl
  show w i = R j
  have h1 : (i 1).val < 256 := (i 1).isLt
  have h0 : (i 0).val < 512 := (i 0).isLt
  have hi : i = ix2 (i 0) (headCol ⟨(i 1).val / 128, by omega⟩ ⟨(i 1).val % 128, Nat.mod_lt _ (by norm_num)⟩) := by
    funext a
    match a with
    | ⟨0, _⟩ => rfl
    | ⟨1, _⟩ => exact Fin.ext (by show (i 1).val = 128 * ((i 1).val / 128) + (i 1).val % 128; omega)
  refine (congrArg w hi).trans ((hw _ _ _).trans ?_)
  rw [← hR]
  unfold result Inputs.result
  refine congr (congr (congrArg (inputs m c).attended (Fin.ext ?_)) (Fin.ext ?_)) (Fin.ext ?_)
  · show 2 * (t.val / 32) + (i 1).val / 128 = (j 1).val / 128
    rw [hj1, o1]; omega
  · show 512 * (t.val % 32) + (i 0).val = (j 0).val
    rw [hj0, o0]; omega
  · show (i 1).val % 128 = (j 1).val % 128
    rw [hj1, o1]; omega

/-- An index lies in the block of the point whose rows and heads it falls in. -/
theorem mem_block (t : Fin cfg0.N) (i : S16384x4096.Idx) (h0 : (i 0).val / 512 = t.val % 32) (h1 : (i 1).val / 256 = t.val / 32) :
    i ∈ ((cfg0.win 6).blk t).view.set := by
  obtain ⟨_, _, _, _, _, _, ⟨o0, o1⟩⟩ := blocks t
  show i ∈ ((View.whole main_v0).slice (win0_6.rect t)).set
  rw [View.set_slice_whole, Rect.mem_set_unit]
  intro a
  match a with
  | ⟨0, _⟩ => show win0_6.index t 0 * 512 ≤ (i 0 : Nat) ∧ (i 0 : Nat) < win0_6.index t 0 * 512 + 512
              rw [o0]; omega
  | ⟨1, _⟩ => show win0_6.index t 1 * 256 ≤ (i 1 : Nat) ∧ (i 1 : Nat) < win0_6.index t 1 * 256 + 256
              rw [o1]; omega

/-- The result array ends holding the results. -/
theorem final (c : Dev nD) (ok : (inputs m c).Admissible) : (Gen.dats m 0 c).arrAt 6 cfg0.N = result m c :=
  (Gen.dats m 0 c).arrAt_eq_of_cover 6 (result m c) (flushed m c ok) fun (i : S16384x4096.Idx) => by
    have hN : cfg0.N = 512 := N_0
    have h0 : (i 0).val < 16384 := (i 0).isLt
    have h1 : (i 1).val < 4096 := (i 1).isLt
    refine ⟨⟨(i 1).val / 256 * 32 + (i 0).val / 512, by rw [hN]; omega⟩, flush0_6 _, ?_⟩
    exact mem_block _ i (by show _ = ((i 1).val / 256 * 32 + (i 0).val / 512) % 32; omega)
      (by show _ = ((i 1).val / 256 * 32 + (i 0).val / 512) / 32; omega)

end Cert.Attention

end
-- ==== Proof.Reference.lean ====
/-
  The reference's attention read at an index: each row's softmax of its selected scores applied to the values.
-/
module

public import proofs.«01_k».proof.Proof.Spec
public import proofs.«01_k».proof.Proof.Block
public import proofs.«01_k».proof.Proof.Gen.ReferenceIdeal.Run
public import proofs.«01_k».proof.Proof.Gen.ReferenceIdeal.Read
public import Idealize.ShloMosaic.Lib.KernelVsHost
public import Idealize.ShloMosaic.Lib.Affine
public import Idealize.ShloMosaic.Lib.DynamicIndex

@[expose] public section

set_option maxRecDepth 16384

noncomputable section

open Idealize.ShloMosaic Idealize.ShloMosaic.TcCoe Idealize.SL.Sem

namespace Cert.Attention

open Cert.ReferenceIdeal Cert.ReferenceIdeal.Gen Cert.ReferenceIdeal.Read

/-- The reference's maximum over the keys, at a head and a row. -/
theorem hostMax_apply (v : FVec Ideal S32x16384x16384 .f32) (hs : S32x16384x16384.ReducesTo [2] S32x16384) (hu : 0 < S_.numel) (h : Fin 32)
    (r : Fin 16384) : Host.reduce FloatOps.maximumf v (constant S_ .f32 0xFF800000#32) hs hu (ix2 h r)
      = Finset.univ.sup (fun n : Fin 16384 => (v (ix3 h r n) : EReal)) := by
  have hr : S32x16384x16384.Reduces [2] S32x16384 := by decide
  refine (congrFun (hostReduce_maximumf_eq_multiReduction (F := Ideal) (φ := .f32) v 0xFF800000#32 hs hu hr (.inl rfl) rfl) (ix2 h r)).trans ?_
  refine (Ideal.multiReduction_maximumf_single v _ hr _ _ (ix2 h r)).trans ?_
  rw [show FloatOps.ofBits (F := Ideal) .f32 0xFF800000#32 = (⊥ : EReal) from ofBits_neg_inf]
  show Finset.univ.fold max ⊥ _ = Finset.univ.fold max ⊥ _
  refine Finset.fold_congr (op := max) (f := v ∘ hr.lift (ix2 h r)) fun n _ => ?_
  refine congrArg v (funext fun a => ?_)
  match a with
  | ⟨0, _⟩ => rfl
  | ⟨1, _⟩ => rfl
  | ⟨2, _⟩ => rfl

variable (x0 : (⟨S16384x11264, .bf16⟩ : BufTy).Contents (Elt Ideal)) (x1 : (⟨S16384x4096, .bf16⟩ : BufTy).Contents (Elt Ideal))
  (x2 : (⟨S16384x8192, .bf16⟩ : BufTy).Contents (Elt Ideal)) (x3 : (⟨S16384x128, .bf16⟩ : BufTy).Contents (Elt Ideal))
  (x4 : (⟨S16384x512, .i32⟩ : BufTy).Contents (Elt Ideal))

/-- The reference's arguments, as the attention's inputs. -/
def refInputs : Inputs := ⟨x0, x1, x2, x3, x4⟩

variable (h : Fin 32) (r x : Fin 16384) (d : Fin 128)

theorem ref_query (j : S16384x32x128.Idx) (e0 : (j 0).val = r.val) (e1 : (j 1).val = h.val) (e2 : (j 2).val = d.val) :
    val_main_v2 (F := Ideal) x0 j = (refInputs x0 x1 x2 x3 x4).qkv (ix2 r (column 11264 0 (by norm_num) h d)) := by
  rw [val_main_v2_apply, val_main_v1_apply, val_main_v0_apply]
  refine congrArg x0 (funext fun a => Fin.ext ?_)
  match a with
  | ⟨0, _⟩ => show (((j 0).val * 32 + (j 1).val) * 128 + (j 2).val) / 4096 = r.val; rw [e0, e1, e2]; omega
  | ⟨1, _⟩ => show (((j 0).val * 32 + (j 1).val) * 128 + (j 2).val) % 4096 = 0 + 128 * h.val + d.val; rw [e0, e1, e2]; omega

theorem ref_rotated (j : S16384x32x128.Idx) (e0 : (j 0).val = r.val) (e1 : (j 1).val = h.val) (e2 : (j 2).val = d.val) :
    val_main_v4 (F := Ideal) x1 j = (refInputs x0 x1 x2 x3 x4).qpe (ix2 r (column 4096 0 (by norm_num) h d)) := by
  rw [val_main_v4_apply, val_main_v3_apply]
  refine congrArg x1 (funext fun a => Fin.ext ?_)
  match a with
  | ⟨0, _⟩ => show (((j 0).val * 32 + (j 1).val) * 128 + (j 2).val) / 4096 = r.val; rw [e0, e1, e2]; omega
  | ⟨1, _⟩ => show (((j 0).val * 32 + (j 1).val) * 128 + (j 2).val) % 4096 = 0 + 128 * h.val + d.val; rw [e0, e1, e2]; omega

theorem ref_key (j : S16384x32x128.Idx) (e0 : (j 0).val = r.val) (e1 : (j 1).val = h.val) (e2 : (j 2).val = d.val) :
    val_main_v7 (F := Ideal) x2 j = (refInputs x0 x1 x2 x3 x4).kv (ix2 r (column 8192 0 (by norm_num) h d)) := by
  rw [val_main_v7_apply, val_main_v6_apply, val_main_v5_apply]
  refine congrArg x2 (funext fun a => Fin.ext ?_)
  match a with
  | ⟨0, _⟩ => show (((j 0).val * 32 + (j 1).val) * 128 + (j 2).val) / 4096 = r.val; rw [e0, e1, e2]; omega
  | ⟨1, _⟩ => show (((j 0).val * 32 + (j 1).val) * 128 + (j 2).val) % 4096 = 0 + 128 * h.val + d.val; rw [e0, e1, e2]; omega

theorem ref_value (j : S16384x32x128.Idx) (e0 : (j 0).val = x.val) (e1 : (j 1).val = h.val) (e2 : (j 2).val = d.val) :
    val_main_v10 (F := Ideal) x2 j = (refInputs x0 x1 x2 x3 x4).value h d x := by
  rw [val_main_v10_apply, val_main_v9_apply, val_main_v8_apply]
  refine congrArg x2 (funext fun a => Fin.ext ?_)
  match a with
  | ⟨0, _⟩ => show (((j 0).val * 32 + (j 1).val) * 128 + (j 2).val) / 4096 = x.val; rw [e0, e1, e2]; omega
  | ⟨1, _⟩ => show 4096 + (((j 0).val * 32 + (j 1).val) * 128 + (j 2).val) % 4096 = 4096 + 128 * h.val + d.val; rw [e0, e1, e2]; omega

/-- The reference's score. -/
theorem ref_score : val_main_v15 (F := Ideal) x0 x1 x2 x3 (ix3 h r x) = (refInputs x0 x1 x2 x3 x4).dot h r x := by
  rw [val_main_v15_apply, val_main_v14_apply, val_main_v11_apply, val_main_v13_apply]
  refine congrArg₂ (· + ·) (Finset.sum_congr (M := EReal) rfl fun d _ => ?_) (Finset.sum_congr (M := EReal) rfl fun d _ => ?_)
  · exact congrArg₂ (· * ·) (ref_query x0 x1 x2 x3 x4 h r d _ rfl rfl rfl) (ref_key x0 x1 x2 x3 x4 h x d _ rfl rfl rfl)
  · refine (EReal.mul_comm _ _).trans (congrArg₂ (· * ·) (ref_rotated x0 x1 x2 x3 x4 h r d _ rfl rfl rfl) ?_)
    rw [val_main_v12_apply]
    refine congrArg x3 (funext fun a => Fin.ext ?_)
    match a with
    | ⟨0, _⟩ => rfl
    | ⟨1, _⟩ => rfl

/-- The reference's selection bit. -/
theorem ref_bit : val_main_v27 (F := Ideal) x4 (ix2 r x) = (refInputs x0 x1 x2 x3 x4).bit r x := by
  rw [val_main_v27_apply, val_main_v26_apply, val_main_v24_apply, val_main_v22_apply, val_main_v18_apply, val_main_v17_apply, val_main_v21_apply,
    val_main_v20_apply, val_main_v19_apply, val_main_v23_apply, val_main_c_apply, val_main_v25_apply, val_main_c_0_apply]
  have hx : x.val / 512 < 32 := by omega
  have e1 : (r.val * 16384 + x.val) / 512 % 32 = x.val / 512 := by omega
  have e2 : idx_main_v17 (idx_main_v18 (idx_main_v27 (ix2 r x))) = ix2 r ⟨x.val % 512, Nat.mod_lt _ (by norm_num)⟩ := by
    funext a
    match a with
    | ⟨0, _⟩ => exact Fin.ext (by show (r.val * 16384 + x.val) / 16384 = r.val; omega)
    | ⟨1, _⟩ => exact Fin.ext (by show (r.val * 16384 + x.val) % 512 = x.val % 512; omega)
  rw [e2]
  show IntOp.cmpi .eq (IntOp.andi (IntOp.shrui .host (x4 (ix2 r ⟨x.val % 512, _⟩)) (BitVec.ofNat 32 ((r.val * 16384 + x.val) / 512 % 32))) 1#32) 1#32 = _
  rw [e1]
  unfold Inputs.bit Scalar.cmpi Scalar.andi Scalar.shrui IntOp.shrui
  have e3 : (BitVec.ofNat 32 (x.val / 512)).toNat < 32 := by rw [BitVec.toNat_ofNat]; omega
  rw [if_pos e3, if_pos e3]
  rfl

variable (ok : (refInputs x0 x1 x2 x3 x4).Admissible)
include ok

/-- With no key selected after its row the causal test changes nothing. -/
theorem ref_selected : val_main_v33 (F := Ideal) x4 (ix2 r x) = (refInputs x0 x1 x2 x3 x4).bit r x := by
  rw [val_main_v33_apply, ref_bit x0 x1 x2 x3 x4 r x]
  obtain e | e := Inputs.bit_cases (A := refInputs x0 x1 x2 x3 x4) r x
  · rw [e]
    generalize val_main_v32 (F := Ideal) (ix2 r x) = b
    revert b
    decide
  · rw [e]
    refine IntOp.andi_eq_one.2 ⟨rfl, ?_⟩
    rw [val_main_v32_apply, val_main_v30_apply, val_main_v31_apply, val_main_v28_apply, val_main_v29_apply, val_main_v16_apply, val_main_v16_apply]
    refine IntOp.cmpi_sle.2 ?_
    show (BitVec.ofNat 32 x.val).toInt ≤ (BitVec.ofNat 32 r.val).toInt
    rw [toInt_ofNat_of_lt (by omega), toInt_ofNat_of_lt (by omega)]
    exact_mod_cast ok.causal r x e

/-- The reference's masked score. -/
theorem ref_masked : val_main_v35 (F := Ideal) x0 x1 x2 x3 x4 (ix3 h r x) = (refInputs x0 x1 x2 x3 x4).masked h r x := by
  rw [val_main_v35_apply, val_main_call0_v1_apply, val_main_v34_apply, val_main_call0_v2_apply, val_main_call0_v0_apply, val_main_cst_apply,
    ref_score x0 x1 x2 x3 x4 h r x]
  have e : idx_main_v34 (idx_main_call0_v1 (ix3 h r x)) = ix2 r x := by
    funext a
    match a with
    | ⟨0, _⟩ => rfl
    | ⟨1, _⟩ => rfl
  rw [e, ref_selected x0 x1 x2 x3 x4 r x ok]
  unfold Inputs.masked
  exact congrArg (Scalar.select _ _) ofBits_neg_inf

/-- The reference's row maximum. -/
theorem ref_max : val_main_v38 (F := Ideal) x0 x1 x2 x3 x4 (ix2 h r) = Finset.univ.sup ((refInputs x0 x1 x2 x3 x4).masked h r) := by
  rw [val_main_v38_apply, val_main_v37_apply, val_main_cst_2_apply]
  have e : val_main_v36 (F := Ideal) x0 x1 x2 x3 x4 (ix2 h r) = Finset.univ.sup ((refInputs x0 x1 x2 x3 x4).masked h r) := by
    unfold val_main_v36 val_main_cst_1
    generalize hv : val_main_v35 (F := Ideal) x0 x1 x2 x3 x4 = v
    refine (hostMax_apply v _ _ h r).trans (congrArg (Finset.univ.sup (α := EReal)) (funext fun n => ?_))
    rw [← hv]
    exact ref_masked x0 x1 x2 x3 x4 h r n ok
  rw [e]
  exact (congrArg (max · _) ofBits_neg_inf).trans (max_eq_right bot_le)

/-- The reference's weight before division. -/
theorem ref_weight : val_main_v42 (F := Ideal) x0 x1 x2 x3 x4 (ix3 h r x)
    = Ideal.exp ((refInputs x0 x1 x2 x3 x4).masked h r x - Finset.univ.sup ((refInputs x0 x1 x2 x3 x4).masked h r)) := by
  rw [val_main_v42_apply, val_main_v41_apply, val_main_v40_apply, val_main_v39_apply, ref_masked x0 x1 x2 x3 x4 h r x ok]
  have e : idx_main_v39 (idx_main_v40 (ix3 h r x)) = ix2 h r := by
    funext a
    match a with
    | ⟨0, _⟩ => rfl
    | ⟨1, _⟩ => rfl
  rw [e, ref_max x0 x1 x2 x3 x4 h r ok]
  rfl

/-- The reference's sum of weights. -/
theorem ref_total : val_main_v45 (F := Ideal) x0 x1 x2 x3 x4 (ix3 h r x)
    = ∑ y, Ideal.exp ((refInputs x0 x1 x2 x3 x4).masked h r y - Finset.univ.sup ((refInputs x0 x1 x2 x3 x4).masked h r)) := by
  rw [val_main_v45_apply, val_main_v44_apply, val_main_v43_apply, val_main_cst_3_apply]
  refine (congrArg (· + _) (Ideal.ofBits_zero .f32)).trans ((zero_add _).trans ?_)
  refine Finset.sum_congr (M := EReal) rfl fun y _ => ?_
  refine Eq.trans ?_ (ref_weight x0 x1 x2 x3 x4 h r y ok)
  refine congrArg (val_main_v42 (F := Ideal) x0 x1 x2 x3 x4) (funext fun a => ?_)
  match a with
  | ⟨0, _⟩ => rfl
  | ⟨1, _⟩ => rfl
  | ⟨2, _⟩ => rfl

/-- The reference's weight: zero where the key is not selected. -/
theorem ref_share : val_main_v47 (F := Ideal) x0 x1 x2 x3 x4 (ix3 h r x)
    = if (refInputs x0 x1 x2 x3 x4).masked h r x = ⊥ then 0 else
      Ideal.div (Ideal.exp ((refInputs x0 x1 x2 x3 x4).masked h r x - Finset.univ.sup ((refInputs x0 x1 x2 x3 x4).masked h r)))
        (∑ y, Ideal.exp ((refInputs x0 x1 x2 x3 x4).masked h r y - Finset.univ.sup ((refInputs x0 x1 x2 x3 x4).masked h r))) := by
  rw [val_main_v47_apply, val_main_call1_v1_apply, val_main_v34_apply, val_main_call1_v2_apply, val_main_call1_v0_apply, val_main_cst_4_apply,
    val_main_v46_apply, ref_weight x0 x1 x2 x3 x4 h r x ok, ref_total x0 x1 x2 x3 x4 h r x ok]
  have e : idx_main_v34 (idx_main_call1_v1 (ix3 h r x)) = ix2 r x := by
    funext a
    match a with
    | ⟨0, _⟩ => rfl
    | ⟨1, _⟩ => rfl
  rw [e, ref_selected x0 x1 x2 x3 x4 r x ok]
  obtain e | e := Inputs.bit_cases (A := refInputs x0 x1 x2 x3 x4) r x
  · rw [if_pos (Inputs.masked_zero e), e]
    exact Ideal.ofBits_zero .f32
  · rw [if_neg (ok.masked_ne_bot h r x e), e]
    exact Ideal.hostDivf_def _ _

/-- The reference's result at row `r`, column `d` of head `h`. -/
theorem ref_attended (j : S32x128x16384.Idx) (e0 : (j 0).val = h.val) (e1 : (j 1).val = d.val) (e2 : (j 2).val = r.val) :
    val_main_v48 (F := Ideal) x0 x1 x2 x3 x4 j = (refInputs x0 x1 x2 x3 x4).attended h r d := by
  obtain ⟨y, hy⟩ := ok.some r
  rw [val_main_v48_apply]
  refine Eq.trans ?_ (Online.weighted_attend ((refInputs x0 x1 x2 x3 x4).masked h r) ((refInputs x0 x1 x2 x3 x4).value h d) (fun x => ok.masked_ne_top h r x) y
    (ok.masked_ne_bot h r y hy) (fun x => val_main_v47 (F := Ideal) x0 x1 x2 x3 x4 (ix3 h r x)) fun x => ref_share x0 x1 x2 x3 x4 h r x ok)
  refine Finset.sum_congr (M := EReal) rfl fun x _ => (EReal.mul_comm _ _).trans (congrArg₂ (· * ·) ?_ (ref_value x0 x1 x2 x3 x4 h x d _ rfl e0 e1))
  refine congrArg (val_main_v47 (F := Ideal) x0 x1 x2 x3 x4) (funext fun a => Fin.ext ?_)
  match a with
  | ⟨0, _⟩ => exact e0
  | ⟨1, _⟩ => exact e2
  | ⟨2, _⟩ => rfl

/-- The reference's array of results. -/
theorem ref_result : val_main_v51 (F := Ideal) x0 x1 x2 x3 x4 = (refInputs x0 x1 x2 x3 x4).result := by
  funext i
  rw [val_main_v51_apply, val_main_v50_apply, val_main_v49_apply]
  have h0 : (i 0).val < 16384 := (i 0).isLt
  have h1 : (i 1).val < 4096 := (i 1).isLt
  unfold Inputs.result
  refine ref_attended x0 x1 x2 x3 x4 _ _ _ ok _ ?_ ?_ ?_
  · show ((i 0).val * 4096 + (i 1).val) / 128 % 32 = (i 1).val / 128
    omega
  · show ((i 0).val * 4096 + (i 1).val) % 128 = (i 1).val % 128
    omega
  · show ((i 0).val * 4096 + (i 1).val) / 4096 = (i 0).val
    omega

end Cert.Attention

end
-- ==== Proof.Precondition.lean ====
/-
  What the precondition says of the attention's inputs: the scores' arguments are finite, no key is selected after its row, and every row has a key.
-/
module

public import proofs.«01_k».proof.Proof.Reference
public import proofs.«01_k».proof.Proof.Gen.Pre_attended
public import Idealize.ShloMosaic.Lib.ReduceAll

@[expose] public section

set_option maxRecDepth 16384

noncomputable section

open Idealize.ShloMosaic Idealize.ShloMosaic.TcCoe Idealize.SL.Sem

namespace Cert.Attention

open Cert.Pre_attended Cert.Pre_attended.Facts

theorem ofBits_inf : Ideal.ofBits .f32 0x7F800000#32 = (⊤ : EReal) := by
  show Ideal.ieee 8 23 (0x7F800000#32) = ⊤
  unfold Ideal.ieee
  rw [if_pos (by decide), if_pos (by decide), if_neg (by decide)]

/-- An array with no axes has one index. -/
theorem one_index : Subsingleton S_.Idx := ⟨fun a b => funext fun k => k.elim0⟩

/-- A number whose absolute value is below `+∞` is neither infinity. -/
theorem finite_of_abs (x : EReal) (e : Ideal.cmp .olt (max x (-x)) ⊤ = 1#1) : x ≠ ⊤ ∧ x ≠ ⊥ := by
  have e' : max x (-x) < ⊤ := by
    by_contra hn
    have : Ideal.cmp .olt (max x (-x)) ⊤ = 0#1 := by
      show BitVec.ofBool (decide (max x (-x) < ⊤)) = 0#1
      rw [decide_eq_false hn]
      rfl
    rw [this] at e
    exact absurd e (by decide)
  obtain ⟨a, b⟩ := max_lt_iff.1 e'
  refine ⟨a.ne, fun h => ?_⟩
  rw [h, EReal.neg_bot] at b
  exact lt_irrefl _ b

theorem finite_congr {a b : EReal} (h : b = a) (ha : a ≠ ⊤ ∧ a ≠ ⊥) : b ≠ ⊤ ∧ b ≠ ⊥ := h ▸ ha

/-- The test of an array for finite elements, read at one of them. -/
theorem finite_of_test {s : Shape} (x : FVec Ideal s .f32) (hb : S_.BroadcastsInDim s ![]) (i : s.Idx)
    (e : cmpf .olt (Host.absf x) (broadcastInDim s ![] hb (constant (F := Ideal) S_ .f32 0x7F800000#32)) i = 1#1) :
    (x i : EReal) ≠ ⊤ ∧ (x i : EReal) ≠ ⊥ := by
  refine finite_of_abs (x i) (Eq.trans ?_ e)
  rw [← ofBits_inf]
  rfl

/-- A fold by «or» from 0 that is 1 met a 1. -/
theorem foldl_ori {ι : Type} (f : ι → BitVec 1) : ∀ (l : List ι) (b : BitVec 1), l.foldl (fun r n => IntOp.ori r (f n)) b = 1#1 → b = 1#1 ∨ ∃ n ∈ l, f n = 1#1
  | [], b, e => .inl e
  | a :: l, b, e => by
    obtain h | ⟨n, hn, h⟩ := foldl_ori f l _ e
    · obtain h | h := IntOp.ori_eq_one.1 h
      · exact .inl h
      · exact .inr ⟨a, List.mem_cons_self .., h⟩
    · exact .inr ⟨n, List.mem_cons_of_mem _ hn, h⟩

/-- A reduce by «or» from 0 that is 1 at an index met a 1 among the elements reduced into it. -/
theorem reduce_ori {s t u : Shape} {axes : List (Fin s.rank)} (x : s.Idx → BitVec 1) (init : u.Idx → BitVec 1) (h : s.ReducesTo axes t) (hu : 0 < u.numel)
    (h0 : init (Shape.Idx.first hu) = 0#1) (j : t.Idx) (e : Host.reduce IntOp.ori x init h hu j = 1#1) : ∃ i : s.Idx, h.drop i = j ∧ x i = 1#1 := by
  rw [Host.reduce_eq_foldl] at e
  obtain e | ⟨i, hi, e⟩ := foldl_ori x _ _ e
  · rw [h0] at e
    exact absurd e (by decide)
  · exact ⟨i, by simpa using (List.mem_filter.1 hi).2, e⟩

variable (x0 : FVec Ideal S16384x11264 .bf16) (x1 : FVec Ideal S16384x4096 .bf16) (x2 : FVec Ideal S16384x8192 .bf16) (x3 : FVec Ideal S16384x128 .bf16)
  (x4 : IVec S16384x512 32)

/-- The test that no key is selected after its row, read at a row and a key. -/
theorem causal_of_test (r x : Fin 16384)
    (e : IntOp.ori (~~~ ((refInputs x0 x1 x2 x3 x4).bit r x)) (IntOp.cmpi .sle (BitVec.ofNat 32 x.val) (BitVec.ofNat 32 r.val)) = 1#1)
    (hb : (refInputs x0 x1 x2 x3 x4).bit r x = 1#1) : x.val ≤ r.val := by
  obtain h | h := IntOp.ori_eq_one.1 e
  · rw [hb] at h
    exact absurd h (by decide)
  · have := IntOp.cmpi_sle.1 h
    rw [toInt_ofNat_of_lt (by omega), toInt_ofNat_of_lt (by omega)] at this
    exact_mod_cast this

/-- Inputs of which the precondition holds are admissible. -/
theorem admissible (e : Cert.Pre_attended.fn (F := Ideal) x0 x1 x2 x3 x4 = fun _ => 1#1) : (refInputs x0 x1 x2 x3 x4).Admissible := by
  have := one_index
  have e0 := congrFun e (fun k => k.elim0)
  unfold Cert.Pre_attended.fn Cert.Pre_attended.fn_part1 Cert.Pre_attended.fn_part2 at e0
  obtain ⟨e0, some⟩ := IntOp.andi_eq_one.1 e0
  obtain ⟨e0, causal⟩ := IntOp.andi_eq_one.1 e0
  obtain ⟨e0, kpe⟩ := IntOp.andi_eq_one.1 e0
  obtain ⟨e0, kv⟩ := IntOp.andi_eq_one.1 e0
  obtain ⟨qkv, qpe⟩ := IntOp.andi_eq_one.1 e0
  have hs : ∀ r x : Fin 16384, _ := fun r x => Host.reduce_andi_all _ _ _ _ _ causal (ix2 r x)
  have ho : ∀ r : Fin 16384, _ := fun r => reduce_ori _ _ _ _ rfl _ (Host.reduce_andi_all _ _ _ _ _ some (ix1 r))
  refine ⟨fun r h d => ?_, fun r h d => ?_, fun r h d => ?_, fun r d => ?_, fun r x => ?_, fun r => ?_⟩
  · refine finite_congr ?_ (finite_of_test _ _ _ (Host.reduce_andi_all _ _ _ _ _ qkv (ix2 r (column 4096 0 (by norm_num) h d))))
    refine congrArg x0 (funext fun a => Fin.ext ?_)
    match a with
    | ⟨0, _⟩ => exact (Nat.zero_add _).symm
    | ⟨1, _⟩ => exact (Nat.zero_add _).symm
  · exact finite_of_test _ _ _ (Host.reduce_andi_all _ _ _ _ _ qpe (ix2 r (column 4096 0 (by norm_num) h d)))
  · refine finite_congr ?_ (finite_of_test _ _ _ (Host.reduce_andi_all _ _ _ _ _ kv (ix2 r (column 4096 0 (by norm_num) h d))))
    refine congrArg x2 (funext fun a => Fin.ext ?_)
    match a with
    | ⟨0, _⟩ => exact (Nat.zero_add _).symm
    | ⟨1, _⟩ => exact (Nat.zero_add _).symm
  · exact finite_of_test _ _ _ (Host.reduce_andi_all _ _ _ _ _ kpe (ix2 r d))
  · refine causal_of_test x0 x1 x2 x3 x4 r x ?_
    rw [← ref_bit x0 x1 x2 x3 x4 r x]
    exact hs r x
  · obtain ⟨i, hi, h⟩ := ho r
    have hr : (i 0).val = r.val := by
      have := congrArg (fun j : S16384.Idx => (j 0).val) hi
      exact this
    refine ⟨i 1, ?_⟩
    rw [← ref_bit x0 x1 x2 x3 x4 r (i 1)]
    refine Eq.trans ?_ h
    refine congrArg (Cert.ReferenceIdeal.Read.val_main_v27 (F := Ideal) x4) (funext fun a => Fin.ext ?_)
    match a with
    | ⟨0, _⟩ => exact hr.symm
    | ⟨1, _⟩ => rfl

end Cert.Attention

end
-- ==== Proof.Attention.lean ====
/-
  The attention and its reference end with equal results.
-/
module

public import proofs.«01_k».proof.Defs
public import proofs.«01_k».proof.Proof.Array
public import proofs.«01_k».proof.Proof.Precondition

@[expose] public section

set_option maxRecDepth 16384

noncomputable section

open Idealize.ShloMosaic Idealize.ShloMosaic.TcCoe Idealize.SL.Sem

namespace Cert.Attention

open Cert.KernelIdeal Cert.KernelIdeal.Gen

/-- `Kernel` and its reference end with equal results whenever the precondition holds. -/
theorem algebraic : Cert.algebraic_KernelIdeal_ReferenceIdeal_pre_attended := by
  intro m ρ m' ρ' hpre hagree
  have ok : ∀ c, (inputs m c).Admissible := fun c => admissible _ _ _ _ _ (hpre c)
  refine ⟨fun c => result m c, (θ_run defs _ _).mono (fun r h c => ⟨(h c).1.trans (final m c (ok c)), (h c).2⟩) (Value.run_blocks m ρ), ?_⟩
  refine (θ_run _ _ _).mono (fun r h c => ⟨(h c).1.trans ?_, (h c).2⟩) (Cert.ReferenceIdeal.Value.run (F := Ideal) m' ρ')
  obtain ⟨a0, a1, a2, a3, a4⟩ := hagree c
  refine (Cert.ReferenceIdeal.Read.val_main_v51_eq _ _).trans ?_
  rw [a0, a1, a2, a3, a4]
  exact ref_result _ _ _ _ _ (ok c)

end Cert.Attention

end
-- ==== Proof.FfnIn.lean ====
/-
  `Kernel2` at the extended reals: the first projection of the gated feed-forward layer with its gate.  A
  [16384, 4096] array is multiplied by the two halves of a [4096, 11264] array, in tiles of 1024 rows and 512 columns of
  each half, and the array it leaves holds at (r, c) the product `g · logistic g · u` of the two sums `g` (the first
  half's column c) and `u` (the second half's), which is what the reference's one product, split in two, gives.
-/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.MatmulPlain
public import Idealize.ShloMosaic.Lib.Pipeline.Value
public import Idealize.ShloMosaic.Lib.Pointwise
public import Idealize.ShloMosaic.Lib.Tactic
public import Idealize.ShloMosaic.Lib.IdealHost

@[expose] public section

set_option maxRecDepth 16384

noncomputable section

open Idealize.ShloMosaic Idealize.ShloMosaic.TcCoe Idealize.SL.Sem

namespace Cert.FfnIn

open Cert.Kernel2Ideal Cert.Kernel2Ideal.Gen

variable (m : (ℓ : Loc nD τ sig) → Buf (Elt Ideal) ℓ) (ρ : Dev nD → PrngReg)

theorem origin : (![0, 0] : Fin 2 → Nat) = fun _ => 0 := funext fun a => by fin_cases a <;> rfl

/-- The gate: `g · logistic g · u`. -/
def gate (g u : EReal) : EReal := g * Ideal.logistic g * u

/-- One entry of the product of two tiles: the sum along the contracted axis. -/
theorem tile_sum (x : Vec Ideal S1024x4096 .bf16) (w : Vec Ideal S4096x512 .bf16) (r : Fin 1024) (c : Fin 512) :
    matmul (F := Ideal) (φ₁ := .bf16) (φ₂ := .bf16) dot_S1024x4096_S4096x512_S1024x512_1_0_0_1_n_n none x w (constant S1024x512 .f32 0x00000000#32) (ValueIdx.ix2 r c)
      = ∑ k : Fin 4096, x (ix2 r k) * w (ix2 k c) :=
  (Ideal.matmul_plain_apply none x w _ r c).trans ((congrArg (· + _) (Ideal.ofBits_zero .f32)).trans ((zero_add _).trans
    (Finset.sum_congr rfl fun k _ => rfl)))

/-- One tile: the gate of the two products. -/
theorem tile_apply (x : Vec Ideal S1024x4096 .bf16) (w w' : Vec Ideal S4096x512 .bf16) (i : S1024x512.Idx) :
    out0_3 x w w' i = gate (∑ k : Fin 4096, x (ix2 (i 0) k) * w (ix2 k (i 1))) (∑ k : Fin 4096, x (ix2 (i 0) k) * w' (ix2 k (i 1))) := by
  unfold out0_3
  rw [View.canon_unit_zero origin]
  unfold k0_pay1
  simp only [View.ld_unit_zero (S := S1024x4096) origin, View.ld_unit_zero (S := S4096x512) origin]
  rw [eq_ix2 i]
  exact congrArg₂ gate (tile_sum x w (i 0) (i 1)) (tile_sum x w' (i 0) (i 1))

/-- Column `c` of the second half of an array twice as wide. -/
def upper (c : Fin 5632) : Fin 11264 := ⟨5632 + c.val, by omega⟩

/-- Column `c` of the first half. -/
def lower (c : Fin 5632) : Fin 11264 := ⟨c.val, by omega⟩

/-- The gated product of two arrays of these sizes. -/
def gated (x : S16384x4096.Idx → EReal) (w : S4096x11264.Idx → EReal) : S16384x5632.Idx → EReal :=
  fun i => gate (∑ k : Fin 4096, x (ix2 (i 0) k) * w (ix2 k (lower (i 1)))) (∑ k : Fin 4096, x (ix2 (i 0) k) * w (ix2 k (upper (i 1))))

/-- The gated product of the two arguments, as contents of the result array. -/
def result (c : Dev nD) : Buf (Elt Ideal) ((c : Thread nD τ).loc main_v0) :=
  gated (m ((c : Thread nD τ).loc main_arg0)) (m ((c : Thread nD τ).loc main_arg1))

/-- Which block each operand's window names at point `t`: row block `t / 11`, column block `t % 11` of each half. -/
theorem blocks (t : Fin cfg0.N) : (win0_0.index t 0 = t.val / 11 ∧ win0_0.index t 1 = 0 ∧ win0_1.index t 0 = 0 ∧ win0_1.index t 1 = t.val % 11)
    ∧ (win0_2.index t 0 = 0 ∧ win0_2.index t 1 = t.val % 11 + 11) ∧ win0_3.index t 0 = t.val / 11 ∧ win0_3.index t 1 = t.val % 11 :=
  (by decide +kernel : ∀ t : Fin grid0.N, (win0_0.index t 0 = t.val / 11 ∧ win0_0.index t 1 = 0 ∧ win0_1.index t 0 = 0 ∧ win0_1.index t 1 = t.val % 11)
    ∧ (win0_2.index t 0 = 0 ∧ win0_2.index t 1 = t.val % 11 + 11) ∧ win0_3.index t 0 = t.val / 11 ∧ win0_3.index t 1 = t.val % 11) t

/-- What point `t` writes back is its block of the gated product. -/
theorem flushed (c : Dev nD) (t : Fin cfg0.N) (_ : (cfg0.win 3).flush t = true) :
    (Gen.dats m 0 c).flushed 3 t = ((cfg0.win 3).blk t).view.read (Elt Ideal) (result m c) := by
  obtain ⟨⟨a0, a1, b0, b1⟩, ⟨d0, d1⟩, o0, o1⟩ := blocks t
  rw [Value.flushed3]
  funext i
  rw [View.read_apply]
  refine (tile_apply _ _ _ i).trans ?_
  show _ = result m c _
  unfold result gated
  have left : ∀ (r : Fin 16384), r.val = win0_3.index t 0 * 1024 + 1 * (i 0).val → ∀ k : Fin 4096,
      iblk m c 0 t (ix2 (i 0) k) = (m ((c : Thread nD τ).loc main_arg0) : S16384x4096.Idx → EReal) (ix2 r k) := fun r hr k => by
    show V m c main_arg0 _ = _
    refine congrArg (m ((c : Thread nD τ).loc main_arg0)) (funext fun a => Fin.ext ?_)
    match a with
    | ⟨0, _⟩ => show win0_0.index t 0 * 1024 + 1 * (i 0).val = r.val; rw [hr, a0, o0]
    | ⟨1, _⟩ => show win0_0.index t 1 * 4096 + 1 * k.val = k.val; rw [a1]; omega
  refine congrArg₂ gate (Finset.sum_congr (M := EReal) rfl fun k _ => congrArg₂ (· * ·) (left _ rfl k) ?_)
    (Finset.sum_congr (M := EReal) rfl fun k _ => congrArg₂ (· * ·) (left _ rfl k) ?_)
  · show V m c main_arg1 _ = _
    refine congrArg (m ((c : Thread nD τ).loc main_arg1)) (funext fun a => Fin.ext ?_)
    match a with
    | ⟨0, _⟩ => show win0_1.index t 0 * 4096 + 1 * k.val = k.val; rw [b0]; omega
    | ⟨1, _⟩ => show win0_1.index t 1 * 512 + 1 * (i 1).val = win0_3.index t 1 * 512 + 1 * (i 1).val; rw [b1, o1]
  · show V m c main_arg1 _ = _
    refine congrArg (m ((c : Thread nD τ).loc main_arg1)) (funext fun a => Fin.ext ?_)
    match a with
    | ⟨0, _⟩ => show win0_2.index t 0 * 4096 + 1 * k.val = k.val; rw [d0]; omega
    | ⟨1, _⟩ => show win0_2.index t 1 * 512 + 1 * (i 1).val = 5632 + (win0_3.index t 1 * 512 + 1 * (i 1).val); rw [d1, o1]; omega

/-- An index lies in the block of the point whose row and column blocks it falls in. -/
theorem mem_block (t : Fin cfg0.N) (i : S16384x5632.Idx) (h0 : (i 0).val / 1024 = t.val / 11) (h1 : (i 1).val / 512 = t.val % 11) :
    i ∈ ((cfg0.win 3).blk t).view.set := by
  obtain ⟨_, _, o0, o1⟩ := blocks t
  show i ∈ ((View.whole main_v0).slice (win0_3.rect t)).set
  rw [View.set_slice_whole, Rect.mem_set_unit]
  intro a
  match a with
  | ⟨0, _⟩ => show win0_3.index t 0 * 1024 ≤ (i 0 : Nat) ∧ (i 0 : Nat) < win0_3.index t 0 * 1024 + 1024
              rw [o0]; omega
  | ⟨1, _⟩ => show win0_3.index t 1 * 512 ≤ (i 1 : Nat) ∧ (i 1 : Nat) < win0_3.index t 1 * 512 + 512
              rw [o1]; omega

/-- The result array ends holding the gated product. -/
theorem final (c : Dev nD) : (Gen.dats m 0 c).arrAt 3 cfg0.N = result m c :=
  (Gen.dats m 0 c).arrAt_eq_of_cover 3 (result m c) (flushed m c) fun (i : S16384x5632.Idx) => by
    have hN : cfg0.N = 176 := N_0
    have h0 : (i 0).val < 16384 := (i 0).isLt
    have h1 : (i 1).val < 5632 := (i 1).isLt
    refine ⟨⟨(i 0).val / 1024 * 11 + (i 1).val / 512, by rw [hN]; omega⟩, flush0_3 _, ?_⟩
    exact mem_block _ i (by show _ = ((i 0).val / 1024 * 11 + (i 1).val / 512) / 11; omega)
      (by show _ = ((i 0).val / 1024 * 11 + (i 1).val / 512) % 11; omega)

open Cert.Reference2Ideal.Read in
/-- The reference's product read at an index. -/
theorem reference_sum (x : (⟨Cert.Reference2Ideal.S16384x4096, .bf16⟩ : BufTy).Contents (Elt Ideal)) (w : (⟨Cert.Reference2Ideal.S4096x11264, .bf16⟩ : BufTy).Contents (Elt Ideal))
    (i : Cert.Reference2Ideal.S16384x11264.Idx) (r : Fin 16384) (c : Fin 11264) (h0 : (i 0).val = r.val) (h1 : (i 1).val = c.val) :
    val_main_v2 (F := Ideal) x w i = ∑ k : Fin 4096, (x : S16384x4096.Idx → EReal) (ix2 r k) * (w : S4096x11264.Idx → EReal) (ix2 k c) := by
  rw [val_main_v2_apply]
  refine Finset.sum_congr rfl fun k _ => congrArg₂ (· * ·) (congrArg x (funext fun a => Fin.ext ?_)) (congrArg w (funext fun a => Fin.ext ?_))
  · match a with
    | ⟨0, _⟩ => exact h0
    | ⟨1, _⟩ => rfl
  · match a with
    | ⟨0, _⟩ => rfl
    | ⟨1, _⟩ => exact h1

open Cert.Reference2Ideal.Read in
/-- The reference read at an index: the gate of its two halves. -/
theorem reference_apply (x : (⟨Cert.Reference2Ideal.S16384x4096, .bf16⟩ : BufTy).Contents (Elt Ideal)) (w : (⟨Cert.Reference2Ideal.S4096x11264, .bf16⟩ : BufTy).Contents (Elt Ideal))
    (i : S16384x5632.Idx) : val_main_v7 (F := Ideal) x w i = gated x w i := by
  have one : ∀ j, val_main_call0_v4 (F := Ideal) j = (1 : EReal) := fun j => by
    rw [val_main_call0_v4_apply, val_main_call0_cst_0_apply]; exact Ideal.ofBits_one_f32
  have one' : ∀ j, val_main_call0_v2 (F := Ideal) j = (1 : EReal) := fun j => by
    rw [val_main_call0_v2_apply, val_main_call0_cst_apply]; exact Ideal.ofBits_one_f32
  have lo : val_main_v3 (F := Ideal) x w i = _ := (val_main_v3_apply x w i).trans (reference_sum x w _ (i 0) (lower (i 1)) (by first | rfl | exact Nat.zero_add _) (by first | rfl | exact Nat.zero_add _))
  have up : val_main_v4 (F := Ideal) x w i = _ := (val_main_v4_apply x w i).trans (reference_sum x w _ (i 0) (upper (i 1)) (by first | rfl | exact Nat.zero_add _) (by first | rfl | exact Nat.add_comm _ _))
  rw [val_main_v7_apply, val_main_v6_apply, val_main_v5_apply, val_main_call0_v5_apply, val_main_call0_v3_apply, val_main_call0_v1_apply, val_main_call0_v0_apply, one, one', lo, up]
  rfl

/-- `Kernel2` and its reference end with equal results. -/
theorem algebraic : Cert.algebraic_Kernel2Ideal_Reference2Ideal := by
  intro m ρ m' ρ' _ hagree
  refine ⟨fun c => result m c, (θ_run defs _ _).mono (fun r h c => ⟨(h c).1.trans (final m c), (h c).2⟩) (Value.run_blocks m ρ), ?_⟩
  refine (θ_run _ _ _).mono (fun r h c => ⟨(h c).1.trans ?_, (h c).2⟩) (Cert.Reference2Ideal.Value.run (F := Ideal) m' ρ')
  refine (Cert.Reference2Ideal.Read.val_main_v7_eq _ _).trans ?_
  funext i
  refine (reference_apply _ _ i).trans ?_
  rw [(hagree c).1, (hagree c).2]
  rfl

end Cert.FfnIn

end
-- ==== Proof.FfnOut.lean ====
/-
  `Kernel3` at the extended reals: the second projection of the gated feed-forward layer, a product of a
  [16384, 5632] array and a [5632, 4096] array computed in tiles of 1024 rows and 512 columns.  The array it leaves
  holds at (r, c) the sum of the products along the contracted axis, which is what the reference's one product holds.
-/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.MatmulPlain
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.FfnOut

open Cert.Kernel3Ideal Cert.Kernel3Ideal.Gen

variable (m : (ℓ : Loc nD τ sig) → Buf (Elt Ideal) ℓ) (ρ : Dev nD → PrngReg)

theorem origin : (![0, 0] : Fin 2 → Nat) = fun _ => 0 := funext fun a => by fin_cases a <;> rfl

/-- One tile: the product of the tile's rows of the left operand and its columns of the right one. -/
theorem tile_apply (x : Vec Ideal S1024x5632 .bf16) (w : Vec Ideal S5632x512 .bf16) (i : S1024x512.Idx) :
    out0_2 x w i = ∑ k : Fin 5632, x (ix2 (i 0) k) * w (ix2 k (i 1)) := by
  unfold out0_2
  rw [View.canon_unit_zero origin]
  unfold k0_pay1
  simp only [View.ld_unit_zero (S := S1024x5632) origin, View.ld_unit_zero (S := S5632x512) origin]
  rw [eq_ix2 i]
  refine (Ideal.matmul_plain_apply none x w _ (i 0) (i 1)).trans ?_
  refine (congrArg (· + _) (Ideal.ofBits_zero .f32)).trans ((zero_add _).trans ?_)
  refine Finset.sum_congr rfl fun k _ => ?_
  rfl

/-- The product of two arrays of these sizes. -/
def product (x : S16384x5632.Idx → EReal) (w : S5632x4096.Idx → EReal) : S16384x4096.Idx → EReal :=
  fun i => ∑ k : Fin 5632, x (ix2 (i 0) k) * w (ix2 k (i 1))

/-- The product of the two arguments, as contents of the result array. -/
def result (c : Dev nD) : Buf (Elt Ideal) ((c : Thread nD τ).loc main_v0) :=
  product (m ((c : Thread nD τ).loc main_arg0)) (m ((c : Thread nD τ).loc main_arg1))

/-- Which block each operand's window names at point `t`: row block `t / 8`, column block `t % 8`. -/
theorem blocks (t : Fin cfg0.N) : win0_0.index t 0 = t.val / 8 ∧ win0_0.index t 1 = 0 ∧ win0_1.index t 0 = 0 ∧ win0_1.index t 1 = t.val % 8
    ∧ win0_2.index t 0 = t.val / 8 ∧ win0_2.index t 1 = t.val % 8 :=
  (by decide +kernel : ∀ t : Fin grid0.N, win0_0.index t 0 = t.val / 8 ∧ win0_0.index t 1 = 0 ∧ win0_1.index t 0 = 0 ∧ win0_1.index t 1 = t.val % 8
    ∧ win0_2.index t 0 = t.val / 8 ∧ win0_2.index t 1 = t.val % 8) t

/-- What point `t` writes back is its block of the product. -/
theorem flushed (c : Dev nD) (t : Fin cfg0.N) (_ : (cfg0.win 2).flush t = true) :
    (Gen.dats m 0 c).flushed 2 t = ((cfg0.win 2).blk t).view.read (Elt Ideal) (result m c) := by
  obtain ⟨a0, a1, b0, b1, o0, o1⟩ := blocks t
  rw [Value.flushed2]
  funext i
  rw [View.read_apply]
  refine (tile_apply _ _ i).trans ?_
  show _ = result m c _
  unfold result product
  refine Finset.sum_congr (M := EReal) rfl fun k _ => ?_
  congr 1
  · show V m c main_arg0 _ = _
    refine congrArg (m ((c : Thread nD τ).loc main_arg0)) (funext fun a => Fin.ext ?_)
    match a with
    | ⟨0, _⟩ => show win0_0.index t 0 * 1024 + 1 * (i 0).val = win0_2.index t 0 * 1024 + 1 * (i 0).val; rw [a0, o0]
    | ⟨1, _⟩ => show win0_0.index t 1 * 5632 + 1 * k.val = k.val; rw [a1]; omega
  · show V m c main_arg1 _ = _
    refine congrArg (m ((c : Thread nD τ).loc main_arg1)) (funext fun a => Fin.ext ?_)
    match a with
    | ⟨0, _⟩ => show win0_1.index t 0 * 5632 + 1 * k.val = k.val; rw [b0]; omega
    | ⟨1, _⟩ => show win0_1.index t 1 * 512 + 1 * (i 1).val = win0_2.index t 1 * 512 + 1 * (i 1).val; rw [b1, o1]

/-- An index lies in the block of the point whose row and column blocks it falls in. -/
theorem mem_block (t : Fin cfg0.N) (i : S16384x4096.Idx) (h0 : (i 0).val / 1024 = t.val / 8) (h1 : (i 1).val / 512 = t.val % 8) :
    i ∈ ((cfg0.win 2).blk t).view.set := by
  obtain ⟨_, _, _, _, o0, o1⟩ := blocks t
  show i ∈ ((View.whole main_v0).slice (win0_2.rect t)).set
  rw [View.set_slice_whole, Rect.mem_set_unit]
  intro a
  match a with
  | ⟨0, _⟩ => show win0_2.index t 0 * 1024 ≤ (i 0 : Nat) ∧ (i 0 : Nat) < win0_2.index t 0 * 1024 + 1024
              rw [o0]; omega
  | ⟨1, _⟩ => show win0_2.index t 1 * 512 ≤ (i 1 : Nat) ∧ (i 1 : Nat) < win0_2.index t 1 * 512 + 512
              rw [o1]; omega

/-- The result array ends holding the product. -/
theorem final (c : Dev nD) : (Gen.dats m 0 c).arrAt 2 cfg0.N = result m c :=
  (Gen.dats m 0 c).arrAt_eq_of_cover 2 (result m c) (flushed m c) fun (i : S16384x4096.Idx) => by
    have hN : cfg0.N = 128 := N_0
    have h0 : (i 0).val < 16384 := (i 0).isLt
    have h1 : (i 1).val < 4096 := (i 1).isLt
    refine ⟨⟨(i 0).val / 1024 * 8 + (i 1).val / 512, by rw [hN]; omega⟩, flush0_2 _, ?_⟩
    exact mem_block _ i (by show _ = ((i 0).val / 1024 * 8 + (i 1).val / 512) / 8; omega)
      (by show _ = ((i 0).val / 1024 * 8 + (i 1).val / 512) % 8; omega)

/-- The reference's product read at an index. -/
theorem reference_apply (x : (⟨Cert.Reference3Ideal.S16384x5632, .bf16⟩ : BufTy).Contents (Elt Ideal)) (w : (⟨Cert.Reference3Ideal.S5632x4096, .bf16⟩ : BufTy).Contents (Elt Ideal))
    (i : S16384x4096.Idx) :
    Cert.Reference3Ideal.Read.val_main_v2 (F := Ideal) x w i = ∑ k : Fin 5632, (x : S16384x5632.Idx → EReal) (ix2 (i 0) k) * (w : S5632x4096.Idx → EReal) (ix2 k (i 1)) := by
  rw [Cert.Reference3Ideal.Read.val_main_v2_apply]
  refine Finset.sum_congr rfl fun k _ => ?_
  congr 1
  · refine congrArg x (funext fun a => Fin.ext ?_)
    match a with
    | ⟨0, _⟩ => rfl
    | ⟨1, _⟩ => rfl
  · refine congrArg w (funext fun a => Fin.ext ?_)
    match a with
    | ⟨0, _⟩ => rfl
    | ⟨1, _⟩ => rfl

/-- `Kernel3` and its reference end with equal results. -/
theorem algebraic : Cert.algebraic_Kernel3Ideal_Reference3Ideal := by
  intro m ρ m' ρ' _ hagree
  refine ⟨fun c => result m c, (θ_run defs _ _).mono (fun r h c => ⟨(h c).1.trans (final m c), (h c).2⟩) (Value.run_blocks m ρ), ?_⟩
  refine (θ_run _ _ _).mono (fun r h c => ⟨(h c).1.trans ?_, (h c).2⟩) (Cert.Reference3Ideal.Value.run (F := Ideal) m' ρ')
  refine (Cert.Reference3Ideal.Read.val_main_v2_eq _ _).trans ?_
  funext i
  refine (reference_apply _ _ i).trans ?_
  rw [(hagree c).1, (hagree c).2]
  rfl

end Cert.FfnOut

end
-- ==== Proof.NsaIn.lean ====
/-
  `Kernel4` at the extended reals: the input projection of the block-sparse attention layers, a product of a
  [16384, 4096] array and a [4096, 7424] array computed in tiles of 1024 rows and 256 columns.  The array it leaves
  holds at (r, c) the sum of the products along the contracted axis, which is what the reference's one product holds.
-/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.MatmulPlain
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.NsaIn

open Cert.Kernel4Ideal Cert.Kernel4Ideal.Gen

variable (m : (ℓ : Loc nD τ sig) → Buf (Elt Ideal) ℓ) (ρ : Dev nD → PrngReg)

theorem origin : (![0, 0] : Fin 2 → Nat) = fun _ => 0 := funext fun a => by fin_cases a <;> rfl

/-- One tile: the product of the tile's rows of the left operand and its columns of the right one. -/
theorem tile_apply (x : Vec Ideal S1024x4096 .bf16) (w : Vec Ideal S4096x256 .bf16) (i : S1024x256.Idx) :
    out0_2 x w i = ∑ k : Fin 4096, x (ix2 (i 0) k) * w (ix2 k (i 1)) := by
  unfold out0_2
  rw [View.canon_unit_zero origin]
  unfold k0_pay1
  simp only [View.ld_unit_zero (S := S1024x4096) origin, View.ld_unit_zero (S := S4096x256) origin]
  rw [eq_ix2 i]
  show matmul (F := Ideal) (φ₁ := .bf16) (φ₂ := .bf16) dot_S1024x4096_S4096x256_S1024x256_1_0_0_1_n_n none x w (constant S1024x256 .f32 0x00000000#32) (ValueIdx.ix2 (i 0) (i 1)) = _
  refine (Ideal.matmul_plain_apply none x w _ (i 0) (i 1)).trans ?_
  refine (congrArg (· + _) (Ideal.ofBits_zero .f32)).trans ((zero_add _).trans ?_)
  refine Finset.sum_congr rfl fun k _ => ?_
  rfl

/-- The product of two arrays of these sizes. -/
def product (x : S16384x4096.Idx → EReal) (w : S4096x7424.Idx → EReal) : S16384x7424.Idx → EReal :=
  fun i => ∑ k : Fin 4096, x (ix2 (i 0) k) * w (ix2 k (i 1))

/-- The product of the two arguments, as contents of the result array. -/
def result (c : Dev nD) : Buf (Elt Ideal) ((c : Thread nD τ).loc main_v0) :=
  product (m ((c : Thread nD τ).loc main_arg0)) (m ((c : Thread nD τ).loc main_arg1))

/-- Which block each operand's window names at point `t`: row block `t / 29`, column block `t % 29`. -/
theorem blocks (t : Fin cfg0.N) : win0_0.index t 0 = t.val / 29 ∧ win0_0.index t 1 = 0 ∧ win0_1.index t 0 = 0 ∧ win0_1.index t 1 = t.val % 29
    ∧ win0_2.index t 0 = t.val / 29 ∧ win0_2.index t 1 = t.val % 29 :=
  (by decide +kernel : ∀ t : Fin grid0.N, win0_0.index t 0 = t.val / 29 ∧ win0_0.index t 1 = 0 ∧ win0_1.index t 0 = 0 ∧ win0_1.index t 1 = t.val % 29
    ∧ win0_2.index t 0 = t.val / 29 ∧ win0_2.index t 1 = t.val % 29) t

/-- What point `t` writes back is its block of the product. -/
theorem flushed (c : Dev nD) (t : Fin cfg0.N) (_ : (cfg0.win 2).flush t = true) :
    (Gen.dats m 0 c).flushed 2 t = ((cfg0.win 2).blk t).view.read (Elt Ideal) (result m c) := by
  obtain ⟨a0, a1, b0, b1, o0, o1⟩ := blocks t
  rw [Value.flushed2]
  funext i
  rw [View.read_apply]
  refine (tile_apply _ _ i).trans ?_
  show _ = result m c _
  unfold result product
  refine Finset.sum_congr (M := EReal) rfl fun k _ => ?_
  congr 1
  · show V m c main_arg0 _ = _
    refine congrArg (m ((c : Thread nD τ).loc main_arg0)) (funext fun a => Fin.ext ?_)
    match a with
    | ⟨0, _⟩ => show win0_0.index t 0 * 1024 + 1 * (i 0).val = win0_2.index t 0 * 1024 + 1 * (i 0).val; rw [a0, o0]
    | ⟨1, _⟩ => show win0_0.index t 1 * 4096 + 1 * k.val = k.val; rw [a1]; omega
  · show V m c main_arg1 _ = _
    refine congrArg (m ((c : Thread nD τ).loc main_arg1)) (funext fun a => Fin.ext ?_)
    match a with
    | ⟨0, _⟩ => show win0_1.index t 0 * 4096 + 1 * k.val = k.val; rw [b0]; omega
    | ⟨1, _⟩ => show win0_1.index t 1 * 256 + 1 * (i 1).val = win0_2.index t 1 * 256 + 1 * (i 1).val; rw [b1, o1]

/-- An index lies in the block of the point whose row and column blocks it falls in. -/
theorem mem_block (t : Fin cfg0.N) (i : S16384x7424.Idx) (h0 : (i 0).val / 1024 = t.val / 29) (h1 : (i 1).val / 256 = t.val % 29) :
    i ∈ ((cfg0.win 2).blk t).view.set := by
  obtain ⟨_, _, _, _, o0, o1⟩ := blocks t
  show i ∈ ((View.whole main_v0).slice (win0_2.rect t)).set
  rw [View.set_slice_whole, Rect.mem_set_unit]
  intro a
  match a with
  | ⟨0, _⟩ => show win0_2.index t 0 * 1024 ≤ (i 0 : Nat) ∧ (i 0 : Nat) < win0_2.index t 0 * 1024 + 1024
              rw [o0]; omega
  | ⟨1, _⟩ => show win0_2.index t 1 * 256 ≤ (i 1 : Nat) ∧ (i 1 : Nat) < win0_2.index t 1 * 256 + 256
              rw [o1]; omega

/-- The result array ends holding the product. -/
theorem final (c : Dev nD) : (Gen.dats m 0 c).arrAt 2 cfg0.N = result m c :=
  (Gen.dats m 0 c).arrAt_eq_of_cover 2 (result m c) (flushed m c) fun (i : S16384x7424.Idx) => by
    have hN : cfg0.N = 464 := N_0
    have h0 : (i 0).val < 16384 := (i 0).isLt
    have h1 : (i 1).val < 7424 := (i 1).isLt
    refine ⟨⟨(i 0).val / 1024 * 29 + (i 1).val / 256, by rw [hN]; omega⟩, flush0_2 _, ?_⟩
    exact mem_block _ i (by show _ = ((i 0).val / 1024 * 29 + (i 1).val / 256) / 29; omega)
      (by show _ = ((i 0).val / 1024 * 29 + (i 1).val / 256) % 29; omega)

/-- The reference's product read at an index. -/
theorem reference_apply (x : (⟨Cert.Reference4Ideal.S16384x4096, .bf16⟩ : BufTy).Contents (Elt Ideal)) (w : (⟨Cert.Reference4Ideal.S4096x7424, .bf16⟩ : BufTy).Contents (Elt Ideal))
    (i : S16384x7424.Idx) :
    Cert.Reference4Ideal.Read.val_main_v3 (F := Ideal) x w i = ∑ k : Fin 4096, (x : S16384x4096.Idx → EReal) (ix2 (i 0) k) * (w : S4096x7424.Idx → EReal) (ix2 k (i 1)) := by
  rw [Cert.Reference4Ideal.Read.val_main_v3_apply, Cert.Reference4Ideal.Read.val_main_v2_apply]
  refine Finset.sum_congr rfl fun k _ => ?_
  congr 1
  · refine congrArg x (funext fun a => Fin.ext ?_)
    match a with
    | ⟨0, _⟩ => rfl
    | ⟨1, _⟩ => rfl
  · refine congrArg w (funext fun a => Fin.ext ?_)
    match a with
    | ⟨0, _⟩ => rfl
    | ⟨1, _⟩ => rfl

/-- `Kernel4` and its reference end with equal results. -/
theorem algebraic : Cert.algebraic_Kernel4Ideal_Reference4Ideal := by
  intro m ρ m' ρ' _ hagree
  refine ⟨fun c => result m c, (θ_run defs _ _).mono (fun r h c => ⟨(h c).1.trans (final m c), (h c).2⟩) (Value.run_blocks m ρ), ?_⟩
  refine (θ_run _ _ _).mono (fun r h c => ⟨(h c).1.trans ?_, (h c).2⟩) (Cert.Reference4Ideal.Value.run (F := Ideal) m' ρ')
  refine (Cert.Reference4Ideal.Read.val_main_v3_eq _ _).trans ?_
  funext i
  refine (reference_apply _ _ i).trans ?_
  rw [(hagree c).1, (hagree c).2]
  rfl

end Cert.NsaIn

end
-- ==== Proof.DsaIn.lean ====
/-
  `Kernel5` at the extended reals: the input projection of the layer that selects its keys, a product of a
  [16384, 4096] array and a [4096, 11264] array computed in tiles of 1024 rows and 256 columns.  The array it leaves
  holds at (r, c) the sum of the products along the contracted axis, which is what the reference's one product holds.
-/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.MatmulPlain
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.DsaIn

open Cert.Kernel5Ideal Cert.Kernel5Ideal.Gen

variable (m : (ℓ : Loc nD τ sig) → Buf (Elt Ideal) ℓ) (ρ : Dev nD → PrngReg)

theorem origin : (![0, 0] : Fin 2 → Nat) = fun _ => 0 := funext fun a => by fin_cases a <;> rfl

/-- One tile: the product of the tile's rows of the left operand and its columns of the right one. -/
theorem tile_apply (x : Vec Ideal S1024x4096 .bf16) (w : Vec Ideal S4096x256 .bf16) (i : S1024x256.Idx) :
    out0_2 x w i = ∑ k : Fin 4096, x (ix2 (i 0) k) * w (ix2 k (i 1)) := by
  unfold out0_2
  rw [View.canon_unit_zero origin]
  unfold k0_pay1
  simp only [View.ld_unit_zero (S := S1024x4096) origin, View.ld_unit_zero (S := S4096x256) origin]
  rw [eq_ix2 i]
  show matmul (F := Ideal) (φ₁ := .bf16) (φ₂ := .bf16) dot_S1024x4096_S4096x256_S1024x256_1_0_0_1_n_n none x w (constant S1024x256 .f32 0x00000000#32) (ValueIdx.ix2 (i 0) (i 1)) = _
  refine (Ideal.matmul_plain_apply none x w _ (i 0) (i 1)).trans ?_
  refine (congrArg (· + _) (Ideal.ofBits_zero .f32)).trans ((zero_add _).trans ?_)
  refine Finset.sum_congr rfl fun k _ => ?_
  rfl

/-- The product of two arrays of these sizes. -/
def product (x : S16384x4096.Idx → EReal) (w : S4096x11264.Idx → EReal) : S16384x11264.Idx → EReal :=
  fun i => ∑ k : Fin 4096, x (ix2 (i 0) k) * w (ix2 k (i 1))

/-- The product of the two arguments, as contents of the result array. -/
def result (c : Dev nD) : Buf (Elt Ideal) ((c : Thread nD τ).loc main_v0) :=
  product (m ((c : Thread nD τ).loc main_arg0)) (m ((c : Thread nD τ).loc main_arg1))

/-- Which block each operand's window names at point `t`: row block `t / 44`, column block `t % 44`. -/
theorem blocks (t : Fin cfg0.N) : win0_0.index t 0 = t.val / 44 ∧ win0_0.index t 1 = 0 ∧ win0_1.index t 0 = 0 ∧ win0_1.index t 1 = t.val % 44
    ∧ win0_2.index t 0 = t.val / 44 ∧ win0_2.index t 1 = t.val % 44 :=
  (by decide +kernel : ∀ t : Fin grid0.N, win0_0.index t 0 = t.val / 44 ∧ win0_0.index t 1 = 0 ∧ win0_1.index t 0 = 0 ∧ win0_1.index t 1 = t.val % 44
    ∧ win0_2.index t 0 = t.val / 44 ∧ win0_2.index t 1 = t.val % 44) t

/-- What point `t` writes back is its block of the product. -/
theorem flushed (c : Dev nD) (t : Fin cfg0.N) (_ : (cfg0.win 2).flush t = true) :
    (Gen.dats m 0 c).flushed 2 t = ((cfg0.win 2).blk t).view.read (Elt Ideal) (result m c) := by
  obtain ⟨a0, a1, b0, b1, o0, o1⟩ := blocks t
  rw [Value.flushed2]
  funext i
  rw [View.read_apply]
  refine (tile_apply _ _ i).trans ?_
  show _ = result m c _
  unfold result product
  refine Finset.sum_congr (M := EReal) rfl fun k _ => ?_
  congr 1
  · show V m c main_arg0 _ = _
    refine congrArg (m ((c : Thread nD τ).loc main_arg0)) (funext fun a => Fin.ext ?_)
    match a with
    | ⟨0, _⟩ => show win0_0.index t 0 * 1024 + 1 * (i 0).val = win0_2.index t 0 * 1024 + 1 * (i 0).val; rw [a0, o0]
    | ⟨1, _⟩ => show win0_0.index t 1 * 4096 + 1 * k.val = k.val; rw [a1]; omega
  · show V m c main_arg1 _ = _
    refine congrArg (m ((c : Thread nD τ).loc main_arg1)) (funext fun a => Fin.ext ?_)
    match a with
    | ⟨0, _⟩ => show win0_1.index t 0 * 4096 + 1 * k.val = k.val; rw [b0]; omega
    | ⟨1, _⟩ => show win0_1.index t 1 * 256 + 1 * (i 1).val = win0_2.index t 1 * 256 + 1 * (i 1).val; rw [b1, o1]

/-- An index lies in the block of the point whose row and column blocks it falls in. -/
theorem mem_block (t : Fin cfg0.N) (i : S16384x11264.Idx) (h0 : (i 0).val / 1024 = t.val / 44) (h1 : (i 1).val / 256 = t.val % 44) :
    i ∈ ((cfg0.win 2).blk t).view.set := by
  obtain ⟨_, _, _, _, o0, o1⟩ := blocks t
  show i ∈ ((View.whole main_v0).slice (win0_2.rect t)).set
  rw [View.set_slice_whole, Rect.mem_set_unit]
  intro a
  match a with
  | ⟨0, _⟩ => show win0_2.index t 0 * 1024 ≤ (i 0 : Nat) ∧ (i 0 : Nat) < win0_2.index t 0 * 1024 + 1024
              rw [o0]; omega
  | ⟨1, _⟩ => show win0_2.index t 1 * 256 ≤ (i 1 : Nat) ∧ (i 1 : Nat) < win0_2.index t 1 * 256 + 256
              rw [o1]; omega

/-- The result array ends holding the product. -/
theorem final (c : Dev nD) : (Gen.dats m 0 c).arrAt 2 cfg0.N = result m c :=
  (Gen.dats m 0 c).arrAt_eq_of_cover 2 (result m c) (flushed m c) fun (i : S16384x11264.Idx) => by
    have hN : cfg0.N = 704 := N_0
    have h0 : (i 0).val < 16384 := (i 0).isLt
    have h1 : (i 1).val < 11264 := (i 1).isLt
    refine ⟨⟨(i 0).val / 1024 * 44 + (i 1).val / 256, by rw [hN]; omega⟩, flush0_2 _, ?_⟩
    exact mem_block _ i (by show _ = ((i 0).val / 1024 * 44 + (i 1).val / 256) / 44; omega)
      (by show _ = ((i 0).val / 1024 * 44 + (i 1).val / 256) % 44; omega)

/-- The reference's product read at an index. -/
theorem reference_apply (x : (⟨Cert.Reference5Ideal.S16384x4096, .bf16⟩ : BufTy).Contents (Elt Ideal)) (w : (⟨Cert.Reference5Ideal.S4096x11264, .bf16⟩ : BufTy).Contents (Elt Ideal))
    (i : S16384x11264.Idx) :
    Cert.Reference5Ideal.Read.val_main_v3 (F := Ideal) x w i = ∑ k : Fin 4096, (x : S16384x4096.Idx → EReal) (ix2 (i 0) k) * (w : S4096x11264.Idx → EReal) (ix2 k (i 1)) := by
  rw [Cert.Reference5Ideal.Read.val_main_v3_apply, Cert.Reference5Ideal.Read.val_main_v2_apply]
  refine Finset.sum_congr rfl fun k _ => ?_
  congr 1
  · refine congrArg x (funext fun a => Fin.ext ?_)
    match a with
    | ⟨0, _⟩ => rfl
    | ⟨1, _⟩ => rfl
  · refine congrArg w (funext fun a => Fin.ext ?_)
    match a with
    | ⟨0, _⟩ => rfl
    | ⟨1, _⟩ => rfl

/-- `Kernel5` and its reference end with equal results. -/
theorem algebraic : Cert.algebraic_Kernel5Ideal_Reference5Ideal := by
  intro m ρ m' ρ' _ hagree
  refine ⟨fun c => result m c, (θ_run defs _ _).mono (fun r h c => ⟨(h c).1.trans (final m c), (h c).2⟩) (Value.run_blocks m ρ), ?_⟩
  refine (θ_run _ _ _).mono (fun r h c => ⟨(h c).1.trans ?_, (h c).2⟩) (Cert.Reference5Ideal.Value.run (F := Ideal) m' ρ')
  refine (Cert.Reference5Ideal.Read.val_main_v3_eq _ _).trans ?_
  funext i
  refine (reference_apply _ _ i).trans ?_
  rw [(hagree c).1, (hagree c).2]
  rfl

end Cert.DsaIn

end
-- ==== Proof.MixerOut.lean ====
/-
  `Kernel6` at the extended reals: the output projection of the attention layers, a product of a
  [16384, 4096] array and a [4096, 4096] array computed in tiles of 1024 rows and 512 columns.  The array it leaves
  holds at (r, c) the sum of the products along the contracted axis, which is what the reference's one product holds.
-/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.MatmulPlain
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.MixerOut

open Cert.Kernel6Ideal Cert.Kernel6Ideal.Gen

variable (m : (ℓ : Loc nD τ sig) → Buf (Elt Ideal) ℓ) (ρ : Dev nD → PrngReg)

theorem origin : (![0, 0] : Fin 2 → Nat) = fun _ => 0 := funext fun a => by fin_cases a <;> rfl

/-- One tile: the product of the tile's rows of the left operand and its columns of the right one. -/
theorem tile_apply (x : Vec Ideal S1024x4096 .bf16) (w : Vec Ideal S4096x512 .bf16) (i : S1024x512.Idx) :
    out0_2 x w i = ∑ k : Fin 4096, x (ix2 (i 0) k) * w (ix2 k (i 1)) := by
  unfold out0_2
  rw [View.canon_unit_zero origin]
  unfold k0_pay1
  simp only [View.ld_unit_zero (S := S1024x4096) origin, View.ld_unit_zero (S := S4096x512) origin]
  rw [eq_ix2 i]
  refine (Ideal.matmul_plain_apply none x w _ (i 0) (i 1)).trans ?_
  refine (congrArg (· + _) (Ideal.ofBits_zero .f32)).trans ((zero_add _).trans ?_)
  refine Finset.sum_congr rfl fun k _ => ?_
  rfl

/-- The product of two arrays of these sizes. -/
def product (x : S16384x4096.Idx → EReal) (w : S4096x4096.Idx → EReal) : S16384x4096.Idx → EReal :=
  fun i => ∑ k : Fin 4096, x (ix2 (i 0) k) * w (ix2 k (i 1))

/-- The product of the two arguments, as contents of the result array. -/
def result (c : Dev nD) : Buf (Elt Ideal) ((c : Thread nD τ).loc main_v0) :=
  product (m ((c : Thread nD τ).loc main_arg0)) (m ((c : Thread nD τ).loc main_arg1))

/-- Which block each operand's window names at point `t`: row block `t / 8`, column block `t % 8`. -/
theorem blocks (t : Fin cfg0.N) : win0_0.index t 0 = t.val / 8 ∧ win0_0.index t 1 = 0 ∧ win0_1.index t 0 = 0 ∧ win0_1.index t 1 = t.val % 8
    ∧ win0_2.index t 0 = t.val / 8 ∧ win0_2.index t 1 = t.val % 8 :=
  (by decide +kernel : ∀ t : Fin grid0.N, win0_0.index t 0 = t.val / 8 ∧ win0_0.index t 1 = 0 ∧ win0_1.index t 0 = 0 ∧ win0_1.index t 1 = t.val % 8
    ∧ win0_2.index t 0 = t.val / 8 ∧ win0_2.index t 1 = t.val % 8) t

/-- What point `t` writes back is its block of the product. -/
theorem flushed (c : Dev nD) (t : Fin cfg0.N) (_ : (cfg0.win 2).flush t = true) :
    (Gen.dats m 0 c).flushed 2 t = ((cfg0.win 2).blk t).view.read (Elt Ideal) (result m c) := by
  obtain ⟨a0, a1, b0, b1, o0, o1⟩ := blocks t
  rw [Value.flushed2]
  funext i
  rw [View.read_apply]
  refine (tile_apply _ _ i).trans ?_
  show _ = result m c _
  unfold result product
  refine Finset.sum_congr (M := EReal) rfl fun k _ => ?_
  congr 1
  · show V m c main_arg0 _ = _
    refine congrArg (m ((c : Thread nD τ).loc main_arg0)) (funext fun a => Fin.ext ?_)
    match a with
    | ⟨0, _⟩ => show win0_0.index t 0 * 1024 + 1 * (i 0).val = win0_2.index t 0 * 1024 + 1 * (i 0).val; rw [a0, o0]
    | ⟨1, _⟩ => show win0_0.index t 1 * 4096 + 1 * k.val = k.val; rw [a1]; omega
  · show V m c main_arg1 _ = _
    refine congrArg (m ((c : Thread nD τ).loc main_arg1)) (funext fun a => Fin.ext ?_)
    match a with
    | ⟨0, _⟩ => show win0_1.index t 0 * 4096 + 1 * k.val = k.val; rw [b0]; omega
    | ⟨1, _⟩ => show win0_1.index t 1 * 512 + 1 * (i 1).val = win0_2.index t 1 * 512 + 1 * (i 1).val; rw [b1, o1]

/-- An index lies in the block of the point whose row and column blocks it falls in. -/
theorem mem_block (t : Fin cfg0.N) (i : S16384x4096.Idx) (h0 : (i 0).val / 1024 = t.val / 8) (h1 : (i 1).val / 512 = t.val % 8) :
    i ∈ ((cfg0.win 2).blk t).view.set := by
  obtain ⟨_, _, _, _, o0, o1⟩ := blocks t
  show i ∈ ((View.whole main_v0).slice (win0_2.rect t)).set
  rw [View.set_slice_whole, Rect.mem_set_unit]
  intro a
  match a with
  | ⟨0, _⟩ => show win0_2.index t 0 * 1024 ≤ (i 0 : Nat) ∧ (i 0 : Nat) < win0_2.index t 0 * 1024 + 1024
              rw [o0]; omega
  | ⟨1, _⟩ => show win0_2.index t 1 * 512 ≤ (i 1 : Nat) ∧ (i 1 : Nat) < win0_2.index t 1 * 512 + 512
              rw [o1]; omega

/-- The result array ends holding the product. -/
theorem final (c : Dev nD) : (Gen.dats m 0 c).arrAt 2 cfg0.N = result m c :=
  (Gen.dats m 0 c).arrAt_eq_of_cover 2 (result m c) (flushed m c) fun (i : S16384x4096.Idx) => by
    have hN : cfg0.N = 128 := N_0
    have h0 : (i 0).val < 16384 := (i 0).isLt
    have h1 : (i 1).val < 4096 := (i 1).isLt
    refine ⟨⟨(i 0).val / 1024 * 8 + (i 1).val / 512, by rw [hN]; omega⟩, flush0_2 _, ?_⟩
    exact mem_block _ i (by show _ = ((i 0).val / 1024 * 8 + (i 1).val / 512) / 8; omega)
      (by show _ = ((i 0).val / 1024 * 8 + (i 1).val / 512) % 8; omega)

/-- The reference's product read at an index. -/
theorem reference_apply (x : (⟨Cert.Reference6Ideal.S16384x4096, .bf16⟩ : BufTy).Contents (Elt Ideal)) (w : (⟨Cert.Reference6Ideal.S4096x4096, .bf16⟩ : BufTy).Contents (Elt Ideal))
    (i : S16384x4096.Idx) :
    Cert.Reference6Ideal.Read.val_main_v2 (F := Ideal) x w i = ∑ k : Fin 4096, (x : S16384x4096.Idx → EReal) (ix2 (i 0) k) * (w : S4096x4096.Idx → EReal) (ix2 k (i 1)) := by
  rw [Cert.Reference6Ideal.Read.val_main_v2_apply]
  refine Finset.sum_congr rfl fun k _ => ?_
  congr 1
  · refine congrArg x (funext fun a => Fin.ext ?_)
    match a with
    | ⟨0, _⟩ => rfl
    | ⟨1, _⟩ => rfl
  · refine congrArg w (funext fun a => Fin.ext ?_)
    match a with
    | ⟨0, _⟩ => rfl
    | ⟨1, _⟩ => rfl

/-- `Kernel6` and its reference end with equal results. -/
theorem algebraic : Cert.algebraic_Kernel6Ideal_Reference6Ideal := by
  intro m ρ m' ρ' _ hagree
  refine ⟨fun c => result m c, (θ_run defs _ _).mono (fun r h c => ⟨(h c).1.trans (final m c), (h c).2⟩) (Value.run_blocks m ρ), ?_⟩
  refine (θ_run _ _ _).mono (fun r h c => ⟨(h c).1.trans ?_, (h c).2⟩) (Cert.Reference6Ideal.Value.run (F := Ideal) m' ρ')
  refine (Cert.Reference6Ideal.Read.val_main_v2_eq _ _).trans ?_
  funext i
  refine (reference_apply _ _ i).trans ?_
  rw [(hagree c).1, (hagree c).2]
  rfl

end Cert.MixerOut

end
-- ==== Proof.S5Glu.lean ====
/-
  `Kernel7` at the extended reals: the gated projection that ends the S5 mixer.  A [16384, 4096] array is multiplied by
  the two halves of a [4096, 8192] array, in tiles of 1024 rows and 512 columns of each half, and the array it leaves
  holds at (r, c) the product `h · logistic g` of the two sums `h` (the first half's column c) and `g` (the second
  half's), which is what the reference's one product, split in two, gives.
-/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.MatmulPlain
public import Idealize.ShloMosaic.Lib.Pipeline.Value
public import Idealize.ShloMosaic.Lib.Pointwise
public import Idealize.ShloMosaic.Lib.Tactic
public import Idealize.ShloMosaic.Lib.IdealHost

@[expose] public section

set_option maxRecDepth 16384

noncomputable section

open Idealize.ShloMosaic Idealize.ShloMosaic.TcCoe Idealize.SL.Sem

namespace Cert.S5Glu

open Cert.Kernel7Ideal Cert.Kernel7Ideal.Gen

variable (m : (ℓ : Loc nD τ sig) → Buf (Elt Ideal) ℓ) (ρ : Dev nD → PrngReg)

theorem origin : (![0, 0] : Fin 2 → Nat) = fun _ => 0 := funext fun a => by fin_cases a <;> rfl

/-- The gate: `h · logistic g`. -/
def gate (h g : EReal) : EReal := h * Ideal.logistic g

/-- One entry of the product of two tiles: the sum along the contracted axis. -/
theorem tile_sum (x : Vec Ideal S1024x4096 .bf16) (w : Vec Ideal S4096x512 .bf16) (r : Fin 1024) (c : Fin 512) :
    matmul (F := Ideal) (φ₁ := .bf16) (φ₂ := .bf16) dot_S1024x4096_S4096x512_S1024x512_1_0_0_1_n_n none x w (constant S1024x512 .f32 0x00000000#32) (ValueIdx.ix2 r c)
      = ∑ k : Fin 4096, x (ix2 r k) * w (ix2 k c) :=
  (Ideal.matmul_plain_apply none x w _ r c).trans ((congrArg (· + _) (Ideal.ofBits_zero .f32)).trans ((zero_add _).trans
    (Finset.sum_congr rfl fun k _ => rfl)))

/-- One tile: the gate of the two products. -/
theorem tile_apply (x : Vec Ideal S1024x4096 .bf16) (w w' : Vec Ideal S4096x512 .bf16) (i : S1024x512.Idx) :
    out0_3 x w w' i = gate (∑ k : Fin 4096, x (ix2 (i 0) k) * w (ix2 k (i 1))) (∑ k : Fin 4096, x (ix2 (i 0) k) * w' (ix2 k (i 1))) := by
  unfold out0_3
  rw [View.canon_unit_zero origin]
  unfold k0_pay1
  simp only [View.ld_unit_zero (S := S1024x4096) origin, View.ld_unit_zero (S := S4096x512) origin]
  rw [eq_ix2 i]
  exact congrArg₂ gate (tile_sum x w (i 0) (i 1)) (tile_sum x w' (i 0) (i 1))

/-- Column `c` of the second half of an array twice as wide. -/
def upper (c : Fin 4096) : Fin 8192 := ⟨4096 + c.val, by omega⟩

/-- Column `c` of the first half. -/
def lower (c : Fin 4096) : Fin 8192 := ⟨c.val, by omega⟩

/-- The gated product of two arrays of these sizes. -/
def gated (x : S16384x4096.Idx → EReal) (w : S4096x8192.Idx → EReal) : S16384x4096.Idx → EReal :=
  fun i => gate (∑ k : Fin 4096, x (ix2 (i 0) k) * w (ix2 k (lower (i 1)))) (∑ k : Fin 4096, x (ix2 (i 0) k) * w (ix2 k (upper (i 1))))

/-- The gated product of the two arguments, as contents of the result array. -/
def result (c : Dev nD) : Buf (Elt Ideal) ((c : Thread nD τ).loc main_v0) :=
  gated (m ((c : Thread nD τ).loc main_arg0)) (m ((c : Thread nD τ).loc main_arg1))

/-- Which block each operand's window names at point `t`: row block `t / 8`, column block `t % 8` of each half. -/
theorem blocks (t : Fin cfg0.N) : (win0_0.index t 0 = t.val / 8 ∧ win0_0.index t 1 = 0 ∧ win0_1.index t 0 = 0 ∧ win0_1.index t 1 = t.val % 8)
    ∧ (win0_2.index t 0 = 0 ∧ win0_2.index t 1 = t.val % 8 + 8) ∧ win0_3.index t 0 = t.val / 8 ∧ win0_3.index t 1 = t.val % 8 :=
  (by decide +kernel : ∀ t : Fin grid0.N, (win0_0.index t 0 = t.val / 8 ∧ win0_0.index t 1 = 0 ∧ win0_1.index t 0 = 0 ∧ win0_1.index t 1 = t.val % 8)
    ∧ (win0_2.index t 0 = 0 ∧ win0_2.index t 1 = t.val % 8 + 8) ∧ win0_3.index t 0 = t.val / 8 ∧ win0_3.index t 1 = t.val % 8) t

/-- What point `t` writes back is its block of the gated product. -/
theorem flushed (c : Dev nD) (t : Fin cfg0.N) (_ : (cfg0.win 3).flush t = true) :
    (Gen.dats m 0 c).flushed 3 t = ((cfg0.win 3).blk t).view.read (Elt Ideal) (result m c) := by
  obtain ⟨⟨a0, a1, b0, b1⟩, ⟨d0, d1⟩, o0, o1⟩ := blocks t
  rw [Value.flushed3]
  funext i
  rw [View.read_apply]
  refine (tile_apply _ _ _ i).trans ?_
  show _ = result m c _
  unfold result gated
  have left : ∀ (r : Fin 16384), r.val = win0_3.index t 0 * 1024 + 1 * (i 0).val → ∀ k : Fin 4096,
      iblk m c 0 t (ix2 (i 0) k) = (m ((c : Thread nD τ).loc main_arg0) : S16384x4096.Idx → EReal) (ix2 r k) := fun r hr k => by
    show V m c main_arg0 _ = _
    refine congrArg (m ((c : Thread nD τ).loc main_arg0)) (funext fun a => Fin.ext ?_)
    match a with
    | ⟨0, _⟩ => show win0_0.index t 0 * 1024 + 1 * (i 0).val = r.val; rw [hr, a0, o0]
    | ⟨1, _⟩ => show win0_0.index t 1 * 4096 + 1 * k.val = k.val; rw [a1]; omega
  refine congrArg₂ gate (Finset.sum_congr (M := EReal) rfl fun k _ => congrArg₂ (· * ·) (left _ rfl k) ?_)
    (Finset.sum_congr (M := EReal) rfl fun k _ => congrArg₂ (· * ·) (left _ rfl k) ?_)
  · show V m c main_arg1 _ = _
    refine congrArg (m ((c : Thread nD τ).loc main_arg1)) (funext fun a => Fin.ext ?_)
    match a with
    | ⟨0, _⟩ => show win0_1.index t 0 * 4096 + 1 * k.val = k.val; rw [b0]; omega
    | ⟨1, _⟩ => show win0_1.index t 1 * 512 + 1 * (i 1).val = win0_3.index t 1 * 512 + 1 * (i 1).val; rw [b1, o1]
  · show V m c main_arg1 _ = _
    refine congrArg (m ((c : Thread nD τ).loc main_arg1)) (funext fun a => Fin.ext ?_)
    match a with
    | ⟨0, _⟩ => show win0_2.index t 0 * 4096 + 1 * k.val = k.val; rw [d0]; omega
    | ⟨1, _⟩ => show win0_2.index t 1 * 512 + 1 * (i 1).val = 4096 + (win0_3.index t 1 * 512 + 1 * (i 1).val); rw [d1, o1]; omega

/-- An index lies in the block of the point whose row and column blocks it falls in. -/
theorem mem_block (t : Fin cfg0.N) (i : S16384x4096.Idx) (h0 : (i 0).val / 1024 = t.val / 8) (h1 : (i 1).val / 512 = t.val % 8) :
    i ∈ ((cfg0.win 3).blk t).view.set := by
  obtain ⟨_, _, o0, o1⟩ := blocks t
  show i ∈ ((View.whole main_v0).slice (win0_3.rect t)).set
  rw [View.set_slice_whole, Rect.mem_set_unit]
  intro a
  match a with
  | ⟨0, _⟩ => show win0_3.index t 0 * 1024 ≤ (i 0 : Nat) ∧ (i 0 : Nat) < win0_3.index t 0 * 1024 + 1024
              rw [o0]; omega
  | ⟨1, _⟩ => show win0_3.index t 1 * 512 ≤ (i 1 : Nat) ∧ (i 1 : Nat) < win0_3.index t 1 * 512 + 512
              rw [o1]; omega

/-- The result array ends holding the gated product. -/
theorem final (c : Dev nD) : (Gen.dats m 0 c).arrAt 3 cfg0.N = result m c :=
  (Gen.dats m 0 c).arrAt_eq_of_cover 3 (result m c) (flushed m c) fun (i : S16384x4096.Idx) => by
    have hN : cfg0.N = 128 := N_0
    have h0 : (i 0).val < 16384 := (i 0).isLt
    have h1 : (i 1).val < 4096 := (i 1).isLt
    refine ⟨⟨(i 0).val / 1024 * 8 + (i 1).val / 512, by rw [hN]; omega⟩, flush0_3 _, ?_⟩
    exact mem_block _ i (by show _ = ((i 0).val / 1024 * 8 + (i 1).val / 512) / 8; omega)
      (by show _ = ((i 0).val / 1024 * 8 + (i 1).val / 512) % 8; omega)

open Cert.Reference7Ideal.Read in
/-- The reference's product read at an index. -/
theorem reference_sum (x : (⟨Cert.Reference7Ideal.S16384x4096, .bf16⟩ : BufTy).Contents (Elt Ideal)) (w : (⟨Cert.Reference7Ideal.S4096x8192, .bf16⟩ : BufTy).Contents (Elt Ideal))
    (i : Cert.Reference7Ideal.S16384x8192.Idx) (r : Fin 16384) (c : Fin 8192) (h0 : (i 0).val = r.val) (h1 : (i 1).val = c.val) :
    val_main_v2 (F := Ideal) x w i = ∑ k : Fin 4096, (x : S16384x4096.Idx → EReal) (ix2 r k) * (w : S4096x8192.Idx → EReal) (ix2 k c) := by
  rw [val_main_v2_apply]
  refine Finset.sum_congr rfl fun k _ => congrArg₂ (· * ·) (congrArg x (funext fun a => Fin.ext ?_)) (congrArg w (funext fun a => Fin.ext ?_))
  · match a with
    | ⟨0, _⟩ => exact h0
    | ⟨1, _⟩ => rfl
  · match a with
    | ⟨0, _⟩ => rfl
    | ⟨1, _⟩ => exact h1

open Cert.Reference7Ideal.Read in
/-- The reference read at an index: the gate of its two halves. -/
theorem reference_apply (x : (⟨Cert.Reference7Ideal.S16384x4096, .bf16⟩ : BufTy).Contents (Elt Ideal)) (w : (⟨Cert.Reference7Ideal.S4096x8192, .bf16⟩ : BufTy).Contents (Elt Ideal))
    (i : S16384x4096.Idx) : val_main_v11 (F := Ideal) x w i = gated x w i := by
  have one : ∀ j, val_main_v9 (F := Ideal) j = (1 : EReal) := fun j => by
    rw [val_main_v9_apply, val_main_cst_0_apply]; exact Ideal.ofBits_one_f32
  have one' : ∀ j, val_main_v7 (F := Ideal) j = (1 : EReal) := fun j => by
    rw [val_main_v7_apply, val_main_cst_apply]; exact Ideal.ofBits_one_f32
  have lo : val_main_v3 (F := Ideal) x w i = _ := (val_main_v3_apply x w i).trans (reference_sum x w _ (i 0) (lower (i 1)) (by first | rfl | exact Nat.zero_add _) (by first | rfl | exact Nat.zero_add _))
  have up : val_main_v4 (F := Ideal) x w i = _ := (val_main_v4_apply x w i).trans (reference_sum x w _ (i 0) (upper (i 1)) (by first | rfl | exact Nat.zero_add _) (by first | rfl | exact Nat.add_comm _ _))
  rw [val_main_v11_apply, val_main_v10_apply, val_main_v8_apply, val_main_v6_apply, val_main_v5_apply, one, one', lo, up]
  rfl

/-- `Kernel7` and its reference end with equal results. -/
theorem algebraic : Cert.algebraic_Kernel7Ideal_Reference7Ideal := by
  intro m ρ m' ρ' _ hagree
  refine ⟨fun c => result m c, (θ_run defs _ _).mono (fun r h c => ⟨(h c).1.trans (final m c), (h c).2⟩) (Value.run_blocks m ρ), ?_⟩
  refine (θ_run _ _ _).mono (fun r h c => ⟨(h c).1.trans ?_, (h c).2⟩) (Cert.Reference7Ideal.Value.run (F := Ideal) m' ρ')
  refine (Cert.Reference7Ideal.Read.val_main_v11_eq _ _).trans ?_
  funext i
  refine (reference_apply _ _ i).trans ?_
  rw [(hagree c).1, (hagree c).2]
  rfl

end Cert.S5Glu

end
-- ==== Proof.DsaKv.lean ====
/-
  `Kernel8` at the extended reals: the keys and values of the layer that selects its keys, from their latents, a product of a
  [16384, 512] array and a [512, 8192] array computed in tiles of 1024 rows and 512 columns.  The array it leaves
  holds at (r, c) the sum of the products along the contracted axis, which is what the reference's one product holds.
-/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.MatmulPlain
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.DsaKv

open Cert.Kernel8Ideal Cert.Kernel8Ideal.Gen

variable (m : (ℓ : Loc nD τ sig) → Buf (Elt Ideal) ℓ) (ρ : Dev nD → PrngReg)

theorem origin : (![0, 0] : Fin 2 → Nat) = fun _ => 0 := funext fun a => by fin_cases a <;> rfl

/-- One tile: the product of the tile's rows of the left operand and its columns of the right one. -/
theorem tile_apply (x : Vec Ideal S1024x512 .bf16) (w : Vec Ideal S512x512 .bf16) (i : S1024x512.Idx) :
    out0_2 x w i = ∑ k : Fin 512, x (ix2 (i 0) k) * w (ix2 k (i 1)) := by
  unfold out0_2
  rw [View.canon_unit_zero origin]
  unfold k0_pay1
  simp only [View.ld_unit_zero (S := S1024x512) origin, View.ld_unit_zero (S := S512x512) origin]
  rw [eq_ix2 i]
  show matmul (F := Ideal) (φ₁ := .bf16) (φ₂ := .bf16) dot_S1024x512_S512x512_S1024x512_1_0_0_1_n_n none x w (constant S1024x512 .f32 0x00000000#32) (ValueIdx.ix2 (i 0) (i 1)) = _
  refine (Ideal.matmul_plain_apply none x w _ (i 0) (i 1)).trans ?_
  refine (congrArg (· + _) (Ideal.ofBits_zero .f32)).trans ((zero_add _).trans ?_)
  refine Finset.sum_congr rfl fun k _ => ?_
  rfl

/-- The product of two arrays of these sizes. -/
def product (x : S16384x512.Idx → EReal) (w : S512x8192.Idx → EReal) : S16384x8192.Idx → EReal :=
  fun i => ∑ k : Fin 512, x (ix2 (i 0) k) * w (ix2 k (i 1))

/-- The product of the two arguments, as contents of the result array. -/
def result (c : Dev nD) : Buf (Elt Ideal) ((c : Thread nD τ).loc main_v0) :=
  product (m ((c : Thread nD τ).loc main_arg0)) (m ((c : Thread nD τ).loc main_arg1))

/-- Which block each operand's window names at point `t`: row block `t / 16`, column block `t % 16`. -/
theorem blocks (t : Fin cfg0.N) : win0_0.index t 0 = t.val / 16 ∧ win0_0.index t 1 = 0 ∧ win0_1.index t 0 = 0 ∧ win0_1.index t 1 = t.val % 16
    ∧ win0_2.index t 0 = t.val / 16 ∧ win0_2.index t 1 = t.val % 16 :=
  (by decide +kernel : ∀ t : Fin grid0.N, win0_0.index t 0 = t.val / 16 ∧ win0_0.index t 1 = 0 ∧ win0_1.index t 0 = 0 ∧ win0_1.index t 1 = t.val % 16
    ∧ win0_2.index t 0 = t.val / 16 ∧ win0_2.index t 1 = t.val % 16) t

/-- What point `t` writes back is its block of the product. -/
theorem flushed (c : Dev nD) (t : Fin cfg0.N) (_ : (cfg0.win 2).flush t = true) :
    (Gen.dats m 0 c).flushed 2 t = ((cfg0.win 2).blk t).view.read (Elt Ideal) (result m c) := by
  obtain ⟨a0, a1, b0, b1, o0, o1⟩ := blocks t
  rw [Value.flushed2]
  funext i
  rw [View.read_apply]
  refine (tile_apply _ _ i).trans ?_
  show _ = result m c _
  unfold result product
  refine Finset.sum_congr (M := EReal) rfl fun k _ => ?_
  congr 1
  · show V m c main_arg0 _ = _
    refine congrArg (m ((c : Thread nD τ).loc main_arg0)) (funext fun a => Fin.ext ?_)
    match a with
    | ⟨0, _⟩ => show win0_0.index t 0 * 1024 + 1 * (i 0).val = win0_2.index t 0 * 1024 + 1 * (i 0).val; rw [a0, o0]
    | ⟨1, _⟩ => show win0_0.index t 1 * 512 + 1 * k.val = k.val; rw [a1]; omega
  · show V m c main_arg1 _ = _
    refine congrArg (m ((c : Thread nD τ).loc main_arg1)) (funext fun a => Fin.ext ?_)
    match a with
    | ⟨0, _⟩ => show win0_1.index t 0 * 512 + 1 * k.val = k.val; rw [b0]; omega
    | ⟨1, _⟩ => show win0_1.index t 1 * 512 + 1 * (i 1).val = win0_2.index t 1 * 512 + 1 * (i 1).val; rw [b1, o1]

/-- An index lies in the block of the point whose row and column blocks it falls in. -/
theorem mem_block (t : Fin cfg0.N) (i : S16384x8192.Idx) (h0 : (i 0).val / 1024 = t.val / 16) (h1 : (i 1).val / 512 = t.val % 16) :
    i ∈ ((cfg0.win 2).blk t).view.set := by
  obtain ⟨_, _, _, _, o0, o1⟩ := blocks t
  show i ∈ ((View.whole main_v0).slice (win0_2.rect t)).set
  rw [View.set_slice_whole, Rect.mem_set_unit]
  intro a
  match a with
  | ⟨0, _⟩ => show win0_2.index t 0 * 1024 ≤ (i 0 : Nat) ∧ (i 0 : Nat) < win0_2.index t 0 * 1024 + 1024
              rw [o0]; omega
  | ⟨1, _⟩ => show win0_2.index t 1 * 512 ≤ (i 1 : Nat) ∧ (i 1 : Nat) < win0_2.index t 1 * 512 + 512
              rw [o1]; omega

/-- The result array ends holding the product. -/
theorem final (c : Dev nD) : (Gen.dats m 0 c).arrAt 2 cfg0.N = result m c :=
  (Gen.dats m 0 c).arrAt_eq_of_cover 2 (result m c) (flushed m c) fun (i : S16384x8192.Idx) => by
    have hN : cfg0.N = 256 := N_0
    have h0 : (i 0).val < 16384 := (i 0).isLt
    have h1 : (i 1).val < 8192 := (i 1).isLt
    refine ⟨⟨(i 0).val / 1024 * 16 + (i 1).val / 512, by rw [hN]; omega⟩, flush0_2 _, ?_⟩
    exact mem_block _ i (by show _ = ((i 0).val / 1024 * 16 + (i 1).val / 512) / 16; omega)
      (by show _ = ((i 0).val / 1024 * 16 + (i 1).val / 512) % 16; omega)

/-- The reference's product read at an index. -/
theorem reference_apply (x : (⟨Cert.Reference8Ideal.S16384x512, .bf16⟩ : BufTy).Contents (Elt Ideal)) (w : (⟨Cert.Reference8Ideal.S512x8192, .bf16⟩ : BufTy).Contents (Elt Ideal))
    (i : S16384x8192.Idx) :
    Cert.Reference8Ideal.Read.val_main_v3 (F := Ideal) x w i = ∑ k : Fin 512, (x : S16384x512.Idx → EReal) (ix2 (i 0) k) * (w : S512x8192.Idx → EReal) (ix2 k (i 1)) := by
  rw [Cert.Reference8Ideal.Read.val_main_v3_apply, Cert.Reference8Ideal.Read.val_main_v2_apply]
  refine Finset.sum_congr rfl fun k _ => ?_
  congr 1
  · refine congrArg x (funext fun a => Fin.ext ?_)
    match a with
    | ⟨0, _⟩ => rfl
    | ⟨1, _⟩ => rfl
  · refine congrArg w (funext fun a => Fin.ext ?_)
    match a with
    | ⟨0, _⟩ => rfl
    | ⟨1, _⟩ => rfl

/-- `Kernel8` and its reference end with equal results. -/
theorem algebraic : Cert.algebraic_Kernel8Ideal_Reference8Ideal := by
  intro m ρ m' ρ' _ hagree
  refine ⟨fun c => result m c, (θ_run defs _ _).mono (fun r h c => ⟨(h c).1.trans (final m c), (h c).2⟩) (Value.run_blocks m ρ), ?_⟩
  refine (θ_run _ _ _).mono (fun r h c => ⟨(h c).1.trans ?_, (h c).2⟩) (Cert.Reference8Ideal.Value.run (F := Ideal) m' ρ')
  refine (Cert.Reference8Ideal.Read.val_main_v3_eq _ _).trans ?_
  funext i
  refine (reference_apply _ _ i).trans ?_
  rw [(hagree c).1, (hagree c).2]
  rfl

end Cert.DsaKv

end
-- ==== Proof.Norm.lean ====
/-
  The root-mean-square normalisation of a row of 4096 at the extended reals, as a block of 256 rows computes it and as
  the reference computes it for every row.
-/
module

public import proofs.«01_k».proof.Defs
public import proofs.«01_k».proof.Proof.Gen.Reference10Ideal.Read
public import Idealize.ShloMosaic.Lib.Pipeline.Value
public import Idealize.ShloMosaic.Lib.Pointwise
public import Idealize.ShloMosaic.Lib.ValueLayout
public import Idealize.ShloMosaic.Lib.ValueLayoutCasts
public import Idealize.ShloMosaic.Lib.KernelVsHost
public import Idealize.ShloMosaic.Lib.IdealHost
public import Idealize.ShloMosaic.Lib.Tactic

@[expose] public section

set_option maxRecDepth 16384

noncomputable section

open Idealize.ShloMosaic Idealize.ShloMosaic.TcCoe Idealize.SL.Sem

namespace Cert.Norm

/-- Blocks of 256 rows, and what is kept of each row. -/
abbrev Rows : Shape := ⟨2, ![256, 4096]⟩
abbrev Column : Shape := ⟨2, ![256, 1]⟩
abbrev Gains : Shape := ⟨2, ![1, 4096]⟩
abbrev Sums : Shape := ⟨1, ![256]⟩

/-- A row over its root mean square, times the gains: `x · rsqrt(Σ x² / 4096 + ε) · g`. -/
def norm (x g : Fin 4096 → EReal) (d : Fin 4096) : EReal :=
  x d * Ideal.rsqrt (Ideal.div (∑ k : Fin 4096, x k * x k) (Ideal.ofBits .f32 0x45800000#32) + Ideal.ofBits .f32 0x358637BD#32) * g d

/-- The sum of the squares of a row of a block. -/
theorem squares_apply (y : FVec Ideal Rows .f32) (h : Rows.Reduces [1] Sums) (r : Fin 256) :
    multiReduction (F := Ideal) .add [1] Sums (mulf y y) 0x00000000#32 h (.inl rfl) rfl (ix1 r) = ∑ k : Fin 4096, (y (ix2 r k) : EReal) * y (ix2 r k) := by
  refine (Ideal.multiReduction_add_single _ _ _ _ _ _).trans ?_
  refine Finset.sum_congr (M := EReal) rfl fun k _ => ?_
  have e : h.lift (ix1 r) k = ix2 r k := by
    funext x
    match x with
    | ⟨0, _⟩ => rfl
    | ⟨1, _⟩ => rfl
  exact congrArg (fun j => (y j : EReal) * y j) e

/-- A column repeated along the rows. -/
theorem column_apply (x : FVec Ideal Column .f32) (h : Column.Broadcasts Rows) (r : Fin 256) (d : Fin 4096) : broadcastTo Rows x h (ix2 r d) = x (ix2 r 0) :=
  broadcastTo_apply _ _ _ _ fun a => by
    match a with
    | ⟨0, _⟩ => rfl
    | ⟨1, _⟩ => rfl

/-- The gains repeated down the rows. -/
theorem gains_apply (x : FVec Ideal Gains .f32) (hs : Gains.ShapeCasts Gains) (h : Gains.Broadcasts Rows) (r : Fin 256) (d : Fin 4096) :
    broadcastTo Rows (shapeCast Gains x hs) h (ix2 r d) = x (ix2 0 d) := by
  rw [shapeCast_self]
  exact broadcastTo_apply _ _ _ _ fun a => by
    match a with
    | ⟨0, _⟩ => rfl
    | ⟨1, _⟩ => rfl

/-- A block of rows normalised: each row over its root mean square, times the gains. -/
theorem rows_apply (y : FVec Ideal Rows .f32) (g : FVec Ideal Gains .f32) (hr : Rows.Reduces [1] Sums) (hc : Sums.ShapeCasts Column)
    (hb : Column.Broadcasts Rows) (hs : Gains.ShapeCasts Gains) (hg : Gains.Broadcasts Rows) (r : Fin 256) (d : Fin 4096) :
    mulf (mulf y (broadcastTo Rows (rsqrt (addf (divf (shapeCast Column (multiReduction (F := Ideal) .add [1] Sums (mulf y y) 0x00000000#32 hr (.inl rfl) rfl) hc)
        (broadcast Column (Scalar.ofBits .f32 0x45800000#32))) (broadcast Column (Scalar.ofBits .f32 0x358637BD#32)))) hb))
      (broadcastTo Rows (shapeCast Gains g hs) hg) (ix2 r d) = norm (fun k => y (ix2 r k)) (fun k => g (ix2 0 k)) d := by
  refine congrArg₂ (fun a b : EReal => a * b) (congrArg (fun a : EReal => (y (ix2 r d) : EReal) * a) ((column_apply _ hb r d).trans ?_)) (gains_apply g hs hg r d)
  refine congrArg (fun a : EReal => Ideal.rsqrt (Ideal.div a (Ideal.ofBits .f32 0x45800000#32) + Ideal.ofBits .f32 0x358637BD#32)) ?_
  exact (ValueIdx.shapeCast_a_a1_apply _ _ r 0).trans (squares_apply y hr r)

section Host

open Cert.Reference10Ideal Cert.Reference10Ideal.Read

/-- The reference's normalisation of an array of rows, read at an index. -/
theorem host_apply (y : (⟨S16384x4096, .f32⟩ : BufTy).Contents (Elt Ideal)) (g : (⟨S4096, .f32⟩ : BufTy).Contents (Elt Ideal)) (r : Fin 16384) (d : Fin 4096) :
    val_main_v12 (F := Ideal) y g (ix2 r d) = norm (fun k => y (ix2 r k)) (fun k => g (ix1 k)) d := by
  rw [val_main_v12_apply, val_main_v9_apply, val_main_v8_apply, val_main_v7_apply, val_main_v6_apply, val_main_v4_apply, val_main_v2_apply,
    val_main_v1_apply, val_main_v11_apply, val_main_v10_apply, val_main_v3_apply, val_main_v5_apply]
  refine congrArg₂ (fun a b : EReal => a * b) (congrArg (fun a : EReal => (y (ix2 r d) : EReal) * a) ?_) (congrArg g ?_)
  · refine congrArg (fun a : EReal => Ideal.rsqrt (a + Ideal.ofBits .f32 0x358637BD#32)) ((Ideal.hostDivf_def _ _).trans ?_)
    refine congrArg (fun a : EReal => Ideal.div a (Ideal.ofBits .f32 0x45800000#32)) ?_
    refine (congrArg (· + _) (Ideal.ofBits_zero .f32)).trans ((zero_add _).trans ?_)
    refine Finset.sum_congr (M := EReal) rfl fun k _ => ?_
    refine congrArg (fun j => (y j : EReal) * y j) (funext fun a => ?_)
    match a with
    | ⟨0, _⟩ => rfl
    | ⟨1, _⟩ => rfl
  · funext a
    match a with
    | ⟨0, _⟩ => rfl

end Host

end Cert.Norm

end
-- ==== Proof.CrossBlock.lean ====
/-
  `Kernel9` at the extended reals: what one block of 256 rows computes.  Each row asks its four heads' 256 tokens, the
  answers are projected and normalised, and the row's residual and its own normalisation are left.
-/
module

public import proofs.«01_k».proof.Proof.Norm
public import proofs.«01_k».proof.Proof.Block
public import proofs.«01_k».proof.Proof.Gen.Kernel9Ideal.Value
public import Idealize.ShloMosaic.Lib.MatmulPlain

@[expose] public section

set_option maxRecDepth 16384

noncomputable section

open Idealize.ShloMosaic Idealize.ShloMosaic.TcCoe Idealize.SL.Sem

namespace Cert.CrossAttention

open Cert.Kernel9Ideal Cert.Kernel9Ideal.Gen Cert.Norm

/-! ## A row, in plain mathematics -/

/-- The score of each of 256 tokens for a query. -/
def score (q : Fin 128 → EReal) (K : Fin 256 → Fin 128 → EReal) (n : Fin 256) : EReal := (∑ d : Fin 128, q d * K n d) * Ideal.ofBits .f32 0x3DB504F3#32

/-- The weight of a token before division: the exponential of its score less the largest. -/
def weight (s : Fin 256 → EReal) (n : Fin 256) : EReal := Ideal.exp (s n - Finset.univ.sup s)

/-- The tokens' values weighted by the softmax of the scores. -/
def attend (s : Fin 256 → EReal) (W : Fin 256 → Fin 128 → EReal) (d : Fin 128) : EReal :=
  ∑ n : Fin 256, Ideal.div (weight s n) (∑ k : Fin 256, weight s k) * W n d

/-- Head and lane of a column of 512, and the column of a head's lane. -/
def head (j : Fin 512) : Fin 4 := ⟨j.val / 128, by have := j.isLt; omega⟩
def lane (j : Fin 512) : Fin 128 := ⟨j.val % 128, by omega⟩
def column (h : Fin 4) (d : Fin 128) : Fin 512 := ⟨128 * h.val + d.val, by have := h.isLt; have := d.isLt; omega⟩

/-- The four heads' queries of a row. -/
def query (x : Fin 4096 → EReal) (wq : Fin 4096 → Fin 512 → EReal) (j : Fin 512) : EReal := ∑ k : Fin 4096, x k * wq k j

/-- The four heads' answers to a row. -/
def attended (x : Fin 4096 → EReal) (wq : Fin 4096 → Fin 512 → EReal) (K W : Fin 4 → Fin 256 → Fin 128 → EReal) (j : Fin 512) : EReal :=
  attend (score (fun d => query x wq (column (head j) d)) (K (head j))) (W (head j)) (lane j)

/-- The answers projected back to the row's width. -/
def projected (x : Fin 4096 → EReal) (wq : Fin 4096 → Fin 512 → EReal) (K W : Fin 4 → Fin 256 → Fin 128 → EReal) (wo : Fin 512 → Fin 4096 → EReal)
    (c : Fin 4096) : EReal := ∑ j : Fin 512, attended x wq K W j * wo j c

/-- The row with its normalised projected answers added. -/
def hidden (x h : Fin 4096 → EReal) (wq : Fin 4096 → Fin 512 → EReal) (K W : Fin 4 → Fin 256 → Fin 128 → EReal) (wo : Fin 512 → Fin 4096 → EReal)
    (g : Fin 4096 → EReal) (c : Fin 4096) : EReal := h c + norm (projected x wq K W wo) g c

/-! ## One head of a block -/

/-- The scores of one head of a block. -/
def scores (q : FVec Ideal S256x128 .bf16) (k : Vec Ideal S1x256x128 .bf16) : FVec Ideal S256x256 .f32 :=
  mulf (matmul (F := Ideal) (φ₁ := .bf16) (φ₂ := .bf16) dot_S256x128_S256x128_S256x256_1_1_0_0_n_n none q (shapeCast S256x128 k shapeCasts_S1x256x128_S256x128) (constant S256x256 .f32 0x00000000#32))
    (broadcast S256x256 (Scalar.ofBits .f32 0x3DB504F3#32))

/-- The exponentials of one head's scores less the largest of each row. -/
def weights (s : FVec Ideal S256x256 .f32) : FVec Ideal S256x256 .f32 :=
  exp (subf s (broadcastTo S256x256 (shapeCast S256x1 (multiReduction .maximumf [1] S256 s 0xFF800000#32 reduces_S256x256_S256 (.inl rfl) rfl) shapeCasts_S256_S256x1)
    broadcasts_S256x1_S256x256))

/-- One head's answers: the weights over their sums, applied to the values. -/
def answers (e : FVec Ideal S256x256 .f32) (v : Vec Ideal S1x256x128 .bf16) : FVec Ideal S256x128 .f32 :=
  matmul (F := Ideal) (φ₁ := .bf16) (φ₂ := .bf16) dot_S256x256_S256x128_S256x128_1_0_0_1_n_n none
    (truncf .bf16 (divf e (broadcastTo S256x256 (shapeCast S256x1 (multiReduction .add [1] S256 e 0x00000000#32 reduces_S256x256_S256 (.inl rfl) rfl) shapeCasts_S256_S256x1)
      broadcasts_S256x1_S256x256)) bitsLt_bf16_f32)
    (shapeCast S256x128 v shapeCasts_S1x256x128_S256x128) (constant S256x128 .f32 0x00000000#32)

theorem scores_apply (q : FVec Ideal S256x128 .bf16) (k : Vec Ideal S1x256x128 .bf16) (r n : Fin 256) :
    scores q k (ix2 r n) = score (fun d => q (ix2 r d)) (fun n d => k (ix3 0 n d)) n := by
  unfold scores
  refine congrArg (fun a : EReal => a * Ideal.ofBits .f32 0x3DB504F3#32) ?_
  refine (Ideal.matmul_transposedRhs_apply none _ _ _ r n).trans ((congrArg (· + _) (Ideal.ofBits_zero .f32)).trans ((zero_add _).trans ?_))
  refine Finset.sum_congr (M := EReal) rfl fun d _ => ?_
  exact congrArg (fun a : EReal => (q (ix2 r d) : EReal) * a) (ValueIdx.shapeCast_1ab_ab_apply _ _ n d)

/-- A column repeated along the tokens. -/
theorem repeat_apply (x : FVec Ideal S256x1 .f32) (r n : Fin 256) : broadcastTo S256x256 x broadcasts_S256x1_S256x256 (ix2 r n) = x (ix2 r 0) :=
  broadcastTo_apply _ _ _ _ fun a => by
    match a with
    | ⟨0, _⟩ => rfl
    | ⟨1, _⟩ => rfl

theorem lift_apply (r n : Fin 256) : reduces_S256x256_S256.lift (ix1 r) n = ix2 r n := by
  funext x
  match x with
  | ⟨0, _⟩ => rfl
  | ⟨1, _⟩ => rfl

theorem top_apply (s : FVec Ideal S256x256 .f32) (r : Fin 256) :
    multiReduction (F := Ideal) .maximumf [1] S256 s 0xFF800000#32 reduces_S256x256_S256 (.inl rfl) rfl (ix1 r) = Finset.univ.sup fun n : Fin 256 => (s (ix2 r n) : EReal) := by
  refine (Ideal.multiReduction_maximumf_single _ _ _ _ _ _).trans ?_
  rw [show FloatOps.ofBits (F := Ideal) .f32 0xFF800000#32 = (⊥ : EReal) from Cert.Attention.ofBits_neg_inf]
  show Finset.univ.fold max ⊥ _ = Finset.univ.fold max ⊥ _
  exact Finset.fold_congr (op := max) (f := s ∘ reduces_S256x256_S256.lift (ix1 r)) fun n _ => congrArg s (lift_apply r n)

theorem weights_apply (s : FVec Ideal S256x256 .f32) (r n : Fin 256) : weights s (ix2 r n) = weight (fun k => s (ix2 r k)) n :=
  congrArg (fun a : EReal => Ideal.exp ((s (ix2 r n) : EReal) - a)) ((repeat_apply _ r n).trans ((ValueIdx.shapeCast_a_a1_apply _ _ r 0).trans (top_apply s r)))

theorem answers_apply (e : FVec Ideal S256x256 .f32) (v : Vec Ideal S1x256x128 .bf16) (r : Fin 256) (d : Fin 128) :
    answers e v (ix2 r d) = ∑ n : Fin 256, Ideal.div (e (ix2 r n)) (∑ k : Fin 256, (e (ix2 r k) : EReal)) * v (ix3 0 n d) := by
  unfold answers
  refine (Ideal.matmul_plain_apply none _ _ _ r d).trans ((congrArg (· + _) (Ideal.ofBits_zero .f32)).trans ((zero_add _).trans ?_))
  refine Finset.sum_congr (M := EReal) rfl fun n _ => ?_
  refine congrArg₂ (fun a b : EReal => a * b) (congrArg (Ideal.div (e (ix2 r n))) ?_) (ValueIdx.shapeCast_1ab_ab_apply _ _ n d)
  refine (repeat_apply _ r n).trans ((ValueIdx.shapeCast_a_a1_apply _ _ r 0).trans ((Ideal.multiReduction_add_single _ _ _ _ _ _).trans ?_))
  exact Finset.sum_congr (M := EReal) rfl fun k _ => congrArg e (lift_apply r k)

/-- One head's answers, from its queries, keys and values. -/
theorem head_apply (q : FVec Ideal S256x128 .bf16) (k v : Vec Ideal S1x256x128 .bf16) (r : Fin 256) (d : Fin 128) :
    answers (weights (scores q k)) v (ix2 r d) = attend (score (fun e => q (ix2 r e)) fun n e => k (ix3 0 n e)) (fun n e => v (ix3 0 n e)) d := by
  refine (answers_apply _ v r d).trans ?_
  have e : ∀ n : Fin 256, weights (scores q k) (ix2 r n) = weight (score (fun e => q (ix2 r e)) fun n e => k (ix3 0 n e)) n := fun n =>
    (weights_apply _ r n).trans (congrArg (fun f => weight f n) (funext fun n => scores_apply q k r n))
  unfold attend
  refine Finset.sum_congr (M := EReal) rfl fun n _ => ?_
  refine congrArg (fun a : EReal => a * v (ix3 0 n d)) (congrArg₂ Ideal.div (e n) ?_)
  exact Finset.sum_congr (M := EReal) rfl fun k _ => e k

/-! ## The whole block -/

/-- The queries of a block. -/
theorem query_apply (a : Vec Ideal S256x4096 .bf16) (wq : Vec Ideal S4096x512 .bf16) (r : Fin 256) (j : Fin 512) :
    k0_pay2 a wq (ix2 r j) = query (fun k => a (ix2 r k)) (fun k j => wq (ix2 k j)) j := by
  unfold k0_pay2
  exact (Ideal.matmul_plain_apply none _ _ _ r j).trans ((congrArg (· + _) (Ideal.ofBits_zero .f32)).trans (zero_add _))

/-- One head's columns of a block's queries. -/
theorem slice_apply (o : Nat) (q : FVec Ideal S256x512 .f32) (hs : S256x512.Slices ![0, o] S256x128) (h : Fin 4) (ho : o = 128 * h.val) (r : Fin 256) (d : Fin 128) :
    truncf (F := Ideal) .bf16 (extractStridedSlice S256x128 ![0, o] q hs) bitsLt_bf16_f32 (ix2 r d) = (q (ix2 r (column h d)) : EReal) :=
  extractStridedSlice_apply _ q hs (ix2 r d) (ix2 r (column h d)) fun a => by
    match a with
    | ⟨0, _⟩ => show r.val = 0 + r.val; omega
    | ⟨1, _⟩ => show 128 * h.val + d.val = o + d.val; omega

/-- The four heads' answers side by side, read at a column. -/
theorem beside_apply (a b c d : FVec Ideal S256x128 .f32) (r : Fin 256) (j : Fin 512) :
    concatenate S256x512 1 [⟨S256x128, a⟩, ⟨S256x128, b⟩, ⟨S256x128, c⟩, ⟨S256x128, d⟩] concatenates_S256x128_S256x128_S256x128_S256x128_S256x512_d1 (ix2 r j) = (![a, b, c, d] (head j)) (ix2 r (lane j)) :=
  concatenate_ofFn_apply (t := S256x512) (s₁ := S256x128) 1 ![a, b, c, d] concatenates_S256x128_S256x128_S256x128_S256x128_S256x512_d1 rfl 128 rfl (ix2 r j) (head j) rfl (ix2 r (lane j)) rfl fun x hx => by
    match x with
    | ⟨0, _⟩ => rfl
    | ⟨1, _⟩ => exact absurd rfl hx

/-- The projection of the four heads' answers. -/
theorem projection_apply (a b c d : FVec Ideal S256x128 .f32) (wo : Vec Ideal S512x4096 .bf16) (r : Fin 256) (k : Fin 4096) :
    matmul (F := Ideal) (φ₁ := .bf16) (φ₂ := .bf16) dot_S256x512_S512x4096_S256x4096_1_0_0_1_n_n none
        (truncf .bf16 (concatenate S256x512 1 [⟨S256x128, a⟩, ⟨S256x128, b⟩, ⟨S256x128, c⟩, ⟨S256x128, d⟩] concatenates_S256x128_S256x128_S256x128_S256x128_S256x512_d1) bitsLt_bf16_f32) wo (constant S256x4096 .f32 0x00000000#32) (ValueIdx.ix2 r k)
      = ∑ j : Fin 512, ((![a, b, c, d] (head j)) (ix2 r (lane j)) : EReal) * wo (ix2 j k) := by
  refine (Ideal.matmul_plain_apply none _ _ _ r k).trans ((congrArg (· + _) (Ideal.ofBits_zero .f32)).trans ((zero_add _).trans ?_))
  refine Finset.sum_congr (M := EReal) rfl fun j _ => ?_
  exact congrArg (fun x : EReal => x * wo (ix2 j k)) (beside_apply a b c d r j)

/-- The residual of a block from its four heads' answers. -/
theorem residual_apply (a b c : FVec Ideal S256x128 .f32) (e : FVec Ideal S256x256 .f32) (v : Vec Ideal S1x256x128 .bf16) (wo : Vec Ideal S512x4096 .bf16)
    (h : Vec Ideal S256x4096 .f32) (g : Vec Ideal S1x4096 .f32) (r : Fin 256) (k : Fin 4096) :
    k0_pay9 a b c e v wo h g (ix2 r k)
      = (h (ix2 r k) : EReal) + norm (fun k => ∑ j : Fin 512, ((![a, b, c, answers e v] (head j)) (ix2 r (lane j)) : EReal) * wo (ix2 j k)) (fun k => g (ix2 0 k)) k := by
  unfold k0_pay9
  refine congrArg (fun x : EReal => (h (ix2 r k) : EReal) + x) ((rows_apply _ g _ _ _ _ _ r k).trans ?_)
  exact congrArg (fun f => norm f (fun k => g (ix2 0 k)) k) (funext fun k => projection_apply a b c (answers e v) wo r k)

section Tile

variable (x0 : Vec Ideal S256x4096 .bf16) (x1 : Vec Ideal S256x4096 .f32) (x2 : Vec Ideal S4096x512 .bf16) (x3 x4 : Vec Ideal S4x256x128 .bf16)
  (x5 : Vec Ideal S512x4096 .bf16) (x6 x7 : Vec Ideal S1x4096 .f32)

theorem origin : (![0, 0] : Fin 2 → Nat) = fun _ => 0 := funext fun a => by fin_cases a <;> rfl

/-- One head's keys or values among the four. -/
theorem token_apply (x : Vec Ideal S4x256x128 .bf16) (o : Nat) (hb : ∀ a, (![o, 0, 0] : Fin 3 → Nat) a + S1x256x128.size a ≤ S4x256x128.size a) (h : Fin 4) (ho : o = h.val) (n : Fin 256) (d : Fin 128) :
    View.ld x (Rect.unit (s := S4x256x128) ![o, 0, 0] S1x256x128.size hb) (ix3 0 n d) = x (ix3 h n d) := by
  refine congrArg x (funext fun a => Fin.ext ?_)
  match a with
  | ⟨0, _⟩ => show o + 1 * 0 = h.val; omega
  | ⟨1, _⟩ => show 0 + 1 * n.val = n.val; omega
  | ⟨2, _⟩ => show 0 + 1 * d.val = d.val; omega

/-- A head's answers in a block, from the block's rows and the head's tokens. -/
theorem answer_apply (o o' : Nat) (hs : S256x512.Slices ![0, o'] S256x128) (hb : ∀ a, (![o, 0, 0] : Fin 3 → Nat) a + S1x256x128.size a ≤ S4x256x128.size a)
    (h : Fin 4) (ho : o = h.val) (ho' : o' = 128 * h.val) (r : Fin 256) (d : Fin 128) :
    answers (weights (scores (truncf (F := Ideal) .bf16 (extractStridedSlice S256x128 ![0, o'] (k0_pay2 x0 x2) hs) bitsLt_bf16_f32)
        (View.ld x3 (Rect.unit (s := S4x256x128) ![o, 0, 0] S1x256x128.size hb)))) (View.ld x4 (Rect.unit (s := S4x256x128) ![o, 0, 0] S1x256x128.size hb)) (ix2 r d)
      = attend (score (fun e => query (fun k => x0 (ix2 r k)) (fun k j => x2 (ix2 k j)) (column h e)) fun n e => x3 (ix3 h n e)) (fun n e => x4 (ix3 h n e)) d := by
  refine (head_apply _ _ _ r d).trans ?_
  refine congrArg₂ (fun s w => attend s w d) (congrArg₂ score (funext fun e => ?_) (funext fun n => funext fun e => token_apply x3 o hb h ho n e))
    (funext fun n => funext fun e => token_apply x4 o hb h ho n e)
  exact (slice_apply o' _ hs h ho' r e).trans (query_apply x0 x2 r _)

/-- The four heads' answers in a block. -/
theorem four_apply (h : Fin 4) (r : Fin 256) (d : Fin 128) :
    (![k0_pay3 x0 x2 (View.ld x3 r0_2) (View.ld x4 r0_2), k0_pay6 (k0_pay4 x0 x2 (View.ld x3 r0_3)) (k0_pay5 x0 x2 (View.ld x3 r0_3)) (View.ld x4 r0_3),
        k0_pay7 (k0_pay2 x0 x2) (View.ld x3 r0_4) (View.ld x4 r0_4), answers (k0_pay8 (k0_pay2 x0 x2) (View.ld x3 r0_5)) (View.ld x4 r0_5)] h) (ix2 r d)
      = attend (score (fun e => query (fun k => x0 (ix2 r k)) (fun k j => x2 (ix2 k j)) (column h e)) fun n e => x3 (ix3 h n e)) (fun n e => x4 (ix3 h n e)) d := by
  match h with
  | ⟨0, _⟩ => exact answer_apply x0 x2 x3 x4 0 0 slices_S256x512_o0_0_S256x128 inb_S4x256x128_S1x256x128_0_0_0 0 rfl rfl r d
  | ⟨1, _⟩ => exact answer_apply x0 x2 x3 x4 1 128 slices_S256x512_o0_128_S256x128 inb_S4x256x128_S1x256x128_1_0_0 1 rfl rfl r d
  | ⟨2, _⟩ => exact answer_apply x0 x2 x3 x4 2 256 slices_S256x512_o0_256_S256x128 inb_S4x256x128_S1x256x128_2_0_0 2 rfl rfl r d
  | ⟨3, _⟩ => exact answer_apply x0 x2 x3 x4 3 384 slices_S256x512_o0_384_S256x128 inb_S4x256x128_S1x256x128_3_0_0 3 rfl rfl r d

/-- The residual of a block, from its rows. -/
theorem block_apply (r : Fin 256) (c : Fin 4096) :
    k0_pay9 (k0_pay3 x0 x2 (View.ld x3 r0_2) (View.ld x4 r0_2)) (k0_pay6 (k0_pay4 x0 x2 (View.ld x3 r0_3)) (k0_pay5 x0 x2 (View.ld x3 r0_3)) (View.ld x4 r0_3))
        (k0_pay7 (k0_pay2 x0 x2) (View.ld x3 r0_4) (View.ld x4 r0_4)) (k0_pay8 (k0_pay2 x0 x2) (View.ld x3 r0_5)) (View.ld x4 r0_5) x5 x1 x6 (ix2 r c)
      = hidden (fun k => x0 (ix2 r k)) (fun k => x1 (ix2 r k)) (fun k j => x2 (ix2 k j)) (fun h n e => x3 (ix3 h n e)) (fun h n e => x4 (ix3 h n e))
          (fun j k => x5 (ix2 j k)) (fun k => x6 (ix2 0 k)) c := by
  refine (residual_apply _ _ _ _ _ x5 x1 x6 r c).trans ?_
  refine congrArg (fun f => (x1 (ix2 r c) : EReal) + norm f (fun k => x6 (ix2 0 k)) c) (funext fun k => ?_)
  refine Finset.sum_congr (M := EReal) rfl fun j _ => ?_
  exact congrArg (fun a : EReal => a * x5 (ix2 j k)) (four_apply x0 x2 x3 x4 (head j) r (lane j))

/-- The second output of a block is the normalisation of its residual. -/
theorem last_apply (a b c : FVec Ideal S256x128 .f32) (e : FVec Ideal S256x256 .f32) (v : Vec Ideal S1x256x128 .bf16) (r : Fin 256) (k : Fin 4096) :
    k0_pay1 (k0_pay9 a b c e v x5 x1 x6) (k0_pay10 x7) (k0_pay11 a b c e v x5 x1 x6) (k0_pay12 (F := Ideal)) (ix2 r k)
      = norm (fun k => k0_pay9 a b c e v x5 x1 x6 (ix2 r k)) (fun k => x7 (ix2 0 k)) k := by
  unfold k0_pay1 k0_pay10 k0_pay11 k0_pay12
  exact rows_apply (k0_pay9 a b c e v x5 x1 x6) x7 _ _ _ _ _ r k

/-- What the first output's block holds. -/
theorem tile_sum (r : Fin 256) (c : Fin 4096) :
    out0_8 x0 x1 x2 x3 x4 x5 x6 x7 (ix2 r c)
      = hidden (fun k => x0 (ix2 r k)) (fun k => x1 (ix2 r k)) (fun k j => x2 (ix2 k j)) (fun h n e => x3 (ix3 h n e)) (fun h n e => x4 (ix3 h n e))
          (fun j k => x5 (ix2 j k)) (fun k => x6 (ix2 0 k)) c := by
  unfold out0_8
  rw [View.canon_unit_zero origin]
  unfold k0_pay14 k0_pay15 k0_pay16 k0_pay17 k0_pay13
  simp only [View.ld_unit_zero (S := S256x4096) origin, View.ld_unit_zero (S := S1x4096) origin, View.ld_unit_zero (S := S4096x512) origin,
    View.ld_unit_zero (S := S512x4096) origin]
  exact block_apply x0 x1 x2 x3 x4 x5 x6 r c

/-- What the second output's block holds. -/
theorem tile_normed (r : Fin 256) (c : Fin 4096) :
    out0_9 x0 x1 x2 x3 x4 x5 x6 x7 (ix2 r c)
      = norm (hidden (fun k => x0 (ix2 r k)) (fun k => x1 (ix2 r k)) (fun k j => x2 (ix2 k j)) (fun h n e => x3 (ix3 h n e)) (fun h n e => x4 (ix3 h n e))
          (fun j k => x5 (ix2 j k)) fun k => x6 (ix2 0 k)) (fun k => x7 (ix2 0 k)) c := by
  unfold out0_9
  rw [View.canon_unit_zero origin]
  unfold k0_pay14 k0_pay15 k0_pay16 k0_pay17 k0_pay13
  simp only [View.ld_unit_zero (S := S256x4096) origin, View.ld_unit_zero (S := S1x4096) origin, View.ld_unit_zero (S := S4096x512) origin,
    View.ld_unit_zero (S := S512x4096) origin]
  refine (last_apply x1 x5 x6 x7 _ _ _ _ _ r c).trans ?_
  exact congrArg (fun f => norm f (fun k => x7 (ix2 0 k)) c) (funext fun k => block_apply x0 x1 x2 x3 x4 x5 x6 r k)

end Tile

end Cert.CrossAttention

end
-- ==== Proof.CrossReference.lean ====
/-
  The reference of `Kernel9` at the extended reals, read at a row: the four heads' answers, their projection, and the
  residual with its normalisation.
-/
module

public import proofs.«01_k».proof.Proof.CrossBlock
public import proofs.«01_k».proof.Proof.Gen.Reference9Ideal.Run
public import proofs.«01_k».proof.Proof.Gen.Reference9Ideal.Read

@[expose] public section

set_option maxRecDepth 16384

noncomputable section

open Idealize.ShloMosaic Idealize.ShloMosaic.TcCoe Idealize.SL.Sem

namespace Cert.CrossAttention

open Cert.Norm
open Cert.Reference9Ideal Cert.Reference9Ideal.Gen Cert.Reference9Ideal.Read

variable (x0 : (⟨S16384x4096, .bf16⟩ : BufTy).Contents (Elt Ideal)) (x1 : (⟨S16384x4096, .f32⟩ : BufTy).Contents (Elt Ideal))
  (x2 : (⟨S4096x512, .bf16⟩ : BufTy).Contents (Elt Ideal)) (x3 x4 : (⟨S4x256x128, .bf16⟩ : BufTy).Contents (Elt Ideal))
  (x5 : (⟨S512x4096, .bf16⟩ : BufTy).Contents (Elt Ideal)) (x6 x7 : (⟨S4096, .f32⟩ : BufTy).Contents (Elt Ideal))

/-- The queries of row `r` for head `h`. -/
theorem reference_query (r : Fin 16384) (h : Fin 4) (d : Fin 128) :
    val_main_v3 (F := Ideal) x0 x2 (ix3 r h d) = query (fun k => x0 (ix2 r k)) (fun k j => x2 (ix2 k j)) (column h d) := by
  rw [val_main_v3_apply, val_main_v2_apply]
  have h4 := h.isLt
  have h5 := d.isLt
  refine Finset.sum_congr (M := EReal) rfl fun k _ => ?_
  refine congrArg₂ (fun a b : EReal => a * b) (congrArg x0 (funext fun a => Fin.ext ?_)) (congrArg x2 (funext fun a => Fin.ext ?_))
  · match a with
    | ⟨0, _⟩ => show ((r.val * 4 + h.val) * 128 + d.val) / 512 = r.val; omega
    | ⟨1, _⟩ => rfl
  · match a with
    | ⟨0, _⟩ => rfl
    | ⟨1, _⟩ => show ((r.val * 4 + h.val) * 128 + d.val) % 512 = 128 * h.val + d.val; omega

/-- The scores of row `r` for head `h`. -/
abbrev rowScores (r : Fin 16384) (h : Fin 4) : Fin 256 → EReal :=
  score (fun d => query (fun k => x0 (ix2 r k)) (fun k j => x2 (ix2 k j)) (column h d)) fun n e => x3 (ix3 h n e)

theorem reference_score (r : Fin 16384) (h : Fin 4) (n : Fin 256) : val_main_v7 (F := Ideal) x0 x2 x3 (ix3 h r n) = rowScores x0 x2 x3 r h n := by
  rw [val_main_v7_apply, val_main_v5_apply, val_main_v6_apply]
  refine congrArg (fun a : EReal => a * Ideal.ofBits .f32 0x3DB504F3#32) ?_
  refine Finset.sum_congr (M := EReal) rfl fun d _ => ?_
  refine congrArg₂ (fun a b : EReal => a * b) ?_ (congrArg x3 (funext fun a => Fin.ext ?_))
  · refine (congrArg (val_main_v3 (F := Ideal) x0 x2) (funext fun a => Fin.ext ?_)).trans (reference_query x0 x2 r h d)
    match a with
    | ⟨0, _⟩ => rfl
    | ⟨1, _⟩ => rfl
    | ⟨2, _⟩ => rfl
  · match a with
    | ⟨0, _⟩ => rfl
    | ⟨1, _⟩ => rfl
    | ⟨2, _⟩ => rfl

/-- A maximum over the tokens, at a head and a row. -/
theorem hostTop_apply (v : FVec Ideal S4x16384x256 .f32) (hs : S4x16384x256.ReducesTo [2] S4x16384) (hu : 0 < S_.numel) (h : Fin 4)
    (r : Fin 16384) : Host.reduce FloatOps.maximumf v (constant S_ .f32 0xFF800000#32) hs hu (ix2 h r)
      = Finset.univ.sup (fun n : Fin 256 => (v (ix3 h r n) : EReal)) := by
  have hr : S4x16384x256.Reduces [2] S4x16384 := by decide
  refine (congrFun (hostReduce_maximumf_eq_multiReduction (F := Ideal) (φ := .f32) v 0xFF800000#32 hs hu hr (.inl rfl) rfl) (ix2 h r)).trans ?_
  refine (Ideal.multiReduction_maximumf_single v _ hr _ _ (ix2 h r)).trans ?_
  rw [show FloatOps.ofBits (F := Ideal) .f32 0xFF800000#32 = (⊥ : EReal) from Cert.Attention.ofBits_neg_inf]
  show Finset.univ.fold max ⊥ _ = Finset.univ.fold max ⊥ _
  refine Finset.fold_congr (op := max) (f := v ∘ hr.lift (ix2 h r)) fun n _ => ?_
  refine congrArg v (funext fun a => ?_)
  match a with
  | ⟨0, _⟩ => rfl
  | ⟨1, _⟩ => rfl
  | ⟨2, _⟩ => rfl

theorem reference_top (r : Fin 16384) (h : Fin 4) : val_main_v10 (F := Ideal) x0 x2 x3 (ix2 h r) = Finset.univ.sup (rowScores x0 x2 x3 r h) := by
  rw [val_main_v10_apply, val_main_v9_apply]
  unfold val_main_v8
  refine (congrArg₂ max (show _ = (⊥ : EReal) from Cert.Attention.ofBits_neg_inf) (hostTop_apply _ _ _ h r)).trans ((max_eq_right bot_le).trans ?_)
  exact congrArg (Finset.univ.sup (α := EReal)) (funext fun n => reference_score x0 x2 x3 r h n)

theorem reference_weight (r : Fin 16384) (h : Fin 4) (n : Fin 256) : val_main_v14 (F := Ideal) x0 x2 x3 (ix3 h r n) = weight (rowScores x0 x2 x3 r h) n := by
  rw [val_main_v14_apply, val_main_v13_apply, val_main_v12_apply, val_main_v11_apply]
  refine congrArg Ideal.exp (congrArg₂ (fun a b : EReal => a - b) (reference_score x0 x2 x3 r h n) ?_)
  refine (congrArg (val_main_v10 (F := Ideal) x0 x2 x3) (funext fun a => Fin.ext ?_)).trans (reference_top x0 x2 x3 r h)
  match a with
  | ⟨0, _⟩ => rfl
  | ⟨1, _⟩ => rfl

theorem reference_share (r : Fin 16384) (h : Fin 4) (n : Fin 256) : val_main_v18 (F := Ideal) x0 x2 x3 (ix3 h r n)
    = Ideal.div (weight (rowScores x0 x2 x3 r h) n) (∑ k : Fin 256, weight (rowScores x0 x2 x3 r h) k) := by
  rw [val_main_v18_apply, val_main_v17_apply, val_main_v16_apply, val_main_v15_apply]
  refine (Ideal.hostDivf_def _ _).trans (congrArg₂ Ideal.div (reference_weight x0 x2 x3 r h n) ?_)
  refine (congrArg (· + _) (Ideal.ofBits_zero .f32)).trans ((zero_add _).trans ?_)
  refine Finset.sum_congr (M := EReal) rfl fun k _ => ?_
  refine (congrArg (val_main_v14 (F := Ideal) x0 x2 x3) (funext fun a => Fin.ext ?_)).trans (reference_weight x0 x2 x3 r h k)
  match a with
  | ⟨0, _⟩ => rfl
  | ⟨1, _⟩ => rfl
  | ⟨2, _⟩ => rfl

theorem reference_head (r : Fin 16384) (h : Fin 4) (d : Fin 128) : val_main_v21 (F := Ideal) x0 x2 x3 x4 (ix3 r h d)
    = attend (rowScores x0 x2 x3 r h) (fun n e => x4 (ix3 h n e)) d := by
  rw [val_main_v21_apply, val_main_v20_apply]
  refine Finset.sum_congr (M := EReal) rfl fun n _ => (EReal.mul_comm _ _).trans ?_
  refine congrArg₂ (fun a b : EReal => a * b) ?_ (congrArg x4 (funext fun a => Fin.ext ?_))
  · refine (congrArg (val_main_v18 (F := Ideal) x0 x2 x3) (funext fun a => Fin.ext ?_)).trans (reference_share x0 x2 x3 r h n)
    match a with
    | ⟨0, _⟩ => rfl
    | ⟨1, _⟩ => rfl
    | ⟨2, _⟩ => rfl
  · match a with
    | ⟨0, _⟩ => rfl
    | ⟨1, _⟩ => rfl
    | ⟨2, _⟩ => rfl

theorem reference_attended (r : Fin 16384) (j : Fin 512) : val_main_v22 (F := Ideal) x0 x2 x3 x4 (ix2 r j)
    = attended (fun k => x0 (ix2 r k)) (fun k j => x2 (ix2 k j)) (fun h n e => x3 (ix3 h n e)) (fun h n e => x4 (ix3 h n e)) j := by
  rw [val_main_v22_apply]
  have h5 := j.isLt
  refine (congrArg (val_main_v21 (F := Ideal) x0 x2 x3 x4) (?_ : _ = ix3 r (head j) (lane j))).trans (reference_head x0 x2 x3 x4 r (head j) (lane j))
  funext a
  refine Fin.ext ?_
  match a with
  | ⟨0, _⟩ => show (r.val * 512 + j.val) / 512 = r.val; omega
  | ⟨1, _⟩ => show (r.val * 512 + j.val) / 128 % 4 = j.val / 128; omega
  | ⟨2, _⟩ => show (r.val * 512 + j.val) % 128 = j.val % 128; omega

theorem reference_projected (r : Fin 16384) (c : Fin 4096) : val_main_v24 (F := Ideal) x0 x2 x3 x4 x5 (ix2 r c)
    = projected (fun k => x0 (ix2 r k)) (fun k j => x2 (ix2 k j)) (fun h n e => x3 (ix3 h n e)) (fun h n e => x4 (ix3 h n e)) (fun j k => x5 (ix2 j k)) c := by
  rw [val_main_v24_apply]
  refine Finset.sum_congr (M := EReal) rfl fun j _ => ?_
  refine congrArg₂ (fun a b : EReal => a * b) ?_ (congrArg x5 (funext fun a => Fin.ext ?_))
  · refine (congrArg (val_main_v22 (F := Ideal) x0 x2 x3 x4) (funext fun a => Fin.ext ?_)).trans (reference_attended x0 x2 x3 x4 r j)
    match a with
    | ⟨0, _⟩ => rfl
    | ⟨1, _⟩ => rfl
  · match a with
    | ⟨0, _⟩ => rfl
    | ⟨1, _⟩ => rfl

/-- The reference's first result. -/
theorem reference_hidden (r : Fin 16384) (c : Fin 4096) : val_main_v38 (F := Ideal) x0 x1 x2 x3 x4 x5 x6 (ix2 r c)
    = hidden (fun k => x0 (ix2 r k)) (fun k => x1 (ix2 r k)) (fun k j => x2 (ix2 k j)) (fun h n e => x3 (ix3 h n e)) (fun h n e => x4 (ix3 h n e))
        (fun j k => x5 (ix2 j k)) (fun k => x6 (ix1 k)) c := by
  rw [val_main_v38_apply]
  refine congrArg (fun a : EReal => (x1 (ix2 r c) : EReal) + a) ?_
  refine (show _ = Cert.Reference10Ideal.Read.val_main_v12 (F := Ideal) (val_main_v24 (F := Ideal) x0 x2 x3 x4 x5) x6 (ix2 r c) from rfl).trans ?_
  refine (host_apply _ _ r c).trans ?_
  exact congrArg (fun f => norm f (fun k => x6 (ix1 k)) c) (funext fun k => reference_projected x0 x2 x3 x4 x5 r k)

/-- The reference's second result, before it is rounded. -/
theorem reference_normed (r : Fin 16384) (c : Fin 4096) : val_main_v51 (F := Ideal) x0 x1 x2 x3 x4 x5 x6 x7 (ix2 r c)
    = norm (hidden (fun k => x0 (ix2 r k)) (fun k => x1 (ix2 r k)) (fun k j => x2 (ix2 k j)) (fun h n e => x3 (ix3 h n e)) (fun h n e => x4 (ix3 h n e))
        (fun j k => x5 (ix2 j k)) fun k => x6 (ix1 k)) (fun k => x7 (ix1 k)) c := by
  refine (show _ = Cert.Reference10Ideal.Read.val_main_v12 (F := Ideal) (val_main_v38 (F := Ideal) x0 x1 x2 x3 x4 x5 x6) x7 (ix2 r c) from rfl).trans ?_
  refine (host_apply _ _ r c).trans ?_
  exact congrArg (fun f => norm f (fun k => x7 (ix1 k)) c) (funext fun k => reference_hidden x0 x1 x2 x3 x4 x5 x6 r k)

end Cert.CrossAttention

end
-- ==== Proof.CrossAttention.lean ====
/-
  `Kernel9` at the extended reals: the arrays it leaves, and their equality with the reference's results.
-/
module

public import proofs.«01_k».proof.Proof.CrossReference

@[expose] public section

set_option maxRecDepth 16384

noncomputable section

open Idealize.ShloMosaic Idealize.ShloMosaic.TcCoe Idealize.SL.Sem

namespace Cert.CrossAttention

open Cert.Kernel9Ideal Cert.Kernel9Ideal.Gen Cert.Norm

variable (m : (ℓ : Loc nD τ sig) → Buf (Elt Ideal) ℓ) (ρ : Dev nD → PrngReg)

/-- The first result, from the arguments. -/
def hiddenOf (x0 x1 : S16384x4096.Idx → EReal) (x2 : S4096x512.Idx → EReal) (x3 x4 : S4x256x128.Idx → EReal) (x5 : S512x4096.Idx → EReal)
    (x6 : S4096.Idx → EReal) : S16384x4096.Idx → EReal := fun i =>
  hidden (fun k => x0 (ix2 (i 0) k)) (fun k => x1 (ix2 (i 0) k)) (fun k j => x2 (ix2 k j)) (fun h n e => x3 (ix3 h n e)) (fun h n e => x4 (ix3 h n e))
    (fun j k => x5 (ix2 j k)) (fun k => x6 (ix1 k)) (i 1)

/-- The second result, from the arguments. -/
def normedOf (x0 x1 : S16384x4096.Idx → EReal) (x2 : S4096x512.Idx → EReal) (x3 x4 : S4x256x128.Idx → EReal) (x5 : S512x4096.Idx → EReal)
    (x6 x7 : S4096.Idx → EReal) : S16384x4096.Idx → EReal := fun i =>
  norm (hidden (fun k => x0 (ix2 (i 0) k)) (fun k => x1 (ix2 (i 0) k)) (fun k j => x2 (ix2 k j)) (fun h n e => x3 (ix3 h n e)) (fun h n e => x4 (ix3 h n e))
    (fun j k => x5 (ix2 j k)) fun k => x6 (ix1 k)) (fun k => x7 (ix1 k)) (i 1)

def result0 (c : Dev nD) : Buf (Elt Ideal) ((c : Thread nD τ).loc main_v2_0) :=
  hiddenOf (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

def result1 (c : Dev nD) : Buf (Elt Ideal) ((c : Thread nD τ).loc main_v2_1) :=
  normedOf (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- The gains of the first normalisation as the region finds them: one row. -/
theorem gain0 (c : Dev nD) : V m c main_v0 = shapeCast S1x4096 (m ((c : Thread nD τ).loc main_arg6)) shapeCasts_S4096_S1x4096 := by
  show StableHlo.after hostOps0 (fun b => m (c, b)) main_v0 = _
  rw [hostOps0, StableHlo.after_cons, StableHlo.after_cons, StableHlo.after_nil, StableHlo.reshape_result_ne, StableHlo.reshape_result]
  · rfl
  · decide

/-- The gains of the second normalisation as the region finds them: one row. -/
theorem gain1 (c : Dev nD) : V m c main_v1 = shapeCast S1x4096 (m ((c : Thread nD τ).loc main_arg7)) shapeCasts_S4096_S1x4096 := by
  show StableHlo.after hostOps0 (fun b => m (c, b)) main_v1 = _
  rw [hostOps0, StableHlo.after_cons, StableHlo.after_cons, StableHlo.after_nil, StableHlo.reshape_result, StableHlo.reshape_result_ne]
  · rfl
  · decide

/-- Row `r` of block `t` among all rows. -/
def row (t : Fin cfg0.N) (r : Fin 256) : Fin 16384 := ⟨t.val * 256 + r.val, by have hN : cfg0.N = 64 := N_0; have := t.isLt; have := r.isLt; omega⟩

/-- Which row block each window of rows names at point `t`. -/
theorem rowBlocks (t : Fin cfg0.N) : (win0_0.index t 0 = t.val ∧ win0_0.index t 1 = 0) ∧ (win0_1.index t 0 = t.val ∧ win0_1.index t 1 = 0)
    ∧ (win0_8.index t 0 = t.val ∧ win0_8.index t 1 = 0) ∧ (win0_9.index t 0 = t.val ∧ win0_9.index t 1 = 0) :=
  (by decide +kernel : ∀ t : Fin grid0.N, (win0_0.index t 0 = t.val ∧ win0_0.index t 1 = 0) ∧ (win0_1.index t 0 = t.val ∧ win0_1.index t 1 = 0)
    ∧ (win0_8.index t 0 = t.val ∧ win0_8.index t 1 = 0) ∧ (win0_9.index t 0 = t.val ∧ win0_9.index t 1 = 0)) t

/-- The windows of weights, tokens and gains name their whole arrays at every point. -/
theorem wholeBlocks (t : Fin cfg0.N) : (win0_2.index t 0 = 0 ∧ win0_2.index t 1 = 0) ∧ (win0_3.index t 0 = 0 ∧ win0_3.index t 1 = 0 ∧ win0_3.index t 2 = 0)
    ∧ (win0_4.index t 0 = 0 ∧ win0_4.index t 1 = 0 ∧ win0_4.index t 2 = 0) ∧ (win0_5.index t 0 = 0 ∧ win0_5.index t 1 = 0)
    ∧ (win0_6.index t 0 = 0 ∧ win0_6.index t 1 = 0) ∧ (win0_7.index t 0 = 0 ∧ win0_7.index t 1 = 0) :=
  (by decide +kernel : ∀ t : Fin grid0.N, (win0_2.index t 0 = 0 ∧ win0_2.index t 1 = 0) ∧ (win0_3.index t 0 = 0 ∧ win0_3.index t 1 = 0 ∧ win0_3.index t 2 = 0)
    ∧ (win0_4.index t 0 = 0 ∧ win0_4.index t 1 = 0 ∧ win0_4.index t 2 = 0) ∧ (win0_5.index t 0 = 0 ∧ win0_5.index t 1 = 0)
    ∧ (win0_6.index t 0 = 0 ∧ win0_6.index t 1 = 0) ∧ (win0_7.index t 0 = 0 ∧ win0_7.index t 1 = 0)) t

theorem block0 (c : Dev nD) (t : Fin cfg0.N) (r : Fin 256) (d : Fin 4096) : iblk m c 0 t (ix2 r d) = m ((c : Thread nD τ).loc main_arg0) (ix2 (row t r) d) := by
  obtain ⟨⟨a0, a1⟩, -⟩ := rowBlocks t
  show V m c main_arg0 _ = _
  refine congrArg (m ((c : Thread nD τ).loc main_arg0)) (funext fun a => Fin.ext ?_)
  match a with
  | ⟨0, _⟩ => show win0_0.index t 0 * 256 + 1 * r.val = t.val * 256 + r.val; rw [a0]; omega
  | ⟨1, _⟩ => show win0_0.index t 1 * 4096 + 1 * d.val = d.val; rw [a1]; omega

theorem block1 (c : Dev nD) (t : Fin cfg0.N) (r : Fin 256) (d : Fin 4096) : iblk m c 1 t (ix2 r d) = m ((c : Thread nD τ).loc main_arg1) (ix2 (row t r) d) := by
  obtain ⟨-, ⟨a0, a1⟩, -⟩ := rowBlocks t
  show V m c main_arg1 _ = _
  refine congrArg (m ((c : Thread nD τ).loc main_arg1)) (funext fun a => Fin.ext ?_)
  match a with
  | ⟨0, _⟩ => show win0_1.index t 0 * 256 + 1 * r.val = t.val * 256 + r.val; rw [a0]; omega
  | ⟨1, _⟩ => show win0_1.index t 1 * 4096 + 1 * d.val = d.val; rw [a1]; omega

theorem block2 (c : Dev nD) (t : Fin cfg0.N) (r : Fin 4096) (d : Fin 512) : iblk m c 2 t (ix2 r d) = m ((c : Thread nD τ).loc main_arg2) (ix2 r d) := by
  obtain ⟨⟨a0, a1⟩, -⟩ := wholeBlocks t
  show V m c main_arg2 _ = _
  refine congrArg (m ((c : Thread nD τ).loc main_arg2)) (funext fun a => Fin.ext ?_)
  match a with
  | ⟨0, _⟩ => show win0_2.index t 0 * 4096 + 1 * r.val = r.val; rw [a0]; omega
  | ⟨1, _⟩ => show win0_2.index t 1 * 512 + 1 * d.val = d.val; rw [a1]; omega

theorem block5 (c : Dev nD) (t : Fin cfg0.N) (r : Fin 512) (d : Fin 4096) : iblk m c 5 t (ix2 r d) = m ((c : Thread nD τ).loc main_arg5) (ix2 r d) := by
  obtain ⟨-, -, -, ⟨a0, a1⟩, -⟩ := wholeBlocks t
  show V m c main_arg5 _ = _
  refine congrArg (m ((c : Thread nD τ).loc main_arg5)) (funext fun a => Fin.ext ?_)
  match a with
  | ⟨0, _⟩ => show win0_5.index t 0 * 512 + 1 * r.val = r.val; rw [a0]; omega
  | ⟨1, _⟩ => show win0_5.index t 1 * 4096 + 1 * d.val = d.val; rw [a1]; omega

theorem block3 (c : Dev nD) (t : Fin cfg0.N) (h : Fin 4) (n : Fin 256) (d : Fin 128) : iblk m c 3 t (ix3 h n d) = m ((c : Thread nD τ).loc main_arg3) (ix3 h n d) := by
  obtain ⟨-, ⟨a0, a1, a2⟩, -⟩ := wholeBlocks t
  show V m c main_arg3 _ = _
  refine congrArg (m ((c : Thread nD τ).loc main_arg3)) (funext fun a => Fin.ext ?_)
  match a with
  | ⟨0, _⟩ => show win0_3.index t 0 * 4 + 1 * h.val = h.val; rw [a0]; omega
  | ⟨1, _⟩ => show win0_3.index t 1 * 256 + 1 * n.val = n.val; rw [a1]; omega
  | ⟨2, _⟩ => show win0_3.index t 2 * 128 + 1 * d.val = d.val; rw [a2]; omega

theorem block4 (c : Dev nD) (t : Fin cfg0.N) (h : Fin 4) (n : Fin 256) (d : Fin 128) : iblk m c 4 t (ix3 h n d) = m ((c : Thread nD τ).loc main_arg4) (ix3 h n d) := by
  obtain ⟨-, -, ⟨a0, a1, a2⟩, -⟩ := wholeBlocks t
  show V m c main_arg4 _ = _
  refine congrArg (m ((c : Thread nD τ).loc main_arg4)) (funext fun a => Fin.ext ?_)
  match a with
  | ⟨0, _⟩ => show win0_4.index t 0 * 4 + 1 * h.val = h.val; rw [a0]; omega
  | ⟨1, _⟩ => show win0_4.index t 1 * 256 + 1 * n.val = n.val; rw [a1]; omega
  | ⟨2, _⟩ => show win0_4.index t 2 * 128 + 1 * d.val = d.val; rw [a2]; omega

theorem block6 (c : Dev nD) (t : Fin cfg0.N) (d : Fin 4096) : iblk m c 6 t (ix2 0 d) = m ((c : Thread nD τ).loc main_arg6) (ix1 d) := by
  obtain ⟨-, -, -, -, ⟨a0, a1⟩, -⟩ := wholeBlocks t
  show V m c main_v0 _ = _
  rw [gain0]
  refine (congrArg _ (?_ : _ = ix2 0 d)).trans (ValueIdx.shapeCast_a_1a_apply _ _ 0 d)
  refine funext fun a => Fin.ext ?_
  match a with
  | ⟨0, _⟩ => show win0_6.index t 0 * 1 + 1 * 0 = 0; rw [a0]
  | ⟨1, _⟩ => show win0_6.index t 1 * 4096 + 1 * d.val = d.val; rw [a1]; omega

theorem block7 (c : Dev nD) (t : Fin cfg0.N) (d : Fin 4096) : iblk m c 7 t (ix2 0 d) = m ((c : Thread nD τ).loc main_arg7) (ix1 d) := by
  obtain ⟨-, -, -, -, -, ⟨a0, a1⟩⟩ := wholeBlocks t
  show V m c main_v1 _ = _
  rw [gain1]
  refine (congrArg _ (?_ : _ = ix2 0 d)).trans (ValueIdx.shapeCast_a_1a_apply _ _ 0 d)
  refine funext fun a => Fin.ext ?_
  match a with
  | ⟨0, _⟩ => show win0_7.index t 0 * 1 + 1 * 0 = 0; rw [a0]
  | ⟨1, _⟩ => show win0_7.index t 1 * 4096 + 1 * d.val = d.val; rw [a1]; omega

/-- The residual of a block is its rows of the first result. -/
theorem rows_hidden (c : Dev nD) (t : Fin cfg0.N) (r : Fin 256) :
    hidden (fun k => iblk m c 0 t (ix2 r k)) (fun k => iblk m c 1 t (ix2 r k)) (fun k j => iblk m c 2 t (ix2 k j)) (fun h n e => iblk m c 3 t (ix3 h n e))
        (fun h n e => iblk m c 4 t (ix3 h n e)) (fun j k => iblk m c 5 t (ix2 j k)) (fun k => iblk m c 6 t (ix2 0 k))
      = hidden (fun k => m ((c : Thread nD τ).loc main_arg0) (ix2 (row t r) k)) (fun k => m ((c : Thread nD τ).loc main_arg1) (ix2 (row t r) k))
          (fun k j => m ((c : Thread nD τ).loc main_arg2) (ix2 k j)) (fun h n e => m ((c : Thread nD τ).loc main_arg3) (ix3 h n e))
          (fun h n e => m ((c : Thread nD τ).loc main_arg4) (ix3 h n e)) (fun j k => m ((c : Thread nD τ).loc main_arg5) (ix2 j k))
          (fun k => m ((c : Thread nD τ).loc main_arg6) (ix1 k)) :=
  congr (congr (congr (congr (congr (congrArg₂ hidden (funext fun k => block0 m c t r k) (funext fun k => block1 m c t r k))
    (funext fun k => funext fun j => block2 m c t k j)) (funext fun h => funext fun n => funext fun e => block3 m c t h n e))
    (funext fun h => funext fun n => funext fun e => block4 m c t h n e)) (funext fun j => funext fun k => block5 m c t j k))
    (funext fun k => block6 m c t k)

/-- Where the first output's block lies. -/
theorem place8 (t : Fin cfg0.N) (r : Fin 256) (d : Fin 4096) : ((cfg0.win 8).blk t).view.emb (ix2 r d) = ix2 (row t r) d := by
  obtain ⟨-, -, ⟨a0, a1⟩, -⟩ := rowBlocks t
  refine funext fun a => Fin.ext ?_
  match a with
  | ⟨0, _⟩ => show win0_8.index t 0 * 256 + 1 * r.val = t.val * 256 + r.val; rw [a0]; omega
  | ⟨1, _⟩ => show win0_8.index t 1 * 4096 + 1 * d.val = d.val; rw [a1]; omega

/-- What point `t` writes back to the first output is its rows of the first result. -/
theorem flushed8 (c : Dev nD) (t : Fin cfg0.N) (_ : (cfg0.win 8).flush t = true) :
    (Gen.dats m 0 c).flushed 8 t = ((cfg0.win 8).blk t).view.read (Elt Ideal) (result0 m c) := by
  rw [Value.flushed8]
  funext i
  rw [View.read_apply]
  obtain ⟨r, d, rfl⟩ : ∃ (r : Fin 256) (d : Fin 4096), i = ix2 r d := ⟨i 0, i 1, eq_ix2 i⟩
  rw [place8]
  refine (tile_sum _ _ _ _ _ _ _ _ r d).trans ?_
  show _ = result0 m c (ix2 (row t r) d)
  unfold result0 hiddenOf
  exact congrFun (rows_hidden m c t r) d

/-- An index lies in the block of the point its row falls in. -/
theorem mem8 (t : Fin cfg0.N) (i : S16384x4096.Idx) (h0 : (i 0).val / 256 = t.val) : i ∈ ((cfg0.win 8).blk t).view.set := by
  obtain ⟨-, -, ⟨a0, a1⟩, -⟩ := rowBlocks t
  show i ∈ ((View.whole main_v2_0).slice (win0_8.rect t)).set
  rw [View.set_slice_whole, Rect.mem_set_unit]
  have h1 : (i 1).val < 4096 := (i 1).isLt
  intro a
  match a with
  | ⟨0, _⟩ => show win0_8.index t 0 * 256 ≤ (i 0 : Nat) ∧ (i 0 : Nat) < win0_8.index t 0 * 256 + 256
              rw [a0]; omega
  | ⟨1, _⟩ => show win0_8.index t 1 * 4096 ≤ (i 1 : Nat) ∧ (i 1 : Nat) < win0_8.index t 1 * 4096 + 4096
              rw [a1]; omega

/-- The first output ends holding the first result. -/
theorem final8 (c : Dev nD) : (Gen.dats m 0 c).arrAt 8 cfg0.N = result0 m c :=
  (Gen.dats m 0 c).arrAt_eq_of_cover 8 (result0 m c) (flushed8 m c) fun (i : S16384x4096.Idx) => by
    have hN : cfg0.N = 64 := N_0
    have h0 : (i 0).val < 16384 := (i 0).isLt
    exact ⟨⟨(i 0).val / 256, by rw [hN]; omega⟩, flush0_8 _, mem8 _ i rfl⟩

/-- Where the second output's block lies. -/
theorem place9 (t : Fin cfg0.N) (r : Fin 256) (d : Fin 4096) : ((cfg0.win 9).blk t).view.emb (ix2 r d) = ix2 (row t r) d := by
  obtain ⟨-, -, -, ⟨a0, a1⟩⟩ := rowBlocks t
  refine funext fun a => Fin.ext ?_
  match a with
  | ⟨0, _⟩ => show win0_9.index t 0 * 256 + 1 * r.val = t.val * 256 + r.val; rw [a0]; omega
  | ⟨1, _⟩ => show win0_9.index t 1 * 4096 + 1 * d.val = d.val; rw [a1]; omega

/-- What point `t` writes back to the second output is its rows of the second result. -/
theorem flushed9 (c : Dev nD) (t : Fin cfg0.N) (_ : (cfg0.win 9).flush t = true) :
    (Gen.dats m 0 c).flushed 9 t = ((cfg0.win 9).blk t).view.read (Elt Ideal) (result1 m c) := by
  rw [Value.flushed9]
  funext i
  rw [View.read_apply]
  obtain ⟨r, d, rfl⟩ : ∃ (r : Fin 256) (d : Fin 4096), i = ix2 r d := ⟨i 0, i 1, eq_ix2 i⟩
  rw [place9]
  refine (tile_normed _ _ _ _ _ _ _ _ r d).trans ?_
  show _ = result1 m c (ix2 (row t r) d)
  unfold result1 normedOf
  exact congrFun (congrArg₂ norm (rows_hidden m c t r) (funext fun k => block7 m c t k)) d

/-- An index lies in the block of the point its row falls in. -/
theorem mem9 (t : Fin cfg0.N) (i : S16384x4096.Idx) (h0 : (i 0).val / 256 = t.val) : i ∈ ((cfg0.win 9).blk t).view.set := by
  obtain ⟨-, -, -, ⟨a0, a1⟩⟩ := rowBlocks t
  show i ∈ ((View.whole main_v2_1).slice (win0_9.rect t)).set
  rw [View.set_slice_whole, Rect.mem_set_unit]
  have h1 : (i 1).val < 4096 := (i 1).isLt
  intro a
  match a with
  | ⟨0, _⟩ => show win0_9.index t 0 * 256 ≤ (i 0 : Nat) ∧ (i 0 : Nat) < win0_9.index t 0 * 256 + 256
              rw [a0]; omega
  | ⟨1, _⟩ => show win0_9.index t 1 * 4096 ≤ (i 1 : Nat) ∧ (i 1 : Nat) < win0_9.index t 1 * 4096 + 4096
              rw [a1]; omega

/-- The second output ends holding the second result. -/
theorem final9 (c : Dev nD) : (Gen.dats m 0 c).arrAt 9 cfg0.N = result1 m c :=
  (Gen.dats m 0 c).arrAt_eq_of_cover 9 (result1 m c) (flushed9 m c) fun (i : S16384x4096.Idx) => by
    have hN : cfg0.N = 64 := N_0
    have h0 : (i 0).val < 16384 := (i 0).isLt
    exact ⟨⟨(i 0).val / 256, by rw [hN]; omega⟩, flush0_9 _, mem9 _ i rfl⟩

/-- `Kernel9` and its reference end with equal results. -/
theorem algebraic : Cert.algebraic_Kernel9Ideal_Reference9Ideal := by
  intro m ρ m' ρ' _ hagree
  refine ⟨fun c => result0 m c, fun c => result1 m c,
    (θ_run defs _ _).mono (fun r h c => ⟨(h c).1.trans (final8 m c), (h c).2.1.trans (final9 m c), (h c).2.2⟩) (Value.run_blocks m ρ), ?_⟩
  refine (θ_run _ _ _).mono (fun r h c => ⟨(h c).1.trans ?_, (h c).2.1.trans ?_, (h c).2.2⟩) (Cert.Reference9Ideal.Value.run (F := Ideal) m' ρ')
  · refine (Cert.Reference9Ideal.Read.val_main_v38_eq m' c).trans ?_
    funext i
    rw [eq_ix2 i]
    refine (reference_hidden _ _ _ _ _ _ _ (i 0) (i 1)).trans ?_
    rw [(hagree c).1, (hagree c).2.1, (hagree c).2.2.1, (hagree c).2.2.2.1, (hagree c).2.2.2.2.1, (hagree c).2.2.2.2.2.1, (hagree c).2.2.2.2.2.2.1]
    rfl
  · refine (Cert.Reference9Ideal.Read.val_main_v52_eq m' c).trans ?_
    funext i
    rw [eq_ix2 i, Cert.Reference9Ideal.Read.val_main_v52_apply]
    refine (reference_normed _ _ _ _ _ _ _ _ (i 0) (i 1)).trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2]
    rfl

end Cert.CrossAttention

end
-- ==== Proof.ResidualNorm.lean ====
/-
  `Kernel10` at the extended reals: the residual h + ½·norm(y) and its own normalisation, computed in blocks of 256 rows.
  The two arrays it leaves hold, row by row, what the reference's two results hold.
-/
module

public import proofs.«01_k».proof.Proof.Norm
public import proofs.«01_k».proof.Proof.Gen.Kernel10Ideal.Value
public import proofs.«01_k».proof.Proof.Gen.Reference10Ideal.Run

@[expose] public section

set_option maxRecDepth 16384

noncomputable section

open Idealize.ShloMosaic Idealize.ShloMosaic.TcCoe Idealize.SL.Sem

namespace Cert.ResidualNorm

open Cert.Kernel10Ideal Cert.Kernel10Ideal.Gen Cert.Norm

variable (m : (ℓ : Loc nD τ sig) → Buf (Elt Ideal) ℓ) (ρ : Dev nD → PrngReg)

theorem origin : (![0, 0] : Fin 2 → Nat) = fun _ => 0 := funext fun a => by fin_cases a <;> rfl

/-- A row plus half the normalisation of another. -/
def added (h y g : Fin 4096 → EReal) (d : Fin 4096) : EReal := h d + Ideal.ofBits .f32 0x3F000000#32 * norm y g d

theorem sum_apply (h y : Vec Ideal S256x4096 .f32) (g : Vec Ideal S1x4096 .f32) (r : Fin 256) (d : Fin 4096) :
    k0_pay1 h y g (ix2 r d) = added (fun k => h (ix2 r k)) (fun k => y (ix2 r k)) (fun k => g (ix2 0 k)) d := by
  unfold k0_pay1
  exact congrArg (fun a : EReal => (h (ix2 r d) : EReal) + Ideal.ofBits .f32 0x3F000000#32 * a) (rows_apply y g _ _ _ _ _ r d)

theorem normed_apply (h y : Vec Ideal S256x4096 .f32) (g g' : Vec Ideal S1x4096 .f32) (r : Fin 256) (d : Fin 4096) :
    k0_pay2 h y g g' (ix2 r d) = norm (added (fun k => h (ix2 r k)) (fun k => y (ix2 r k)) fun k => g (ix2 0 k)) (fun k => g' (ix2 0 k)) d := by
  unfold k0_pay2
  refine (rows_apply (k0_pay1 h y g) g' _ _ _ _ _ r d).trans ?_
  exact congrArg (fun f => norm f (fun k => g' (ix2 0 k)) d) (funext fun k => sum_apply h y g r k)

/-- What the first output's block holds. -/
theorem tile_sum (x0 x1 : Vec Ideal S256x4096 .f32) (x2 x3 : Vec Ideal S1x4096 .f32) (r : Fin 256) (d : Fin 4096) :
    out0_4 x0 x1 x2 x3 (ix2 r d) = added (fun k => x0 (ix2 r k)) (fun k => x1 (ix2 r k)) (fun k => x2 (ix2 0 k)) d := by
  unfold out0_4
  rw [View.canon_unit_zero origin]
  simp only [View.ld_unit_zero (S := S256x4096) origin, View.ld_unit_zero (S := S1x4096) origin]
  exact sum_apply x0 x1 x2 r d

/-- What the second output's block holds. -/
theorem tile_normed (x0 x1 : Vec Ideal S256x4096 .f32) (x2 x3 : Vec Ideal S1x4096 .f32) (r : Fin 256) (d : Fin 4096) :
    out0_5 x0 x1 x2 x3 (ix2 r d) = norm (added (fun k => x0 (ix2 r k)) (fun k => x1 (ix2 r k)) fun k => x2 (ix2 0 k)) (fun k => x3 (ix2 0 k)) d := by
  unfold out0_5
  rw [View.canon_unit_zero origin]
  simp only [View.ld_unit_zero (S := S256x4096) origin, View.ld_unit_zero (S := S1x4096) origin]
  exact normed_apply x0 x1 x2 x3 r d

/-- The residual of every row. -/
def sumOf (h y : S16384x4096.Idx → EReal) (g : S4096.Idx → EReal) : S16384x4096.Idx → EReal :=
  fun i => added (fun k => h (ix2 (i 0) k)) (fun k => y (ix2 (i 0) k)) (fun k => g (ix1 k)) (i 1)

/-- The normalisation of the residual of every row. -/
def normedOf (h y : S16384x4096.Idx → EReal) (g g' : S4096.Idx → EReal) : S16384x4096.Idx → EReal :=
  fun i => norm (added (fun k => h (ix2 (i 0) k)) (fun k => y (ix2 (i 0) k)) fun k => g (ix1 k)) (fun k => g' (ix1 k)) (i 1)

def result0 (c : Dev nD) : Buf (Elt Ideal) ((c : Thread nD τ).loc main_v2_0) :=
  sumOf (m ((c : Thread nD τ).loc main_arg0)) (m ((c : Thread nD τ).loc main_arg1)) (m ((c : Thread nD τ).loc main_arg2))

def result1 (c : Dev nD) : Buf (Elt Ideal) ((c : Thread nD τ).loc main_v2_1) :=
  normedOf (m ((c : Thread nD τ).loc main_arg0)) (m ((c : Thread nD τ).loc main_arg1)) (m ((c : Thread nD τ).loc main_arg2))
    (m ((c : Thread nD τ).loc main_arg3))

/-- The gains of the first normalisation as the region finds them: one row. -/
theorem gain0 (c : Dev nD) : V m c main_v0 = shapeCast S1x4096 (m ((c : Thread nD τ).loc main_arg2)) shapeCasts_S4096_S1x4096 := by
  show StableHlo.after hostOps0 (fun b => m (c, b)) main_v0 = _
  rw [hostOps0, StableHlo.after_cons, StableHlo.after_cons, StableHlo.after_nil, StableHlo.reshape_result_ne, StableHlo.reshape_result]
  · rfl
  · decide

/-- The gains of the second normalisation as the region finds them: one row. -/
theorem gain1 (c : Dev nD) : V m c main_v1 = shapeCast S1x4096 (m ((c : Thread nD τ).loc main_arg3)) shapeCasts_S4096_S1x4096 := by
  show StableHlo.after hostOps0 (fun b => m (c, b)) main_v1 = _
  rw [hostOps0, StableHlo.after_cons, StableHlo.after_cons, StableHlo.after_nil, StableHlo.reshape_result, StableHlo.reshape_result_ne]
  · rfl
  · decide

/-- Which block each window names at point `t`: row block `t`, and the whole rows of gains. -/
theorem blocks (t : Fin cfg0.N) : (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)) t

/-- Row `r` of block `t` among all rows. -/
def row (t : Fin cfg0.N) (r : Fin 256) : Fin 16384 := ⟨t.val * 256 + r.val, by have hN : cfg0.N = 64 := N_0; have := t.isLt; have := r.isLt; omega⟩

theorem block0 (c : Dev nD) (t : Fin cfg0.N) (r : Fin 256) (d : Fin 4096) : iblk m c 0 t (ix2 r d) = m ((c : Thread nD τ).loc main_arg0) (ix2 (row t r) d) := by
  obtain ⟨⟨a0, a1⟩, -⟩ := blocks t
  show V m c main_arg0 _ = _
  refine congrArg (m ((c : Thread nD τ).loc main_arg0)) (funext fun a => Fin.ext ?_)
  match a with
  | ⟨0, _⟩ => show win0_0.index t 0 * 256 + 1 * r.val = t.val * 256 + r.val; rw [a0]; omega
  | ⟨1, _⟩ => show win0_0.index t 1 * 4096 + 1 * d.val = d.val; rw [a1]; omega

theorem block1 (c : Dev nD) (t : Fin cfg0.N) (r : Fin 256) (d : Fin 4096) : iblk m c 1 t (ix2 r d) = m ((c : Thread nD τ).loc main_arg1) (ix2 (row t r) d) := by
  obtain ⟨-, ⟨a0, a1⟩, -⟩ := blocks t
  show V m c main_arg1 _ = _
  refine congrArg (m ((c : Thread nD τ).loc main_arg1)) (funext fun a => Fin.ext ?_)
  match a with
  | ⟨0, _⟩ => show win0_1.index t 0 * 256 + 1 * r.val = t.val * 256 + r.val; rw [a0]; omega
  | ⟨1, _⟩ => show win0_1.index t 1 * 4096 + 1 * d.val = d.val; rw [a1]; omega

theorem block2 (c : Dev nD) (t : Fin cfg0.N) (d : Fin 4096) : iblk m c 2 t (ix2 0 d) = m ((c : Thread nD τ).loc main_arg2) (ix1 d) := by
  obtain ⟨-, -, ⟨a0, a1⟩, -⟩ := blocks t
  show V m c main_v0 _ = _
  rw [gain0]
  refine (congrArg _ (?_ : _ = ix2 0 d)).trans (ValueIdx.shapeCast_a_1a_apply _ _ 0 d)
  refine funext fun a => Fin.ext ?_
  match a with
  | ⟨0, _⟩ => show win0_2.index t 0 * 1 + 1 * 0 = 0; rw [a0]
  | ⟨1, _⟩ => show win0_2.index t 1 * 4096 + 1 * d.val = d.val; rw [a1]; omega

theorem block3 (c : Dev nD) (t : Fin cfg0.N) (d : Fin 4096) : iblk m c 3 t (ix2 0 d) = m ((c : Thread nD τ).loc main_arg3) (ix1 d) := by
  obtain ⟨-, -, -, ⟨a0, a1⟩, -⟩ := blocks t
  show V m c main_v1 _ = _
  rw [gain1]
  refine (congrArg _ (?_ : _ = ix2 0 d)).trans (ValueIdx.shapeCast_a_1a_apply _ _ 0 d)
  refine funext fun a => Fin.ext ?_
  match a with
  | ⟨0, _⟩ => show win0_3.index t 0 * 1 + 1 * 0 = 0; rw [a0]
  | ⟨1, _⟩ => show win0_3.index t 1 * 4096 + 1 * d.val = d.val; rw [a1]; omega

/-- Where the outputs' blocks lie. -/
theorem place4 (t : Fin cfg0.N) (r : Fin 256) (d : Fin 4096) : ((cfg0.win 4).blk t).view.emb (ix2 r d) = ix2 (row t r) d := by
  obtain ⟨-, -, -, -, ⟨a0, a1⟩, -⟩ := blocks t
  refine funext fun a => Fin.ext ?_
  match a with
  | ⟨0, _⟩ => show win0_4.index t 0 * 256 + 1 * r.val = t.val * 256 + r.val; rw [a0]; omega
  | ⟨1, _⟩ => show win0_4.index t 1 * 4096 + 1 * d.val = d.val; rw [a1]; omega

theorem place5 (t : Fin cfg0.N) (r : Fin 256) (d : Fin 4096) : ((cfg0.win 5).blk t).view.emb (ix2 r d) = ix2 (row t r) d := by
  obtain ⟨-, -, -, -, -, ⟨a0, a1⟩⟩ := blocks t
  refine funext fun a => Fin.ext ?_
  match a with
  | ⟨0, _⟩ => show win0_5.index t 0 * 256 + 1 * r.val = t.val * 256 + r.val; rw [a0]; omega
  | ⟨1, _⟩ => show win0_5.index t 1 * 4096 + 1 * d.val = d.val; rw [a1]; omega

/-- What point `t` writes back to the first output is its rows of the residual. -/
theorem flushed4 (c : Dev nD) (t : Fin cfg0.N) (_ : (cfg0.win 4).flush t = true) :
    (Gen.dats m 0 c).flushed 4 t = ((cfg0.win 4).blk t).view.read (Elt Ideal) (result0 m c) := by
  rw [Value.flushed4]
  funext i
  rw [View.read_apply]
  obtain ⟨r, d, rfl⟩ : ∃ (r : Fin 256) (d : Fin 4096), i = ix2 r d := ⟨i 0, i 1, eq_ix2 i⟩
  rw [place4]
  refine (tile_sum _ _ _ _ r d).trans ?_
  show _ = result0 m c (ix2 (row t r) d)
  unfold result0 sumOf
  exact congr (congr (congrArg₂ added (funext fun k => block0 m c t r k) (funext fun k => block1 m c t r k)) (funext fun k => block2 m c t k)) rfl

/-- What point `t` writes back to the second output is its rows of the normalised residual. -/
theorem flushed5 (c : Dev nD) (t : Fin cfg0.N) (_ : (cfg0.win 5).flush t = true) :
    (Gen.dats m 0 c).flushed 5 t = ((cfg0.win 5).blk t).view.read (Elt Ideal) (result1 m c) := by
  rw [Value.flushed5]
  funext i
  rw [View.read_apply]
  obtain ⟨r, d, rfl⟩ : ∃ (r : Fin 256) (d : Fin 4096), i = ix2 r d := ⟨i 0, i 1, eq_ix2 i⟩
  rw [place5]
  refine (tile_normed _ _ _ _ r d).trans ?_
  show _ = result1 m c (ix2 (row t r) d)
  unfold result1 normedOf
  exact congr (congrArg₂ norm (congr (congrArg₂ added (funext fun k => block0 m c t r k) (funext fun k => block1 m c t r k)) (funext fun k => block2 m c t k))
    (funext fun k => block3 m c t k)) rfl

/-- An index lies in the block of the point its row falls in. -/
theorem mem4 (t : Fin cfg0.N) (i : S16384x4096.Idx) (h0 : (i 0).val / 256 = t.val) : i ∈ ((cfg0.win 4).blk t).view.set := by
  obtain ⟨-, -, -, -, ⟨a0, a1⟩, -⟩ := blocks t
  show i ∈ ((View.whole main_v2_0).slice (win0_4.rect t)).set
  rw [View.set_slice_whole, Rect.mem_set_unit]
  have h1 : (i 1).val < 4096 := (i 1).isLt
  intro a
  match a with
  | ⟨0, _⟩ => show win0_4.index t 0 * 256 ≤ (i 0 : Nat) ∧ (i 0 : Nat) < win0_4.index t 0 * 256 + 256
              rw [a0]; omega
  | ⟨1, _⟩ => show win0_4.index t 1 * 4096 ≤ (i 1 : Nat) ∧ (i 1 : Nat) < win0_4.index t 1 * 4096 + 4096
              rw [a1]; omega

theorem mem5 (t : Fin cfg0.N) (i : S16384x4096.Idx) (h0 : (i 0).val / 256 = t.val) : i ∈ ((cfg0.win 5).blk t).view.set := by
  obtain ⟨-, -, -, -, -, ⟨a0, a1⟩⟩ := blocks t
  show i ∈ ((View.whole main_v2_1).slice (win0_5.rect t)).set
  rw [View.set_slice_whole, Rect.mem_set_unit]
  have h1 : (i 1).val < 4096 := (i 1).isLt
  intro a
  match a with
  | ⟨0, _⟩ => show win0_5.index t 0 * 256 ≤ (i 0 : Nat) ∧ (i 0 : Nat) < win0_5.index t 0 * 256 + 256
              rw [a0]; omega
  | ⟨1, _⟩ => show win0_5.index t 1 * 4096 ≤ (i 1 : Nat) ∧ (i 1 : Nat) < win0_5.index t 1 * 4096 + 4096
              rw [a1]; omega

/-- The first output ends holding the residual of every row. -/
theorem final4 (c : Dev nD) : (Gen.dats m 0 c).arrAt 4 cfg0.N = result0 m c :=
  (Gen.dats m 0 c).arrAt_eq_of_cover 4 (result0 m c) (flushed4 m c) fun (i : S16384x4096.Idx) => by
    have hN : cfg0.N = 64 := N_0
    have h0 : (i 0).val < 16384 := (i 0).isLt
    exact ⟨⟨(i 0).val / 256, by rw [hN]; omega⟩, flush0_4 _, mem4 _ i rfl⟩

/-- The second output ends holding the normalised residual of every row. -/
theorem final5 (c : Dev nD) : (Gen.dats m 0 c).arrAt 5 cfg0.N = result1 m c :=
  (Gen.dats m 0 c).arrAt_eq_of_cover 5 (result1 m c) (flushed5 m c) fun (i : S16384x4096.Idx) => by
    have hN : cfg0.N = 64 := N_0
    have h0 : (i 0).val < 16384 := (i 0).isLt
    exact ⟨⟨(i 0).val / 256, by rw [hN]; omega⟩, flush0_5 _, mem5 _ i rfl⟩

section Reference

open Cert.Reference10Ideal.Read

variable (h y : (⟨Cert.Reference10Ideal.S16384x4096, .f32⟩ : BufTy).Contents (Elt Ideal)) (g g' : (⟨Cert.Reference10Ideal.S4096, .f32⟩ : BufTy).Contents (Elt Ideal))

/-- The reference's residual, read at an index. -/
theorem reference_sum (r : Fin 16384) (d : Fin 4096) : val_main_v15 (F := Ideal) h y g (ix2 r d) = sumOf h y g (ix2 r d) := by
  rw [val_main_v15_apply, val_main_v14_apply, val_main_v13_apply]
  exact congrArg (fun a : EReal => (h (ix2 r d) : EReal) + Ideal.ofBits .f32 0x3F000000#32 * a) (host_apply y g r d)

/-- The reference's normalised residual, read at an index. -/
theorem reference_normed (r : Fin 16384) (d : Fin 4096) : val_main_v28 (F := Ideal) h y g g' (ix2 r d) = normedOf h y g g' (ix2 r d) := by
  refine (show _ = val_main_v12 (F := Ideal) (val_main_v15 (F := Ideal) h y g) g' (ix2 r d) from rfl).trans ?_
  refine (host_apply _ _ r d).trans ?_
  exact congrArg (fun f => norm f (fun k => g' (ix1 k)) d) (funext fun k => reference_sum h y g r k)

end Reference

/-- `Kernel10` and its reference end with equal results. -/
theorem algebraic : Cert.algebraic_Kernel10Ideal_Reference10Ideal := by
  intro m ρ m' ρ' _ hagree
  refine ⟨fun c => result0 m c, fun c => result1 m c,
    (θ_run defs _ _).mono (fun r h c => ⟨(h c).1.trans (final4 m c), (h c).2.1.trans (final5 m c), (h c).2.2⟩) (Value.run_blocks m ρ), ?_⟩
  refine (θ_run _ _ _).mono (fun r h c => ⟨(h c).1.trans ?_, (h c).2.1.trans ?_, (h c).2.2⟩) (Cert.Reference10Ideal.Value.run (F := Ideal) m' ρ')
  · refine (Cert.Reference10Ideal.Read.val_main_v15_eq _ _ _).trans ?_
    funext i
    rw [eq_ix2 i]
    refine (reference_sum _ _ _ (i 0) (i 1)).trans ?_
    rw [(hagree c).1, (hagree c).2.1, (hagree c).2.2.1]
    rfl
  · refine (Cert.Reference10Ideal.Read.val_main_v29_eq _ _ _ _).trans ?_
    funext i
    rw [eq_ix2 i, Cert.Reference10Ideal.Read.val_main_v29_apply]
    refine (reference_normed _ _ _ _ (i 0) (i 1)).trans ?_
    rw [(hagree c).1, (hagree c).2.1, (hagree c).2.2.1, (hagree c).2.2.2]
    rfl

end Cert.ResidualNorm

end
-- ==== Proof.MemoryNorm.lean ====
/-
  `Kernel14` at the extended reals: the root-mean-square normalisation of the memory's 256 rows, computed in one block.
  The array it leaves holds, row by row, what the reference's result holds.
-/
module

public import proofs.«01_k».proof.Proof.Norm
public import proofs.«01_k».proof.Proof.Gen.Kernel14Ideal.Value
public import proofs.«01_k».proof.Proof.Gen.Reference14Ideal.Run
public import proofs.«01_k».proof.Proof.Gen.Reference14Ideal.Read

@[expose] public section

set_option maxRecDepth 16384

noncomputable section

open Idealize.ShloMosaic Idealize.ShloMosaic.TcCoe Idealize.SL.Sem

namespace Cert.MemoryNorm

open Cert.Kernel14Ideal Cert.Kernel14Ideal.Gen Cert.Norm

variable (m : (ℓ : Loc nD τ sig) → Buf (Elt Ideal) ℓ) (ρ : Dev nD → PrngReg)

theorem origin : (![0, 0] : Fin 2 → Nat) = fun _ => 0 := funext fun a => by fin_cases a <;> rfl

/-- What the output's block holds: the normalised rows. -/
theorem tile (x0 : Vec Ideal S256x4096 .f32) (x1 : Vec Ideal S1x4096 .f32) (r : Fin 256) (d : Fin 4096) :
    out0_2 x0 x1 (ix2 r d) = norm (fun k => x0 (ix2 r k)) (fun k => x1 (ix2 0 k)) d := by
  unfold out0_2
  rw [View.canon_unit_zero origin]
  simp only [View.ld_unit_zero (S := S256x4096) origin, View.ld_unit_zero (S := S1x4096) origin]
  unfold k0_pay1
  exact rows_apply x0 x1 _ _ _ _ _ r d

/-- The normalisation of every row. -/
def normedOf (x : S256x4096.Idx → EReal) (g : S4096.Idx → EReal) : S256x4096.Idx → EReal :=
  fun i => norm (fun k => x (ix2 (i 0) k)) (fun k => g (ix1 k)) (i 1)

def result (c : Dev nD) : Buf (Elt Ideal) ((c : Thread nD τ).loc main_v1) :=
  normedOf (m ((c : Thread nD τ).loc main_arg0)) (m ((c : Thread nD τ).loc main_arg1))

/-- The gains as the region finds them: one row. -/
theorem gain (c : Dev nD) : V m c main_v0 = shapeCast S1x4096 (m ((c : Thread nD τ).loc main_arg1)) shapeCasts_S4096_S1x4096 := by
  show StableHlo.after hostOps0 (fun b => m (c, b)) main_v0 = _
  rw [hostOps0, StableHlo.after_cons, StableHlo.after_nil, StableHlo.reshape_result]
  rfl

/-- Which block each window names at point `t`: row block `t`, and the whole row of gains. -/
theorem blocks (t : Fin cfg0.N) : (win0_0.index t 0 = t.val ∧ win0_0.index t 1 = 0) ∧ (win0_1.index t 0 = 0 ∧ win0_1.index t 1 = 0)
    ∧ (win0_2.index t 0 = t.val ∧ win0_2.index t 1 = 0) :=
  (by decide +kernel : ∀ t : Fin grid0.N, (win0_0.index t 0 = t.val ∧ win0_0.index t 1 = 0) ∧ (win0_1.index t 0 = 0 ∧ win0_1.index t 1 = 0)
    ∧ (win0_2.index t 0 = t.val ∧ win0_2.index t 1 = 0)) t

/-- Row `r` of block `t` among all rows. -/
def row (t : Fin cfg0.N) (r : Fin 256) : Fin 256 := ⟨t.val * 256 + r.val, by have hN : cfg0.N = 1 := N_0; have := t.isLt; have := r.isLt; omega⟩

theorem block0 (c : Dev nD) (t : Fin cfg0.N) (r : Fin 256) (d : Fin 4096) : iblk m c 0 t (ix2 r d) = m ((c : Thread nD τ).loc main_arg0) (ix2 (row t r) d) := by
  obtain ⟨⟨a0, a1⟩, -⟩ := blocks t
  show V m c main_arg0 _ = _
  refine congrArg (m ((c : Thread nD τ).loc main_arg0)) (funext fun a => Fin.ext ?_)
  match a with
  | ⟨0, _⟩ => show win0_0.index t 0 * 256 + 1 * r.val = t.val * 256 + r.val; rw [a0]; omega
  | ⟨1, _⟩ => show win0_0.index t 1 * 4096 + 1 * d.val = d.val; rw [a1]; omega

theorem block1 (c : Dev nD) (t : Fin cfg0.N) (d : Fin 4096) : iblk m c 1 t (ix2 0 d) = m ((c : Thread nD τ).loc main_arg1) (ix1 d) := by
  obtain ⟨-, ⟨a0, a1⟩, -⟩ := blocks t
  show V m c main_v0 _ = _
  rw [gain]
  refine (congrArg _ (?_ : _ = ix2 0 d)).trans (ValueIdx.shapeCast_a_1a_apply _ _ 0 d)
  refine funext fun a => Fin.ext ?_
  match a with
  | ⟨0, _⟩ => show win0_1.index t 0 * 1 + 1 * 0 = 0; rw [a0]
  | ⟨1, _⟩ => show win0_1.index t 1 * 4096 + 1 * d.val = d.val; rw [a1]; omega

/-- Where the output's block lies. -/
theorem place (t : Fin cfg0.N) (r : Fin 256) (d : Fin 4096) : ((cfg0.win 2).blk t).view.emb (ix2 r d) = ix2 (row t r) d := by
  obtain ⟨-, -, ⟨a0, a1⟩⟩ := blocks t
  refine funext fun a => Fin.ext ?_
  match a with
  | ⟨0, _⟩ => show win0_2.index t 0 * 256 + 1 * r.val = t.val * 256 + r.val; rw [a0]; omega
  | ⟨1, _⟩ => show win0_2.index t 1 * 4096 + 1 * d.val = d.val; rw [a1]; omega

/-- What point `t` writes back is its rows normalised. -/
theorem flushed (c : Dev nD) (t : Fin cfg0.N) (_ : (cfg0.win 2).flush t = true) :
    (Gen.dats m 0 c).flushed 2 t = ((cfg0.win 2).blk t).view.read (Elt Ideal) (result m c) := by
  rw [Value.flushed2]
  funext i
  rw [View.read_apply]
  obtain ⟨r, d, rfl⟩ : ∃ (r : Fin 256) (d : Fin 4096), i = ix2 r d := ⟨i 0, i 1, eq_ix2 i⟩
  rw [place]
  refine (tile _ _ r d).trans ?_
  show _ = result m c (ix2 (row t r) d)
  unfold result normedOf
  exact congr (congrArg₂ norm (funext fun k => block0 m c t r k) (funext fun k => block1 m c t k)) rfl

/-- An index lies in the block of the point its row falls in. -/
theorem mem_block (t : Fin cfg0.N) (i : S256x4096.Idx) (h0 : (i 0).val / 256 = t.val) : i ∈ ((cfg0.win 2).blk t).view.set := by
  obtain ⟨-, -, ⟨a0, a1⟩⟩ := blocks t
  show i ∈ ((View.whole main_v1).slice (win0_2.rect t)).set
  rw [View.set_slice_whole, Rect.mem_set_unit]
  have h1 : (i 1).val < 4096 := (i 1).isLt
  intro a
  match a with
  | ⟨0, _⟩ => show win0_2.index t 0 * 256 ≤ (i 0 : Nat) ∧ (i 0 : Nat) < win0_2.index t 0 * 256 + 256
              rw [a0]; omega
  | ⟨1, _⟩ => show win0_2.index t 1 * 4096 ≤ (i 1 : Nat) ∧ (i 1 : Nat) < win0_2.index t 1 * 4096 + 4096
              rw [a1]; omega

/-- The output ends holding every row normalised. -/
theorem final (c : Dev nD) : (Gen.dats m 0 c).arrAt 2 cfg0.N = result m c :=
  (Gen.dats m 0 c).arrAt_eq_of_cover 2 (result m c) (flushed m c) fun (i : S256x4096.Idx) => by
    have hN : cfg0.N = 1 := N_0
    have h0 : (i 0).val < 256 := (i 0).isLt
    exact ⟨⟨(i 0).val / 256, by rw [hN]; omega⟩, flush0_2 _, mem_block _ i rfl⟩

/-- The reference's normalisation of the memory's rows, read at an index. -/
theorem reference_apply (y : (⟨Cert.Reference14Ideal.S256x4096, .f32⟩ : BufTy).Contents (Elt Ideal)) (g : (⟨Cert.Reference14Ideal.S4096, .f32⟩ : BufTy).Contents (Elt Ideal)) (r : Fin 256) (d : Fin 4096) :
    Cert.Reference14Ideal.Read.val_main_v12 (F := Ideal) y g (ix2 r d) = norm (fun k => y (ix2 r k)) (fun k => g (ix1 k)) d := by
  open Cert.Reference14Ideal.Read in
  rw [val_main_v12_apply, val_main_v9_apply, val_main_v8_apply, val_main_v7_apply, val_main_v6_apply, val_main_v4_apply, val_main_v2_apply,
    val_main_v1_apply, val_main_v11_apply, val_main_v10_apply, val_main_v3_apply, val_main_v5_apply]
  refine congrArg₂ (fun a b : EReal => a * b) (congrArg (fun a : EReal => (y (ix2 r d) : EReal) * a) ?_) (congrArg g ?_)
  · refine congrArg (fun a : EReal => Ideal.rsqrt (a + Ideal.ofBits .f32 0x358637BD#32)) ((Ideal.hostDivf_def _ _).trans ?_)
    refine congrArg (fun a : EReal => Ideal.div a (Ideal.ofBits .f32 0x45800000#32)) ?_
    refine (congrArg (· + _) (Ideal.ofBits_zero .f32)).trans ((zero_add _).trans ?_)
    refine Finset.sum_congr (M := EReal) rfl fun k _ => ?_
    refine congrArg (fun j => (y j : EReal) * y j) (funext fun a => ?_)
    match a with
    | ⟨0, _⟩ => rfl
    | ⟨1, _⟩ => rfl
  · funext a
    match a with
    | ⟨0, _⟩ => rfl

/-- `Kernel14` and its reference end with equal results. -/
theorem algebraic : Cert.algebraic_Kernel14Ideal_Reference14Ideal := by
  intro m ρ m' ρ' _ hagree
  refine ⟨fun c => result m c, (θ_run defs _ _).mono (fun r h c => ⟨(h c).1.trans (final m c), (h c).2⟩) (Value.run_blocks m ρ), ?_⟩
  refine (θ_run _ _ _).mono (fun r h c => ⟨(h c).1.trans ?_, (h c).2⟩) (Cert.Reference14Ideal.Value.run (F := Ideal) m' ρ')
  refine (Cert.Reference14Ideal.Read.val_main_v13_eq _ _).trans ?_
  funext i
  rw [eq_ix2 i, Cert.Reference14Ideal.Read.val_main_v13_apply]
  refine (reference_apply _ _ (i 0) (i 1)).trans ?_
  rw [(hagree c).1, (hagree c).2]
  rfl

end Cert.MemoryNorm

end
-- ==== Proof.MemoryProjection.lean ====
/-
  `Kernel15` at the extended reals: the keys and values of the memory, side by side, a product of a
  [256, 4096] array and a [4096, 1024] array computed in tiles of 256 rows and 512 columns.  The array it leaves
  holds at (r, c) the sum of the products along the contracted axis, which is what the reference's one product holds.
-/
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import Idealize.ShloMosaic.Lib.MatmulPlain
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.MemoryProjection

open Cert.Kernel15Ideal Cert.Kernel15Ideal.Gen

variable (m : (ℓ : Loc nD τ sig) → Buf (Elt Ideal) ℓ) (ρ : Dev nD → PrngReg)

theorem origin : (![0, 0] : Fin 2 → Nat) = fun _ => 0 := funext fun a => by fin_cases a <;> rfl

/-- One tile: the product of the tile's rows of the left operand and its columns of the right one. -/
theorem tile_apply (x : Vec Ideal S256x4096 .bf16) (w : Vec Ideal S4096x512 .bf16) (i : S256x512.Idx) :
    out0_2 x w i = ∑ k : Fin 4096, x (ix2 (i 0) k) * w (ix2 k (i 1)) := by
  unfold out0_2
  rw [View.canon_unit_zero origin]
  unfold k0_pay1
  simp only [View.ld_unit_zero (S := S256x4096) origin, View.ld_unit_zero (S := S4096x512) origin]
  rw [eq_ix2 i]
  show matmul (F := Ideal) (φ₁ := .bf16) (φ₂ := .bf16) dot_S256x4096_S4096x512_S256x512_1_0_0_1_n_n none x w (constant S256x512 .f32 0x00000000#32) (ValueIdx.ix2 (i 0) (i 1)) = _
  refine (Ideal.matmul_plain_apply none x w _ (i 0) (i 1)).trans ?_
  refine (congrArg (· + _) (Ideal.ofBits_zero .f32)).trans ((zero_add _).trans ?_)
  refine Finset.sum_congr rfl fun k _ => ?_
  rfl

/-- The product of two arrays of these sizes. -/
def product (x : S256x4096.Idx → EReal) (w : S4096x1024.Idx → EReal) : S256x1024.Idx → EReal :=
  fun i => ∑ k : Fin 4096, x (ix2 (i 0) k) * w (ix2 k (i 1))

/-- The product of the two arguments, as contents of the result array. -/
def result (c : Dev nD) : Buf (Elt Ideal) ((c : Thread nD τ).loc main_v0) :=
  product (m ((c : Thread nD τ).loc main_arg0)) (m ((c : Thread nD τ).loc main_arg1))

/-- Which block each operand's window names at point `t`: row block `t / 2`, column block `t % 2`. -/
theorem blocks (t : Fin cfg0.N) : win0_0.index t 0 = t.val / 2 ∧ win0_0.index t 1 = 0 ∧ win0_1.index t 0 = 0 ∧ win0_1.index t 1 = t.val % 2
    ∧ win0_2.index t 0 = t.val / 2 ∧ win0_2.index t 1 = t.val % 2 :=
  (by decide +kernel : ∀ t : Fin grid0.N, win0_0.index t 0 = t.val / 2 ∧ win0_0.index t 1 = 0 ∧ win0_1.index t 0 = 0 ∧ win0_1.index t 1 = t.val % 2
    ∧ win0_2.index t 0 = t.val / 2 ∧ win0_2.index t 1 = t.val % 2) t

/-- What point `t` writes back is its block of the product. -/
theorem flushed (c : Dev nD) (t : Fin cfg0.N) (_ : (cfg0.win 2).flush t = true) :
    (Gen.dats m 0 c).flushed 2 t = ((cfg0.win 2).blk t).view.read (Elt Ideal) (result m c) := by
  obtain ⟨a0, a1, b0, b1, o0, o1⟩ := blocks t
  rw [Value.flushed2]
  funext i
  rw [View.read_apply]
  refine (tile_apply _ _ i).trans ?_
  show _ = result m c _
  unfold result product
  refine Finset.sum_congr (M := EReal) rfl fun k _ => ?_
  congr 1
  · show V m c main_arg0 _ = _
    refine congrArg (m ((c : Thread nD τ).loc main_arg0)) (funext fun a => Fin.ext ?_)
    match a with
    | ⟨0, _⟩ => show win0_0.index t 0 * 256 + 1 * (i 0).val = win0_2.index t 0 * 256 + 1 * (i 0).val; rw [a0, o0]
    | ⟨1, _⟩ => show win0_0.index t 1 * 4096 + 1 * k.val = k.val; rw [a1]; omega
  · show V m c main_arg1 _ = _
    refine congrArg (m ((c : Thread nD τ).loc main_arg1)) (funext fun a => Fin.ext ?_)
    match a with
    | ⟨0, _⟩ => show win0_1.index t 0 * 4096 + 1 * k.val = k.val; rw [b0]; omega
    | ⟨1, _⟩ => show win0_1.index t 1 * 512 + 1 * (i 1).val = win0_2.index t 1 * 512 + 1 * (i 1).val; rw [b1, o1]

/-- An index lies in the block of the point whose row and column blocks it falls in. -/
theorem mem_block (t : Fin cfg0.N) (i : S256x1024.Idx) (h0 : (i 0).val / 256 = t.val / 2) (h1 : (i 1).val / 512 = t.val % 2) :
    i ∈ ((cfg0.win 2).blk t).view.set := by
  obtain ⟨_, _, _, _, o0, o1⟩ := blocks t
  show i ∈ ((View.whole main_v0).slice (win0_2.rect t)).set
  rw [View.set_slice_whole, Rect.mem_set_unit]
  intro a
  match a with
  | ⟨0, _⟩ => show win0_2.index t 0 * 256 ≤ (i 0 : Nat) ∧ (i 0 : Nat) < win0_2.index t 0 * 256 + 256
              rw [o0]; omega
  | ⟨1, _⟩ => show win0_2.index t 1 * 512 ≤ (i 1 : Nat) ∧ (i 1 : Nat) < win0_2.index t 1 * 512 + 512
              rw [o1]; omega

/-- The result array ends holding the product. -/
theorem final (c : Dev nD) : (Gen.dats m 0 c).arrAt 2 cfg0.N = result m c :=
  (Gen.dats m 0 c).arrAt_eq_of_cover 2 (result m c) (flushed m c) fun (i : S256x1024.Idx) => by
    have hN : cfg0.N = 2 := N_0
    have h0 : (i 0).val < 256 := (i 0).isLt
    have h1 : (i 1).val < 1024 := (i 1).isLt
    refine ⟨⟨(i 0).val / 256 * 2 + (i 1).val / 512, by rw [hN]; omega⟩, flush0_2 _, ?_⟩
    exact mem_block _ i (by show _ = ((i 0).val / 256 * 2 + (i 1).val / 512) / 2; omega)
      (by show _ = ((i 0).val / 256 * 2 + (i 1).val / 512) % 2; omega)

/-- The reference's product read at an index. -/
theorem reference_apply (x : (⟨Cert.Reference15Ideal.S256x4096, .bf16⟩ : BufTy).Contents (Elt Ideal)) (w : (⟨Cert.Reference15Ideal.S4096x1024, .bf16⟩ : BufTy).Contents (Elt Ideal))
    (i : S256x1024.Idx) :
    Cert.Reference15Ideal.Read.val_main_v3 (F := Ideal) x w i = ∑ k : Fin 4096, (x : S256x4096.Idx → EReal) (ix2 (i 0) k) * (w : S4096x1024.Idx → EReal) (ix2 k (i 1)) := by
  rw [Cert.Reference15Ideal.Read.val_main_v3_apply, Cert.Reference15Ideal.Read.val_main_v2_apply]
  refine Finset.sum_congr rfl fun k _ => ?_
  congr 1
  · refine congrArg x (funext fun a => Fin.ext ?_)
    match a with
    | ⟨0, _⟩ => rfl
    | ⟨1, _⟩ => rfl
  · refine congrArg w (funext fun a => Fin.ext ?_)
    match a with
    | ⟨0, _⟩ => rfl
    | ⟨1, _⟩ => rfl

/-- `Kernel15` and its reference end with equal results. -/
theorem algebraic : Cert.algebraic_Kernel15Ideal_Reference15Ideal := by
  intro m ρ m' ρ' _ hagree
  refine ⟨fun c => result m c, (θ_run defs _ _).mono (fun r h c => ⟨(h c).1.trans (final m c), (h c).2⟩) (Value.run_blocks m ρ), ?_⟩
  refine (θ_run _ _ _).mono (fun r h c => ⟨(h c).1.trans ?_, (h c).2⟩) (Cert.Reference15Ideal.Value.run (F := Ideal) m' ρ')
  refine (Cert.Reference15Ideal.Read.val_main_v3_eq _ _).trans ?_
  funext i
  refine (reference_apply _ _ i).trans ?_
  rw [(hagree c).1, (hagree c).2]
  rfl

end Cert.MemoryProjection

end
-- ==== Proof.PrepareBlock.lean ====
/-
  `Kernel16` at the extended reals, one block of 512 rows: what the call's stores leave in each of its five blocks.  Keys
  and values are copied, 128 columns to a group; the keys of two branches are turned: each group of 128 columns times the
  cosines, plus the same columns moved by 64 around the end times the signed sines.
-/
module

public import proofs.«01_k».proof.Defs
public import proofs.«01_k».proof.Proof.Gen.Kernel16Ideal.Value
public import Idealize.ShloMosaic.Lib.Pipeline.Value
public import Idealize.ShloMosaic.Lib.Pointwise
public import Idealize.ShloMosaic.Lib.WritesUnit
public import Idealize.ShloMosaic.Lib.WholeRead
public import Idealize.ShloMosaic.Lib.KernelVsHost
public import Idealize.ShloMosaic.Lib.Tactic

@[expose] public section

set_option maxRecDepth 16384

noncomputable section

open Idealize.ShloMosaic Idealize.ShloMosaic.TcCoe Idealize.SL.Sem

namespace Cert.Prepare

open Cert.Kernel16Ideal Cert.Kernel16Ideal.Gen

variable (m : (ℓ : Loc nD τ sig) → Buf (Elt Ideal) ℓ) (ρ : Dev nD → PrngReg)

/-- Column `d` of group `g` among 512 columns. -/
def column (g : Fin 4) (d : Fin 128) : Fin 512 := ⟨g.val * 128 + d.val, by have := g.isLt; have := d.isLt; omega⟩

/-- Column `d` moved by 64 around the end of 128. -/
def opposite (d : Fin 128) : Fin 128 := ⟨(d.val + 64) % 128, Nat.mod_lt _ (by decide)⟩

/-- One row and group turned: the columns times the cosines plus the opposite columns times the signed sines. -/
def turned (x : S512x512.Idx → EReal) (cf sf : S512x128.Idx → EReal) (g : Fin 4) (r : Fin 512) (d : Fin 128) : EReal :=
  x (ix2 r (column g d)) * cf (ix2 r d) + x (ix2 r (column g (opposite d))) * sf (ix2 r d)

/-- A block of 128 columns turned, as the call computes it. -/
def turn (cf sf : FVec Ideal S512x128 .f32) (x : FVec Ideal S512x128 .bf16) : FVec Ideal S1x512x128 .bf16 :=
  shapeCast S1x512x128 (truncf .bf16 (addf (mulf (extf .f32 x bitsLt_bf16_f32) cf) (mulf (dynamicRotate 1 64#32 none (extf .f32 x bitsLt_bf16_f32) rotates_S512x128_d1) sf)) bitsLt_bf16_f32)
    shapeCasts_S512x128_S1x512x128

/-- The turned block read at an index. -/
theorem turn_apply (cf sf : FVec Ideal S512x128 .f32) (x : FVec Ideal S512x128 .bf16) (r : Fin 512) (d : Fin 128) :
    (turn cf sf x (ix3 0 r d) : EReal) = (x (ix2 r d) : EReal) * (cf (ix2 r d) : EReal) + (x (ix2 r (opposite d)) : EReal) * (sf (ix2 r d) : EReal) := by
  unfold turn
  refine (shapeCast_apply _ _ _ (ix2 r d) ?_).trans ?_
  · rw [Shape.rowMajor_val_two, Shape.rowMajor_val_three]
    show r.val * 128 + d.val = (0 * 512 + r.val) * 128 + d.val
    omega
  refine congrArg (fun z : EReal => (x (ix2 r d) : EReal) * (cf (ix2 r d) : EReal) + z * (sf (ix2 r d) : EReal)) ?_
  refine dynamicRotate_apply 1 64#32 (extf .f32 x bitsLt_bf16_f32) rotates_S512x128_d1 (ix2 r d) (ix2 r (opposite d)) fun b => ?_
  match b with
  | ⟨0, _⟩ => rfl
  | ⟨1, _⟩ => show (d.val + 64) % 128 = (d.val + 128 - 64 % 128) % 128; omega

/-- 128 columns from column `o` of a block of 512, read at an index. -/
theorem part_apply {a : Memref sig .tc .vmem S512x512 .bf16} (h : a.IsWhole) (x : S512x512.Idx → Elt Ideal .bf16) (o : Nat) (g : Fin 4) (ho : o = g.val * 128)
    (inb : ∀ b, (![0, o] : Fin 2 → Nat) b + (![512, 128] : Fin 2 → Nat) b ≤ S512x512.size b) (r : Fin 512) (d : Fin 128) :
    View.readAt (Elt Ideal) a.view (Rect.unit (s := S512x512) ![0, o] ![512, 128] inb).toLoadRect (h.unread x) (ix2 r d) = x (ix2 r (column g d)) := by
  refine (h.readAt_unread x _ _).trans (congrArg x (funext fun b => Fin.ext ?_))
  match b with
  | ⟨0, _⟩ => show 0 + 1 * r.val = r.val; omega
  | ⟨1, _⟩ => show o + 1 * d.val = g.val * 128 + d.val; omega

/-- A table read at an index. -/
theorem table_apply {a : Memref sig .tc .vmem S512x128 .f32} (h : a.IsWhole) (x : S512x128.Idx → Elt Ideal .f32)
    (inb : ∀ b, (![0, 0] : Fin 2 → Nat) b + (![512, 128] : Fin 2 → Nat) b ≤ S512x128.size b) (r : Fin 512) (d : Fin 128) :
    shapeCast S512x128 (View.readAt (Elt Ideal) a.view (Rect.unit (s := S512x128) ![0, 0] ![512, 128] inb).toLoadRect (h.unread x)) shapeCasts_S512x128_S512x128 (ix2 r d) = x (ix2 r d) := by
  refine (shapeCast_apply _ _ _ (ix2 r d) rfl).trans ?_
  refine (h.readAt_unread x _ _).trans (congrArg x (funext fun b => Fin.ext ?_))
  match b with
  | ⟨0, _⟩ => show 0 + 1 * r.val = r.val; omega
  | ⟨1, _⟩ => show 0 + 1 * d.val = d.val; omega

/-- A group turned, from the blocks as the call loads them. -/
theorem turn_loads {a7 a8 : Memref sig .tc .vmem S512x128 .f32} {a : Memref sig .tc .vmem S512x512 .bf16} (h7 : a7.IsWhole) (h8 : a8.IsWhole) (h : a.IsWhole)
    (cf sf : S512x128.Idx → Elt Ideal .f32) (x : S512x512.Idx → Elt Ideal .bf16) (o : Nat) (g : Fin 4) (ho : o = g.val * 128)
    (inb : ∀ b, (![0, o] : Fin 2 → Nat) b + (![512, 128] : Fin 2 → Nat) b ≤ S512x512.size b) (inb7 inb8 : ∀ b, (![0, 0] : Fin 2 → Nat) b + (![512, 128] : Fin 2 → Nat) b ≤ S512x128.size b)
    (r : Fin 512) (d : Fin 128) :
    turn (shapeCast S512x128 (View.readAt (Elt Ideal) a7.view (Rect.unit (s := S512x128) ![0, 0] ![512, 128] inb7).toLoadRect (h7.unread cf)) shapeCasts_S512x128_S512x128)
      (shapeCast S512x128 (View.readAt (Elt Ideal) a8.view (Rect.unit (s := S512x128) ![0, 0] ![512, 128] inb8).toLoadRect (h8.unread sf)) shapeCasts_S512x128_S512x128)
      (View.readAt (Elt Ideal) a.view (Rect.unit (s := S512x512) ![0, o] ![512, 128] inb).toLoadRect (h.unread x)) (ix3 0 r d) = turned x cf sf g r d := by
  refine (turn_apply _ _ _ r d).trans ?_
  rw [table_apply h7, table_apply h8]
  unfold turned
  exact congrArg₂ (fun u v : EReal => u * cf (ix2 r d) + v * sf (ix2 r d)) (part_apply h x o g ho inb r d) (part_apply h x o g ho inb r (opposite d))

/-- A group copied, from the block as the call loads it. -/
theorem copy_loads {a : Memref sig .tc .vmem S512x512 .bf16} (h : a.IsWhole) (x : S512x512.Idx → Elt Ideal .bf16) (o : Nat) (g : Fin 4) (ho : o = g.val * 128)
    (inb : ∀ b, (![0, o] : Fin 2 → Nat) b + (![512, 128] : Fin 2 → Nat) b ≤ S512x512.size b) (r : Fin 512) (d : Fin 128) :
    shapeCast S1x512x128 (View.readAt (Elt Ideal) a.view (Rect.unit (s := S512x512) ![0, o] ![512, 128] inb).toLoadRect (h.unread x)) shapeCasts_S512x128_S1x512x128 (ix3 0 r d)
      = x (ix2 r (column g d)) :=
  by
  refine (shapeCast_apply _ _ _ (ix2 r d) ?_).trans ?_
  · rw [Shape.rowMajor_val_two, Shape.rowMajor_val_three]
    show r.val * 128 + d.val = (0 * 512 + r.val) * 128 + d.val
    omega
  exact part_apply h x o g ho inb r d

/-- The same under two leading axes of one. -/
theorem copy_loads_two {a : Memref sig .tc .vmem S512x512 .bf16} (h : a.IsWhole) (x : S512x512.Idx → Elt Ideal .bf16) (o : Nat) (g : Fin 4) (ho : o = g.val * 128)
    (inb : ∀ b, (![0, o] : Fin 2 → Nat) b + (![512, 128] : Fin 2 → Nat) b ≤ S512x512.size b) (r : Fin 512) (d : Fin 128) :
    shapeCast S1x1x512x128 (View.readAt (Elt Ideal) a.view (Rect.unit (s := S512x512) ![0, o] ![512, 128] inb).toLoadRect (h.unread x)) shapeCasts_S512x128_S1x1x512x128 (ix4 0 0 r d)
      = x (ix2 r (column g d)) := by
  refine (shapeCast_apply _ _ _ (ix2 r d) ?_).trans (part_apply h x o g ho inb r d)
  rw [Shape.rowMajor_val_two, Shape.rowMajor_val_four]
  show r.val * 128 + d.val = ((0 * 1 + 0) * 512 + r.val) * 128 + d.val
  omega

/-- The turned keys of the selected branch. -/
theorem stored9 (c : Dev nD) (t : Fin cfg0.N) (g : Fin 4) (r : Fin 512) (d : Fin 128) :
    (outsAt0 m c t).2.1 (ix3 g r d) = turned (X0_2 m c t) (iblk m c 6 t) (iblk m c 7 t) g r d := by
  unfold outsAt0 out0_A_9 kernelRun0_A
  dsimp only
  match g with
  | ⟨0, _⟩ =>
    refine (View.read_writes_cons_unit_of_not_mem _ _ _ _ _ _ rfl 0 (Or.inl (by show 0 < 3; decide))).trans ?_
    refine (View.read_writes_cons_unit_of_not_mem _ _ _ _ _ _ rfl 0 (Or.inl (by show 0 < 2; decide))).trans ?_
    refine (View.read_writes_cons_unit_of_not_mem _ _ _ _ _ _ rfl 0 (Or.inl (by show 0 < 1; decide))).trans ?_
    refine (View.read_writes_cons_unit_of_mem _ _ _ _ _ _ (ix3 0 r d) rfl fun b => ?_).trans ?_
    · match b with
      | ⟨0, _⟩ => rfl
      | ⟨1, _⟩ => exact (Nat.zero_add _).symm
      | ⟨2, _⟩ => exact (Nat.zero_add _).symm
    · exact turn_loads (hs0_6 t) (hs0_7 t) (hs0_2 t) _ _ _ 0 ⟨0, by decide⟩ rfl _ _ _ r d
  | ⟨1, _⟩ =>
    refine (View.read_writes_cons_unit_of_not_mem _ _ _ _ _ _ rfl 0 (Or.inl (by show 1 < 3; decide))).trans ?_
    refine (View.read_writes_cons_unit_of_not_mem _ _ _ _ _ _ rfl 0 (Or.inl (by show 1 < 2; decide))).trans ?_
    refine (View.read_writes_cons_unit_of_mem _ _ _ _ _ _ (ix3 0 r d) rfl fun b => ?_).trans ?_
    · match b with
      | ⟨0, _⟩ => rfl
      | ⟨1, _⟩ => exact (Nat.zero_add _).symm
      | ⟨2, _⟩ => exact (Nat.zero_add _).symm
    · exact turn_loads (hs0_6 t) (hs0_7 t) (hs0_2 t) _ _ _ 128 ⟨1, by decide⟩ rfl _ _ _ r d
  | ⟨2, _⟩ =>
    refine (View.read_writes_cons_unit_of_not_mem _ _ _ _ _ _ rfl 0 (Or.inl (by show 2 < 3; decide))).trans ?_
    refine (View.read_writes_cons_unit_of_mem _ _ _ _ _ _ (ix3 0 r d) rfl fun b => ?_).trans ?_
    · match b with
      | ⟨0, _⟩ => rfl
      | ⟨1, _⟩ => exact (Nat.zero_add _).symm
      | ⟨2, _⟩ => exact (Nat.zero_add _).symm
    · exact turn_loads (hs0_6 t) (hs0_7 t) (hs0_2 t) _ _ _ 256 ⟨2, by decide⟩ rfl _ _ _ r d
  | ⟨3, _⟩ =>
    refine (View.read_writes_cons_unit_of_mem _ _ _ _ _ _ (ix3 0 r d) rfl fun b => ?_).trans ?_
    · match b with
      | ⟨0, _⟩ => rfl
      | ⟨1, _⟩ => exact (Nat.zero_add _).symm
      | ⟨2, _⟩ => exact (Nat.zero_add _).symm
    · exact turn_loads (hs0_6 t) (hs0_7 t) (hs0_2 t) _ _ _ 384 ⟨3, by decide⟩ rfl _ _ _ r d

/-- The values of the selected branch. -/
theorem stored10 (c : Dev nD) (t : Fin cfg0.N) (g : Fin 4) (r : Fin 512) (d : Fin 128) :
    (outsAt0 m c t).2.2.1 (ix3 g r d) = X0_3 m c t (ix2 r (column g d)) := by
  unfold outsAt0 out0_A_10 kernelRun0_A
  dsimp only
  match g with
  | ⟨0, _⟩ =>
    refine (View.read_writes_cons_unit_of_not_mem _ _ _ _ _ _ rfl 0 (Or.inl (by show 0 < 3; decide))).trans ?_
    refine (View.read_writes_cons_unit_of_not_mem _ _ _ _ _ _ rfl 0 (Or.inl (by show 0 < 2; decide))).trans ?_
    refine (View.read_writes_cons_unit_of_not_mem _ _ _ _ _ _ rfl 0 (Or.inl (by show 0 < 1; decide))).trans ?_
    refine (View.read_writes_cons_unit_of_mem _ _ _ _ _ _ (ix3 0 r d) rfl fun b => ?_).trans ?_
    · match b with
      | ⟨0, _⟩ => rfl
      | ⟨1, _⟩ => exact (Nat.zero_add _).symm
      | ⟨2, _⟩ => exact (Nat.zero_add _).symm
    · exact copy_loads (hs0_3 t) _ 0 ⟨0, by decide⟩ rfl _ r d
  | ⟨1, _⟩ =>
    refine (View.read_writes_cons_unit_of_not_mem _ _ _ _ _ _ rfl 0 (Or.inl (by show 1 < 3; decide))).trans ?_
    refine (View.read_writes_cons_unit_of_not_mem _ _ _ _ _ _ rfl 0 (Or.inl (by show 1 < 2; decide))).trans ?_
    refine (View.read_writes_cons_unit_of_mem _ _ _ _ _ _ (ix3 0 r d) rfl fun b => ?_).trans ?_
    · match b with
      | ⟨0, _⟩ => rfl
      | ⟨1, _⟩ => exact (Nat.zero_add _).symm
      | ⟨2, _⟩ => exact (Nat.zero_add _).symm
    · exact copy_loads (hs0_3 t) _ 128 ⟨1, by decide⟩ rfl _ r d
  | ⟨2, _⟩ =>
    refine (View.read_writes_cons_unit_of_not_mem _ _ _ _ _ _ rfl 0 (Or.inl (by show 2 < 3; decide))).trans ?_
    refine (View.read_writes_cons_unit_of_mem _ _ _ _ _ _ (ix3 0 r d) rfl fun b => ?_).trans ?_
    · match b with
      | ⟨0, _⟩ => rfl
      | ⟨1, _⟩ => exact (Nat.zero_add _).symm
      | ⟨2, _⟩ => exact (Nat.zero_add _).symm
    · exact copy_loads (hs0_3 t) _ 256 ⟨2, by decide⟩ rfl _ r d
  | ⟨3, _⟩ =>
    refine (View.read_writes_cons_unit_of_mem _ _ _ _ _ _ (ix3 0 r d) rfl fun b => ?_).trans ?_
    · match b with
      | ⟨0, _⟩ => rfl
      | ⟨1, _⟩ => exact (Nat.zero_add _).symm
      | ⟨2, _⟩ => exact (Nat.zero_add _).symm
    · exact copy_loads (hs0_3 t) _ 384 ⟨3, by decide⟩ rfl _ r d

/-- The turned keys of the window branch. -/
theorem stored11 (c : Dev nD) (t : Fin cfg0.N) (g : Fin 4) (r : Fin 512) (d : Fin 128) :
    (outsAt0 m c t).2.2.2.1 (ix3 g r d) = turned (X0_4 m c t) (iblk m c 6 t) (iblk m c 7 t) g r d := by
  unfold outsAt0 out0_A_11 kernelRun0_A
  dsimp only
  match g with
  | ⟨0, _⟩ =>
    refine (View.read_writes_cons_unit_of_not_mem _ _ _ _ _ _ rfl 0 (Or.inl (by show 0 < 3; decide))).trans ?_
    refine (View.read_writes_cons_unit_of_not_mem _ _ _ _ _ _ rfl 0 (Or.inl (by show 0 < 2; decide))).trans ?_
    refine (View.read_writes_cons_unit_of_not_mem _ _ _ _ _ _ rfl 0 (Or.inl (by show 0 < 1; decide))).trans ?_
    refine (View.read_writes_cons_unit_of_mem _ _ _ _ _ _ (ix3 0 r d) rfl fun b => ?_).trans ?_
    · match b with
      | ⟨0, _⟩ => rfl
      | ⟨1, _⟩ => exact (Nat.zero_add _).symm
      | ⟨2, _⟩ => exact (Nat.zero_add _).symm
    · exact turn_loads (hs0_6 t) (hs0_7 t) (hs0_4 t) _ _ _ 0 ⟨0, by decide⟩ rfl _ _ _ r d
  | ⟨1, _⟩ =>
    refine (View.read_writes_cons_unit_of_not_mem _ _ _ _ _ _ rfl 0 (Or.inl (by show 1 < 3; decide))).trans ?_
    refine (View.read_writes_cons_unit_of_not_mem _ _ _ _ _ _ rfl 0 (Or.inl (by show 1 < 2; decide))).trans ?_
    refine (View.read_writes_cons_unit_of_mem _ _ _ _ _ _ (ix3 0 r d) rfl fun b => ?_).trans ?_
    · match b with
      | ⟨0, _⟩ => rfl
      | ⟨1, _⟩ => exact (Nat.zero_add _).symm
      | ⟨2, _⟩ => exact (Nat.zero_add _).symm
    · exact turn_loads (hs0_6 t) (hs0_7 t) (hs0_4 t) _ _ _ 128 ⟨1, by decide⟩ rfl _ _ _ r d
  | ⟨2, _⟩ =>
    refine (View.read_writes_cons_unit_of_not_mem _ _ _ _ _ _ rfl 0 (Or.inl (by show 2 < 3; decide))).trans ?_
    refine (View.read_writes_cons_unit_of_mem _ _ _ _ _ _ (ix3 0 r d) rfl fun b => ?_).trans ?_
    · match b with
      | ⟨0, _⟩ => rfl
      | ⟨1, _⟩ => exact (Nat.zero_add _).symm
      | ⟨2, _⟩ => exact (Nat.zero_add _).symm
    · exact turn_loads (hs0_6 t) (hs0_7 t) (hs0_4 t) _ _ _ 256 ⟨2, by decide⟩ rfl _ _ _ r d
  | ⟨3, _⟩ =>
    refine (View.read_writes_cons_unit_of_mem _ _ _ _ _ _ (ix3 0 r d) rfl fun b => ?_).trans ?_
    · match b with
      | ⟨0, _⟩ => rfl
      | ⟨1, _⟩ => exact (Nat.zero_add _).symm
      | ⟨2, _⟩ => exact (Nat.zero_add _).symm
    · exact turn_loads (hs0_6 t) (hs0_7 t) (hs0_4 t) _ _ _ 384 ⟨3, by decide⟩ rfl _ _ _ r d

/-- The values of the window branch. -/
theorem stored12 (c : Dev nD) (t : Fin cfg0.N) (g : Fin 4) (r : Fin 512) (d : Fin 128) :
    (outsAt0 m c t).2.2.2.2 (ix3 g r d) = X0_5 m c t (ix2 r (column g d)) := by
  unfold outsAt0 out0_A_12 kernelRun0_A
  dsimp only
  match g with
  | ⟨0, _⟩ =>
    refine (View.read_writes_cons_unit_of_not_mem _ _ _ _ _ _ rfl 0 (Or.inl (by show 0 < 3; decide))).trans ?_
    refine (View.read_writes_cons_unit_of_not_mem _ _ _ _ _ _ rfl 0 (Or.inl (by show 0 < 2; decide))).trans ?_
    refine (View.read_writes_cons_unit_of_not_mem _ _ _ _ _ _ rfl 0 (Or.inl (by show 0 < 1; decide))).trans ?_
    refine (View.read_writes_cons_unit_of_mem _ _ _ _ _ _ (ix3 0 r d) rfl fun b => ?_).trans ?_
    · match b with
      | ⟨0, _⟩ => rfl
      | ⟨1, _⟩ => exact (Nat.zero_add _).symm
      | ⟨2, _⟩ => exact (Nat.zero_add _).symm
    · exact copy_loads (hs0_5 t) _ 0 ⟨0, by decide⟩ rfl _ r d
  | ⟨1, _⟩ =>
    refine (View.read_writes_cons_unit_of_not_mem _ _ _ _ _ _ rfl 0 (Or.inl (by show 1 < 3; decide))).trans ?_
    refine (View.read_writes_cons_unit_of_not_mem _ _ _ _ _ _ rfl 0 (Or.inl (by show 1 < 2; decide))).trans ?_
    refine (View.read_writes_cons_unit_of_mem _ _ _ _ _ _ (ix3 0 r d) rfl fun b => ?_).trans ?_
    · match b with
      | ⟨0, _⟩ => rfl
      | ⟨1, _⟩ => exact (Nat.zero_add _).symm
      | ⟨2, _⟩ => exact (Nat.zero_add _).symm
    · exact copy_loads (hs0_5 t) _ 128 ⟨1, by decide⟩ rfl _ r d
  | ⟨2, _⟩ =>
    refine (View.read_writes_cons_unit_of_not_mem _ _ _ _ _ _ rfl 0 (Or.inl (by show 2 < 3; decide))).trans ?_
    refine (View.read_writes_cons_unit_of_mem _ _ _ _ _ _ (ix3 0 r d) rfl fun b => ?_).trans ?_
    · match b with
      | ⟨0, _⟩ => rfl
      | ⟨1, _⟩ => exact (Nat.zero_add _).symm
      | ⟨2, _⟩ => exact (Nat.zero_add _).symm
    · exact copy_loads (hs0_5 t) _ 256 ⟨2, by decide⟩ rfl _ r d
  | ⟨3, _⟩ =>
    refine (View.read_writes_cons_unit_of_mem _ _ _ _ _ _ (ix3 0 r d) rfl fun b => ?_).trans ?_
    · match b with
      | ⟨0, _⟩ => rfl
      | ⟨1, _⟩ => exact (Nat.zero_add _).symm
      | ⟨2, _⟩ => exact (Nat.zero_add _).symm
    · exact copy_loads (hs0_5 t) _ 384 ⟨3, by decide⟩ rfl _ r d

/-- The keys to be compressed. -/
theorem stored8_keys (c : Dev nD) (t : Fin cfg0.N) (g : Fin 4) (r : Fin 512) (d : Fin 128) :
    (outsAt0 m c t).1 (ix4 0 g r d) = X0_0 m c t (ix2 r (column g d)) := by
  unfold outsAt0 out0_A_8 kernelRun0_A
  dsimp only
  match g with
  | ⟨0, _⟩ =>
    refine (View.read_writes_cons_unit_of_not_mem _ _ _ _ _ _ rfl 1 (Or.inl (by show 0 < 3; decide))).trans ?_
    refine (View.read_writes_cons_unit_of_not_mem _ _ _ _ _ _ rfl 1 (Or.inl (by show 0 < 3; decide))).trans ?_
    refine (View.read_writes_cons_unit_of_not_mem _ _ _ _ _ _ rfl 1 (Or.inl (by show 0 < 2; decide))).trans ?_
    refine (View.read_writes_cons_unit_of_not_mem _ _ _ _ _ _ rfl 1 (Or.inl (by show 0 < 2; decide))).trans ?_
    refine (View.read_writes_cons_unit_of_not_mem _ _ _ _ _ _ rfl 1 (Or.inl (by show 0 < 1; decide))).trans ?_
    refine (View.read_writes_cons_unit_of_not_mem _ _ _ _ _ _ rfl 1 (Or.inl (by show 0 < 1; decide))).trans ?_
    refine (View.read_writes_cons_unit_of_not_mem _ _ _ _ _ _ rfl 0 (Or.inl (by show 0 < 1; decide))).trans ?_
    refine (View.read_writes_cons_unit_of_mem _ _ _ _ _ _ (ix4 0 0 r d) rfl fun b => ?_).trans ?_
    · match b with
      | ⟨0, _⟩ => rfl
      | ⟨1, _⟩ => rfl
      | ⟨2, _⟩ => exact (Nat.zero_add _).symm
      | ⟨3, _⟩ => exact (Nat.zero_add _).symm
    · exact copy_loads_two (hs0_0 t) _ 0 ⟨0, by decide⟩ rfl _ r d
  | ⟨1, _⟩ =>
    refine (View.read_writes_cons_unit_of_not_mem _ _ _ _ _ _ rfl 1 (Or.inl (by show 1 < 3; decide))).trans ?_
    refine (View.read_writes_cons_unit_of_not_mem _ _ _ _ _ _ rfl 1 (Or.inl (by show 1 < 3; decide))).trans ?_
    refine (View.read_writes_cons_unit_of_not_mem _ _ _ _ _ _ rfl 1 (Or.inl (by show 1 < 2; decide))).trans ?_
    refine (View.read_writes_cons_unit_of_not_mem _ _ _ _ _ _ rfl 1 (Or.inl (by show 1 < 2; decide))).trans ?_
    refine (View.read_writes_cons_unit_of_not_mem _ _ _ _ _ _ rfl 0 (Or.inl (by show 0 < 1; decide))).trans ?_
    refine (View.read_writes_cons_unit_of_mem _ _ _ _ _ _ (ix4 0 0 r d) rfl fun b => ?_).trans ?_
    · match b with
      | ⟨0, _⟩ => rfl
      | ⟨1, _⟩ => rfl
      | ⟨2, _⟩ => exact (Nat.zero_add _).symm
      | ⟨3, _⟩ => exact (Nat.zero_add _).symm
    · exact copy_loads_two (hs0_0 t) _ 128 ⟨1, by decide⟩ rfl _ r d
  | ⟨2, _⟩ =>
    refine (View.read_writes_cons_unit_of_not_mem _ _ _ _ _ _ rfl 1 (Or.inl (by show 2 < 3; decide))).trans ?_
    refine (View.read_writes_cons_unit_of_not_mem _ _ _ _ _ _ rfl 1 (Or.inl (by show 2 < 3; decide))).trans ?_
    refine (View.read_writes_cons_unit_of_not_mem _ _ _ _ _ _ rfl 0 (Or.inl (by show 0 < 1; decide))).trans ?_
    refine (View.read_writes_cons_unit_of_mem _ _ _ _ _ _ (ix4 0 0 r d) rfl fun b => ?_).trans ?_
    · match b with
      | ⟨0, _⟩ => rfl
      | ⟨1, _⟩ => rfl
      | ⟨2, _⟩ => exact (Nat.zero_add _).symm
      | ⟨3, _⟩ => exact (Nat.zero_add _).symm
    · exact copy_loads_two (hs0_0 t) _ 256 ⟨2, by decide⟩ rfl _ r d
  | ⟨3, _⟩ =>
    refine (View.read_writes_cons_unit_of_not_mem _ _ _ _ _ _ rfl 0 (Or.inl (by show 0 < 1; decide))).trans ?_
    refine (View.read_writes_cons_unit_of_mem _ _ _ _ _ _ (ix4 0 0 r d) rfl fun b => ?_).trans ?_
    · match b with
      | ⟨0, _⟩ => rfl
      | ⟨1, _⟩ => rfl
      | ⟨2, _⟩ => exact (Nat.zero_add _).symm
      | ⟨3, _⟩ => exact (Nat.zero_add _).symm
    · exact copy_loads_two (hs0_0 t) _ 384 ⟨3, by decide⟩ rfl _ r d

/-- The values to be compressed. -/
theorem stored8_values (c : Dev nD) (t : Fin cfg0.N) (g : Fin 4) (r : Fin 512) (d : Fin 128) :
    (outsAt0 m c t).1 (ix4 1 g r d) = X0_1 m c t (ix2 r (column g d)) := by
  unfold outsAt0 out0_A_8 kernelRun0_A
  dsimp only
  match g with
  | ⟨0, _⟩ =>
    refine (View.read_writes_cons_unit_of_not_mem _ _ _ _ _ _ rfl 1 (Or.inl (by show 0 < 3; decide))).trans ?_
    refine (View.read_writes_cons_unit_of_not_mem _ _ _ _ _ _ rfl 1 (Or.inl (by show 0 < 3; decide))).trans ?_
    refine (View.read_writes_cons_unit_of_not_mem _ _ _ _ _ _ rfl 1 (Or.inl (by show 0 < 2; decide))).trans ?_
    refine (View.read_writes_cons_unit_of_not_mem _ _ _ _ _ _ rfl 1 (Or.inl (by show 0 < 2; decide))).trans ?_
    refine (View.read_writes_cons_unit_of_not_mem _ _ _ _ _ _ rfl 1 (Or.inl (by show 0 < 1; decide))).trans ?_
    refine (View.read_writes_cons_unit_of_not_mem _ _ _ _ _ _ rfl 1 (Or.inl (by show 0 < 1; decide))).trans ?_
    refine (View.read_writes_cons_unit_of_mem _ _ _ _ _ _ (ix4 0 0 r d) rfl fun b => ?_).trans ?_
    · match b with
      | ⟨0, _⟩ => rfl
      | ⟨1, _⟩ => rfl
      | ⟨2, _⟩ => exact (Nat.zero_add _).symm
      | ⟨3, _⟩ => exact (Nat.zero_add _).symm
    · exact copy_loads_two (hs0_1 t) _ 0 ⟨0, by decide⟩ rfl _ r d
  | ⟨1, _⟩ =>
    refine (View.read_writes_cons_unit_of_not_mem _ _ _ _ _ _ rfl 1 (Or.inl (by show 1 < 3; decide))).trans ?_
    refine (View.read_writes_cons_unit_of_not_mem _ _ _ _ _ _ rfl 1 (Or.inl (by show 1 < 3; decide))).trans ?_
    refine (View.read_writes_cons_unit_of_not_mem _ _ _ _ _ _ rfl 1 (Or.inl (by show 1 < 2; decide))).trans ?_
    refine (View.read_writes_cons_unit_of_not_mem _ _ _ _ _ _ rfl 1 (Or.inl (by show 1 < 2; decide))).trans ?_
    refine (View.read_writes_cons_unit_of_mem _ _ _ _ _ _ (ix4 0 0 r d) rfl fun b => ?_).trans ?_
    · match b with
      | ⟨0, _⟩ => rfl
      | ⟨1, _⟩ => rfl
      | ⟨2, _⟩ => exact (Nat.zero_add _).symm
      | ⟨3, _⟩ => exact (Nat.zero_add _).symm
    · exact copy_loads_two (hs0_1 t) _ 128 ⟨1, by decide⟩ rfl _ r d
  | ⟨2, _⟩ =>
    refine (View.read_writes_cons_unit_of_not_mem _ _ _ _ _ _ rfl 1 (Or.inl (by show 2 < 3; decide))).trans ?_
    refine (View.read_writes_cons_unit_of_not_mem _ _ _ _ _ _ rfl 1 (Or.inl (by show 2 < 3; decide))).trans ?_
    refine (View.read_writes_cons_unit_of_mem _ _ _ _ _ _ (ix4 0 0 r d) rfl fun b => ?_).trans ?_
    · match b with
      | ⟨0, _⟩ => rfl
      | ⟨1, _⟩ => rfl
      | ⟨2, _⟩ => exact (Nat.zero_add _).symm
      | ⟨3, _⟩ => exact (Nat.zero_add _).symm
    · exact copy_loads_two (hs0_1 t) _ 256 ⟨2, by decide⟩ rfl _ r d
  | ⟨3, _⟩ =>
    refine (View.read_writes_cons_unit_of_mem _ _ _ _ _ _ (ix4 0 0 r d) rfl fun b => ?_).trans ?_
    · match b with
      | ⟨0, _⟩ => rfl
      | ⟨1, _⟩ => rfl
      | ⟨2, _⟩ => exact (Nat.zero_add _).symm
      | ⟨3, _⟩ => exact (Nat.zero_add _).symm
    · exact copy_loads_two (hs0_1 t) _ 384 ⟨3, by decide⟩ rfl _ r d

end Cert.Prepare

end
-- ==== Proof.Prepare.lean ====
/-
  `Kernel16` at the extended reals: the keys and values of the three branches, laid out by groups of 128 columns, with the
  keys of the selected and window branches turned by their position.  The five arrays it leaves hold what the reference's do.
  The kernel multiplies by a table of signed sines and adds; the reference multiplies by the sines and subtracts in
  the first half of the columns.
-/
module

public import proofs.«01_k».proof.Proof.PrepareBlock
public import proofs.«01_k».proof.Proof.Gen.Reference16Ideal.Run
public import proofs.«01_k».proof.Proof.Gen.Reference16Ideal.Read

@[expose] public section

set_option maxRecDepth 16384

noncomputable section

open Idealize.ShloMosaic Idealize.ShloMosaic.TcCoe Idealize.SL.Sem

namespace Cert.Prepare

open Cert.Kernel16Ideal Cert.Kernel16Ideal.Gen

variable (m : (ℓ : Loc nD τ sig) → Buf (Elt Ideal) ℓ) (ρ : Dev nD → PrngReg)

/-- Column `d` of group `g` of piece `p`, at token `r`: the six pieces of 512 columns start at column 4096. -/
def entry (q : S16384x7424.Idx → EReal) (p : Fin 6) (g : Fin 4) (r : Fin 16384) (d : Fin 128) : EReal :=
  q (ix2 r ⟨4096 + p.val * 512 + (g.val * 128 + d.val), by have := p.isLt; have := g.isLt; have := d.isLt; omega⟩)

/-- The column of the tables, 64 wide, that column `d` of 128 reads. -/
def half (d : Fin 128) : Fin 64 := ⟨d.val % 64, Nat.mod_lt _ (by decide)⟩

/-- The rotary position: pairs of columns 64 apart turned by the token's angles. -/
def rotated (q : S16384x7424.Idx → EReal) (cos sin : S16384x64.Idx → EReal) (p : Fin 6) (g : Fin 4) (r : Fin 16384) (d : Fin 128) : EReal :=
  if d.val < 64 then entry q p g r d * cos (ix2 r (half d)) - entry q p g r (opposite d) * sin (ix2 r (half d))
  else entry q p g r (opposite d) * sin (ix2 r (half d)) + entry q p g r d * cos (ix2 r (half d))

/-- The table of sines, the first half negated. -/
def signed (sin : S16384x64.Idx → EReal) (r : Fin 16384) (d : Fin 128) : EReal := if d.val < 64 then -sin (ix2 r (half d)) else sin (ix2 r (half d))

/-- Times the cosines plus the opposite column times the signed sines is the rotation. -/
theorem rotated_eq (q : S16384x7424.Idx → EReal) (cos sin : S16384x64.Idx → EReal) (p : Fin 6) (g : Fin 4) (r : Fin 16384) (d : Fin 128) :
    entry q p g r d * cos (ix2 r (half d)) + entry q p g r (opposite d) * signed sin r d = rotated q cos sin p g r d := by
  unfold rotated signed
  by_cases h : d.val < 64
  · rw [if_pos h, if_pos h, mul_neg, sub_eq_add_neg]
  · rw [if_neg h, if_neg h, add_comm]

/-- Two tables 64 wide side by side: the first and the second. -/
theorem beside_left (y z : FVec Ideal S16384x64 .f32) (r : Fin 16384) (d : Fin 128) (h : d.val < 64) :
    concatenate S16384x128 1 [⟨S16384x64, y⟩, ⟨S16384x64, z⟩] concatenates_S16384x64_S16384x64_S16384x128_d1 (ix2 r d) = y (ix2 r (half d)) := by
  refine concatenate_pair_apply_left (t := S16384x128) (s₁ := S16384x64) (s₂ := S16384x64) 1 y z _ (ix2 r d) rfl (ix2 r (half d)) fun x => ?_
  match x with
  | ⟨0, _⟩ => rfl
  | ⟨1, _⟩ => show d.val % 64 = d.val; omega

theorem beside_right (y z : FVec Ideal S16384x64 .f32) (r : Fin 16384) (d : Fin 128) (h : ¬d.val < 64) :
    concatenate S16384x128 1 [⟨S16384x64, y⟩, ⟨S16384x64, z⟩] concatenates_S16384x64_S16384x64_S16384x128_d1 (ix2 r d) = z (ix2 r (half d)) := by
  refine concatenate_pair_apply_right (t := S16384x128) (s₁ := S16384x64) (s₂ := S16384x64) 1 y z _ (ix2 r d) rfl rfl (ix2 r (half d)) (fun x hx => ?_) ?_
  · match x with
    | ⟨0, _⟩ => rfl
    | ⟨1, _⟩ => exact absurd rfl hx
  · have := d.isLt
    show d.val % 64 + 64 = d.val
    omega

/-- The table of cosines as the region finds it: the cosines twice. -/
theorem cosines (c : Dev nD) : V m c main_v0 = concatenate S16384x128 1 [⟨S16384x64, m ((c : Thread nD τ).loc main_arg1)⟩, ⟨S16384x64, m ((c : Thread nD τ).loc main_arg1)⟩]
    concatenates_S16384x64_S16384x64_S16384x128_d1 := by
  show StableHlo.after hostOps0 (fun b => m (c, b)) main_v0 = _
  rw [hostOps0, StableHlo.after_cons, StableHlo.after_cons, StableHlo.after_cons, StableHlo.after_nil, StableHlo.binary_result_ne, StableHlo.unary_result_ne, StableHlo.binary_result]
  · decide
  · decide

/-- The table of sines as the region finds it: the negated sines, then the sines. -/
theorem sines (c : Dev nD) : V m c main_v2 = concatenate S16384x128 1 [⟨S16384x64, (Host.negf (F := Ideal) (φ := .f32) (m ((c : Thread nD τ).loc main_arg2)) : FVec Ideal S16384x64 .f32)⟩, ⟨S16384x64, m ((c : Thread nD τ).loc main_arg2)⟩]
    concatenates_S16384x64_S16384x64_S16384x128_d1 := by
  show StableHlo.after hostOps0 (fun b => m (c, b)) main_v2 = _
  rw [hostOps0, StableHlo.after_cons, StableHlo.after_cons, StableHlo.after_cons, StableHlo.after_nil, StableHlo.binary_result, StableHlo.unary_result, StableHlo.unary_result_ne,
    StableHlo.binary_result_ne]
  · decide
  · decide

theorem cosines_apply (c : Dev nD) (r : Fin 16384) (d : Fin 128) : V m c main_v0 (ix2 r d) = m ((c : Thread nD τ).loc main_arg1) (ix2 r (half d)) := by
  rw [cosines]
  by_cases h : d.val < 64
  · exact beside_left _ _ r d h
  · exact beside_right _ _ r d h

theorem sines_apply (c : Dev nD) (r : Fin 16384) (d : Fin 128) : V m c main_v2 (ix2 r d) = signed (m ((c : Thread nD τ).loc main_arg2)) r d := by
  rw [sines]
  unfold signed
  by_cases h : d.val < 64
  · rw [if_pos h]
    exact beside_left _ _ r d h
  · rw [if_neg h]
    exact beside_right _ _ r d h

/-- Row `r` of the block of point `t` among all tokens. -/
def token (t : Fin cfg0.N) (r : Fin 512) : Fin 16384 := ⟨t.val * 512 + r.val, by have hN : cfg0.N = 32 := N_0; have := t.isLt; have := r.isLt; omega⟩

/-- Which block each window names at point `t`. -/
theorem blocks (t : Fin cfg0.N) : (win0_0.index t 0 = t.val ∧ win0_0.index t 1 = 8) ∧ (win0_1.index t 0 = t.val ∧ win0_1.index t 1 = 9) ∧ (win0_2.index t 0 = t.val ∧ win0_2.index t 1 = 10)
    ∧ (win0_3.index t 0 = t.val ∧ win0_3.index t 1 = 11) ∧ (win0_4.index t 0 = t.val ∧ win0_4.index t 1 = 12) ∧ (win0_5.index t 0 = t.val ∧ win0_5.index t 1 = 13)
    ∧ (win0_6.index t 0 = t.val ∧ win0_6.index t 1 = 0) ∧ (win0_7.index t 0 = t.val ∧ win0_7.index t 1 = 0) :=
  (by decide +kernel : ∀ t : Fin grid0.N, (win0_0.index t 0 = t.val ∧ win0_0.index t 1 = 8) ∧ (win0_1.index t 0 = t.val ∧ win0_1.index t 1 = 9) ∧ (win0_2.index t 0 = t.val ∧ win0_2.index t 1 = 10)
    ∧ (win0_3.index t 0 = t.val ∧ win0_3.index t 1 = 11) ∧ (win0_4.index t 0 = t.val ∧ win0_4.index t 1 = 12) ∧ (win0_5.index t 0 = t.val ∧ win0_5.index t 1 = 13)
    ∧ (win0_6.index t 0 = t.val ∧ win0_6.index t 1 = 0) ∧ (win0_7.index t 0 = t.val ∧ win0_7.index t 1 = 0)) t

/-- Which block each output's window names at point `t`. -/
theorem places (t : Fin cfg0.N) : (win0_8.index t 0 = 0 ∧ win0_8.index t 1 = 0 ∧ win0_8.index t 2 = t.val ∧ win0_8.index t 3 = 0) ∧ (win0_9.index t 0 = 0 ∧ win0_9.index t 1 = t.val ∧ win0_9.index t 2 = 0)
    ∧ (win0_10.index t 0 = 0 ∧ win0_10.index t 1 = t.val ∧ win0_10.index t 2 = 0) ∧ (win0_11.index t 0 = 0 ∧ win0_11.index t 1 = t.val ∧ win0_11.index t 2 = 0)
    ∧ (win0_12.index t 0 = 0 ∧ win0_12.index t 1 = t.val ∧ win0_12.index t 2 = 0) :=
  (by decide +kernel : ∀ t : Fin grid0.N, (win0_8.index t 0 = 0 ∧ win0_8.index t 1 = 0 ∧ win0_8.index t 2 = t.val ∧ win0_8.index t 3 = 0) ∧ (win0_9.index t 0 = 0 ∧ win0_9.index t 1 = t.val ∧ win0_9.index t 2 = 0)
    ∧ (win0_10.index t 0 = 0 ∧ win0_10.index t 1 = t.val ∧ win0_10.index t 2 = 0) ∧ (win0_11.index t 0 = 0 ∧ win0_11.index t 1 = t.val ∧ win0_11.index t 2 = 0)
    ∧ (win0_12.index t 0 = 0 ∧ win0_12.index t 1 = t.val ∧ win0_12.index t 2 = 0)) t

theorem piece0 (c : Dev nD) (t : Fin cfg0.N) (g : Fin 4) (r : Fin 512) (d : Fin 128) :
    X0_0 m c t (ix2 r (column g d)) = entry (m ((c : Thread nD τ).loc main_arg0)) 0 g (token t r) d := by
  obtain ⟨⟨a0, a1⟩, -⟩ := blocks t
  unfold X0_0 Pipeline.Window.fill
  rw [dif_pos (moved0_0 t _)]
  unfold iblk entry
  show V m c main_arg0 _ = _
  rw [V_main_arg0]
  refine congrArg (m ((c : Thread nD τ).loc main_arg0)) (funext fun a => Fin.ext ?_)
  match a with
  | ⟨0, _⟩ => show win0_0.index t 0 * 512 + 1 * r.val = t.val * 512 + r.val; rw [a0]; omega
  | ⟨1, _⟩ => show win0_0.index t 1 * 512 + 1 * (g.val * 128 + d.val) = 4096 + 0 * 512 + (g.val * 128 + d.val); rw [a1]; omega

theorem piece1 (c : Dev nD) (t : Fin cfg0.N) (g : Fin 4) (r : Fin 512) (d : Fin 128) :
    X0_1 m c t (ix2 r (column g d)) = entry (m ((c : Thread nD τ).loc main_arg0)) 1 g (token t r) d := by
  obtain ⟨-, ⟨a0, a1⟩, -⟩ := blocks t
  unfold X0_1 Pipeline.Window.fill
  rw [dif_pos (moved0_1 t _)]
  unfold iblk entry
  show V m c main_arg0 _ = _
  rw [V_main_arg0]
  refine congrArg (m ((c : Thread nD τ).loc main_arg0)) (funext fun a => Fin.ext ?_)
  match a with
  | ⟨0, _⟩ => show win0_1.index t 0 * 512 + 1 * r.val = t.val * 512 + r.val; rw [a0]; omega
  | ⟨1, _⟩ => show win0_1.index t 1 * 512 + 1 * (g.val * 128 + d.val) = 4096 + 1 * 512 + (g.val * 128 + d.val); rw [a1]; omega

theorem piece2 (c : Dev nD) (t : Fin cfg0.N) (g : Fin 4) (r : Fin 512) (d : Fin 128) :
    X0_2 m c t (ix2 r (column g d)) = entry (m ((c : Thread nD τ).loc main_arg0)) 2 g (token t r) d := by
  obtain ⟨-, -, ⟨a0, a1⟩, -⟩ := blocks t
  unfold X0_2 Pipeline.Window.fill
  rw [dif_pos (moved0_2 t _)]
  unfold iblk entry
  show V m c main_arg0 _ = _
  rw [V_main_arg0]
  refine congrArg (m ((c : Thread nD τ).loc main_arg0)) (funext fun a => Fin.ext ?_)
  match a with
  | ⟨0, _⟩ => show win0_2.index t 0 * 512 + 1 * r.val = t.val * 512 + r.val; rw [a0]; omega
  | ⟨1, _⟩ => show win0_2.index t 1 * 512 + 1 * (g.val * 128 + d.val) = 4096 + 2 * 512 + (g.val * 128 + d.val); rw [a1]; omega

theorem piece3 (c : Dev nD) (t : Fin cfg0.N) (g : Fin 4) (r : Fin 512) (d : Fin 128) :
    X0_3 m c t (ix2 r (column g d)) = entry (m ((c : Thread nD τ).loc main_arg0)) 3 g (token t r) d := by
  obtain ⟨-, -, -, ⟨a0, a1⟩, -⟩ := blocks t
  unfold X0_3 Pipeline.Window.fill
  rw [dif_pos (moved0_3 t _)]
  unfold iblk entry
  show V m c main_arg0 _ = _
  rw [V_main_arg0]
  refine congrArg (m ((c : Thread nD τ).loc main_arg0)) (funext fun a => Fin.ext ?_)
  match a with
  | ⟨0, _⟩ => show win0_3.index t 0 * 512 + 1 * r.val = t.val * 512 + r.val; rw [a0]; omega
  | ⟨1, _⟩ => show win0_3.index t 1 * 512 + 1 * (g.val * 128 + d.val) = 4096 + 3 * 512 + (g.val * 128 + d.val); rw [a1]; omega

theorem piece4 (c : Dev nD) (t : Fin cfg0.N) (g : Fin 4) (r : Fin 512) (d : Fin 128) :
    X0_4 m c t (ix2 r (column g d)) = entry (m ((c : Thread nD τ).loc main_arg0)) 4 g (token t r) d := by
  obtain ⟨-, -, -, -, ⟨a0, a1⟩, -⟩ := blocks t
  unfold X0_4 Pipeline.Window.fill
  rw [dif_pos (moved0_4 t _)]
  unfold iblk entry
  show V m c main_arg0 _ = _
  rw [V_main_arg0]
  refine congrArg (m ((c : Thread nD τ).loc main_arg0)) (funext fun a => Fin.ext ?_)
  match a with
  | ⟨0, _⟩ => show win0_4.index t 0 * 512 + 1 * r.val = t.val * 512 + r.val; rw [a0]; omega
  | ⟨1, _⟩ => show win0_4.index t 1 * 512 + 1 * (g.val * 128 + d.val) = 4096 + 4 * 512 + (g.val * 128 + d.val); rw [a1]; omega

theorem piece5 (c : Dev nD) (t : Fin cfg0.N) (g : Fin 4) (r : Fin 512) (d : Fin 128) :
    X0_5 m c t (ix2 r (column g d)) = entry (m ((c : Thread nD τ).loc main_arg0)) 5 g (token t r) d := by
  obtain ⟨-, -, -, -, -, ⟨a0, a1⟩, -⟩ := blocks t
  unfold X0_5 Pipeline.Window.fill
  rw [dif_pos (moved0_5 t _)]
  unfold iblk entry
  show V m c main_arg0 _ = _
  rw [V_main_arg0]
  refine congrArg (m ((c : Thread nD τ).loc main_arg0)) (funext fun a => Fin.ext ?_)
  match a with
  | ⟨0, _⟩ => show win0_5.index t 0 * 512 + 1 * r.val = t.val * 512 + r.val; rw [a0]; omega
  | ⟨1, _⟩ => show win0_5.index t 1 * 512 + 1 * (g.val * 128 + d.val) = 4096 + 5 * 512 + (g.val * 128 + d.val); rw [a1]; omega

theorem cosines_block (c : Dev nD) (t : Fin cfg0.N) (r : Fin 512) (d : Fin 128) : iblk m c 6 t (ix2 r d) = m ((c : Thread nD τ).loc main_arg1) (ix2 (token t r) (half d)) := by
  obtain ⟨-, -, -, -, -, -, ⟨a0, a1⟩, -⟩ := blocks t
  refine Eq.trans ?_ (cosines_apply m c _ d)
  show V m c main_v0 _ = _
  refine congrArg (V m c main_v0) (funext fun a => Fin.ext ?_)
  match a with
  | ⟨0, _⟩ => show win0_6.index t 0 * 512 + 1 * r.val = t.val * 512 + r.val; rw [a0]; omega
  | ⟨1, _⟩ => show win0_6.index t 1 * 128 + 1 * d.val = d.val; rw [a1]; omega

theorem sines_block (c : Dev nD) (t : Fin cfg0.N) (r : Fin 512) (d : Fin 128) : iblk m c 7 t (ix2 r d) = signed (m ((c : Thread nD τ).loc main_arg2)) (token t r) d := by
  obtain ⟨-, -, -, -, -, -, -, a0, a1⟩ := blocks t
  refine Eq.trans ?_ (sines_apply m c _ d)
  show V m c main_v2 _ = _
  refine congrArg (V m c main_v2) (funext fun a => Fin.ext ?_)
  match a with
  | ⟨0, _⟩ => show win0_7.index t 0 * 512 + 1 * r.val = t.val * 512 + r.val; rw [a0]; omega
  | ⟨1, _⟩ => show win0_7.index t 1 * 128 + 1 * d.val = d.val; rw [a1]; omega

/-- A block's keys turned are the rotated keys of its tokens. -/
theorem turned2 (c : Dev nD) (t : Fin cfg0.N) (g : Fin 4) (r : Fin 512) (d : Fin 128) :
    turned (X0_2 m c t) (iblk m c 6 t) (iblk m c 7 t) g r d
      = rotated (m ((c : Thread nD τ).loc main_arg0)) (m ((c : Thread nD τ).loc main_arg1)) (m ((c : Thread nD τ).loc main_arg2)) 2 g (token t r) d := by
  refine Eq.trans ?_ (rotated_eq _ _ _ 2 g (token t r) d)
  unfold turned
  refine congrArg₂ (fun a b : EReal => a + b) (congrArg₂ (fun a b : EReal => a * b) (piece2 m c t g r d) (cosines_block m c t r d))
    (congrArg₂ (fun a b : EReal => a * b) (piece2 m c t g r (opposite d)) (sines_block m c t r d))

/-- A block's keys turned are the rotated keys of its tokens. -/
theorem turned4 (c : Dev nD) (t : Fin cfg0.N) (g : Fin 4) (r : Fin 512) (d : Fin 128) :
    turned (X0_4 m c t) (iblk m c 6 t) (iblk m c 7 t) g r d
      = rotated (m ((c : Thread nD τ).loc main_arg0)) (m ((c : Thread nD τ).loc main_arg1)) (m ((c : Thread nD τ).loc main_arg2)) 4 g (token t r) d := by
  refine Eq.trans ?_ (rotated_eq _ _ _ 4 g (token t r) d)
  unfold turned
  refine congrArg₂ (fun a b : EReal => a + b) (congrArg₂ (fun a b : EReal => a * b) (piece4 m c t g r d) (cosines_block m c t r d))
    (congrArg₂ (fun a b : EReal => a * b) (piece4 m c t g r (opposite d)) (sines_block m c t r d))

/-- The keys and values to be compressed. -/
def resultPair (q : S16384x7424.Idx → EReal) : S2x4x16384x128.Idx → EReal :=
  fun i => entry q ⟨(i 0).val, lt_of_lt_of_le (i 0).isLt (by decide)⟩ (i 1) (i 2) (i 3)

/-- One piece, laid out by groups. -/
def resultCopied (q : S16384x7424.Idx → EReal) (p : Fin 6) : S4x16384x128.Idx → EReal := fun i => entry q p (i 0) (i 1) (i 2)

/-- One piece, laid out by groups and rotated. -/
def resultRotated (q : S16384x7424.Idx → EReal) (cos sin : S16384x64.Idx → EReal) (p : Fin 6) : S4x16384x128.Idx → EReal :=
  fun i => rotated q cos sin p (i 0) (i 1) (i 2)

def result8 (c : Dev nD) : Buf (Elt Ideal) ((c : Thread nD τ).loc main_v3_0) := resultPair (m ((c : Thread nD τ).loc main_arg0))
def result9 (c : Dev nD) : Buf (Elt Ideal) ((c : Thread nD τ).loc main_v3_1) := resultRotated (m ((c : Thread nD τ).loc main_arg0)) (m ((c : Thread nD τ).loc main_arg1)) (m ((c : Thread nD τ).loc main_arg2)) 2
def result10 (c : Dev nD) : Buf (Elt Ideal) ((c : Thread nD τ).loc main_v3_2) := resultCopied (m ((c : Thread nD τ).loc main_arg0)) 3
def result11 (c : Dev nD) : Buf (Elt Ideal) ((c : Thread nD τ).loc main_v3_3) := resultRotated (m ((c : Thread nD τ).loc main_arg0)) (m ((c : Thread nD τ).loc main_arg1)) (m ((c : Thread nD τ).loc main_arg2)) 4
def result12 (c : Dev nD) : Buf (Elt Ideal) ((c : Thread nD τ).loc main_v3_4) := resultCopied (m ((c : Thread nD τ).loc main_arg0)) 5

/-- Where the first output's block lies. -/
theorem place8 (t : Fin cfg0.N) (a : Fin 2) (g : Fin 4) (r : Fin 512) (d : Fin 128) : ((cfg0.win 8).blk t).view.emb (ix4 a g r d) = ix4 a g (token t r) d := by
  obtain ⟨⟨a0, a1, a2, a3⟩, -⟩ := places t
  refine funext fun b => Fin.ext ?_
  match b with
  | ⟨0, _⟩ => show win0_8.index t 0 * 2 + 1 * a.val = a.val; rw [a0]; omega
  | ⟨1, _⟩ => show win0_8.index t 1 * 4 + 1 * g.val = g.val; rw [a1]; omega
  | ⟨2, _⟩ => show win0_8.index t 2 * 512 + 1 * r.val = t.val * 512 + r.val; rw [a2]; omega
  | ⟨3, _⟩ => show win0_8.index t 3 * 128 + 1 * d.val = d.val; rw [a3]; omega

theorem flushed8 (c : Dev nD) (t : Fin cfg0.N) (_ : (cfg0.win 8).flush t = true) :
    (Gen.dats m 0 c).flushed 8 t = ((cfg0.win 8).blk t).view.read (Elt Ideal) (result8 m c) := by
  rw [Value.flushed8]
  funext i
  rw [View.read_apply]
  obtain ⟨a, g, r, d, rfl⟩ : ∃ (a : Fin 2) (g : Fin 4) (r : Fin 512) (d : Fin 128), i = ix4 a g r d := ⟨i 0, i 1, i 2, i 3, eq_ix4 i⟩
  rw [place8]
  show (outsAt0 m c t).1 (ix4 a g r d) = result8 m c (ix4 a g (token t r) d)
  match a with
  | ⟨0, _⟩ => exact (stored8_keys m c t g r d).trans (piece0 m c t g r d)
  | ⟨1, _⟩ => exact (stored8_values m c t g r d).trans (piece1 m c t g r d)

theorem final8 (c : Dev nD) : (Gen.dats m 0 c).arrAt 8 cfg0.N = result8 m c :=
  (Gen.dats m 0 c).arrAt_eq_of_cover 8 (result8 m c) (flushed8 m c) fun (i : S2x4x16384x128.Idx) => by
    have hN : cfg0.N = 32 := N_0
    have h2 : (i 2).val < 16384 := (i 2).isLt
    let t : Fin cfg0.N := ⟨(i 2).val / 512, by rw [hN]; omega⟩
    have ht : t.val = (i 2).val / 512 := rfl
    refine ⟨t, flush0_8 _, ?_⟩
    obtain ⟨⟨a0, a1, a2, a3⟩, -⟩ := places t
    show i ∈ ((View.whole main_v3_0).slice (win0_8.rect t)).set
    rw [View.set_slice_whole, Rect.mem_set_unit]
    have h0 : (i 0).val < 2 := (i 0).isLt
    have h1 : (i 1).val < 4 := (i 1).isLt
    have h3 : (i 3).val < 128 := (i 3).isLt
    intro a
    match a with
    | ⟨0, _⟩ => show win0_8.index t 0 * 2 ≤ (i 0 : Nat) ∧ (i 0 : Nat) < win0_8.index t 0 * 2 + 2
                rw [a0]; omega
    | ⟨1, _⟩ => show win0_8.index t 1 * 4 ≤ (i 1 : Nat) ∧ (i 1 : Nat) < win0_8.index t 1 * 4 + 4
                rw [a1]; omega
    | ⟨2, _⟩ => show win0_8.index t 2 * 512 ≤ (i 2 : Nat) ∧ (i 2 : Nat) < win0_8.index t 2 * 512 + 512
                rw [a2]; omega
    | ⟨3, _⟩ => show win0_8.index t 3 * 128 ≤ (i 3 : Nat) ∧ (i 3 : Nat) < win0_8.index t 3 * 128 + 128
                rw [a3]; omega

/-- Output 2: where its block lies, what is written back, what the array ends holding. -/
theorem place9 (t : Fin cfg0.N) (g : Fin 4) (r : Fin 512) (d : Fin 128) : ((cfg0.win 9).blk t).view.emb (ix3 g r d) = ix3 g (token t r) d := by
  obtain ⟨-, ⟨a0, a1, a2⟩, -⟩ := places t
  refine funext fun b => Fin.ext ?_
  match b with
  | ⟨0, _⟩ => show win0_9.index t 0 * 4 + 1 * g.val = g.val; rw [a0]; omega
  | ⟨1, _⟩ => show win0_9.index t 1 * 512 + 1 * r.val = t.val * 512 + r.val; rw [a1]; omega
  | ⟨2, _⟩ => show win0_9.index t 2 * 128 + 1 * d.val = d.val; rw [a2]; omega

theorem flushed9 (c : Dev nD) (t : Fin cfg0.N) (_ : (cfg0.win 9).flush t = true) :
    (Gen.dats m 0 c).flushed 9 t = ((cfg0.win 9).blk t).view.read (Elt Ideal) (result9 m c) := by
  rw [Value.flushed9]
  funext i
  rw [View.read_apply]
  obtain ⟨g, r, d, rfl⟩ : ∃ (g : Fin 4) (r : Fin 512) (d : Fin 128), i = ix3 g r d := ⟨i 0, i 1, i 2, eq_ix3 i⟩
  rw [place9]
  show (outsAt0 m c t).2.1 (ix3 g r d) = result9 m c (ix3 g (token t r) d)
  exact (stored9 m c t g r d).trans (turned2 m c t g r d)

theorem final9 (c : Dev nD) : (Gen.dats m 0 c).arrAt 9 cfg0.N = result9 m c :=
  (Gen.dats m 0 c).arrAt_eq_of_cover 9 (result9 m c) (flushed9 m c) fun (i : S4x16384x128.Idx) => by
    have hN : cfg0.N = 32 := N_0
    have h1 : (i 1).val < 16384 := (i 1).isLt
    let t : Fin cfg0.N := ⟨(i 1).val / 512, by rw [hN]; omega⟩
    have ht : t.val = (i 1).val / 512 := rfl
    refine ⟨t, flush0_9 _, ?_⟩
    obtain ⟨-, ⟨a0, a1, a2⟩, -⟩ := places t
    show i ∈ ((View.whole main_v3_1).slice (win0_9.rect t)).set
    rw [View.set_slice_whole, Rect.mem_set_unit]
    have h0 : (i 0).val < 4 := (i 0).isLt
    have h2 : (i 2).val < 128 := (i 2).isLt
    intro a
    match a with
    | ⟨0, _⟩ => show win0_9.index t 0 * 4 ≤ (i 0 : Nat) ∧ (i 0 : Nat) < win0_9.index t 0 * 4 + 4
                rw [a0]; omega
    | ⟨1, _⟩ => show win0_9.index t 1 * 512 ≤ (i 1 : Nat) ∧ (i 1 : Nat) < win0_9.index t 1 * 512 + 512
                rw [a1]; omega
    | ⟨2, _⟩ => show win0_9.index t 2 * 128 ≤ (i 2 : Nat) ∧ (i 2 : Nat) < win0_9.index t 2 * 128 + 128
                rw [a2]; omega

/-- Output 3: where its block lies, what is written back, what the array ends holding. -/
theorem place10 (t : Fin cfg0.N) (g : Fin 4) (r : Fin 512) (d : Fin 128) : ((cfg0.win 10).blk t).view.emb (ix3 g r d) = ix3 g (token t r) d := by
  obtain ⟨-, -, ⟨a0, a1, a2⟩, -⟩ := places t
  refine funext fun b => Fin.ext ?_
  match b with
  | ⟨0, _⟩ => show win0_10.index t 0 * 4 + 1 * g.val = g.val; rw [a0]; omega
  | ⟨1, _⟩ => show win0_10.index t 1 * 512 + 1 * r.val = t.val * 512 + r.val; rw [a1]; omega
  | ⟨2, _⟩ => show win0_10.index t 2 * 128 + 1 * d.val = d.val; rw [a2]; omega

theorem flushed10 (c : Dev nD) (t : Fin cfg0.N) (_ : (cfg0.win 10).flush t = true) :
    (Gen.dats m 0 c).flushed 10 t = ((cfg0.win 10).blk t).view.read (Elt Ideal) (result10 m c) := by
  rw [Value.flushed10]
  funext i
  rw [View.read_apply]
  obtain ⟨g, r, d, rfl⟩ : ∃ (g : Fin 4) (r : Fin 512) (d : Fin 128), i = ix3 g r d := ⟨i 0, i 1, i 2, eq_ix3 i⟩
  rw [place10]
  show (outsAt0 m c t).2.2.1 (ix3 g r d) = result10 m c (ix3 g (token t r) d)
  exact (stored10 m c t g r d).trans (piece3 m c t g r d)

theorem final10 (c : Dev nD) : (Gen.dats m 0 c).arrAt 10 cfg0.N = result10 m c :=
  (Gen.dats m 0 c).arrAt_eq_of_cover 10 (result10 m c) (flushed10 m c) fun (i : S4x16384x128.Idx) => by
    have hN : cfg0.N = 32 := N_0
    have h1 : (i 1).val < 16384 := (i 1).isLt
    let t : Fin cfg0.N := ⟨(i 1).val / 512, by rw [hN]; omega⟩
    have ht : t.val = (i 1).val / 512 := rfl
    refine ⟨t, flush0_10 _, ?_⟩
    obtain ⟨-, -, ⟨a0, a1, a2⟩, -⟩ := places t
    show i ∈ ((View.whole main_v3_2).slice (win0_10.rect t)).set
    rw [View.set_slice_whole, Rect.mem_set_unit]
    have h0 : (i 0).val < 4 := (i 0).isLt
    have h2 : (i 2).val < 128 := (i 2).isLt
    intro a
    match a with
    | ⟨0, _⟩ => show win0_10.index t 0 * 4 ≤ (i 0 : Nat) ∧ (i 0 : Nat) < win0_10.index t 0 * 4 + 4
                rw [a0]; omega
    | ⟨1, _⟩ => show win0_10.index t 1 * 512 ≤ (i 1 : Nat) ∧ (i 1 : Nat) < win0_10.index t 1 * 512 + 512
                rw [a1]; omega
    | ⟨2, _⟩ => show win0_10.index t 2 * 128 ≤ (i 2 : Nat) ∧ (i 2 : Nat) < win0_10.index t 2 * 128 + 128
                rw [a2]; omega

/-- Output 4: where its block lies, what is written back, what the array ends holding. -/
theorem place11 (t : Fin cfg0.N) (g : Fin 4) (r : Fin 512) (d : Fin 128) : ((cfg0.win 11).blk t).view.emb (ix3 g r d) = ix3 g (token t r) d := by
  obtain ⟨-, -, -, ⟨a0, a1, a2⟩, -⟩ := places t
  refine funext fun b => Fin.ext ?_
  match b with
  | ⟨0, _⟩ => show win0_11.index t 0 * 4 + 1 * g.val = g.val; rw [a0]; omega
  | ⟨1, _⟩ => show win0_11.index t 1 * 512 + 1 * r.val = t.val * 512 + r.val; rw [a1]; omega
  | ⟨2, _⟩ => show win0_11.index t 2 * 128 + 1 * d.val = d.val; rw [a2]; omega

theorem flushed11 (c : Dev nD) (t : Fin cfg0.N) (_ : (cfg0.win 11).flush t = true) :
    (Gen.dats m 0 c).flushed 11 t = ((cfg0.win 11).blk t).view.read (Elt Ideal) (result11 m c) := by
  rw [Value.flushed11]
  funext i
  rw [View.read_apply]
  obtain ⟨g, r, d, rfl⟩ : ∃ (g : Fin 4) (r : Fin 512) (d : Fin 128), i = ix3 g r d := ⟨i 0, i 1, i 2, eq_ix3 i⟩
  rw [place11]
  show (outsAt0 m c t).2.2.2.1 (ix3 g r d) = result11 m c (ix3 g (token t r) d)
  exact (stored11 m c t g r d).trans (turned4 m c t g r d)

theorem final11 (c : Dev nD) : (Gen.dats m 0 c).arrAt 11 cfg0.N = result11 m c :=
  (Gen.dats m 0 c).arrAt_eq_of_cover 11 (result11 m c) (flushed11 m c) fun (i : S4x16384x128.Idx) => by
    have hN : cfg0.N = 32 := N_0
    have h1 : (i 1).val < 16384 := (i 1).isLt
    let t : Fin cfg0.N := ⟨(i 1).val / 512, by rw [hN]; omega⟩
    have ht : t.val = (i 1).val / 512 := rfl
    refine ⟨t, flush0_11 _, ?_⟩
    obtain ⟨-, -, -, ⟨a0, a1, a2⟩, -⟩ := places t
    show i ∈ ((View.whole main_v3_3).slice (win0_11.rect t)).set
    rw [View.set_slice_whole, Rect.mem_set_unit]
    have h0 : (i 0).val < 4 := (i 0).isLt
    have h2 : (i 2).val < 128 := (i 2).isLt
    intro a
    match a with
    | ⟨0, _⟩ => show win0_11.index t 0 * 4 ≤ (i 0 : Nat) ∧ (i 0 : Nat) < win0_11.index t 0 * 4 + 4
                rw [a0]; omega
    | ⟨1, _⟩ => show win0_11.index t 1 * 512 ≤ (i 1 : Nat) ∧ (i 1 : Nat) < win0_11.index t 1 * 512 + 512
                rw [a1]; omega
    | ⟨2, _⟩ => show win0_11.index t 2 * 128 ≤ (i 2 : Nat) ∧ (i 2 : Nat) < win0_11.index t 2 * 128 + 128
                rw [a2]; omega

/-- Output 5: where its block lies, what is written back, what the array ends holding. -/
theorem place12 (t : Fin cfg0.N) (g : Fin 4) (r : Fin 512) (d : Fin 128) : ((cfg0.win 12).blk t).view.emb (ix3 g r d) = ix3 g (token t r) d := by
  obtain ⟨-, -, -, -, a0, a1, a2⟩ := places t
  refine funext fun b => Fin.ext ?_
  match b with
  | ⟨0, _⟩ => show win0_12.index t 0 * 4 + 1 * g.val = g.val; rw [a0]; omega
  | ⟨1, _⟩ => show win0_12.index t 1 * 512 + 1 * r.val = t.val * 512 + r.val; rw [a1]; omega
  | ⟨2, _⟩ => show win0_12.index t 2 * 128 + 1 * d.val = d.val; rw [a2]; omega

theorem flushed12 (c : Dev nD) (t : Fin cfg0.N) (_ : (cfg0.win 12).flush t = true) :
    (Gen.dats m 0 c).flushed 12 t = ((cfg0.win 12).blk t).view.read (Elt Ideal) (result12 m c) := by
  rw [Value.flushed12]
  funext i
  rw [View.read_apply]
  obtain ⟨g, r, d, rfl⟩ : ∃ (g : Fin 4) (r : Fin 512) (d : Fin 128), i = ix3 g r d := ⟨i 0, i 1, i 2, eq_ix3 i⟩
  rw [place12]
  show (outsAt0 m c t).2.2.2.2 (ix3 g r d) = result12 m c (ix3 g (token t r) d)
  exact (stored12 m c t g r d).trans (piece5 m c t g r d)

theorem final12 (c : Dev nD) : (Gen.dats m 0 c).arrAt 12 cfg0.N = result12 m c :=
  (Gen.dats m 0 c).arrAt_eq_of_cover 12 (result12 m c) (flushed12 m c) fun (i : S4x16384x128.Idx) => by
    have hN : cfg0.N = 32 := N_0
    have h1 : (i 1).val < 16384 := (i 1).isLt
    let t : Fin cfg0.N := ⟨(i 1).val / 512, by rw [hN]; omega⟩
    have ht : t.val = (i 1).val / 512 := rfl
    refine ⟨t, flush0_12 _, ?_⟩
    obtain ⟨-, -, -, -, a0, a1, a2⟩ := places t
    show i ∈ ((View.whole main_v3_4).slice (win0_12.rect t)).set
    rw [View.set_slice_whole, Rect.mem_set_unit]
    have h0 : (i 0).val < 4 := (i 0).isLt
    have h2 : (i 2).val < 128 := (i 2).isLt
    intro a
    match a with
    | ⟨0, _⟩ => show win0_12.index t 0 * 4 ≤ (i 0 : Nat) ∧ (i 0 : Nat) < win0_12.index t 0 * 4 + 4
                rw [a0]; omega
    | ⟨1, _⟩ => show win0_12.index t 1 * 512 ≤ (i 1 : Nat) ∧ (i 1 : Nat) < win0_12.index t 1 * 512 + 512
                rw [a1]; omega
    | ⟨2, _⟩ => show win0_12.index t 2 * 128 ≤ (i 2 : Nat) ∧ (i 2 : Nat) < win0_12.index t 2 * 128 + 128
                rw [a2]; omega

section Reference

open Cert.Reference16Ideal.Read Cert.Reference16Ideal.Gen

variable (q : (⟨Cert.Reference16Ideal.S16384x7424, .bf16⟩ : BufTy).Contents (Elt Ideal)) (cos sin : (⟨Cert.Reference16Ideal.S16384x64, .f32⟩ : BufTy).Contents (Elt Ideal))

/-- The reference's piece 0, laid out by groups. -/
theorem group13 (g : Fin 4) (r : Fin 16384) (d : Fin 128) : val_main_v13 (F := Ideal) q (ix3 g r d) = entry q 0 g r d := by
  rw [val_main_v13_apply, val_main_v12_apply, val_main_v1_apply, val_main_v0_apply]
  unfold entry
  have hg := g.isLt
  have hd := d.isLt
  refine congrArg (fun i => (q i : EReal)) (funext fun b => Fin.ext ?_)
  match b with
  | ⟨0, _⟩ => show ((r.val * 4 + g.val) * 128 + d.val) / 512 = r.val; omega
  | ⟨1, _⟩ => show 4096 + ((r.val * 4 + g.val) * 128 + d.val) % 512 = 4096 + 0 * 512 + (g.val * 128 + d.val); omega

/-- The reference's piece 1, laid out by groups. -/
theorem group15 (g : Fin 4) (r : Fin 16384) (d : Fin 128) : val_main_v15 (F := Ideal) q (ix3 g r d) = entry q 1 g r d := by
  rw [val_main_v15_apply, val_main_v14_apply, val_main_v3_apply, val_main_v2_apply]
  unfold entry
  have hg := g.isLt
  have hd := d.isLt
  refine congrArg (fun i => (q i : EReal)) (funext fun b => Fin.ext ?_)
  match b with
  | ⟨0, _⟩ => show ((r.val * 4 + g.val) * 128 + d.val) / 512 = r.val; omega
  | ⟨1, _⟩ => show 4608 + ((r.val * 4 + g.val) * 128 + d.val) % 512 = 4096 + 1 * 512 + (g.val * 128 + d.val); omega

/-- The reference's piece 2, laid out by groups. -/
theorem group20 (g : Fin 4) (r : Fin 16384) (d : Fin 128) : val_main_v20 (F := Ideal) q (ix3 g r d) = entry q 2 g r d := by
  rw [val_main_v20_apply, val_main_v19_apply, val_main_v5_apply, val_main_v4_apply]
  unfold entry
  have hg := g.isLt
  have hd := d.isLt
  refine congrArg (fun i => (q i : EReal)) (funext fun b => Fin.ext ?_)
  match b with
  | ⟨0, _⟩ => show ((r.val * 4 + g.val) * 128 + d.val) / 512 = r.val; omega
  | ⟨1, _⟩ => show 5120 + ((r.val * 4 + g.val) * 128 + d.val) % 512 = 4096 + 2 * 512 + (g.val * 128 + d.val); omega

/-- The reference's piece 3, laid out by groups. -/
theorem group39 (g : Fin 4) (r : Fin 16384) (d : Fin 128) : val_main_v39 (F := Ideal) q (ix3 g r d) = entry q 3 g r d := by
  rw [val_main_v39_apply, val_main_v38_apply, val_main_v7_apply, val_main_v6_apply]
  unfold entry
  have hg := g.isLt
  have hd := d.isLt
  refine congrArg (fun i => (q i : EReal)) (funext fun b => Fin.ext ?_)
  match b with
  | ⟨0, _⟩ => show ((r.val * 4 + g.val) * 128 + d.val) / 512 = r.val; omega
  | ⟨1, _⟩ => show 5632 + ((r.val * 4 + g.val) * 128 + d.val) % 512 = 4096 + 3 * 512 + (g.val * 128 + d.val); omega

/-- The reference's piece 4, laid out by groups. -/
theorem group41 (g : Fin 4) (r : Fin 16384) (d : Fin 128) : val_main_v41 (F := Ideal) q (ix3 g r d) = entry q 4 g r d := by
  rw [val_main_v41_apply, val_main_v40_apply, val_main_v9_apply, val_main_v8_apply]
  unfold entry
  have hg := g.isLt
  have hd := d.isLt
  refine congrArg (fun i => (q i : EReal)) (funext fun b => Fin.ext ?_)
  match b with
  | ⟨0, _⟩ => show ((r.val * 4 + g.val) * 128 + d.val) / 512 = r.val; omega
  | ⟨1, _⟩ => show 6144 + ((r.val * 4 + g.val) * 128 + d.val) % 512 = 4096 + 4 * 512 + (g.val * 128 + d.val); omega

/-- The reference's piece 5, laid out by groups. -/
theorem group60 (g : Fin 4) (r : Fin 16384) (d : Fin 128) : val_main_v60 (F := Ideal) q (ix3 g r d) = entry q 5 g r d := by
  rw [val_main_v60_apply, val_main_v59_apply, val_main_v11_apply, val_main_v10_apply]
  unfold entry
  have hg := g.isLt
  have hd := d.isLt
  refine congrArg (fun i => (q i : EReal)) (funext fun b => Fin.ext ?_)
  match b with
  | ⟨0, _⟩ => show ((r.val * 4 + g.val) * 128 + d.val) / 512 = r.val; omega
  | ⟨1, _⟩ => show 6656 + ((r.val * 4 + g.val) * 128 + d.val) % 512 = 4096 + 5 * 512 + (g.val * 128 + d.val); omega

/-- Two halves of 64 columns joined. -/
theorem halves_left (y z : FVec Ideal Cert.Reference16Ideal.S4x16384x64 .f32) (g : Fin 4) (r : Fin 16384) (d : Fin 128) (h : d.val < 64) :
    concatenate Cert.Reference16Ideal.S4x16384x128 2 [⟨Cert.Reference16Ideal.S4x16384x64, y⟩, ⟨Cert.Reference16Ideal.S4x16384x64, z⟩] concatenates_S4x16384x64_S4x16384x64_S4x16384x128_d2 (ix3 g r d)
      = y (ix3 g r (half d)) := by
  refine concatenate_pair_apply_left (t := Cert.Reference16Ideal.S4x16384x128) (s₁ := Cert.Reference16Ideal.S4x16384x64) (s₂ := Cert.Reference16Ideal.S4x16384x64) 2 y z _ (ix3 g r d) rfl
    (ix3 g r (half d)) fun x => ?_
  match x with
  | ⟨0, _⟩ => rfl
  | ⟨1, _⟩ => rfl
  | ⟨2, _⟩ => show d.val % 64 = d.val; omega

theorem halves_right (y z : FVec Ideal Cert.Reference16Ideal.S4x16384x64 .f32) (g : Fin 4) (r : Fin 16384) (d : Fin 128) (h : ¬d.val < 64) :
    concatenate Cert.Reference16Ideal.S4x16384x128 2 [⟨Cert.Reference16Ideal.S4x16384x64, y⟩, ⟨Cert.Reference16Ideal.S4x16384x64, z⟩] concatenates_S4x16384x64_S4x16384x64_S4x16384x128_d2 (ix3 g r d)
      = z (ix3 g r (half d)) := by
  refine concatenate_pair_apply_right (t := Cert.Reference16Ideal.S4x16384x128) (s₁ := Cert.Reference16Ideal.S4x16384x64) (s₂ := Cert.Reference16Ideal.S4x16384x64) 2 y z _ (ix3 g r d) rfl rfl
    (ix3 g r (half d)) (fun x hx => ?_) ?_
  · match x with
    | ⟨0, _⟩ => rfl
    | ⟨1, _⟩ => rfl
    | ⟨2, _⟩ => exact absurd rfl hx
  · have := d.isLt
    show d.val % 64 + 64 = d.val
    omega

/-- The reference's rotation of piece 2. -/
theorem rotation37 (g : Fin 4) (r : Fin 16384) (d : Fin 128) : val_main_v37 (F := Ideal) q cos sin (ix3 g r d) = rotated q cos sin 2 g r d := by
  have hd := d.isLt
  have table : ∀ (y : S16384x64.Idx → EReal) (i : S16384x64.Idx), (i 0).val = r.val → (i 1).val = d.val % 64 → y i = y (ix2 r (half d)) := fun y i h0 h1 =>
    congrArg y (funext fun b => Fin.ext (match b with | ⟨0, _⟩ => h0 | ⟨1, _⟩ => h1))
  have key : ∀ (i : S4x16384x128.Idx) (e : Fin 128), (i 0).val = g.val → (i 1).val = r.val → (i 2).val = e.val → (val_main_v20 (F := Ideal) q i : EReal) = entry q 2 g r e :=
    fun i e h0 h1 h2 => (congrArg (val_main_v20 (F := Ideal) q)
      (funext fun b => Fin.ext (match b with | ⟨0, _⟩ => h0 | ⟨1, _⟩ => h1 | ⟨2, _⟩ => h2) : i = ix3 g r e)).trans (group20 q g r e)
  unfold rotated val_main_v37
  by_cases h : d.val < 64
  · rw [if_pos h]
    refine (halves_left _ _ g r d h).trans ?_
    rw [val_main_v29_apply, val_main_v25_apply, val_main_v28_apply, val_main_v21_apply, val_main_v24_apply, val_main_v23_apply, val_main_v22_apply, val_main_v27_apply, val_main_v26_apply]
    refine congrArg₂ (fun a b : EReal => a - b) (congrArg₂ (fun a b : EReal => a * b) ?_ ?_) (congrArg₂ (fun a b : EReal => a * b) ?_ ?_)
    · exact key _ _ rfl rfl (by show d.val % 64 = d.val; omega)
    · exact table cos _ rfl rfl
    · exact key _ _ rfl rfl (by show 64 + d.val % 64 = (d.val + 64) % 128; omega)
    · exact table sin _ rfl rfl
  · rw [if_neg h]
    refine (halves_right _ _ g r d h).trans ?_
    rw [val_main_v36_apply, val_main_v32_apply, val_main_v35_apply, val_main_v21_apply, val_main_v31_apply, val_main_v30_apply, val_main_v22_apply, val_main_v34_apply, val_main_v33_apply]
    refine congrArg₂ (fun a b : EReal => a + b) (congrArg₂ (fun a b : EReal => a * b) ?_ ?_) (congrArg₂ (fun a b : EReal => a * b) ?_ ?_)
    · exact key _ _ rfl rfl (by show d.val % 64 = (d.val + 64) % 128; omega)
    · exact table sin _ rfl rfl
    · exact key _ _ rfl rfl (by show 64 + d.val % 64 = d.val; omega)
    · exact table cos _ rfl rfl

/-- The reference's rotation of piece 4. -/
theorem rotation58 (g : Fin 4) (r : Fin 16384) (d : Fin 128) : val_main_v58 (F := Ideal) q cos sin (ix3 g r d) = rotated q cos sin 4 g r d := by
  have hd := d.isLt
  have table : ∀ (y : S16384x64.Idx → EReal) (i : S16384x64.Idx), (i 0).val = r.val → (i 1).val = d.val % 64 → y i = y (ix2 r (half d)) := fun y i h0 h1 =>
    congrArg y (funext fun b => Fin.ext (match b with | ⟨0, _⟩ => h0 | ⟨1, _⟩ => h1))
  have key : ∀ (i : S4x16384x128.Idx) (e : Fin 128), (i 0).val = g.val → (i 1).val = r.val → (i 2).val = e.val → (val_main_v41 (F := Ideal) q i : EReal) = entry q 4 g r e :=
    fun i e h0 h1 h2 => (congrArg (val_main_v41 (F := Ideal) q)
      (funext fun b => Fin.ext (match b with | ⟨0, _⟩ => h0 | ⟨1, _⟩ => h1 | ⟨2, _⟩ => h2) : i = ix3 g r e)).trans (group41 q g r e)
  unfold rotated val_main_v58
  by_cases h : d.val < 64
  · rw [if_pos h]
    refine (halves_left _ _ g r d h).trans ?_
    rw [val_main_v50_apply, val_main_v46_apply, val_main_v49_apply, val_main_v42_apply, val_main_v45_apply, val_main_v44_apply, val_main_v43_apply, val_main_v48_apply, val_main_v47_apply]
    refine congrArg₂ (fun a b : EReal => a - b) (congrArg₂ (fun a b : EReal => a * b) ?_ ?_) (congrArg₂ (fun a b : EReal => a * b) ?_ ?_)
    · exact key _ _ rfl rfl (by show d.val % 64 = d.val; omega)
    · exact table cos _ rfl rfl
    · exact key _ _ rfl rfl (by show 64 + d.val % 64 = (d.val + 64) % 128; omega)
    · exact table sin _ rfl rfl
  · rw [if_neg h]
    refine (halves_right _ _ g r d h).trans ?_
    rw [val_main_v57_apply, val_main_v53_apply, val_main_v56_apply, val_main_v42_apply, val_main_v52_apply, val_main_v51_apply, val_main_v43_apply, val_main_v55_apply, val_main_v54_apply]
    refine congrArg₂ (fun a b : EReal => a + b) (congrArg₂ (fun a b : EReal => a * b) ?_ ?_) (congrArg₂ (fun a b : EReal => a * b) ?_ ?_)
    · exact key _ _ rfl rfl (by show d.val % 64 = (d.val + 64) % 128; omega)
    · exact table sin _ rfl rfl
    · exact key _ _ rfl rfl (by show 64 + d.val % 64 = d.val; omega)
    · exact table cos _ rfl rfl

/-- The reference's pair of keys and values to be compressed. -/
theorem pair18 (a : Fin 2) (g : Fin 4) (r : Fin 16384) (d : Fin 128) : val_main_v18 (F := Ideal) q (ix4 a g r d) = resultPair q (ix4 a g r d) := by
  unfold val_main_v18
  match a with
  | ⟨0, _⟩ =>
    refine (concatenate_pair_apply_left (t := Cert.Reference16Ideal.S2x4x16384x128) (s₁ := Cert.Reference16Ideal.S1x4x16384x128) (s₂ := Cert.Reference16Ideal.S1x4x16384x128) 0 _ _ _ _ rfl
      (ix4 0 g r d) fun x => ?_).trans ?_
    · match x with
      | ⟨0, _⟩ => rfl
      | ⟨1, _⟩ => rfl
      | ⟨2, _⟩ => rfl
      | ⟨3, _⟩ => rfl
    · rw [val_main_v16_apply]
      refine (congrArg (val_main_v13 (F := Ideal) q) (?_ : _ = ix3 g r d)).trans (group13 q g r d)
      exact funext fun b => by fin_cases b <;> rfl
  | ⟨1, _⟩ =>
    refine (concatenate_pair_apply_right (t := Cert.Reference16Ideal.S2x4x16384x128) (s₁ := Cert.Reference16Ideal.S1x4x16384x128) (s₂ := Cert.Reference16Ideal.S1x4x16384x128) 0 _ _ _ _ rfl rfl
      (ix4 0 g r d) (fun x hx => ?_) rfl).trans ?_
    · match x with
      | ⟨0, _⟩ => exact absurd rfl hx
      | ⟨1, _⟩ => rfl
      | ⟨2, _⟩ => rfl
      | ⟨3, _⟩ => rfl
    · rw [val_main_v17_apply]
      refine (congrArg (val_main_v15 (F := Ideal) q) (?_ : _ = ix3 g r d)).trans (group15 q g r d)
      exact funext fun b => by fin_cases b <;> rfl

theorem reference61 : val_main_v61 (F := Ideal) q = resultPair q := funext fun i => by
  rw [eq_ix4 i]
  exact pair18 q (i 0) (i 1) (i 2) (i 3)
theorem reference62 : val_main_v62 (F := Ideal) q cos sin = resultRotated q cos sin 2 := funext fun i => by
  rw [eq_ix3 i]
  exact rotation37 q cos sin (i 0) (i 1) (i 2)
theorem reference63 : val_main_v63 (F := Ideal) q = resultCopied q 3 := funext fun i => by
  rw [eq_ix3 i]
  exact group39 q (i 0) (i 1) (i 2)
theorem reference64 : val_main_v64 (F := Ideal) q cos sin = resultRotated q cos sin 4 := funext fun i => by
  rw [eq_ix3 i]
  exact rotation58 q cos sin (i 0) (i 1) (i 2)
theorem reference65 : val_main_v65 (F := Ideal) q = resultCopied q 5 := funext fun i => by
  rw [eq_ix3 i]
  exact group60 q (i 0) (i 1) (i 2)

end Reference

/-- `Kernel16` and its reference end with equal results. -/
theorem algebraic : Cert.algebraic_Kernel16Ideal_Reference16Ideal := by
  intro m ρ m' ρ' _ hagree
  refine ⟨fun c => result8 m c, fun c => result9 m c, fun c => result10 m c, fun c => result11 m c, fun c => result12 m c,
    (θ_run defs _ _).mono (fun r h c => ⟨(h c).1.trans (final8 m c), (h c).2.1.trans (final9 m c), (h c).2.2.1.trans (final10 m c), (h c).2.2.2.1.trans (final11 m c),
      (h c).2.2.2.2.1.trans (final12 m c), (h c).2.2.2.2.2⟩) (Value.run_blocks m ρ), ?_⟩
  refine (θ_run _ _ _).mono (fun r h c => ⟨(h c).1.trans ?_, (h c).2.1.trans ?_, (h c).2.2.1.trans ?_, (h c).2.2.2.1.trans ?_, (h c).2.2.2.2.1.trans ?_, (h c).2.2.2.2.2⟩)
    (Cert.Reference16Ideal.Value.run (F := Ideal) m' ρ')
  · refine (Cert.Reference16Ideal.Read.val_main_v61_eq _).trans ((reference61 _).trans ?_)
    rw [(hagree c).1]
    rfl
  · refine (Cert.Reference16Ideal.Read.val_main_v62_eq _ _ _).trans ((reference62 _ _ _).trans ?_)
    rw [(hagree c).1, (hagree c).2.1, (hagree c).2.2]
    rfl
  · refine (Cert.Reference16Ideal.Read.val_main_v63_eq _).trans ((reference63 _).trans ?_)
    rw [(hagree c).1]
    rfl
  · refine (Cert.Reference16Ideal.Read.val_main_v64_eq _ _ _).trans ((reference64 _ _ _).trans ?_)
    rw [(hagree c).1, (hagree c).2.1, (hagree c).2.2]
    rfl
  · refine (Cert.Reference16Ideal.Read.val_main_v65_eq _).trans ((reference65 _).trans ?_)
    rw [(hagree c).1]
    rfl

end Cert.Prepare

end
-- ==== Proof.CompressBlock.lean ====
/-
  What one block of `Kernel11` computes at the extended reals.  A sequence of 1024 chunks of 2048 numbers is read; row n
  of the answer comes from chunk n and the chunk after it (zeros after the last): each is shifted by its position
  encoding, the two side by side are multiplied by a [4096, 128] array, passed through the gate z · logistic z, and
  multiplied by a [128, 128] array.  The kernel multiplies the two halves apart and moves the second product up one row.
-/
module

public import proofs.«01_k».proof.Defs
public import proofs.«01_k».proof.Proof.Gen.Kernel11Ideal.Frame
public import Idealize.ShloMosaic.Lib.MatmulPlain
public import Idealize.ShloMosaic.Lib.Pipeline.Value
public import Idealize.ShloMosaic.Lib.Pointwise
public import Idealize.ShloMosaic.Lib.ValueLayout
public import Idealize.ShloMosaic.Lib.ValueLayoutCasts
public import Idealize.ShloMosaic.Lib.KernelVsHost
public import Idealize.ShloMosaic.Lib.Tactic
public import Idealize.ShloMosaic.Lib.IdealHost

@[expose] public section

set_option maxRecDepth 16384

noncomputable section

open Idealize.ShloMosaic Idealize.ShloMosaic.TcCoe Idealize.SL.Sem

namespace Cert.Compress

/-- Row `j` of the first half of 4096 rows, and of the second half. -/
def lower (j : Fin 2048) : Fin 4096 := ⟨j.val, by omega⟩
def upper (j : Fin 2048) : Fin 4096 := ⟨2048 + j.val, by omega⟩

/-- The chunk after chunk `n`: zeros after the last. -/
def next (x : Fin 1024 → Fin 2048 → EReal) (n : Fin 1024) (j : Fin 2048) : EReal :=
  if h : n.val + 1 < 1024 then x ⟨n.val + 1, h⟩ j else 0

/-- A chunk shifted by its position encoding, times a column of weights. -/
def half (x p w : Fin 2048 → EReal) : EReal := ∑ j : Fin 2048, (x j + p j) * w j

/-- The product before the gate: chunk `n` with the first half of the weights, the chunk after it with the second. -/
def before (x : Fin 1024 → Fin 2048 → EReal) (p : Fin 2 → Fin 2048 → EReal) (w : Fin 4096 → Fin 128 → EReal) (n : Fin 1024) (d : Fin 128) : EReal :=
  half (x n) (p 0) (fun j => w (lower j) d) + half (next x n) (p 1) fun j => w (upper j) d

/-- The compressed sequence: the gate of the product, times the second weights. -/
def compressed (x : Fin 1024 → Fin 2048 → EReal) (p : Fin 2 → Fin 2048 → EReal) (w : Fin 4096 → Fin 128 → EReal) (v : Fin 128 → Fin 128 → EReal)
    (n : Fin 1024) (e : Fin 128) : EReal :=
  ∑ d : Fin 128, before x p w n d * Ideal.logistic (before x p w n d) * v d e

section Block

open Cert.Kernel11Ideal Cert.Kernel11Ideal.Gen

theorem origin3 : (![0, 0, 0] : Fin 3 → Nat) = fun _ => 0 := funext fun a => by fin_cases a <;> rfl
theorem origin4 : (![0, 0, 0, 0] : Fin 4 → Nat) = fun _ => 0 := funext fun a => by fin_cases a <;> rfl

/-- The chunks without their two leading axes of size one. -/
theorem chunks_apply (x : Vec Ideal S1x1x1024x2048 .bf16) (n : Fin 1024) (j : Fin 2048) :
    shapeCast S1024x2048 x shapeCasts_S1x1x1024x2048_S1024x2048 (ix2 n j) = x (ix4 0 0 n j) :=
  shapeCast_apply _ _ _ _ (by
    rw [Shape.rowMajor_val_four, Shape.rowMajor_val_two]
    show ((0 * 1 + 0) * 1024 + n.val) * 2048 + j.val = n.val * 2048 + j.val; omega)

/-- One row repeated down 1024 rows. -/
theorem rows_apply (p : FVec Ideal S1x2048 .f32) (n : Fin 1024) (j : Fin 2048) : broadcastTo S1024x2048 p broadcasts_S1x2048_S1024x2048 (ix2 n j) = p (ix2 0 j) :=
  broadcastTo_apply _ _ _ _ fun a => by
    match a with
    | ⟨0, _⟩ => rfl
    | ⟨1, _⟩ => rfl

/-- The product of shifted chunks with one half of the weights. -/
theorem half_apply (x : Vec Ideal S1x1x1024x2048 .bf16) (p : Vec Ideal S1x1x2048 .f32) (w : Vec Ideal S1x2048x128 .bf16) (n : Fin 1024) (d : Fin 128) :
    matmul (F := Ideal) (φ₁ := .bf16) (φ₂ := .bf16) dot_S1024x2048_S2048x128_S1024x128_1_0_0_1_n_n none
      (truncf .bf16 (addf (extf .f32 (shapeCast S1024x2048 x shapeCasts_S1x1x1024x2048_S1024x2048) bitsLt_bf16_f32)
        (broadcastTo S1024x2048 (shapeCast S1x2048 p shapeCasts_S1x1x2048_S1x2048 : FVec Ideal S1x2048 .f32) broadcasts_S1x2048_S1024x2048)) bitsLt_bf16_f32)
      (shapeCast S2048x128 w shapeCasts_S1x2048x128_S2048x128) (constant S1024x128 .f32 0x00000000#32) (ix2 n d)
      = half (fun j => x (ix4 0 0 n j)) (fun j => p (ix3 0 0 j)) fun j => w (ix3 0 j d) := by
  refine (Ideal.matmul_plain_apply none _ _ _ n d).trans ((congrArg (· + _) (Ideal.ofBits_zero .f32)).trans ((zero_add _).trans ?_))
  refine Finset.sum_congr (M := EReal) rfl fun j _ => congrArg₂ (fun a b : EReal => a * b) (congrArg₂ (fun a b : EReal => a + b) ?_ ?_) ?_
  · exact chunks_apply x n j
  · exact (rows_apply _ n j).trans (ValueIdx.shapeCast_1ab_ab_apply _ _ 0 j)
  · exact ValueIdx.shapeCast_1ab_ab_apply _ _ j d

/-- The second position encoding alone, repeated eight times, times the second half of the weights. -/
theorem padding_apply (p : Vec Ideal S1x1x2048 .f32) (w : Vec Ideal S1x2048x128 .bf16) (r : Fin 8) (d : Fin 128) :
    matmul (F := Ideal) (φ₁ := .bf16) (φ₂ := .bf16) dot_S8x2048_S2048x128_S8x128_1_0_0_1_n_n none
      (truncf .bf16 (broadcastTo S8x2048 (shapeCast S1x2048 (shapeCast S1x2048 p shapeCasts_S1x1x2048_S1x2048 : FVec Ideal S1x2048 .f32) shapeCasts_S1x2048_S1x2048)
        broadcasts_S1x2048_S8x2048) bitsLt_bf16_f32)
      (shapeCast S2048x128 w shapeCasts_S1x2048x128_S2048x128) (constant S8x128 .f32 0x00000000#32) (ix2 r d)
      = half (fun _ => 0) (fun j => p (ix3 0 0 j)) fun j => w (ix3 0 j d) := by
  refine (Ideal.matmul_plain_apply none _ _ _ r d).trans ((congrArg (· + _) (Ideal.ofBits_zero .f32)).trans ((zero_add _).trans ?_))
  refine Finset.sum_congr (M := EReal) rfl fun j _ => congrArg₂ (fun a b : EReal => a * b) (Eq.trans ?_ (zero_add _).symm) ?_
  · rw [shapeCast_self]
    refine (broadcastTo_apply _ _ _ (ix2 0 j) fun a => ?_ : broadcastTo S8x2048 _ broadcasts_S1x2048_S8x2048 (ix2 r j) = _).trans (ValueIdx.shapeCast_1ab_ab_apply _ _ 0 j)
    match a with
    | ⟨0, _⟩ => rfl
    | ⟨1, _⟩ => rfl
  · exact ValueIdx.shapeCast_1ab_ab_apply _ _ j d

/-- The second product moved up one row, with another row put last. -/
theorem moved_apply (y : FVec Ideal S1024x128 .f32) (z : FVec Ideal S8x128 .f32) (n : Fin 1024) (d : Fin 128) :
    select (broadcastTo S1024x128 (shapeCast S1024x1 (cmpi .eq (iota .tc S1024x1 32 [0] iota_S1024x1_d0_w32) (broadcast S1024x1 1023#32)) shapeCasts_S1024x1_S1024x1)
        broadcasts_S1024x1_S1024x128)
      (broadcastTo S1024x128 (shapeCast S1x128 (extractStridedSlice S1x128 ![0, 0] z slices_S8x128_o0_0_S1x128) shapeCasts_S1x128_S1x128) broadcasts_S1x128_S1024x128)
      (dynamicRotate 0 1023#32 none y rotates_S1024x128_d0) (ix2 n d)
      = if h : n.val + 1 < 1024 then y (ix2 ⟨n.val + 1, h⟩ d) else z (ix2 0 d) := by
  rw [shapeCast_self, shapeCast_self]
  have c : broadcastTo S1024x128 (cmpi .eq (iota .tc S1024x1 32 [0] iota_S1024x1_d0_w32) (broadcast S1024x1 1023#32)) broadcasts_S1024x1_S1024x128 (ix2 n d)
      = Scalar.cmpi .eq (BitVec.ofNat 32 n.val) 1023#32 := by
    refine (broadcastTo_apply _ _ _ (ix2 n 0) fun a => ?_).trans ?_
    · match a with
      | ⟨0, _⟩ => rfl
      | ⟨1, _⟩ => rfl
    · show IntOp.cmpi .eq (BitVec.ofNat 32 (0 * 1024 + n.val)) 1023#32 = _
      rw [Nat.zero_mul, Nat.zero_add]
      rfl
  show Scalar.select _ _ _ = _
  rw [c]
  unfold Scalar.select Scalar.cmpi IntOp.cmpi
  have hn := n.isLt
  by_cases h : n.val + 1 < 1024
  · have e : ¬ (BitVec.ofNat 32 n.val = 1023#32) := fun e => by
      have := congrArg BitVec.toNat e
      rw [BitVec.toNat_ofNat, Nat.mod_eq_of_lt (by omega)] at this
      have h2 : (1023#32 : BitVec 32).toNat = 1023 := rfl
      omega
    rw [dif_pos h, if_neg (by
      show ¬ BitVec.ofBool (BitVec.ofNat 32 n.val == 1023#32) = 1#1
      rw [beq_eq_false_iff_ne.mpr e]
      decide)]
    refine dynamicRotate_apply _ _ _ _ _ _ fun b => ?_
    match b with
    | ⟨0, _⟩ => show n.val + 1 = (n.val + 1024 - 1023 % 1024) % 1024; omega
    | ⟨1, _⟩ => rfl
  · have e : n.val = 1023 := by omega
    rw [dif_neg h, e, if_pos (by decide)]
    refine (broadcastTo_apply _ _ _ (ix2 0 d) fun a => ?_).trans ?_
    · match a with
      | ⟨0, _⟩ => rfl
      | ⟨1, _⟩ => rfl
    · refine extractStridedSlice_apply _ _ _ _ _ fun a => ?_
      match a with
      | ⟨0, _⟩ => rfl
      | ⟨1, _⟩ => exact (Nat.zero_add _).symm

/-- The gated product, from the chunks, the two position encodings and the two halves of the weights. -/
theorem gated_apply (x : Vec Ideal S1x1x1024x2048 .bf16) (p0 p1 : Vec Ideal S1x1x2048 .f32) (w0 w1 : Vec Ideal S1x2048x128 .bf16)
    (p : Fin 2 → Fin 2048 → EReal) (w : Fin 4096 → Fin 128 → EReal) (n : Fin 1024) (d : Fin 128)
    (hp0 : ∀ j, p0 (ix3 0 0 j) = p 0 j) (hp1 : ∀ j, p1 (ix3 0 0 j) = p 1 j)
    (hw0 : ∀ j d, w0 (ix3 0 j d) = w (lower j) d) (hw1 : ∀ j d, w1 (ix3 0 j d) = w (upper j) d) :
    k0_pay2 (F := Ideal) x p0 p1 w0 w1 (ix2 n d)
      = before (fun n j => x (ix4 0 0 n j)) p w n d * Ideal.logistic (before (fun n j => x (ix4 0 0 n j)) p w n d) := by
  unfold k0_pay2
  refine congrArg (fun a : EReal => a * Ideal.logistic a) (congrArg₂ (fun a b : EReal => a + b) ((half_apply x p0 w0 n d).trans ?_) ((moved_apply _ _ n d).trans ?_))
  · exact congrArg₂ (half _) (funext hp0) (funext fun j => hw0 j d)
  · unfold next
    by_cases h : n.val + 1 < 1024
    · simp only [dif_pos h]
      exact (half_apply x p1 w1 _ d).trans (congrArg₂ (half _) (funext hp1) (funext fun j => hw1 j d))
    · simp only [dif_neg h]
      exact (padding_apply p1 w1 0 d).trans (congrArg₂ (half _) (funext hp1) (funext fun j => hw1 j d))

/-- What the output's block holds: the compressed sequence. -/
theorem tile (x0 : Vec Ideal S1x1x1024x2048 .bf16) (x1 : Vec Ideal S1x2x2048 .f32) (x2 : Vec Ideal S1x4096x128 .bf16) (x3 : Vec Ideal S1x128x128 .bf16)
    (n : Fin 1024) (e : Fin 128) :
    out0_4 x0 x1 x2 x3 (ix4 0 0 n e)
      = compressed (fun n j => x0 (ix4 0 0 n j)) (fun h j => x1 (ix3 0 h j)) (fun k d => x2 (ix3 0 k d)) (fun d e => x3 (ix3 0 d e)) n e := by
  unfold out0_4
  rw [View.canon_unit_zero origin4]
  simp only [View.ld_unit_zero (S := S1x1x1024x2048) origin4, View.ld_unit_zero (S := S1x128x128) origin3]
  unfold k0_pay1
  refine (shapeCast_apply _ shapeCasts_S1024x128_S1x1x1024x128 (ix4 0 0 n e) (ix2 n e) (by
    rw [Shape.rowMajor_val_four, Shape.rowMajor_val_two]
    show n.val * 128 + e.val = ((0 * 1 + 0) * 1024 + n.val) * 128 + e.val; omega)).trans ?_
  refine (Ideal.matmul_plain_apply none _ _ _ n e).trans ((congrArg (· + _) (Ideal.ofBits_zero .f32)).trans ((zero_add _).trans ?_))
  refine Finset.sum_congr (M := EReal) rfl fun d _ => congrArg₂ (fun a b : EReal => a * b) ?_ (ValueIdx.shapeCast_1ab_ab_apply _ _ d e)
  refine gated_apply x0 _ _ _ _ (fun h j => x1 (ix3 0 h j)) (fun k d => x2 (ix3 0 k d)) n d (fun j => ?_) (fun j => ?_) (fun j d => ?_) (fun j d => ?_)
  · refine congrArg x1 (funext fun a => Fin.ext ?_)
    match a with
    | ⟨0, _⟩ => rfl
    | ⟨1, _⟩ => rfl
    | ⟨2, _⟩ => show 0 + 1 * j.val = j.val; omega
  · refine congrArg x1 (funext fun a => Fin.ext ?_)
    match a with
    | ⟨0, _⟩ => rfl
    | ⟨1, _⟩ => rfl
    | ⟨2, _⟩ => show 0 + 1 * j.val = j.val; omega
  · refine congrArg x2 (funext fun a => Fin.ext ?_)
    match a with
    | ⟨0, _⟩ => rfl
    | ⟨1, _⟩ => show 0 + 1 * j.val = j.val; omega
    | ⟨2, _⟩ => show 0 + 1 * d.val = d.val; omega
  · refine congrArg x2 (funext fun a => Fin.ext ?_)
    match a with
    | ⟨0, _⟩ => rfl
    | ⟨1, _⟩ => show 2048 + 1 * j.val = 2048 + j.val; omega
    | ⟨2, _⟩ => show 0 + 1 * d.val = d.val; omega

end Block

end Cert.Compress

end
-- ==== Proof.Compress.lean ====
/-
  `Kernel11` at the extended reals: keys and values compressed, blocks of 32 tokens every 16 tokens to one token each.
  The array it leaves holds what the reference's does: at (a, g, n, e) the compressed sequence of batch element a and
  group g, a token's chunk being its 16 rows of 128 numbers end to end.
-/
module

public import proofs.«01_k».proof.Proof.CompressBlock
public import proofs.«01_k».proof.Proof.Gen.Kernel11Ideal.Value
public import proofs.«01_k».proof.Proof.Gen.Reference11Ideal.Run
public import proofs.«01_k».proof.Proof.Gen.Reference11Ideal.Read

@[expose] public section

set_option maxRecDepth 16384

noncomputable section

open Idealize.ShloMosaic Idealize.ShloMosaic.TcCoe Idealize.SL.Sem

namespace Cert.Compress

open Cert.Kernel11Ideal Cert.Kernel11Ideal.Gen

variable (m : (ℓ : Loc nD τ sig) → Buf (Elt Ideal) ℓ) (ρ : Dev nD → PrngReg)

/-- The token, among 16, and the lane, among 128, of position `j` of a chunk. -/
def step (j : Fin 2048) : Fin 16 := ⟨j.val / 128, by have := j.isLt; omega⟩
def lane (j : Fin 2048) : Fin 128 := ⟨j.val % 128, by omega⟩

/-- Token `s` of chunk `n` among all tokens. -/
def token (n : Fin 1024) (s : Fin 16) : Fin 16384 := ⟨n.val * 16 + s.val, by have := n.isLt; have := s.isLt; omega⟩

/-- Token `s` of half `h` of a block among its 32 tokens. -/
def place32 (h : Fin 2) (s : Fin 16) : Fin 32 := ⟨h.val * 16 + s.val, by have := h.isLt; have := s.isLt; omega⟩

/-- The chunks of batch element `a` and group `g`. -/
def chunks (x : S2x4x16384x128.Idx → EReal) (a : Fin 2) (g : Fin 4) (n : Fin 1024) (j : Fin 2048) : EReal := x (ix4 a g (token n (step j)) (lane j))

/-- The two halves of a block's position encoding. -/
def encoding (p : S2x32x128.Idx → EReal) (a : Fin 2) (h : Fin 2) (j : Fin 2048) : EReal := p (ix3 a (place32 h (step j)) (lane j))

/-- The compressed sequence of every batch element and group. -/
def resultOf (x : S2x4x16384x128.Idx → EReal) (p : S2x32x128.Idx → EReal) (w : S2x4096x128.Idx → EReal) (v : S2x128x128.Idx → EReal) : S2x4x1024x128.Idx → EReal :=
  fun i => compressed (chunks x (i 0) (i 1)) (encoding p (i 0)) (fun k d => w (ix3 (i 0) k d)) (fun d e => v (ix3 (i 0) d e)) (i 2) (i 3)

def result (c : Dev nD) : Buf (Elt Ideal) ((c : Thread nD τ).loc main_v2) :=
  resultOf (m ((c : Thread nD τ).loc main_arg0)) (m ((c : Thread nD τ).loc main_arg1)) (m ((c : Thread nD τ).loc main_arg2)) (m ((c : Thread nD τ).loc main_arg3))

/-- The tokens as the region finds them: 1024 chunks of 2048. -/
theorem input0 (c : Dev nD) : V m c main_v0 = shapeCast S2x4x1024x2048 (m ((c : Thread nD τ).loc main_arg0)) shapeCasts_S2x4x16384x128_S2x4x1024x2048 := by
  show StableHlo.after hostOps0 (fun b => m (c, b)) main_v0 = _
  rw [hostOps0, StableHlo.after_cons, StableHlo.after_cons, StableHlo.after_nil, StableHlo.reshape_result_ne, StableHlo.reshape_result]
  · rfl
  · decide

/-- The position encodings as the region finds them: two rows of 2048. -/
theorem input1 (c : Dev nD) : V m c main_v1 = shapeCast S2x2x2048 (m ((c : Thread nD τ).loc main_arg1)) shapeCasts_S2x32x128_S2x2x2048 := by
  show StableHlo.after hostOps0 (fun b => m (c, b)) main_v1 = _
  rw [hostOps0, StableHlo.after_cons, StableHlo.after_cons, StableHlo.after_nil, StableHlo.reshape_result, StableHlo.reshape_result_ne]
  · rfl
  · decide

/-- Position `j` of chunk `n` is lane `lane j` of token `step j`. -/
theorem input0_apply (c : Dev nD) (a : Fin 2) (g : Fin 4) (n : Fin 1024) (j : Fin 2048) :
    V m c main_v0 (ix4 a g n j) = chunks (m ((c : Thread nD τ).loc main_arg0)) a g n j := by
  rw [input0]
  exact shapeCast_apply _ _ _ (ix4 a g (token n (step j)) (lane j)) (by
    rw [Shape.rowMajor_val_four, Shape.rowMajor_val_four]
    show ((a.val * 4 + g.val) * 16384 + (n.val * 16 + j.val / 128)) * 128 + j.val % 128 = ((a.val * 4 + g.val) * 1024 + n.val) * 2048 + j.val
    omega)

theorem input1_apply (c : Dev nD) (a : Fin 2) (h : Fin 2) (j : Fin 2048) :
    V m c main_v1 (ix3 a h j) = encoding (m ((c : Thread nD τ).loc main_arg1)) a h j := by
  rw [input1]
  exact shapeCast_apply _ _ _ (ix3 a (place32 h (step j)) (lane j)) (by
    rw [Shape.rowMajor_val_three, Shape.rowMajor_val_three]
    show (a.val * 32 + (h.val * 16 + j.val / 128)) * 128 + j.val % 128 = (a.val * 2 + h.val) * 2048 + j.val
    omega)

/-- Which block each window names at point `t`: batch element `t / 4` and group `t % 4`. -/
theorem blocks (t : Fin cfg0.N) : (win0_0.index t 0 = t.val / 4 ∧ win0_0.index t 1 = t.val % 4 ∧ win0_0.index t 2 = 0 ∧ win0_0.index t 3 = 0)
    ∧ (win0_1.index t 0 = t.val / 4 ∧ win0_1.index t 1 = 0 ∧ win0_1.index t 2 = 0) ∧ (win0_2.index t 0 = t.val / 4 ∧ win0_2.index t 1 = 0 ∧ win0_2.index t 2 = 0)
    ∧ (win0_3.index t 0 = t.val / 4 ∧ win0_3.index t 1 = 0 ∧ win0_3.index t 2 = 0)
    ∧ (win0_4.index t 0 = t.val / 4 ∧ win0_4.index t 1 = t.val % 4 ∧ win0_4.index t 2 = 0 ∧ win0_4.index t 3 = 0) :=
  (by decide +kernel : ∀ t : Fin grid0.N, (win0_0.index t 0 = t.val / 4 ∧ win0_0.index t 1 = t.val % 4 ∧ win0_0.index t 2 = 0 ∧ win0_0.index t 3 = 0)
    ∧ (win0_1.index t 0 = t.val / 4 ∧ win0_1.index t 1 = 0 ∧ win0_1.index t 2 = 0) ∧ (win0_2.index t 0 = t.val / 4 ∧ win0_2.index t 1 = 0 ∧ win0_2.index t 2 = 0)
    ∧ (win0_3.index t 0 = t.val / 4 ∧ win0_3.index t 1 = 0 ∧ win0_3.index t 2 = 0)
    ∧ (win0_4.index t 0 = t.val / 4 ∧ win0_4.index t 1 = t.val % 4 ∧ win0_4.index t 2 = 0 ∧ win0_4.index t 3 = 0)) t

/-- The batch element and the group of point `t`. -/
def element (t : Fin cfg0.N) : Fin 2 := ⟨t.val / 4, by have hN : cfg0.N = 8 := N_0; have := t.isLt; omega⟩
def group (t : Fin cfg0.N) : Fin 4 := ⟨t.val % 4, by omega⟩

theorem block0 (c : Dev nD) (t : Fin cfg0.N) (n : Fin 1024) (j : Fin 2048) :
    iblk m c 0 t (ix4 0 0 n j) = chunks (m ((c : Thread nD τ).loc main_arg0)) (element t) (group t) n j := by
  obtain ⟨⟨a0, a1, a2, a3⟩, -⟩ := blocks t
  refine Eq.trans ?_ (input0_apply m c _ _ n j)
  show V m c main_v0 _ = _
  refine congrArg (V m c main_v0) (funext fun a => Fin.ext ?_)
  match a with
  | ⟨0, _⟩ => show win0_0.index t 0 * 1 + 1 * 0 = t.val / 4; rw [a0]; omega
  | ⟨1, _⟩ => show win0_0.index t 1 * 1 + 1 * 0 = t.val % 4; rw [a1]; omega
  | ⟨2, _⟩ => show win0_0.index t 2 * 1024 + 1 * n.val = n.val; rw [a2]; omega
  | ⟨3, _⟩ => show win0_0.index t 3 * 2048 + 1 * j.val = j.val; rw [a3]; omega

theorem block1 (c : Dev nD) (t : Fin cfg0.N) (h : Fin 2) (j : Fin 2048) :
    iblk m c 1 t (ix3 0 h j) = encoding (m ((c : Thread nD τ).loc main_arg1)) (element t) h j := by
  obtain ⟨-, ⟨a0, a1, a2⟩, -⟩ := blocks t
  refine Eq.trans ?_ (input1_apply m c _ h j)
  show V m c main_v1 _ = _
  refine congrArg (V m c main_v1) (funext fun a => Fin.ext ?_)
  match a with
  | ⟨0, _⟩ => show win0_1.index t 0 * 1 + 1 * 0 = t.val / 4; rw [a0]; omega
  | ⟨1, _⟩ => show win0_1.index t 1 * 2 + 1 * h.val = h.val; rw [a1]; omega
  | ⟨2, _⟩ => show win0_1.index t 2 * 2048 + 1 * j.val = j.val; rw [a2]; omega

theorem block2 (c : Dev nD) (t : Fin cfg0.N) (k : Fin 4096) (d : Fin 128) :
    iblk m c 2 t (ix3 0 k d) = m ((c : Thread nD τ).loc main_arg2) (ix3 (element t) k d) := by
  obtain ⟨-, -, ⟨a0, a1, a2⟩, -⟩ := blocks t
  show V m c main_arg2 _ = _
  refine congrArg (m ((c : Thread nD τ).loc main_arg2)) (funext fun a => Fin.ext ?_)
  match a with
  | ⟨0, _⟩ => show win0_2.index t 0 * 1 + 1 * 0 = t.val / 4; rw [a0]; omega
  | ⟨1, _⟩ => show win0_2.index t 1 * 4096 + 1 * k.val = k.val; rw [a1]; omega
  | ⟨2, _⟩ => show win0_2.index t 2 * 128 + 1 * d.val = d.val; rw [a2]; omega

theorem block3 (c : Dev nD) (t : Fin cfg0.N) (d e : Fin 128) :
    iblk m c 3 t (ix3 0 d e) = m ((c : Thread nD τ).loc main_arg3) (ix3 (element t) d e) := by
  obtain ⟨-, -, -, ⟨a0, a1, a2⟩, -⟩ := blocks t
  show V m c main_arg3 _ = _
  refine congrArg (m ((c : Thread nD τ).loc main_arg3)) (funext fun a => Fin.ext ?_)
  match a with
  | ⟨0, _⟩ => show win0_3.index t 0 * 1 + 1 * 0 = t.val / 4; rw [a0]; omega
  | ⟨1, _⟩ => show win0_3.index t 1 * 128 + 1 * d.val = d.val; rw [a1]; omega
  | ⟨2, _⟩ => show win0_3.index t 2 * 128 + 1 * e.val = e.val; rw [a2]; omega

/-- Where the output's block lies. -/
theorem place (t : Fin cfg0.N) (n : Fin 1024) (e : Fin 128) : ((cfg0.win 4).blk t).view.emb (ix4 0 0 n e) = ix4 (element t) (group t) n e := by
  obtain ⟨-, -, -, -, ⟨a0, a1, a2, a3⟩⟩ := blocks t
  refine funext fun a => Fin.ext ?_
  match a with
  | ⟨0, _⟩ => show win0_4.index t 0 * 1 + 1 * 0 = t.val / 4; rw [a0]; omega
  | ⟨1, _⟩ => show win0_4.index t 1 * 1 + 1 * 0 = t.val % 4; rw [a1]; omega
  | ⟨2, _⟩ => show win0_4.index t 2 * 1024 + 1 * n.val = n.val; rw [a2]; omega
  | ⟨3, _⟩ => show win0_4.index t 3 * 128 + 1 * e.val = e.val; rw [a3]; omega

/-- What point `t` writes back is the compressed sequence of its batch element and group. -/
theorem flushed (c : Dev nD) (t : Fin cfg0.N) (_ : (cfg0.win 4).flush t = true) :
    (Gen.dats m 0 c).flushed 4 t = ((cfg0.win 4).blk t).view.read (Elt Ideal) (result m c) := by
  rw [Value.flushed4]
  funext i
  rw [View.read_apply]
  obtain ⟨n, e, rfl⟩ : ∃ (n : Fin 1024) (e : Fin 128), i = ix4 0 0 n e := ⟨i 2, i 3, by
    refine (eq_ix4 i).trans ?_
    have h0 : i 0 = (0 : Fin 1) := Subsingleton.elim (α := Fin 1) _ _
    have h1 : i 1 = (0 : Fin 1) := Subsingleton.elim (α := Fin 1) _ _
    rw [h0, h1]⟩
  rw [place]
  refine (tile _ _ _ _ n e).trans ?_
  show _ = result m c (ix4 (element t) (group t) n e)
  unfold result resultOf
  exact congr (congr (congr (congr (congrArg₂ compressed (funext fun n => funext fun j => block0 m c t n j) (funext fun h => funext fun j => block1 m c t h j))
    (funext fun k => funext fun d => block2 m c t k d)) (funext fun d => funext fun e => block3 m c t d e)) rfl) rfl

/-- An index lies in the block of the point its batch element and group name. -/
theorem mem_block (t : Fin cfg0.N) (i : S2x4x1024x128.Idx) (h : (i 0).val * 4 + (i 1).val = t.val) : i ∈ ((cfg0.win 4).blk t).view.set := by
  obtain ⟨-, -, -, -, ⟨a0, a1, a2, a3⟩⟩ := blocks t
  show i ∈ ((View.whole main_v2).slice (win0_4.rect t)).set
  rw [View.set_slice_whole, Rect.mem_set_unit]
  have h1 : (i 1).val < 4 := (i 1).isLt
  have h2 : (i 2).val < 1024 := (i 2).isLt
  have h3 : (i 3).val < 128 := (i 3).isLt
  intro a
  match a with
  | ⟨0, _⟩ => show win0_4.index t 0 * 1 ≤ (i 0 : Nat) ∧ (i 0 : Nat) < win0_4.index t 0 * 1 + 1
              rw [a0]; omega
  | ⟨1, _⟩ => show win0_4.index t 1 * 1 ≤ (i 1 : Nat) ∧ (i 1 : Nat) < win0_4.index t 1 * 1 + 1
              rw [a1]; omega
  | ⟨2, _⟩ => show win0_4.index t 2 * 1024 ≤ (i 2 : Nat) ∧ (i 2 : Nat) < win0_4.index t 2 * 1024 + 1024
              rw [a2]; omega
  | ⟨3, _⟩ => show win0_4.index t 3 * 128 ≤ (i 3 : Nat) ∧ (i 3 : Nat) < win0_4.index t 3 * 128 + 128
              rw [a3]; omega

/-- The output ends holding every compressed sequence. -/
theorem final (c : Dev nD) : (Gen.dats m 0 c).arrAt 4 cfg0.N = result m c :=
  (Gen.dats m 0 c).arrAt_eq_of_cover 4 (result m c) (flushed m c) fun (i : S2x4x1024x128.Idx) => by
    have hN : cfg0.N = 8 := N_0
    have h0 : (i 0).val < 2 := (i 0).isLt
    have h1 : (i 1).val < 4 := (i 1).isLt
    exact ⟨⟨(i 0).val * 4 + (i 1).val, by rw [hN]; omega⟩, flush0_4 _, mem_block _ i rfl⟩

section Reference

open Cert.Reference11Ideal.Read Cert.Reference11Ideal.Gen

variable (x : (⟨Cert.Reference11Ideal.S2x4x16384x128, .bf16⟩ : BufTy).Contents (Elt Ideal)) (p : (⟨Cert.Reference11Ideal.S2x32x128, .f32⟩ : BufTy).Contents (Elt Ideal))
  (w : (⟨Cert.Reference11Ideal.S2x4096x128, .bf16⟩ : BufTy).Contents (Elt Ideal)) (v : (⟨Cert.Reference11Ideal.S2x128x128, .bf16⟩ : BufTy).Contents (Elt Ideal))

/-- The padded tokens in 1025 chunks: chunk `n` of the tokens, and zeros after the last. -/
theorem padded (a : Fin 2) (g : Fin 4) (n : Fin 1025) (s : Fin 16) (l : Fin 128) :
    val_main_v2 (F := Ideal) x (ix5 a g n s l) = if h : n.val < 1024 then (x (ix4 a g (token ⟨n.val, h⟩ s) l) : EReal) else 0 := by
  have hn := n.isLt
  have hs := s.isLt
  unfold val_main_v2
  refine (shapeCast_apply _ _ _ (ix4 a g ⟨n.val * 16 + s.val, by omega⟩ l) (by
    rw [Shape.rowMajor_val_four, Shape.rowMajor_val_five]
    show ((a.val * 4 + g.val) * 16400 + (n.val * 16 + s.val)) * 128 + l.val = (((a.val * 4 + g.val) * 1025 + n.val) * 16 + s.val) * 128 + l.val
    omega)).trans ?_
  unfold val_main_v1
  by_cases h : n.val < 1024
  · rw [dif_pos h]
    refine pad_apply_of_inside _ _ _ _ _ _ _ _ (ix4 a g (token ⟨n.val, h⟩ s) l) fun b => ?_
    match b with
    | ⟨0, _⟩ => show a.val = 0 + a.val * 1; omega
    | ⟨1, _⟩ => show g.val = 0 + g.val * 1; omega
    | ⟨2, _⟩ => show n.val * 16 + s.val = 0 + (n.val * 16 + s.val) * 1; omega
    | ⟨3, _⟩ => show l.val = 0 + l.val * 1; omega
  · rw [dif_neg h]
    refine (pad_apply_of_not_inside _ _ _ _ _ _ _ _ 2 ?_).trans ?_
    · show ¬(0 ≤ n.val * 16 + s.val ∧ (n.val * 16 + s.val - 0) % (0 + 1) = 0 ∧ (n.val * 16 + s.val - 0) / (0 + 1) < 16384)
      omega
    · rw [val_main_call0_v0_apply, val_main_c_apply]
      exact sitofp_zero (φ := .f32)

/-- A block's 32 tokens laid end to end: position `j` of half `h` is lane `lane j` of token `step j` of that half. -/
theorem flat_lower (y : Cert.Reference11Ideal.S2x4x1024x32x128.Idx → EReal) (a : Fin 2) (g : Fin 4) (n : Fin 1024) (j : Fin 2048) :
    shapeCast Cert.Reference11Ideal.S2x4x1024x4096 y shapeCasts_S2x4x1024x32x128_S2x4x1024x4096 (ix4 a g n (lower j)) = y (ix5 a g n (place32 0 (step j)) (lane j)) :=
  shapeCast_apply _ _ _ _ (by
    rw [Shape.rowMajor_val_five, Shape.rowMajor_val_four]
    show (((a.val * 4 + g.val) * 1024 + n.val) * 32 + (0 * 16 + j.val / 128)) * 128 + j.val % 128 = ((a.val * 4 + g.val) * 1024 + n.val) * 4096 + j.val
    omega)

theorem flat_upper (y : Cert.Reference11Ideal.S2x4x1024x32x128.Idx → EReal) (a : Fin 2) (g : Fin 4) (n : Fin 1024) (j : Fin 2048) :
    shapeCast Cert.Reference11Ideal.S2x4x1024x4096 y shapeCasts_S2x4x1024x32x128_S2x4x1024x4096 (ix4 a g n (upper j)) = y (ix5 a g n (place32 1 (step j)) (lane j)) :=
  shapeCast_apply _ _ _ _ (by
    rw [Shape.rowMajor_val_five, Shape.rowMajor_val_four]
    show (((a.val * 4 + g.val) * 1024 + n.val) * 32 + (1 * 16 + j.val / 128)) * 128 + j.val % 128 = ((a.val * 4 + g.val) * 1024 + n.val) * 4096 + (2048 + j.val)
    omega)

/-- Two runs of 16 tokens joined: the first 16 and the second 16. -/
theorem joined_lower (y z : FVec Ideal Cert.Reference11Ideal.S2x4x1024x16x128 .f32) (a : Fin 2) (g : Fin 4) (n : Fin 1024) (s : Fin 16) (l : Fin 128) (q : Fin 32)
    (hq : q.val = s.val) :
    concatenate Cert.Reference11Ideal.S2x4x1024x32x128 3 [⟨Cert.Reference11Ideal.S2x4x1024x16x128, y⟩, ⟨Cert.Reference11Ideal.S2x4x1024x16x128, z⟩] concatenates_S2x4x1024x16x128_S2x4x1024x16x128_S2x4x1024x32x128_d3
      (ix5 a g n q l) = y (ix5 a g n s l) := by
  refine concatenate_pair_apply_left (t := Cert.Reference11Ideal.S2x4x1024x32x128) (s₁ := Cert.Reference11Ideal.S2x4x1024x16x128) (s₂ := Cert.Reference11Ideal.S2x4x1024x16x128) 3 y z _ (ix5 a g n q l) rfl (ix5 a g n s l) fun x => ?_
  match x with
  | ⟨0, _⟩ => rfl
  | ⟨1, _⟩ => rfl
  | ⟨2, _⟩ => rfl
  | ⟨3, _⟩ => exact hq.symm
  | ⟨4, _⟩ => rfl

theorem joined_upper (y z : FVec Ideal Cert.Reference11Ideal.S2x4x1024x16x128 .f32) (a : Fin 2) (g : Fin 4) (n : Fin 1024) (s : Fin 16) (l : Fin 128) (q : Fin 32)
    (hq : q.val = 16 + s.val) :
    concatenate Cert.Reference11Ideal.S2x4x1024x32x128 3 [⟨Cert.Reference11Ideal.S2x4x1024x16x128, y⟩, ⟨Cert.Reference11Ideal.S2x4x1024x16x128, z⟩] concatenates_S2x4x1024x16x128_S2x4x1024x16x128_S2x4x1024x32x128_d3
      (ix5 a g n q l) = z (ix5 a g n s l) := by
  refine concatenate_pair_apply_right (t := Cert.Reference11Ideal.S2x4x1024x32x128) (s₁ := Cert.Reference11Ideal.S2x4x1024x16x128) (s₂ := Cert.Reference11Ideal.S2x4x1024x16x128) 3 y z _ (ix5 a g n q l) rfl rfl (ix5 a g n s l)
    (fun x hx => ?_) ?_
  · match x with
    | ⟨0, _⟩ => rfl
    | ⟨1, _⟩ => rfl
    | ⟨2, _⟩ => rfl
    | ⟨3, _⟩ => exact absurd rfl hx
    | ⟨4, _⟩ => rfl
  · show s.val + 16 = q.val
    omega

/-- The first half of a block, with its position encoding. -/
theorem shifted_lower (a : Fin 2) (g : Fin 4) (n : Fin 1024) (j : Fin 2048) :
    val_main_v9 (F := Ideal) x p (ix4 a g n (lower j)) = chunks x a g n j + encoding p a 0 j := by
  refine (flat_lower (val_main_v8 (F := Ideal) x p) a g n j).trans ?_
  rw [val_main_v8_apply, val_main_v7_apply, val_main_v6_apply]
  refine congrArg₂ (fun a b : EReal => a + b) ?_ (congrArg p (funext fun b => by fin_cases b <;> rfl))
  refine (joined_lower (val_main_v3 (F := Ideal) x) (val_main_v4 (F := Ideal) x) a g n (step j) (lane j) _ (by show 0 * 16 + j.val / 128 = j.val / 128; omega)).trans ?_
  rw [val_main_v3_apply]
  refine (congrArg (val_main_v2 (F := Ideal) x) (?_ : _ = ix5 a g ⟨n.val, by have := n.isLt; omega⟩ (step j) (lane j))).trans
    ((padded x a g _ _ _).trans (dif_pos n.isLt))
  exact funext fun b => by fin_cases b <;> rfl

/-- The second half of a block, with its position encoding. -/
theorem shifted_upper (a : Fin 2) (g : Fin 4) (n : Fin 1024) (j : Fin 2048) :
    val_main_v9 (F := Ideal) x p (ix4 a g n (upper j)) = next (chunks x a g) n j + encoding p a 1 j := by
  refine (flat_upper (val_main_v8 (F := Ideal) x p) a g n j).trans ?_
  rw [val_main_v8_apply, val_main_v7_apply, val_main_v6_apply]
  refine congrArg₂ (fun a b : EReal => a + b) ?_ (congrArg p (funext fun b => by fin_cases b <;> rfl))
  refine (joined_upper (val_main_v3 (F := Ideal) x) (val_main_v4 (F := Ideal) x) a g n (step j) (lane j) _ (by show 1 * 16 + j.val / 128 = 16 + j.val / 128; omega)).trans ?_
  rw [val_main_v4_apply]
  refine (congrArg (val_main_v2 (F := Ideal) x) (?_ : _ = ix5 a g ⟨n.val + 1, by have := n.isLt; omega⟩ (step j) (lane j))).trans (padded x a g _ _ _)
  refine funext fun b => Fin.ext ?_
  match b with
  | ⟨0, _⟩ => rfl
  | ⟨1, _⟩ => rfl
  | ⟨2, _⟩ => show 1 + n.val = n.val + 1; omega
  | ⟨3, _⟩ => rfl
  | ⟨4, _⟩ => rfl

/-- A sum over 4096 positions: over the first half and over the second. -/
theorem sum_halves (f : Fin 4096 → EReal) : (∑ k : Fin 4096, f k) = (∑ j : Fin 2048, f (lower j)) + ∑ j : Fin 2048, f (upper j) :=
  (Fin.sum_univ_add (M := EReal) (a := 2048) (b := 2048) f)

/-- The reference's product before the gate. -/
theorem reference_before (a : Fin 2) (g : Fin 4) (n : Fin 1024) (d : Fin 128) :
    val_main_v11 (F := Ideal) x p w (ix4 a g n d) = before (chunks x a g) (encoding p a) (fun k d => w (ix3 a k d)) n d := by
  rw [val_main_v11_apply]
  refine (sum_halves _).trans (congrArg₂ (fun a b : EReal => a + b) ?_ ?_)
  · refine Finset.sum_congr (M := EReal) rfl fun j _ => congrArg₂ (fun a b : EReal => a * b) ?_ ?_
    · refine (congrArg _ (?_ : _ = ix4 a g n (lower j))).trans (shifted_lower x p a g n j)
      exact funext fun b => by fin_cases b <;> rfl
    · exact congrArg w (funext fun b => by fin_cases b <;> rfl)
  · refine Finset.sum_congr (M := EReal) rfl fun j _ => congrArg₂ (fun a b : EReal => a * b) ?_ ?_
    · refine (congrArg _ (?_ : _ = ix4 a g n (upper j))).trans (shifted_upper x p a g n j)
      exact funext fun b => by fin_cases b <;> rfl
    · exact congrArg w (funext fun b => by fin_cases b <;> rfl)

/-- The reference's gated product. -/
theorem reference_gated (a : Fin 2) (g : Fin 4) (n : Fin 1024) (d : Fin 128) :
    val_main_v12 (F := Ideal) x p w (ix4 a g n d)
      = before (chunks x a g) (encoding p a) (fun k d => w (ix3 a k d)) n d * Ideal.logistic (before (chunks x a g) (encoding p a) (fun k d => w (ix3 a k d)) n d) := by
  have one : ∀ j, val_main_call1_v4 (F := Ideal) j = (1 : EReal) := fun j => by
    rw [val_main_call1_v4_apply, val_main_call1_cst_0_apply]; exact Ideal.ofBits_one_f32
  have one' : ∀ j, val_main_call1_v2 (F := Ideal) j = (1 : EReal) := fun j => by
    rw [val_main_call1_v2_apply, val_main_call1_cst_apply]; exact Ideal.ofBits_one_f32
  rw [val_main_v12_apply, val_main_call1_v5_apply, val_main_call1_v3_apply, val_main_call1_v1_apply, val_main_call1_v0_apply, one, one', reference_before]
  rfl

/-- The reference's result, read at an index. -/
theorem reference_apply (a : Fin 2) (g : Fin 4) (n : Fin 1024) (e : Fin 128) :
    val_main_v14 (F := Ideal) x p w v (ix4 a g n e) = resultOf x p w v (ix4 a g n e) := by
  rw [val_main_v14_apply]
  unfold resultOf compressed
  refine Finset.sum_congr (M := EReal) rfl fun d _ => congrArg₂ (fun a b : EReal => a * b) ?_ ?_
  · refine (congrArg _ (?_ : _ = ix4 a g n d)).trans (reference_gated x p w a g n d)
    exact funext fun b => by fin_cases b <;> rfl
  · exact congrArg v (funext fun b => by fin_cases b <;> rfl)

end Reference

/-- `Kernel11` and its reference end with equal results. -/
theorem algebraic : Cert.algebraic_Kernel11Ideal_Reference11Ideal := by
  intro m ρ m' ρ' _ hagree
  refine ⟨fun c => result m c, (θ_run defs _ _).mono (fun r h c => ⟨(h c).1.trans (final m c), (h c).2⟩) (Value.run_blocks m ρ), ?_⟩
  refine (θ_run _ _ _).mono (fun r h c => ⟨(h c).1.trans ?_, (h c).2⟩) (Cert.Reference11Ideal.Value.run (F := Ideal) m' ρ')
  refine (Cert.Reference11Ideal.Read.val_main_v15_eq _ _ _ _).trans ?_
  funext i
  rw [eq_ix4 i, Cert.Reference11Ideal.Read.val_main_v15_apply]
  refine (reference_apply _ _ _ _ (i 0) (i 1) (i 2) (i 3)).trans ?_
  rw [(hagree c).1, (hagree c).2.1, (hagree c).2.2.1, (hagree c).2.2.2]
  rfl

end Cert.Compress

end
-- ==== Proof.ResidualWhole.lean ====
/-
  `Kernel12` at the extended reals: the residual h + norm(y) and its own normalisation, computed in blocks of 256 rows.
  The two arrays it leaves hold, row by row, what the reference's two results hold.
-/
module

public import proofs.«01_k».proof.Proof.Norm
public import proofs.«01_k».proof.Proof.Gen.Kernel12Ideal.Value
public import proofs.«01_k».proof.Proof.Gen.Reference12Ideal.Run
public import proofs.«01_k».proof.Proof.Gen.Reference12Ideal.Read

@[expose] public section

set_option maxRecDepth 16384

noncomputable section

open Idealize.ShloMosaic Idealize.ShloMosaic.TcCoe Idealize.SL.Sem

namespace Cert.ResidualWhole

open Cert.Kernel12Ideal Cert.Kernel12Ideal.Gen Cert.Norm

variable (m : (ℓ : Loc nD τ sig) → Buf (Elt Ideal) ℓ) (ρ : Dev nD → PrngReg)

theorem origin : (![0, 0] : Fin 2 → Nat) = fun _ => 0 := funext fun a => by fin_cases a <;> rfl

/-- A row plus the normalisation of another. -/
def added (h y g : Fin 4096 → EReal) (d : Fin 4096) : EReal := h d + norm y g d

theorem sum_apply (h y : Vec Ideal S256x4096 .f32) (g : Vec Ideal S1x4096 .f32) (r : Fin 256) (d : Fin 4096) :
    k0_pay1 h y g (ix2 r d) = added (fun k => h (ix2 r k)) (fun k => y (ix2 r k)) (fun k => g (ix2 0 k)) d := by
  unfold k0_pay1
  refine (congrArg (fun a : EReal => (h (ix2 r d) : EReal) + Ideal.ofBits .f32 0x3F800000#32 * a) (rows_apply y g _ _ _ _ _ r d)).trans ?_
  rw [Ideal.ofBits_one_f32, one_mul]
  rfl

theorem normed_apply (h y : Vec Ideal S256x4096 .f32) (g g' : Vec Ideal S1x4096 .f32) (r : Fin 256) (d : Fin 4096) :
    k0_pay2 h y g g' (ix2 r d) = norm (added (fun k => h (ix2 r k)) (fun k => y (ix2 r k)) fun k => g (ix2 0 k)) (fun k => g' (ix2 0 k)) d := by
  unfold k0_pay2
  refine (rows_apply (k0_pay1 h y g) g' _ _ _ _ _ r d).trans ?_
  exact congrArg (fun f => norm f (fun k => g' (ix2 0 k)) d) (funext fun k => sum_apply h y g r k)

/-- What the first output's block holds. -/
theorem tile_sum (x0 x1 : Vec Ideal S256x4096 .f32) (x2 x3 : Vec Ideal S1x4096 .f32) (r : Fin 256) (d : Fin 4096) :
    out0_4 x0 x1 x2 x3 (ix2 r d) = added (fun k => x0 (ix2 r k)) (fun k => x1 (ix2 r k)) (fun k => x2 (ix2 0 k)) d := by
  unfold out0_4
  rw [View.canon_unit_zero origin]
  simp only [View.ld_unit_zero (S := S256x4096) origin, View.ld_unit_zero (S := S1x4096) origin]
  exact sum_apply x0 x1 x2 r d

/-- What the second output's block holds. -/
theorem tile_normed (x0 x1 : Vec Ideal S256x4096 .f32) (x2 x3 : Vec Ideal S1x4096 .f32) (r : Fin 256) (d : Fin 4096) :
    out0_5 x0 x1 x2 x3 (ix2 r d) = norm (added (fun k => x0 (ix2 r k)) (fun k => x1 (ix2 r k)) fun k => x2 (ix2 0 k)) (fun k => x3 (ix2 0 k)) d := by
  unfold out0_5
  rw [View.canon_unit_zero origin]
  simp only [View.ld_unit_zero (S := S256x4096) origin, View.ld_unit_zero (S := S1x4096) origin]
  exact normed_apply x0 x1 x2 x3 r d

/-- The residual of every row. -/
def sumOf (h y : S16384x4096.Idx → EReal) (g : S4096.Idx → EReal) : S16384x4096.Idx → EReal :=
  fun i => added (fun k => h (ix2 (i 0) k)) (fun k => y (ix2 (i 0) k)) (fun k => g (ix1 k)) (i 1)

/-- The normalisation of the residual of every row. -/
def normedOf (h y : S16384x4096.Idx → EReal) (g g' : S4096.Idx → EReal) : S16384x4096.Idx → EReal :=
  fun i => norm (added (fun k => h (ix2 (i 0) k)) (fun k => y (ix2 (i 0) k)) fun k => g (ix1 k)) (fun k => g' (ix1 k)) (i 1)

def result0 (c : Dev nD) : Buf (Elt Ideal) ((c : Thread nD τ).loc main_v2_0) :=
  sumOf (m ((c : Thread nD τ).loc main_arg0)) (m ((c : Thread nD τ).loc main_arg1)) (m ((c : Thread nD τ).loc main_arg2))

def result1 (c : Dev nD) : Buf (Elt Ideal) ((c : Thread nD τ).loc main_v2_1) :=
  normedOf (m ((c : Thread nD τ).loc main_arg0)) (m ((c : Thread nD τ).loc main_arg1)) (m ((c : Thread nD τ).loc main_arg2))
    (m ((c : Thread nD τ).loc main_arg3))

/-- The gains of the first normalisation as the region finds them: one row. -/
theorem gain0 (c : Dev nD) : V m c main_v0 = shapeCast S1x4096 (m ((c : Thread nD τ).loc main_arg2)) shapeCasts_S4096_S1x4096 := by
  show StableHlo.after hostOps0 (fun b => m (c, b)) main_v0 = _
  rw [hostOps0, StableHlo.after_cons, StableHlo.after_cons, StableHlo.after_nil, StableHlo.reshape_result_ne, StableHlo.reshape_result]
  · rfl
  · decide

/-- The gains of the second normalisation as the region finds them: one row. -/
theorem gain1 (c : Dev nD) : V m c main_v1 = shapeCast S1x4096 (m ((c : Thread nD τ).loc main_arg3)) shapeCasts_S4096_S1x4096 := by
  show StableHlo.after hostOps0 (fun b => m (c, b)) main_v1 = _
  rw [hostOps0, StableHlo.after_cons, StableHlo.after_cons, StableHlo.after_nil, StableHlo.reshape_result, StableHlo.reshape_result_ne]
  · rfl
  · decide

/-- Which block each window names at point `t`: row block `t`, and the whole rows of gains. -/
theorem blocks (t : Fin cfg0.N) : (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)) t

/-- Row `r` of block `t` among all rows. -/
def row (t : Fin cfg0.N) (r : Fin 256) : Fin 16384 := ⟨t.val * 256 + r.val, by have hN : cfg0.N = 64 := N_0; have := t.isLt; have := r.isLt; omega⟩

theorem block0 (c : Dev nD) (t : Fin cfg0.N) (r : Fin 256) (d : Fin 4096) : iblk m c 0 t (ix2 r d) = m ((c : Thread nD τ).loc main_arg0) (ix2 (row t r) d) := by
  obtain ⟨⟨a0, a1⟩, -⟩ := blocks t
  show V m c main_arg0 _ = _
  refine congrArg (m ((c : Thread nD τ).loc main_arg0)) (funext fun a => Fin.ext ?_)
  match a with
  | ⟨0, _⟩ => show win0_0.index t 0 * 256 + 1 * r.val = t.val * 256 + r.val; rw [a0]; omega
  | ⟨1, _⟩ => show win0_0.index t 1 * 4096 + 1 * d.val = d.val; rw [a1]; omega

theorem block1 (c : Dev nD) (t : Fin cfg0.N) (r : Fin 256) (d : Fin 4096) : iblk m c 1 t (ix2 r d) = m ((c : Thread nD τ).loc main_arg1) (ix2 (row t r) d) := by
  obtain ⟨-, ⟨a0, a1⟩, -⟩ := blocks t
  show V m c main_arg1 _ = _
  refine congrArg (m ((c : Thread nD τ).loc main_arg1)) (funext fun a => Fin.ext ?_)
  match a with
  | ⟨0, _⟩ => show win0_1.index t 0 * 256 + 1 * r.val = t.val * 256 + r.val; rw [a0]; omega
  | ⟨1, _⟩ => show win0_1.index t 1 * 4096 + 1 * d.val = d.val; rw [a1]; omega

theorem block2 (c : Dev nD) (t : Fin cfg0.N) (d : Fin 4096) : iblk m c 2 t (ix2 0 d) = m ((c : Thread nD τ).loc main_arg2) (ix1 d) := by
  obtain ⟨-, -, ⟨a0, a1⟩, -⟩ := blocks t
  show V m c main_v0 _ = _
  rw [gain0]
  refine (congrArg _ (?_ : _ = ix2 0 d)).trans (ValueIdx.shapeCast_a_1a_apply _ _ 0 d)
  refine funext fun a => Fin.ext ?_
  match a with
  | ⟨0, _⟩ => show win0_2.index t 0 * 1 + 1 * 0 = 0; rw [a0]
  | ⟨1, _⟩ => show win0_2.index t 1 * 4096 + 1 * d.val = d.val; rw [a1]; omega

theorem block3 (c : Dev nD) (t : Fin cfg0.N) (d : Fin 4096) : iblk m c 3 t (ix2 0 d) = m ((c : Thread nD τ).loc main_arg3) (ix1 d) := by
  obtain ⟨-, -, -, ⟨a0, a1⟩, -⟩ := blocks t
  show V m c main_v1 _ = _
  rw [gain1]
  refine (congrArg _ (?_ : _ = ix2 0 d)).trans (ValueIdx.shapeCast_a_1a_apply _ _ 0 d)
  refine funext fun a => Fin.ext ?_
  match a with
  | ⟨0, _⟩ => show win0_3.index t 0 * 1 + 1 * 0 = 0; rw [a0]
  | ⟨1, _⟩ => show win0_3.index t 1 * 4096 + 1 * d.val = d.val; rw [a1]; omega

/-- Where the outputs' blocks lie. -/
theorem place4 (t : Fin cfg0.N) (r : Fin 256) (d : Fin 4096) : ((cfg0.win 4).blk t).view.emb (ix2 r d) = ix2 (row t r) d := by
  obtain ⟨-, -, -, -, ⟨a0, a1⟩, -⟩ := blocks t
  refine funext fun a => Fin.ext ?_
  match a with
  | ⟨0, _⟩ => show win0_4.index t 0 * 256 + 1 * r.val = t.val * 256 + r.val; rw [a0]; omega
  | ⟨1, _⟩ => show win0_4.index t 1 * 4096 + 1 * d.val = d.val; rw [a1]; omega

theorem place5 (t : Fin cfg0.N) (r : Fin 256) (d : Fin 4096) : ((cfg0.win 5).blk t).view.emb (ix2 r d) = ix2 (row t r) d := by
  obtain ⟨-, -, -, -, -, ⟨a0, a1⟩⟩ := blocks t
  refine funext fun a => Fin.ext ?_
  match a with
  | ⟨0, _⟩ => show win0_5.index t 0 * 256 + 1 * r.val = t.val * 256 + r.val; rw [a0]; omega
  | ⟨1, _⟩ => show win0_5.index t 1 * 4096 + 1 * d.val = d.val; rw [a1]; omega

/-- What point `t` writes back to the first output is its rows of the residual. -/
theorem flushed4 (c : Dev nD) (t : Fin cfg0.N) (_ : (cfg0.win 4).flush t = true) :
    (Gen.dats m 0 c).flushed 4 t = ((cfg0.win 4).blk t).view.read (Elt Ideal) (result0 m c) := by
  rw [Value.flushed4]
  funext i
  rw [View.read_apply]
  obtain ⟨r, d, rfl⟩ : ∃ (r : Fin 256) (d : Fin 4096), i = ix2 r d := ⟨i 0, i 1, eq_ix2 i⟩
  rw [place4]
  refine (tile_sum _ _ _ _ r d).trans ?_
  show _ = result0 m c (ix2 (row t r) d)
  unfold result0 sumOf
  exact congr (congr (congrArg₂ added (funext fun k => block0 m c t r k) (funext fun k => block1 m c t r k)) (funext fun k => block2 m c t k)) rfl

/-- What point `t` writes back to the second output is its rows of the normalised residual. -/
theorem flushed5 (c : Dev nD) (t : Fin cfg0.N) (_ : (cfg0.win 5).flush t = true) :
    (Gen.dats m 0 c).flushed 5 t = ((cfg0.win 5).blk t).view.read (Elt Ideal) (result1 m c) := by
  rw [Value.flushed5]
  funext i
  rw [View.read_apply]
  obtain ⟨r, d, rfl⟩ : ∃ (r : Fin 256) (d : Fin 4096), i = ix2 r d := ⟨i 0, i 1, eq_ix2 i⟩
  rw [place5]
  refine (tile_normed _ _ _ _ r d).trans ?_
  show _ = result1 m c (ix2 (row t r) d)
  unfold result1 normedOf
  exact congr (congrArg₂ norm (congr (congrArg₂ added (funext fun k => block0 m c t r k) (funext fun k => block1 m c t r k)) (funext fun k => block2 m c t k))
    (funext fun k => block3 m c t k)) rfl

/-- An index lies in the block of the point its row falls in. -/
theorem mem4 (t : Fin cfg0.N) (i : S16384x4096.Idx) (h0 : (i 0).val / 256 = t.val) : i ∈ ((cfg0.win 4).blk t).view.set := by
  obtain ⟨-, -, -, -, ⟨a0, a1⟩, -⟩ := blocks t
  show i ∈ ((View.whole main_v2_0).slice (win0_4.rect t)).set
  rw [View.set_slice_whole, Rect.mem_set_unit]
  have h1 : (i 1).val < 4096 := (i 1).isLt
  intro a
  match a with
  | ⟨0, _⟩ => show win0_4.index t 0 * 256 ≤ (i 0 : Nat) ∧ (i 0 : Nat) < win0_4.index t 0 * 256 + 256
              rw [a0]; omega
  | ⟨1, _⟩ => show win0_4.index t 1 * 4096 ≤ (i 1 : Nat) ∧ (i 1 : Nat) < win0_4.index t 1 * 4096 + 4096
              rw [a1]; omega

theorem mem5 (t : Fin cfg0.N) (i : S16384x4096.Idx) (h0 : (i 0).val / 256 = t.val) : i ∈ ((cfg0.win 5).blk t).view.set := by
  obtain ⟨-, -, -, -, -, ⟨a0, a1⟩⟩ := blocks t
  show i ∈ ((View.whole main_v2_1).slice (win0_5.rect t)).set
  rw [View.set_slice_whole, Rect.mem_set_unit]
  have h1 : (i 1).val < 4096 := (i 1).isLt
  intro a
  match a with
  | ⟨0, _⟩ => show win0_5.index t 0 * 256 ≤ (i 0 : Nat) ∧ (i 0 : Nat) < win0_5.index t 0 * 256 + 256
              rw [a0]; omega
  | ⟨1, _⟩ => show win0_5.index t 1 * 4096 ≤ (i 1 : Nat) ∧ (i 1 : Nat) < win0_5.index t 1 * 4096 + 4096
              rw [a1]; omega

/-- The first output ends holding the residual of every row. -/
theorem final4 (c : Dev nD) : (Gen.dats m 0 c).arrAt 4 cfg0.N = result0 m c :=
  (Gen.dats m 0 c).arrAt_eq_of_cover 4 (result0 m c) (flushed4 m c) fun (i : S16384x4096.Idx) => by
    have hN : cfg0.N = 64 := N_0
    have h0 : (i 0).val < 16384 := (i 0).isLt
    exact ⟨⟨(i 0).val / 256, by rw [hN]; omega⟩, flush0_4 _, mem4 _ i rfl⟩

/-- The second output ends holding the normalised residual of every row. -/
theorem final5 (c : Dev nD) : (Gen.dats m 0 c).arrAt 5 cfg0.N = result1 m c :=
  (Gen.dats m 0 c).arrAt_eq_of_cover 5 (result1 m c) (flushed5 m c) fun (i : S16384x4096.Idx) => by
    have hN : cfg0.N = 64 := N_0
    have h0 : (i 0).val < 16384 := (i 0).isLt
    exact ⟨⟨(i 0).val / 256, by rw [hN]; omega⟩, flush0_5 _, mem5 _ i rfl⟩

section Reference

open Cert.Reference12Ideal.Read

variable (h y : (⟨Cert.Reference12Ideal.S16384x4096, .f32⟩ : BufTy).Contents (Elt Ideal)) (g g' : (⟨Cert.Reference12Ideal.S4096, .f32⟩ : BufTy).Contents (Elt Ideal))

/-- The reference's residual, read at an index. -/
theorem reference_sum (r : Fin 16384) (d : Fin 4096) : val_main_v13 (F := Ideal) h y g (ix2 r d) = sumOf h y g (ix2 r d) := by
  rw [val_main_v13_apply]
  exact congrArg (fun a : EReal => (h (ix2 r d) : EReal) + a) (host_apply y g r d)

/-- The reference's normalised residual, read at an index. -/
theorem reference_normed (r : Fin 16384) (d : Fin 4096) : val_main_v26 (F := Ideal) h y g g' (ix2 r d) = normedOf h y g g' (ix2 r d) := by
  refine (show _ = Cert.Reference10Ideal.Read.val_main_v12 (F := Ideal) (val_main_v13 (F := Ideal) h y g) g' (ix2 r d) from rfl).trans ?_
  refine (host_apply _ _ r d).trans ?_
  exact congrArg (fun f => norm f (fun k => g' (ix1 k)) d) (funext fun k => reference_sum h y g r k)

end Reference

/-- `Kernel12` and its reference end with equal results. -/
theorem algebraic : Cert.algebraic_Kernel12Ideal_Reference12Ideal := by
  intro m ρ m' ρ' _ hagree
  refine ⟨fun c => result0 m c, fun c => result1 m c,
    (θ_run defs _ _).mono (fun r h c => ⟨(h c).1.trans (final4 m c), (h c).2.1.trans (final5 m c), (h c).2.2⟩) (Value.run_blocks m ρ), ?_⟩
  refine (θ_run _ _ _).mono (fun r h c => ⟨(h c).1.trans ?_, (h c).2.1.trans ?_, (h c).2.2⟩) (Cert.Reference12Ideal.Value.run (F := Ideal) m' ρ')
  · refine (Cert.Reference12Ideal.Read.val_main_v13_eq _ _ _).trans ?_
    funext i
    rw [eq_ix2 i]
    refine (reference_sum _ _ _ (i 0) (i 1)).trans ?_
    rw [(hagree c).1, (hagree c).2.1, (hagree c).2.2.1]
    rfl
  · refine (Cert.Reference12Ideal.Read.val_main_v27_eq _ _ _ _).trans ?_
    funext i
    rw [eq_ix2 i, Cert.Reference12Ideal.Read.val_main_v27_apply]
    refine (reference_normed _ _ _ _ (i 0) (i 1)).trans ?_
    rw [(hagree c).1, (hagree c).2.1, (hagree c).2.2.1, (hagree c).2.2.2]
    rfl

end Cert.ResidualWhole

end
-- ==== Proof.RowNorm.lean ====
/-
  `Kernel13` at the extended reals: the root-mean-square normalisation of 16384 rows, computed in blocks of 256 rows.
  The array it leaves holds, row by row, what the reference's result holds.
-/
module

public import proofs.«01_k».proof.Proof.Norm
public import proofs.«01_k».proof.Proof.Gen.Kernel13Ideal.Value
public import proofs.«01_k».proof.Proof.Gen.Reference13Ideal.Run
public import proofs.«01_k».proof.Proof.Gen.Reference13Ideal.Read

@[expose] public section

set_option maxRecDepth 16384

noncomputable section

open Idealize.ShloMosaic Idealize.ShloMosaic.TcCoe Idealize.SL.Sem

namespace Cert.RowNorm

open Cert.Kernel13Ideal Cert.Kernel13Ideal.Gen Cert.Norm

variable (m : (ℓ : Loc nD τ sig) → Buf (Elt Ideal) ℓ) (ρ : Dev nD → PrngReg)

theorem origin : (![0, 0] : Fin 2 → Nat) = fun _ => 0 := funext fun a => by fin_cases a <;> rfl

/-- What the output's block holds: the normalised rows. -/
theorem tile (x0 : Vec Ideal S256x4096 .f32) (x1 : Vec Ideal S1x4096 .f32) (r : Fin 256) (d : Fin 4096) :
    out0_2 x0 x1 (ix2 r d) = norm (fun k => x0 (ix2 r k)) (fun k => x1 (ix2 0 k)) d := by
  unfold out0_2
  rw [View.canon_unit_zero origin]
  simp only [View.ld_unit_zero (S := S256x4096) origin, View.ld_unit_zero (S := S1x4096) origin]
  unfold k0_pay1
  exact rows_apply x0 x1 _ _ _ _ _ r d

/-- The normalisation of every row. -/
def normedOf (x : S16384x4096.Idx → EReal) (g : S4096.Idx → EReal) : S16384x4096.Idx → EReal :=
  fun i => norm (fun k => x (ix2 (i 0) k)) (fun k => g (ix1 k)) (i 1)

def result (c : Dev nD) : Buf (Elt Ideal) ((c : Thread nD τ).loc main_v1) :=
  normedOf (m ((c : Thread nD τ).loc main_arg0)) (m ((c : Thread nD τ).loc main_arg1))

/-- The gains as the region finds them: one row. -/
theorem gain (c : Dev nD) : V m c main_v0 = shapeCast S1x4096 (m ((c : Thread nD τ).loc main_arg1)) shapeCasts_S4096_S1x4096 := by
  show StableHlo.after hostOps0 (fun b => m (c, b)) main_v0 = _
  rw [hostOps0, StableHlo.after_cons, StableHlo.after_nil, StableHlo.reshape_result]
  rfl

/-- Which block each window names at point `t`: row block `t`, and the whole row of gains. -/
theorem blocks (t : Fin cfg0.N) : (win0_0.index t 0 = t.val ∧ win0_0.index t 1 = 0) ∧ (win0_1.index t 0 = 0 ∧ win0_1.index t 1 = 0)
    ∧ (win0_2.index t 0 = t.val ∧ win0_2.index t 1 = 0) :=
  (by decide +kernel : ∀ t : Fin grid0.N, (win0_0.index t 0 = t.val ∧ win0_0.index t 1 = 0) ∧ (win0_1.index t 0 = 0 ∧ win0_1.index t 1 = 0)
    ∧ (win0_2.index t 0 = t.val ∧ win0_2.index t 1 = 0)) t

/-- Row `r` of block `t` among all rows. -/
def row (t : Fin cfg0.N) (r : Fin 256) : Fin 16384 := ⟨t.val * 256 + r.val, by have hN : cfg0.N = 64 := N_0; have := t.isLt; have := r.isLt; omega⟩

theorem block0 (c : Dev nD) (t : Fin cfg0.N) (r : Fin 256) (d : Fin 4096) : iblk m c 0 t (ix2 r d) = m ((c : Thread nD τ).loc main_arg0) (ix2 (row t r) d) := by
  obtain ⟨⟨a0, a1⟩, -⟩ := blocks t
  show V m c main_arg0 _ = _
  refine congrArg (m ((c : Thread nD τ).loc main_arg0)) (funext fun a => Fin.ext ?_)
  match a with
  | ⟨0, _⟩ => show win0_0.index t 0 * 256 + 1 * r.val = t.val * 256 + r.val; rw [a0]; omega
  | ⟨1, _⟩ => show win0_0.index t 1 * 4096 + 1 * d.val = d.val; rw [a1]; omega

theorem block1 (c : Dev nD) (t : Fin cfg0.N) (d : Fin 4096) : iblk m c 1 t (ix2 0 d) = m ((c : Thread nD τ).loc main_arg1) (ix1 d) := by
  obtain ⟨-, ⟨a0, a1⟩, -⟩ := blocks t
  show V m c main_v0 _ = _
  rw [gain]
  refine (congrArg _ (?_ : _ = ix2 0 d)).trans (ValueIdx.shapeCast_a_1a_apply _ _ 0 d)
  refine funext fun a => Fin.ext ?_
  match a with
  | ⟨0, _⟩ => show win0_1.index t 0 * 1 + 1 * 0 = 0; rw [a0]
  | ⟨1, _⟩ => show win0_1.index t 1 * 4096 + 1 * d.val = d.val; rw [a1]; omega

/-- Where the output's block lies. -/
theorem place (t : Fin cfg0.N) (r : Fin 256) (d : Fin 4096) : ((cfg0.win 2).blk t).view.emb (ix2 r d) = ix2 (row t r) d := by
  obtain ⟨-, -, ⟨a0, a1⟩⟩ := blocks t
  refine funext fun a => Fin.ext ?_
  match a with
  | ⟨0, _⟩ => show win0_2.index t 0 * 256 + 1 * r.val = t.val * 256 + r.val; rw [a0]; omega
  | ⟨1, _⟩ => show win0_2.index t 1 * 4096 + 1 * d.val = d.val; rw [a1]; omega

/-- What point `t` writes back is its rows normalised. -/
theorem flushed (c : Dev nD) (t : Fin cfg0.N) (_ : (cfg0.win 2).flush t = true) :
    (Gen.dats m 0 c).flushed 2 t = ((cfg0.win 2).blk t).view.read (Elt Ideal) (result m c) := by
  rw [Value.flushed2]
  funext i
  rw [View.read_apply]
  obtain ⟨r, d, rfl⟩ : ∃ (r : Fin 256) (d : Fin 4096), i = ix2 r d := ⟨i 0, i 1, eq_ix2 i⟩
  rw [place]
  refine (tile _ _ r d).trans ?_
  show _ = result m c (ix2 (row t r) d)
  unfold result normedOf
  exact congr (congrArg₂ norm (funext fun k => block0 m c t r k) (funext fun k => block1 m c t k)) rfl

/-- An index lies in the block of the point its row falls in. -/
theorem mem_block (t : Fin cfg0.N) (i : S16384x4096.Idx) (h0 : (i 0).val / 256 = t.val) : i ∈ ((cfg0.win 2).blk t).view.set := by
  obtain ⟨-, -, ⟨a0, a1⟩⟩ := blocks t
  show i ∈ ((View.whole main_v1).slice (win0_2.rect t)).set
  rw [View.set_slice_whole, Rect.mem_set_unit]
  have h1 : (i 1).val < 4096 := (i 1).isLt
  intro a
  match a with
  | ⟨0, _⟩ => show win0_2.index t 0 * 256 ≤ (i 0 : Nat) ∧ (i 0 : Nat) < win0_2.index t 0 * 256 + 256
              rw [a0]; omega
  | ⟨1, _⟩ => show win0_2.index t 1 * 4096 ≤ (i 1 : Nat) ∧ (i 1 : Nat) < win0_2.index t 1 * 4096 + 4096
              rw [a1]; omega

/-- The output ends holding every row normalised. -/
theorem final (c : Dev nD) : (Gen.dats m 0 c).arrAt 2 cfg0.N = result m c :=
  (Gen.dats m 0 c).arrAt_eq_of_cover 2 (result m c) (flushed m c) fun (i : S16384x4096.Idx) => by
    have hN : cfg0.N = 64 := N_0
    have h0 : (i 0).val < 16384 := (i 0).isLt
    exact ⟨⟨(i 0).val / 256, by rw [hN]; omega⟩, flush0_2 _, mem_block _ i rfl⟩

/-- `Kernel13` and its reference end with equal results. -/
theorem algebraic : Cert.algebraic_Kernel13Ideal_Reference13Ideal := by
  intro m ρ m' ρ' _ hagree
  refine ⟨fun c => result m c, (θ_run defs _ _).mono (fun r h c => ⟨(h c).1.trans (final m c), (h c).2⟩) (Value.run_blocks m ρ), ?_⟩
  refine (θ_run _ _ _).mono (fun r h c => ⟨(h c).1.trans ?_, (h c).2⟩) (Cert.Reference13Ideal.Value.run (F := Ideal) m' ρ')
  refine (Cert.Reference13Ideal.Read.val_main_v13_eq _ _).trans ?_
  funext i
  rw [eq_ix2 i, Cert.Reference13Ideal.Read.val_main_v13_apply]
  refine (host_apply _ _ (i 0) (i 1)).trans ?_
  rw [(hagree c).1, (hagree c).2]
  rfl

end Cert.RowNorm

end
-- ==== Proof.lean ====
/-
  The claims about the calls taken: `Kernel` (one attention over selected keys) and the numbered ones, each one call of
  the layer with its reference.  Every program runs without fault and leaves every semaphore counter at zero; each
  kernel's reading at the extended reals is the kernel's own; and each such reading ends with the same results as its
  reference's.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Pre_attended
public import proofs.«01_k».proof.Proof.Attention
public import proofs.«01_k».proof.Proof.FfnIn
public import proofs.«01_k».proof.Proof.FfnOut
public import proofs.«01_k».proof.Proof.NsaIn
public import proofs.«01_k».proof.Proof.DsaIn
public import proofs.«01_k».proof.Proof.MixerOut
public import proofs.«01_k».proof.Proof.S5Glu
public import proofs.«01_k».proof.Proof.DsaKv
public import proofs.«01_k».proof.Proof.CrossAttention
public import proofs.«01_k».proof.Proof.ResidualNorm
public import proofs.«01_k».proof.Proof.MemoryNorm
public import proofs.«01_k».proof.Proof.MemoryProjection
public import proofs.«01_k».proof.Proof.Prepare
public import proofs.«01_k».proof.Proof.Compress
public import proofs.«01_k».proof.Proof.ResidualWhole
public import proofs.«01_k».proof.Proof.RowNorm
public import Idealize.ShloMosaic.Lib.Quiescent
public import Idealize.ShloMosaic.Adequacy
public import Idealize.ShloMosaic.Init

@[expose] public section

noncomputable section

namespace Cert.Proof

open Idealize.ShloMosaic Idealize.SL.Sem

/-- The reference of ReferenceIdeal ends with every counter at zero. -/
theorem quiescentReferenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The reference of Reference2Ideal ends with every counter at zero. -/
theorem quiescentReference2Ideal : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The reference of Reference3Ideal ends with every counter at zero. -/
theorem quiescentReference3Ideal : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- The reference of Reference4Ideal ends with every counter at zero. -/
theorem quiescentReference4Ideal : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- The reference of Reference5Ideal ends with every counter at zero. -/
theorem quiescentReference5Ideal : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

/-- The reference of Reference6Ideal ends with every counter at zero. -/
theorem quiescentReference6Ideal : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

/-- The reference of Reference7Ideal ends with every counter at zero. -/
theorem quiescentReference7Ideal : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

/-- The reference of Reference8Ideal ends with every counter at zero. -/
theorem quiescentReference8Ideal : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

/-- The reference of Reference9Ideal ends with every counter at zero. -/
theorem quiescentReference9Ideal : Cert.quiescent_Reference9Ideal := fun m ρ _ =>
  (θ_run Cert.Reference9Ideal.defs _ _).mono (fun r h => ⟨fun c => (h c).2.2, Idealize.ShloMosaic.sem_eq_zero_of_no_sems (by decide) r.2⟩)
    (Cert.Reference9Ideal.Value.run (F := Ideal) m ρ)

/-- The reference of Reference10Ideal ends with every counter at zero. -/
theorem quiescentReference10Ideal : Cert.quiescent_Reference10Ideal := fun m ρ _ =>
  (θ_run Cert.Reference10Ideal.defs _ _).mono (fun r h => ⟨fun c => (h c).2.2, Idealize.ShloMosaic.sem_eq_zero_of_no_sems (by decide) r.2⟩)
    (Cert.Reference10Ideal.Value.run (F := Ideal) m ρ)

/-- The reference of Reference11Ideal ends with every counter at zero. -/
theorem quiescentReference11Ideal : Cert.quiescent_Reference11Ideal := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)

/-- The reference of Reference12Ideal ends with every counter at zero. -/
theorem quiescentReference12Ideal : Cert.quiescent_Reference12Ideal := fun m ρ _ =>
  (θ_run Cert.Reference12Ideal.defs _ _).mono (fun r h => ⟨fun c => (h c).2.2, Idealize.ShloMosaic.sem_eq_zero_of_no_sems (by decide) r.2⟩)
    (Cert.Reference12Ideal.Value.run (F := Ideal) m ρ)

/-- The reference of Reference13Ideal ends with every counter at zero. -/
theorem quiescentReference13Ideal : Cert.quiescent_Reference13Ideal := fun m ρ _ =>
  (θ_run Cert.Reference13Ideal.defs _ _).mono (fun r h => ⟨fun c => (h c).2, Idealize.ShloMosaic.sem_eq_zero_of_no_sems (by decide) r.2⟩)
    (Cert.Reference13Ideal.Value.run (F := Ideal) m ρ)

/-- The reference of Reference14Ideal ends with every counter at zero. -/
theorem quiescentReference14Ideal : Cert.quiescent_Reference14Ideal := fun m ρ _ =>
  (θ_run Cert.Reference14Ideal.defs _ _).mono (fun r h => ⟨fun c => (h c).2, Idealize.ShloMosaic.sem_eq_zero_of_no_sems (by decide) r.2⟩)
    (Cert.Reference14Ideal.Value.run (F := Ideal) m ρ)

/-- The reference of Reference15Ideal ends with every counter at zero. -/
theorem quiescentReference15Ideal : Cert.quiescent_Reference15Ideal := fun m ρ _ =>
  (θ_run Cert.Reference15Ideal.defs _ _).mono (fun r h => ⟨fun c => (h c).2, Idealize.ShloMosaic.sem_eq_zero_of_no_sems (by decide) r.2⟩)
    (Cert.Reference15Ideal.Value.run (F := Ideal) m ρ)

/-- The reference of Reference16Ideal ends with every counter at zero. -/
theorem quiescentReference16Ideal : Cert.quiescent_Reference16Ideal := fun m ρ _ =>
  (θ_run Cert.Reference16Ideal.defs _ _).mono (fun r h => ⟨fun c => (h c).2.2.2.2.2, Idealize.ShloMosaic.sem_eq_zero_of_no_sems (by decide) r.2⟩)
    (Cert.Reference16Ideal.Value.run (F := Ideal) m ρ)

/-- All claims together. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts,
    Cert.Kernel18.Gen.facts, Cert.Kernel18Ideal.Gen.facts,
    Cert.Pre_attended.Gen.facts,
    fun m ρ _ => Cert.Kernel.Gen.frame m ρ, fun m ρ _ => Cert.KernelIdeal.Gen.frame m ρ, fun m ρ _ => Cert.KernelIdeal.Gen.frame m ρ,
    quiescentReferenceIdeal, fun m ρ _ => quiescentReferenceIdeal m ρ trivial,
    fun m ρ _ => Cert.Kernel2.Gen.frame m ρ, fun m ρ _ => Cert.Kernel2Ideal.Gen.frame m ρ, quiescentReference2Ideal,
    fun m ρ _ => Cert.Kernel3.Gen.frame m ρ, fun m ρ _ => Cert.Kernel3Ideal.Gen.frame m ρ, quiescentReference3Ideal,
    fun m ρ _ => Cert.Kernel4.Gen.frame m ρ, fun m ρ _ => Cert.Kernel4Ideal.Gen.frame m ρ, quiescentReference4Ideal,
    fun m ρ _ => Cert.Kernel5.Gen.frame m ρ, fun m ρ _ => Cert.Kernel5Ideal.Gen.frame m ρ, quiescentReference5Ideal,
    fun m ρ _ => Cert.Kernel6.Gen.frame m ρ, fun m ρ _ => Cert.Kernel6Ideal.Gen.frame m ρ, quiescentReference6Ideal,
    fun m ρ _ => Cert.Kernel7.Gen.frame m ρ, fun m ρ _ => Cert.Kernel7Ideal.Gen.frame m ρ, quiescentReference7Ideal,
    fun m ρ _ => Cert.Kernel8.Gen.frame m ρ, fun m ρ _ => Cert.Kernel8Ideal.Gen.frame m ρ, quiescentReference8Ideal,
    fun m ρ _ => Cert.Kernel9.Gen.frame m ρ, fun m ρ _ => Cert.Kernel9Ideal.Gen.frame m ρ, quiescentReference9Ideal,
    fun m ρ _ => Cert.Kernel10.Gen.frame m ρ, fun m ρ _ => Cert.Kernel10Ideal.Gen.frame m ρ, quiescentReference10Ideal,
    fun m ρ _ => Cert.Kernel11.Gen.frame m ρ, fun m ρ _ => Cert.Kernel11Ideal.Gen.frame m ρ, quiescentReference11Ideal,
    fun m ρ _ => Cert.Kernel12.Gen.frame m ρ, fun m ρ _ => Cert.Kernel12Ideal.Gen.frame m ρ, quiescentReference12Ideal,
    fun m ρ _ => Cert.Kernel13.Gen.frame m ρ, fun m ρ _ => Cert.Kernel13Ideal.Gen.frame m ρ, quiescentReference13Ideal,
    fun m ρ _ => Cert.Kernel14.Gen.frame m ρ, fun m ρ _ => Cert.Kernel14Ideal.Gen.frame m ρ, quiescentReference14Ideal,
    fun m ρ _ => Cert.Kernel15.Gen.frame m ρ, fun m ρ _ => Cert.Kernel15Ideal.Gen.frame m ρ, quiescentReference15Ideal,
    fun m ρ _ => Cert.Kernel16.Gen.frame m ρ, fun m ρ _ => Cert.Kernel16Ideal.Gen.frame m ρ, quiescentReference16Ideal,
    fun m ρ _ => Cert.Kernel17.Gen.frame m ρ, fun m ρ _ => Cert.Kernel17Ideal.Gen.frame m ρ,
    fun m ρ _ => Cert.Kernel18.Gen.frame m ρ, fun m ρ _ => Cert.Kernel18Ideal.Gen.frame m ρ,
    IdealRules.named_const.statement Cert.KernelIdeal.κ "mask" .f32 0xF149F2CA#32 ⊥ rfl, Cert.Attention.algebraic,
    trivial, Cert.FfnIn.algebraic,
    trivial, Cert.FfnOut.algebraic,
    trivial, Cert.NsaIn.algebraic,
    trivial, Cert.DsaIn.algebraic,
    trivial, Cert.MixerOut.algebraic,
    trivial, Cert.S5Glu.algebraic,
    trivial, Cert.DsaKv.algebraic,
    trivial, Cert.CrossAttention.algebraic,
    trivial, Cert.ResidualNorm.algebraic,
    trivial, Cert.Compress.algebraic,
    trivial, Cert.ResidualWhole.algebraic,
    trivial, Cert.RowNorm.algebraic,
    trivial, Cert.MemoryNorm.algebraic,
    trivial, Cert.MemoryProjection.algebraic,
    trivial, Cert.Prepare.algebraic,
    trivial,
    trivial⟩

end Cert.Proof

end
